-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_finite_qk_b [hPre_finite_qk_b : Cert.Pre_finite_qk_b.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_finite_qk_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2))).1 = (fun _ => 1#1)
    ∧ (Cert.Pre_finite_qk_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2))).2 = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_finite_qk_b [hPre_finite_qk_b : Cert.Pre_finite_qk_b.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_finite_qk_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2))).1 = (fun _ => 1#1)
    ∧ (Cert.Pre_finite_qk_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2))).2 = (fun _ => 1#1)

def Pre_KernelE [hPre_routed : Cert.Pre_routed.Facts] (m : (ℓ : Loc Cert.KernelE.nD Cert.KernelE.τ Cert.KernelE.sig) → Buf (Elt Bits) ℓ) : Prop :=
  ∀ c : Dev Cert.KernelE.nD,
    (Cert.Pre_routed.fn (F := Bits) (m ((c.tc : Thread Cert.KernelE.nD Cert.KernelE.τ).loc Cert.KernelE.main_arg0)) (m ((c.tc : Thread Cert.KernelE.nD Cert.KernelE.τ).loc Cert.KernelE.main_arg1)) (m ((c.tc : Thread Cert.KernelE.nD Cert.KernelE.τ).loc Cert.KernelE.main_arg2)) (m ((c.tc : Thread Cert.KernelE.nD Cert.KernelE.τ).loc Cert.KernelE.main_arg3)) (m ((c.tc : Thread Cert.KernelE.nD Cert.KernelE.τ).loc Cert.KernelE.main_arg4)) (m ((c.tc : Thread Cert.KernelE.nD Cert.KernelE.τ).loc Cert.KernelE.main_arg5)) (m ((c.tc : Thread Cert.KernelE.nD Cert.KernelE.τ).loc Cert.KernelE.main_arg6))).1 = (fun _ => 1#1)
    ∧ (Cert.Pre_routed.fn (F := Bits) (m ((c.tc : Thread Cert.KernelE.nD Cert.KernelE.τ).loc Cert.KernelE.main_arg0)) (m ((c.tc : Thread Cert.KernelE.nD Cert.KernelE.τ).loc Cert.KernelE.main_arg1)) (m ((c.tc : Thread Cert.KernelE.nD Cert.KernelE.τ).loc Cert.KernelE.main_arg2)) (m ((c.tc : Thread Cert.KernelE.nD Cert.KernelE.τ).loc Cert.KernelE.main_arg3)) (m ((c.tc : Thread Cert.KernelE.nD Cert.KernelE.τ).loc Cert.KernelE.main_arg4)) (m ((c.tc : Thread Cert.KernelE.nD Cert.KernelE.τ).loc Cert.KernelE.main_arg5)) (m ((c.tc : Thread Cert.KernelE.nD Cert.KernelE.τ).loc Cert.KernelE.main_arg6))).2.1 = (fun _ => 1#1)
    ∧ (Cert.Pre_routed.fn (F := Bits) (m ((c.tc : Thread Cert.KernelE.nD Cert.KernelE.τ).loc Cert.KernelE.main_arg0)) (m ((c.tc : Thread Cert.KernelE.nD Cert.KernelE.τ).loc Cert.KernelE.main_arg1)) (m ((c.tc : Thread Cert.KernelE.nD Cert.KernelE.τ).loc Cert.KernelE.main_arg2)) (m ((c.tc : Thread Cert.KernelE.nD Cert.KernelE.τ).loc Cert.KernelE.main_arg3)) (m ((c.tc : Thread Cert.KernelE.nD Cert.KernelE.τ).loc Cert.KernelE.main_arg4)) (m ((c.tc : Thread Cert.KernelE.nD Cert.KernelE.τ).loc Cert.KernelE.main_arg5)) (m ((c.tc : Thread Cert.KernelE.nD Cert.KernelE.τ).loc Cert.KernelE.main_arg6))).2.2 = (fun _ => 1#1)

def Pre_KernelEIdeal [hPre_routed : Cert.Pre_routed.Facts] (m : (ℓ : Loc Cert.KernelEIdeal.nD Cert.KernelEIdeal.τ Cert.KernelEIdeal.sig) → Buf (Elt Ideal) ℓ) : Prop :=
  ∀ c : Dev Cert.KernelEIdeal.nD,
    (Cert.Pre_routed.fn (F := Ideal) (m ((c.tc : Thread Cert.KernelEIdeal.nD Cert.KernelEIdeal.τ).loc Cert.KernelEIdeal.main_arg0)) (m ((c.tc : Thread Cert.KernelEIdeal.nD Cert.KernelEIdeal.τ).loc Cert.KernelEIdeal.main_arg1)) (m ((c.tc : Thread Cert.KernelEIdeal.nD Cert.KernelEIdeal.τ).loc Cert.KernelEIdeal.main_arg2)) (m ((c.tc : Thread Cert.KernelEIdeal.nD Cert.KernelEIdeal.τ).loc Cert.KernelEIdeal.main_arg3)) (m ((c.tc : Thread Cert.KernelEIdeal.nD Cert.KernelEIdeal.τ).loc Cert.KernelEIdeal.main_arg4)) (m ((c.tc : Thread Cert.KernelEIdeal.nD Cert.KernelEIdeal.τ).loc Cert.KernelEIdeal.main_arg5)) (m ((c.tc : Thread Cert.KernelEIdeal.nD Cert.KernelEIdeal.τ).loc Cert.KernelEIdeal.main_arg6))).1 = (fun _ => 1#1)
    ∧ (Cert.Pre_routed.fn (F := Ideal) (m ((c.tc : Thread Cert.KernelEIdeal.nD Cert.KernelEIdeal.τ).loc Cert.KernelEIdeal.main_arg0)) (m ((c.tc : Thread Cert.KernelEIdeal.nD Cert.KernelEIdeal.τ).loc Cert.KernelEIdeal.main_arg1)) (m ((c.tc : Thread Cert.KernelEIdeal.nD Cert.KernelEIdeal.τ).loc Cert.KernelEIdeal.main_arg2)) (m ((c.tc : Thread Cert.KernelEIdeal.nD Cert.KernelEIdeal.τ).loc Cert.KernelEIdeal.main_arg3)) (m ((c.tc : Thread Cert.KernelEIdeal.nD Cert.KernelEIdeal.τ).loc Cert.KernelEIdeal.main_arg4)) (m ((c.tc : Thread Cert.KernelEIdeal.nD Cert.KernelEIdeal.τ).loc Cert.KernelEIdeal.main_arg5)) (m ((c.tc : Thread Cert.KernelEIdeal.nD Cert.KernelEIdeal.τ).loc Cert.KernelEIdeal.main_arg6))).2.1 = (fun _ => 1#1)
    ∧ (Cert.Pre_routed.fn (F := Ideal) (m ((c.tc : Thread Cert.KernelEIdeal.nD Cert.KernelEIdeal.τ).loc Cert.KernelEIdeal.main_arg0)) (m ((c.tc : Thread Cert.KernelEIdeal.nD Cert.KernelEIdeal.τ).loc Cert.KernelEIdeal.main_arg1)) (m ((c.tc : Thread Cert.KernelEIdeal.nD Cert.KernelEIdeal.τ).loc Cert.KernelEIdeal.main_arg2)) (m ((c.tc : Thread Cert.KernelEIdeal.nD Cert.KernelEIdeal.τ).loc Cert.KernelEIdeal.main_arg3)) (m ((c.tc : Thread Cert.KernelEIdeal.nD Cert.KernelEIdeal.τ).loc Cert.KernelEIdeal.main_arg4)) (m ((c.tc : Thread Cert.KernelEIdeal.nD Cert.KernelEIdeal.τ).loc Cert.KernelEIdeal.main_arg5)) (m ((c.tc : Thread Cert.KernelEIdeal.nD Cert.KernelEIdeal.τ).loc Cert.KernelEIdeal.main_arg6))).2.2 = (fun _ => 1#1)

def Pre_ReferenceEIdeal (m : (ℓ : Loc Cert.ReferenceEIdeal.nD Cert.ReferenceEIdeal.τ Cert.ReferenceEIdeal.sig) → Buf (Elt Ideal) ℓ) : Prop :=
  True

def Pre_ReferenceEIdeal_routed [hPre_routed : Cert.Pre_routed.Facts] (m : (ℓ : Loc Cert.ReferenceEIdeal.nD Cert.ReferenceEIdeal.τ Cert.ReferenceEIdeal.sig) → Buf (Elt Ideal) ℓ) : Prop :=
  ∀ c : Dev Cert.ReferenceEIdeal.nD,
    (Cert.Pre_routed.fn (F := Ideal) (m ((c.tc : Thread Cert.ReferenceEIdeal.nD Cert.ReferenceEIdeal.τ).loc Cert.ReferenceEIdeal.main_arg0)) (m ((c.tc : Thread Cert.ReferenceEIdeal.nD Cert.ReferenceEIdeal.τ).loc Cert.ReferenceEIdeal.main_arg1)) (m ((c.tc : Thread Cert.ReferenceEIdeal.nD Cert.ReferenceEIdeal.τ).loc Cert.ReferenceEIdeal.main_arg2)) (m ((c.tc : Thread Cert.ReferenceEIdeal.nD Cert.ReferenceEIdeal.τ).loc Cert.ReferenceEIdeal.main_arg3)) (m ((c.tc : Thread Cert.ReferenceEIdeal.nD Cert.ReferenceEIdeal.τ).loc Cert.ReferenceEIdeal.main_arg4)) (m ((c.tc : Thread Cert.ReferenceEIdeal.nD Cert.ReferenceEIdeal.τ).loc Cert.ReferenceEIdeal.main_arg5)) (m ((c.tc : Thread Cert.ReferenceEIdeal.nD Cert.ReferenceEIdeal.τ).loc Cert.ReferenceEIdeal.main_arg6))).1 = (fun _ => 1#1)
    ∧ (Cert.Pre_routed.fn (F := Ideal) (m ((c.tc : Thread Cert.ReferenceEIdeal.nD Cert.ReferenceEIdeal.τ).loc Cert.ReferenceEIdeal.main_arg0)) (m ((c.tc : Thread Cert.ReferenceEIdeal.nD Cert.ReferenceEIdeal.τ).loc Cert.ReferenceEIdeal.main_arg1)) (m ((c.tc : Thread Cert.ReferenceEIdeal.nD Cert.ReferenceEIdeal.τ).loc Cert.ReferenceEIdeal.main_arg2)) (m ((c.tc : Thread Cert.ReferenceEIdeal.nD Cert.ReferenceEIdeal.τ).loc Cert.ReferenceEIdeal.main_arg3)) (m ((c.tc : Thread Cert.ReferenceEIdeal.nD Cert.ReferenceEIdeal.τ).loc Cert.ReferenceEIdeal.main_arg4)) (m ((c.tc : Thread Cert.ReferenceEIdeal.nD Cert.ReferenceEIdeal.τ).loc Cert.ReferenceEIdeal.main_arg5)) (m ((c.tc : Thread Cert.ReferenceEIdeal.nD Cert.ReferenceEIdeal.τ).loc Cert.ReferenceEIdeal.main_arg6))).2.1 = (fun _ => 1#1)
    ∧ (Cert.Pre_routed.fn (F := Ideal) (m ((c.tc : Thread Cert.ReferenceEIdeal.nD Cert.ReferenceEIdeal.τ).loc Cert.ReferenceEIdeal.main_arg0)) (m ((c.tc : Thread Cert.ReferenceEIdeal.nD Cert.ReferenceEIdeal.τ).loc Cert.ReferenceEIdeal.main_arg1)) (m ((c.tc : Thread Cert.ReferenceEIdeal.nD Cert.ReferenceEIdeal.τ).loc Cert.ReferenceEIdeal.main_arg2)) (m ((c.tc : Thread Cert.ReferenceEIdeal.nD Cert.ReferenceEIdeal.τ).loc Cert.ReferenceEIdeal.main_arg3)) (m ((c.tc : Thread Cert.ReferenceEIdeal.nD Cert.ReferenceEIdeal.τ).loc Cert.ReferenceEIdeal.main_arg4)) (m ((c.tc : Thread Cert.ReferenceEIdeal.nD Cert.ReferenceEIdeal.τ).loc Cert.ReferenceEIdeal.main_arg5)) (m ((c.tc : Thread Cert.ReferenceEIdeal.nD Cert.ReferenceEIdeal.τ).loc Cert.ReferenceEIdeal.main_arg6))).2.2 = (fun _ => 1#1)

def Pre_KernelD (m : (ℓ : Loc Cert.KernelD.nD Cert.KernelD.τ Cert.KernelD.sig) → Buf (Elt Bits) ℓ) : Prop :=
  True

def Pre_KernelDIdeal (m : (ℓ : Loc Cert.KernelDIdeal.nD Cert.KernelDIdeal.τ Cert.KernelDIdeal.sig) → Buf (Elt Ideal) ℓ) : Prop :=
  True

def Pre_ReferenceDIdeal (m : (ℓ : Loc Cert.ReferenceDIdeal.nD Cert.ReferenceDIdeal.τ Cert.ReferenceDIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_KernelBIdeal_pre_finite_qk_b [hKernelBIdeal : Cert.KernelBIdeal.Facts] [hPre_finite_qk_b : Cert.Pre_finite_qk_b.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_finite_qk_b m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_ReferenceBIdeal_pre_finite_qk_b [hReferenceBIdeal : Cert.ReferenceBIdeal.Facts] [hPre_finite_qk_b : Cert.Pre_finite_qk_b.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_finite_qk_b m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_KernelE [hKernelE : Cert.KernelE.Facts] [hPre_routed : Cert.Pre_routed.Facts] : Prop :=
  ∀ (m : (ℓ : Loc Cert.KernelE.nD Cert.KernelE.τ Cert.KernelE.sig) → Buf (Elt Bits) ℓ) (g : Dev Cert.KernelE.nD → PrngReg), Pre_KernelE m →
    θ_run (Cert.KernelE.defs (F := Bits)) (onTc (τ := Cert.KernelE.τ) (Cert.KernelE.main (F := Bits))) ⟨m, fun _ => 0, g⟩ (fun r => (∀ c : Dev Cert.KernelE.nD,
      r.2.mem ((c.tc : Thread Cert.KernelE.nD Cert.KernelE.τ).loc Cert.KernelE.main_arg0) = m ((c.tc : Thread Cert.KernelE.nD Cert.KernelE.τ).loc Cert.KernelE.main_arg0)
      ∧ r.2.mem ((c.tc : Thread Cert.KernelE.nD Cert.KernelE.τ).loc Cert.KernelE.main_arg1) = m ((c.tc : Thread Cert.KernelE.nD Cert.KernelE.τ).loc Cert.KernelE.main_arg1)
      ∧ r.2.mem ((c.tc : Thread Cert.KernelE.nD Cert.KernelE.τ).loc Cert.KernelE.main_arg2) = m ((c.tc : Thread Cert.KernelE.nD Cert.KernelE.τ).loc Cert.KernelE.main_arg2)
      ∧ r.2.mem ((c.tc : Thread Cert.KernelE.nD Cert.KernelE.τ).loc Cert.KernelE.main_arg3) = m ((c.tc : Thread Cert.KernelE.nD Cert.KernelE.τ).loc Cert.KernelE.main_arg3)
      ∧ r.2.mem ((c.tc : Thread Cert.KernelE.nD Cert.KernelE.τ).loc Cert.KernelE.main_arg4) = m ((c.tc : Thread Cert.KernelE.nD Cert.KernelE.τ).loc Cert.KernelE.main_arg4)
      ∧ r.2.mem ((c.tc : Thread Cert.KernelE.nD Cert.KernelE.τ).loc Cert.KernelE.main_arg5) = m ((c.tc : Thread Cert.KernelE.nD Cert.KernelE.τ).loc Cert.KernelE.main_arg5)
      ∧ r.2.mem ((c.tc : Thread Cert.KernelE.nD Cert.KernelE.τ).loc Cert.KernelE.main_arg6) = m ((c.tc : Thread Cert.KernelE.nD Cert.KernelE.τ).loc Cert.KernelE.main_arg6))
      ∧ r.2.sem = fun _ => 0)

def quiescent_KernelEIdeal [hKernelEIdeal : Cert.KernelEIdeal.Facts] [hPre_routed : Cert.Pre_routed.Facts] : Prop :=
  ∀ (m : (ℓ : Loc Cert.KernelEIdeal.nD Cert.KernelEIdeal.τ Cert.KernelEIdeal.sig) → Buf (Elt Ideal) ℓ) (g : Dev Cert.KernelEIdeal.nD → PrngReg), Pre_KernelEIdeal m →
    θ_run (Cert.KernelEIdeal.defs (F := Ideal)) (onTc (τ := Cert.KernelEIdeal.τ) (Cert.KernelEIdeal.main (F := Ideal))) ⟨m, fun _ => 0, g⟩ (fun r => (∀ c : Dev Cert.KernelEIdeal.nD,
      r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0)
      ∧ r.2.mem ((c.tc : Thread Cert.KernelEIdeal.nD Cert.KernelEIdeal.τ).loc Cert.KernelEIdeal.main_arg1) = m ((c.tc : Thread Cert.KernelEIdeal.nD Cert.KernelEIdeal.τ).loc Cert.KernelEIdeal.main_arg1)
      ∧ r.2.mem ((c.tc : Thread Cert.KernelEIdeal.nD Cert.KernelEIdeal.τ).loc Cert.KernelEIdeal.main_arg2) = m ((c.tc : Thread Cert.KernelEIdeal.nD Cert.KernelEIdeal.τ).loc Cert.KernelEIdeal.main_arg2)
      ∧ r.2.mem ((c.tc : Thread Cert.KernelEIdeal.nD Cert.KernelEIdeal.τ).loc Cert.KernelEIdeal.main_arg3) = m ((c.tc : Thread Cert.KernelEIdeal.nD Cert.KernelEIdeal.τ).loc Cert.KernelEIdeal.main_arg3)
      ∧ r.2.mem ((c.tc : Thread Cert.KernelEIdeal.nD Cert.KernelEIdeal.τ).loc Cert.KernelEIdeal.main_arg4) = m ((c.tc : Thread Cert.KernelEIdeal.nD Cert.KernelEIdeal.τ).loc Cert.KernelEIdeal.main_arg4)
      ∧ r.2.mem ((c.tc : Thread Cert.KernelEIdeal.nD Cert.KernelEIdeal.τ).loc Cert.KernelEIdeal.main_arg5) = m ((c.tc : Thread Cert.KernelEIdeal.nD Cert.KernelEIdeal.τ).loc Cert.KernelEIdeal.main_arg5)
      ∧ r.2.mem ((c.tc : Thread Cert.KernelEIdeal.nD Cert.KernelEIdeal.τ).loc Cert.KernelEIdeal.main_arg6) = m ((c.tc : Thread Cert.KernelEIdeal.nD Cert.KernelEIdeal.τ).loc Cert.KernelEIdeal.main_arg6))
      ∧ r.2.sem = fun _ => 0)

def quiescent_ReferenceEIdeal [hReferenceEIdeal : Cert.ReferenceEIdeal.Facts] : Prop :=
  ∀ (m : (ℓ : Loc Cert.ReferenceEIdeal.nD Cert.ReferenceEIdeal.τ Cert.ReferenceEIdeal.sig) → Buf (Elt Ideal) ℓ) (g : Dev Cert.ReferenceEIdeal.nD → PrngReg), Pre_ReferenceEIdeal m →
    θ_run (Cert.ReferenceEIdeal.defs (F := Ideal)) (onTc (τ := Cert.ReferenceEIdeal.τ) (Cert.ReferenceEIdeal.main (F := Ideal))) ⟨m, fun _ => 0, g⟩ (fun r => (∀ c : Dev Cert.ReferenceEIdeal.nD,
      r.2.mem ((c.tc : Thread Cert.ReferenceEIdeal.nD Cert.ReferenceEIdeal.τ).loc Cert.ReferenceEIdeal.main_arg0) = m ((c.tc : Thread Cert.ReferenceEIdeal.nD Cert.ReferenceEIdeal.τ).loc Cert.ReferenceEIdeal.main_arg0)
      ∧ r.2.mem ((c.tc : Thread Cert.ReferenceEIdeal.nD Cert.ReferenceEIdeal.τ).loc Cert.ReferenceEIdeal.main_arg1) = m ((c.tc : Thread Cert.ReferenceEIdeal.nD Cert.ReferenceEIdeal.τ).loc Cert.ReferenceEIdeal.main_arg1)
      ∧ r.2.mem ((c.tc : Thread Cert.ReferenceEIdeal.nD Cert.ReferenceEIdeal.τ).loc Cert.ReferenceEIdeal.main_arg2) = m ((c.tc : Thread Cert.ReferenceEIdeal.nD Cert.ReferenceEIdeal.τ).loc Cert.ReferenceEIdeal.main_arg2)
      ∧ r.2.mem ((c.tc : Thread Cert.ReferenceEIdeal.nD Cert.ReferenceEIdeal.τ).loc Cert.ReferenceEIdeal.main_arg3) = m ((c.tc : Thread Cert.ReferenceEIdeal.nD Cert.ReferenceEIdeal.τ).loc Cert.ReferenceEIdeal.main_arg3)
      ∧ r.2.mem ((c.tc : Thread Cert.ReferenceEIdeal.nD Cert.ReferenceEIdeal.τ).loc Cert.ReferenceEIdeal.main_arg4) = m ((c.tc : Thread Cert.ReferenceEIdeal.nD Cert.ReferenceEIdeal.τ).loc Cert.ReferenceEIdeal.main_arg4)
      ∧ r.2.mem ((c.tc : Thread Cert.ReferenceEIdeal.nD Cert.ReferenceEIdeal.τ).loc Cert.ReferenceEIdeal.main_arg5) = m ((c.tc : Thread Cert.ReferenceEIdeal.nD Cert.ReferenceEIdeal.τ).loc Cert.ReferenceEIdeal.main_arg5)
      ∧ r.2.mem ((c.tc : Thread Cert.ReferenceEIdeal.nD Cert.ReferenceEIdeal.τ).loc Cert.ReferenceEIdeal.main_arg6) = m ((c.tc : Thread Cert.ReferenceEIdeal.nD Cert.ReferenceEIdeal.τ).loc Cert.ReferenceEIdeal.main_arg6))
      ∧ r.2.sem = fun _ => 0)

def quiescent_ReferenceEIdeal_pre_routed [hReferenceEIdeal : Cert.ReferenceEIdeal.Facts] [hPre_routed : Cert.Pre_routed.Facts] : Prop :=
  ∀ (m : (ℓ : Loc Cert.ReferenceEIdeal.nD Cert.ReferenceEIdeal.τ Cert.ReferenceEIdeal.sig) → Buf (Elt Ideal) ℓ) (g : Dev Cert.ReferenceEIdeal.nD → PrngReg), Pre_ReferenceEIdeal_routed m →
    θ_run (Cert.ReferenceEIdeal.defs (F := Ideal)) (onTc (τ := Cert.ReferenceEIdeal.τ) (Cert.ReferenceEIdeal.main (F := Ideal))) ⟨m, fun _ => 0, g⟩ (fun r => (∀ c : Dev Cert.ReferenceEIdeal.nD,
      r.2.mem ((c.tc : Thread Cert.ReferenceEIdeal.nD Cert.ReferenceEIdeal.τ).loc Cert.ReferenceEIdeal.main_arg0) = m ((c.tc : Thread Cert.ReferenceEIdeal.nD Cert.ReferenceEIdeal.τ).loc Cert.ReferenceEIdeal.main_arg0)
      ∧ r.2.mem ((c.tc : Thread Cert.ReferenceEIdeal.nD Cert.ReferenceEIdeal.τ).loc Cert.ReferenceEIdeal.main_arg1) = m ((c.tc : Thread Cert.ReferenceEIdeal.nD Cert.ReferenceEIdeal.τ).loc Cert.ReferenceEIdeal.main_arg1)
      ∧ r.2.mem ((c.tc : Thread Cert.ReferenceEIdeal.nD Cert.ReferenceEIdeal.τ).loc Cert.ReferenceEIdeal.main_arg2) = m ((c.tc : Thread Cert.ReferenceEIdeal.nD Cert.ReferenceEIdeal.τ).loc Cert.ReferenceEIdeal.main_arg2)
      ∧ r.2.mem ((c.tc : Thread Cert.ReferenceEIdeal.nD Cert.ReferenceEIdeal.τ).loc Cert.ReferenceEIdeal.main_arg3) = m ((c.tc : Thread Cert.ReferenceEIdeal.nD Cert.ReferenceEIdeal.τ).loc Cert.ReferenceEIdeal.main_arg3)
      ∧ r.2.mem ((c.tc : Thread Cert.ReferenceEIdeal.nD Cert.ReferenceEIdeal.τ).loc Cert.ReferenceEIdeal.main_arg4) = m ((c.tc : Thread Cert.ReferenceEIdeal.nD Cert.ReferenceEIdeal.τ).loc Cert.ReferenceEIdeal.main_arg4)
      ∧ r.2.mem ((c.tc : Thread Cert.ReferenceEIdeal.nD Cert.ReferenceEIdeal.τ).loc Cert.ReferenceEIdeal.main_arg5) = m ((c.tc : Thread Cert.ReferenceEIdeal.nD Cert.ReferenceEIdeal.τ).loc Cert.ReferenceEIdeal.main_arg5)
      ∧ r.2.mem ((c.tc : Thread Cert.ReferenceEIdeal.nD Cert.ReferenceEIdeal.τ).loc Cert.ReferenceEIdeal.main_arg6) = m ((c.tc : Thread Cert.ReferenceEIdeal.nD Cert.ReferenceEIdeal.τ).loc Cert.ReferenceEIdeal.main_arg6))
      ∧ r.2.sem = fun _ => 0)

def quiescent_KernelD [hKernelD : Cert.KernelD.Facts] : Prop :=
  ∀ (m : (ℓ : Loc Cert.KernelD.nD Cert.KernelD.τ Cert.KernelD.sig) → Buf (Elt Bits) ℓ) (g : Dev Cert.KernelD.nD → PrngReg), Pre_KernelD m →
    θ_run (Cert.KernelD.defs (F := Bits)) (onTc (τ := Cert.KernelD.τ) (Cert.KernelD.main (F := Bits))) ⟨m, fun _ => 0, g⟩ (fun r => (∀ c : Dev Cert.KernelD.nD,
      r.2.mem ((c.tc : Thread Cert.KernelD.nD Cert.KernelD.τ).loc Cert.KernelD.main_arg0) = m ((c.tc : Thread Cert.KernelD.nD Cert.KernelD.τ).loc Cert.KernelD.main_arg0)
      ∧ r.2.mem ((c.tc : Thread Cert.KernelD.nD Cert.KernelD.τ).loc Cert.KernelD.main_arg1) = m ((c.tc : Thread Cert.KernelD.nD Cert.KernelD.τ).loc Cert.KernelD.main_arg1)
      ∧ r.2.mem ((c.tc : Thread Cert.KernelD.nD Cert.KernelD.τ).loc Cert.KernelD.main_arg2) = m ((c.tc : Thread Cert.KernelD.nD Cert.KernelD.τ).loc Cert.KernelD.main_arg2)
      ∧ r.2.mem ((c.tc : Thread Cert.KernelD.nD Cert.KernelD.τ).loc Cert.KernelD.main_arg3) = m ((c.tc : Thread Cert.KernelD.nD Cert.KernelD.τ).loc Cert.KernelD.main_arg3)
      ∧ r.2.mem ((c.tc : Thread Cert.KernelD.nD Cert.KernelD.τ).loc Cert.KernelD.main_arg4) = m ((c.tc : Thread Cert.KernelD.nD Cert.KernelD.τ).loc Cert.KernelD.main_arg4)
      ∧ r.2.mem ((c.tc : Thread Cert.KernelD.nD Cert.KernelD.τ).loc Cert.KernelD.main_arg5) = m ((c.tc : Thread Cert.KernelD.nD Cert.KernelD.τ).loc Cert.KernelD.main_arg5)
      ∧ r.2.mem ((c.tc : Thread Cert.KernelD.nD Cert.KernelD.τ).loc Cert.KernelD.main_arg6) = m ((c.tc : Thread Cert.KernelD.nD Cert.KernelD.τ).loc Cert.KernelD.main_arg6)
      ∧ r.2.mem ((c.tc : Thread Cert.KernelD.nD Cert.KernelD.τ).loc Cert.KernelD.main_arg7) = m ((c.tc : Thread Cert.KernelD.nD Cert.KernelD.τ).loc Cert.KernelD.main_arg7)
      ∧ r.2.mem ((c.tc : Thread Cert.KernelD.nD Cert.KernelD.τ).loc Cert.KernelD.main_arg8) = m ((c.tc : Thread Cert.KernelD.nD Cert.KernelD.τ).loc Cert.KernelD.main_arg8)
      ∧ r.2.mem ((c.tc : Thread Cert.KernelD.nD Cert.KernelD.τ).loc Cert.KernelD.main_arg9) = m ((c.tc : Thread Cert.KernelD.nD Cert.KernelD.τ).loc Cert.KernelD.main_arg9))
      ∧ r.2.sem = fun _ => 0)

def quiescent_KernelDIdeal [hKernelDIdeal : Cert.KernelDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
      ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
      ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4)
      ∧ r.2.mem ((c.tc : Thread Cert.KernelDIdeal.nD Cert.KernelDIdeal.τ).loc Cert.KernelDIdeal.main_arg5) = m ((c.tc : Thread Cert.KernelDIdeal.nD Cert.KernelDIdeal.τ).loc Cert.KernelDIdeal.main_arg5)
      ∧ r.2.mem ((c.tc : Thread Cert.KernelDIdeal.nD Cert.KernelDIdeal.τ).loc Cert.KernelDIdeal.main_arg6) = m ((c.tc : Thread Cert.KernelDIdeal.nD Cert.KernelDIdeal.τ).loc Cert.KernelDIdeal.main_arg6)
      ∧ r.2.mem ((c.tc : Thread Cert.KernelDIdeal.nD Cert.KernelDIdeal.τ).loc Cert.KernelDIdeal.main_arg7) = m ((c.tc : Thread Cert.KernelDIdeal.nD Cert.KernelDIdeal.τ).loc Cert.KernelDIdeal.main_arg7)
      ∧ r.2.mem ((c.tc : Thread Cert.KernelDIdeal.nD Cert.KernelDIdeal.τ).loc Cert.KernelDIdeal.main_arg8) = m ((c.tc : Thread Cert.KernelDIdeal.nD Cert.KernelDIdeal.τ).loc Cert.KernelDIdeal.main_arg8)
      ∧ r.2.mem ((c.tc : Thread Cert.KernelDIdeal.nD Cert.KernelDIdeal.τ).loc Cert.KernelDIdeal.main_arg9) = m ((c.tc : Thread Cert.KernelDIdeal.nD Cert.KernelDIdeal.τ).loc Cert.KernelDIdeal.main_arg9))
      ∧ r.2.sem = fun _ => 0)

def quiescent_ReferenceDIdeal [hReferenceDIdeal : Cert.ReferenceDIdeal.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2)
      ∧ r.2.mem ((c.tc : Thread Cert.ReferenceDIdeal.nD Cert.ReferenceDIdeal.τ).loc Cert.ReferenceDIdeal.main_arg3) = m ((c.tc : Thread Cert.ReferenceDIdeal.nD Cert.ReferenceDIdeal.τ).loc Cert.ReferenceDIdeal.main_arg3)
      ∧ r.2.mem ((c.tc : Thread Cert.ReferenceDIdeal.nD Cert.ReferenceDIdeal.τ).loc Cert.ReferenceDIdeal.main_arg4) = m ((c.tc : Thread Cert.ReferenceDIdeal.nD Cert.ReferenceDIdeal.τ).loc Cert.ReferenceDIdeal.main_arg4)
      ∧ r.2.mem ((c.tc : Thread Cert.ReferenceDIdeal.nD Cert.ReferenceDIdeal.τ).loc Cert.ReferenceDIdeal.main_arg5) = m ((c.tc : Thread Cert.ReferenceDIdeal.nD Cert.ReferenceDIdeal.τ).loc Cert.ReferenceDIdeal.main_arg5)
      ∧ r.2.mem ((c.tc : Thread Cert.ReferenceDIdeal.nD Cert.ReferenceDIdeal.τ).loc Cert.ReferenceDIdeal.main_arg6) = m ((c.tc : Thread Cert.ReferenceDIdeal.nD Cert.ReferenceDIdeal.τ).loc Cert.ReferenceDIdeal.main_arg6)
      ∧ r.2.mem ((c.tc : Thread Cert.ReferenceDIdeal.nD Cert.ReferenceDIdeal.τ).loc Cert.ReferenceDIdeal.main_arg7) = m ((c.tc : Thread Cert.ReferenceDIdeal.nD Cert.ReferenceDIdeal.τ).loc Cert.ReferenceDIdeal.main_arg7)
      ∧ r.2.mem ((c.tc : Thread Cert.ReferenceDIdeal.nD Cert.ReferenceDIdeal.τ).loc Cert.ReferenceDIdeal.main_arg8) = m ((c.tc : Thread Cert.ReferenceDIdeal.nD Cert.ReferenceDIdeal.τ).loc Cert.ReferenceDIdeal.main_arg8)
      ∧ r.2.mem ((c.tc : Thread Cert.ReferenceDIdeal.nD Cert.ReferenceDIdeal.τ).loc Cert.ReferenceDIdeal.main_arg9) = m ((c.tc : Thread Cert.ReferenceDIdeal.nD Cert.ReferenceDIdeal.τ).loc Cert.ReferenceDIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelB_KernelBIdeal : Prop :=
  IdealRules.named_const.Statement Cert.KernelBIdeal.κ "mask" .f32 0xF149F2CA#32 ⊥

def algebraic_KernelBIdeal_ReferenceBIdeal_pre_finite_qk_b [hKernelBIdeal : Cert.KernelBIdeal.Facts] [hReferenceBIdeal : Cert.ReferenceBIdeal.Facts] [hPre_finite_qk_b : Cert.Pre_finite_qk_b.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_finite_qk_b m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)) →
    ∃ (v0 : (c : Dev Cert.KernelBIdeal.nD) → Buf (Elt Ideal) ((c.tc : Thread Cert.KernelBIdeal.nD Cert.KernelBIdeal.τ).loc Cert.KernelBIdeal.main_v23)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v23) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v21) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2))

def preserves_KernelE_KernelEIdeal : Prop :=
  True

def algebraic_KernelEIdeal_ReferenceEIdeal [hKernelEIdeal : Cert.KernelEIdeal.Facts] [hReferenceEIdeal : Cert.ReferenceEIdeal.Facts] [hPre_routed : Cert.Pre_routed.Facts] : Prop :=
  ∀ (m : (ℓ : Loc Cert.KernelEIdeal.nD Cert.KernelEIdeal.τ Cert.KernelEIdeal.sig) → Buf (Elt Ideal) ℓ) (g : Dev Cert.KernelEIdeal.nD → PrngReg)
    (m' : (ℓ : Loc Cert.ReferenceEIdeal.nD Cert.ReferenceEIdeal.τ Cert.ReferenceEIdeal.sig) → Buf (Elt Ideal) ℓ) (g' : Dev Cert.ReferenceEIdeal.nD → PrngReg), Pre_KernelEIdeal m →
    (∀ c : Dev Cert.KernelEIdeal.nD,
      m' ((c.tc : Thread Cert.ReferenceEIdeal.nD Cert.ReferenceEIdeal.τ).loc Cert.ReferenceEIdeal.main_arg0) = m ((c.tc : Thread Cert.KernelEIdeal.nD Cert.KernelEIdeal.τ).loc Cert.KernelEIdeal.main_arg0)
      ∧ m' ((c.tc : Thread Cert.ReferenceEIdeal.nD Cert.ReferenceEIdeal.τ).loc Cert.ReferenceEIdeal.main_arg1) = m ((c.tc : Thread Cert.KernelEIdeal.nD Cert.KernelEIdeal.τ).loc Cert.KernelEIdeal.main_arg1)
      ∧ m' ((c.tc : Thread Cert.ReferenceEIdeal.nD Cert.ReferenceEIdeal.τ).loc Cert.ReferenceEIdeal.main_arg2) = m ((c.tc : Thread Cert.KernelEIdeal.nD Cert.KernelEIdeal.τ).loc Cert.KernelEIdeal.main_arg2)
      ∧ m' ((c.tc : Thread Cert.ReferenceEIdeal.nD Cert.ReferenceEIdeal.τ).loc Cert.ReferenceEIdeal.main_arg3) = m ((c.tc : Thread Cert.KernelEIdeal.nD Cert.KernelEIdeal.τ).loc Cert.KernelEIdeal.main_arg3)
      ∧ m' ((c.tc : Thread Cert.ReferenceEIdeal.nD Cert.ReferenceEIdeal.τ).loc Cert.ReferenceEIdeal.main_arg4) = m ((c.tc : Thread Cert.KernelEIdeal.nD Cert.KernelEIdeal.τ).loc Cert.KernelEIdeal.main_arg4)
      ∧ m' ((c.tc : Thread Cert.ReferenceEIdeal.nD Cert.ReferenceEIdeal.τ).loc Cert.ReferenceEIdeal.main_arg5) = m ((c.tc : Thread Cert.KernelEIdeal.nD Cert.KernelEIdeal.τ).loc Cert.KernelEIdeal.main_arg5)
      ∧ m' ((c.tc : Thread Cert.ReferenceEIdeal.nD Cert.ReferenceEIdeal.τ).loc Cert.ReferenceEIdeal.main_arg6) = m ((c.tc : Thread Cert.KernelEIdeal.nD Cert.KernelEIdeal.τ).loc Cert.KernelEIdeal.main_arg6)) →
    ∃ (v0 : (c : Dev Cert.KernelEIdeal.nD) → Buf (Elt Ideal) ((c.tc : Thread Cert.KernelEIdeal.nD Cert.KernelEIdeal.τ).loc Cert.KernelEIdeal.main_v3)),
      θ_run (Cert.KernelEIdeal.defs (F := Ideal)) (onTc (τ := Cert.KernelEIdeal.τ) (Cert.KernelEIdeal.main (F := Ideal))) ⟨m, fun _ => 0, g⟩ (fun r => ∀ c : Dev Cert.KernelEIdeal.nD,
          r.2.mem ((c.tc : Thread Cert.KernelEIdeal.nD Cert.KernelEIdeal.τ).loc Cert.KernelEIdeal.main_v3) = v0 c
          ∧ r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0)
          ∧ r.2.mem ((c.tc : Thread Cert.KernelEIdeal.nD Cert.KernelEIdeal.τ).loc Cert.KernelEIdeal.main_arg1) = m ((c.tc : Thread Cert.KernelEIdeal.nD Cert.KernelEIdeal.τ).loc Cert.KernelEIdeal.main_arg1)
          ∧ r.2.mem ((c.tc : Thread Cert.KernelEIdeal.nD Cert.KernelEIdeal.τ).loc Cert.KernelEIdeal.main_arg2) = m ((c.tc : Thread Cert.KernelEIdeal.nD Cert.KernelEIdeal.τ).loc Cert.KernelEIdeal.main_arg2)
          ∧ r.2.mem ((c.tc : Thread Cert.KernelEIdeal.nD Cert.KernelEIdeal.τ).loc Cert.KernelEIdeal.main_arg3) = m ((c.tc : Thread Cert.KernelEIdeal.nD Cert.KernelEIdeal.τ).loc Cert.KernelEIdeal.main_arg3)
          ∧ r.2.mem ((c.tc : Thread Cert.KernelEIdeal.nD Cert.KernelEIdeal.τ).loc Cert.KernelEIdeal.main_arg4) = m ((c.tc : Thread Cert.KernelEIdeal.nD Cert.KernelEIdeal.τ).loc Cert.KernelEIdeal.main_arg4)
          ∧ r.2.mem ((c.tc : Thread Cert.KernelEIdeal.nD Cert.KernelEIdeal.τ).loc Cert.KernelEIdeal.main_arg5) = m ((c.tc : Thread Cert.KernelEIdeal.nD Cert.KernelEIdeal.τ).loc Cert.KernelEIdeal.main_arg5)
          ∧ r.2.mem ((c.tc : Thread Cert.KernelEIdeal.nD Cert.KernelEIdeal.τ).loc Cert.KernelEIdeal.main_arg6) = m ((c.tc : Thread Cert.KernelEIdeal.nD Cert.KernelEIdeal.τ).loc Cert.KernelEIdeal.main_arg6))
      ∧ θ_run (Cert.ReferenceEIdeal.defs (F := Ideal)) (onTc (τ := Cert.ReferenceEIdeal.τ) (Cert.ReferenceEIdeal.main (F := Ideal))) ⟨m', fun _ => 0, g'⟩ (fun r => ∀ c : Dev Cert.ReferenceEIdeal.nD,
          r.2.mem ((c.tc : Thread Cert.ReferenceEIdeal.nD Cert.ReferenceEIdeal.τ).loc Cert.ReferenceEIdeal.main_v37) = v0 c
          ∧ r.2.mem ((c.tc : Thread Cert.ReferenceEIdeal.nD Cert.ReferenceEIdeal.τ).loc Cert.ReferenceEIdeal.main_arg0) = m' ((c.tc : Thread Cert.ReferenceEIdeal.nD Cert.ReferenceEIdeal.τ).loc Cert.ReferenceEIdeal.main_arg0)
          ∧ r.2.mem ((c.tc : Thread Cert.ReferenceEIdeal.nD Cert.ReferenceEIdeal.τ).loc Cert.ReferenceEIdeal.main_arg1) = m' ((c.tc : Thread Cert.ReferenceEIdeal.nD Cert.ReferenceEIdeal.τ).loc Cert.ReferenceEIdeal.main_arg1)
          ∧ r.2.mem ((c.tc : Thread Cert.ReferenceEIdeal.nD Cert.ReferenceEIdeal.τ).loc Cert.ReferenceEIdeal.main_arg2) = m' ((c.tc : Thread Cert.ReferenceEIdeal.nD Cert.ReferenceEIdeal.τ).loc Cert.ReferenceEIdeal.main_arg2)
          ∧ r.2.mem ((c.tc : Thread Cert.ReferenceEIdeal.nD Cert.ReferenceEIdeal.τ).loc Cert.ReferenceEIdeal.main_arg3) = m' ((c.tc : Thread Cert.ReferenceEIdeal.nD Cert.ReferenceEIdeal.τ).loc Cert.ReferenceEIdeal.main_arg3)
          ∧ r.2.mem ((c.tc : Thread Cert.ReferenceEIdeal.nD Cert.ReferenceEIdeal.τ).loc Cert.ReferenceEIdeal.main_arg4) = m' ((c.tc : Thread Cert.ReferenceEIdeal.nD Cert.ReferenceEIdeal.τ).loc Cert.ReferenceEIdeal.main_arg4)
          ∧ r.2.mem ((c.tc : Thread Cert.ReferenceEIdeal.nD Cert.ReferenceEIdeal.τ).loc Cert.ReferenceEIdeal.main_arg5) = m' ((c.tc : Thread Cert.ReferenceEIdeal.nD Cert.ReferenceEIdeal.τ).loc Cert.ReferenceEIdeal.main_arg5)
          ∧ r.2.mem ((c.tc : Thread Cert.ReferenceEIdeal.nD Cert.ReferenceEIdeal.τ).loc Cert.ReferenceEIdeal.main_arg6) = m' ((c.tc : Thread Cert.ReferenceEIdeal.nD Cert.ReferenceEIdeal.τ).loc Cert.ReferenceEIdeal.main_arg6))

def preserves_KernelD_KernelDIdeal : Prop :=
  True

def algebraic_KernelDIdeal_ReferenceDIdeal [hKernelDIdeal : Cert.KernelDIdeal.Facts] [hReferenceDIdeal : Cert.ReferenceDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg)
    (m' : (ℓ : Loc Cert.ReferenceDIdeal.nD Cert.ReferenceDIdeal.τ Cert.ReferenceDIdeal.sig) → Buf (Elt Ideal) ℓ) (g' : Dev Cert.ReferenceDIdeal.nD → PrngReg), Pre_KernelDIdeal m →
    (∀ c : Dev Cert.KernelDIdeal.nD,
      m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0)
      ∧ m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1)
      ∧ m' ((c.tc : Thread Cert.ReferenceDIdeal.nD Cert.ReferenceDIdeal.τ).loc Cert.ReferenceDIdeal.main_arg2) = m ((c.tc : Thread Cert.KernelDIdeal.nD Cert.KernelDIdeal.τ).loc Cert.KernelDIdeal.main_arg2)
      ∧ m' ((c.tc : Thread Cert.ReferenceDIdeal.nD Cert.ReferenceDIdeal.τ).loc Cert.ReferenceDIdeal.main_arg3) = m ((c.tc : Thread Cert.KernelDIdeal.nD Cert.KernelDIdeal.τ).loc Cert.KernelDIdeal.main_arg3)
      ∧ m' ((c.tc : Thread Cert.ReferenceDIdeal.nD Cert.ReferenceDIdeal.τ).loc Cert.ReferenceDIdeal.main_arg4) = m ((c.tc : Thread Cert.KernelDIdeal.nD Cert.KernelDIdeal.τ).loc Cert.KernelDIdeal.main_arg4)
      ∧ m' ((c.tc : Thread Cert.ReferenceDIdeal.nD Cert.ReferenceDIdeal.τ).loc Cert.ReferenceDIdeal.main_arg5) = m ((c.tc : Thread Cert.KernelDIdeal.nD Cert.KernelDIdeal.τ).loc Cert.KernelDIdeal.main_arg5)
      ∧ m' ((c.tc : Thread Cert.ReferenceDIdeal.nD Cert.ReferenceDIdeal.τ).loc Cert.ReferenceDIdeal.main_arg6) = m ((c.tc : Thread Cert.KernelDIdeal.nD Cert.KernelDIdeal.τ).loc Cert.KernelDIdeal.main_arg6)
      ∧ m' ((c.tc : Thread Cert.ReferenceDIdeal.nD Cert.ReferenceDIdeal.τ).loc Cert.ReferenceDIdeal.main_arg7) = m ((c.tc : Thread Cert.KernelDIdeal.nD Cert.KernelDIdeal.τ).loc Cert.KernelDIdeal.main_arg7)
      ∧ m' ((c.tc : Thread Cert.ReferenceDIdeal.nD Cert.ReferenceDIdeal.τ).loc Cert.ReferenceDIdeal.main_arg8) = m ((c.tc : Thread Cert.KernelDIdeal.nD Cert.KernelDIdeal.τ).loc Cert.KernelDIdeal.main_arg8)
      ∧ m' ((c.tc : Thread Cert.ReferenceDIdeal.nD Cert.ReferenceDIdeal.τ).loc Cert.ReferenceDIdeal.main_arg9) = m ((c.tc : Thread Cert.KernelDIdeal.nD Cert.KernelDIdeal.τ).loc Cert.KernelDIdeal.main_arg9)) →
    ∃ (v0 : (c : Dev Cert.KernelDIdeal.nD) → Buf (Elt Ideal) ((c.tc : Thread Cert.KernelDIdeal.nD Cert.KernelDIdeal.τ).loc Cert.KernelDIdeal.main_v27)),
      θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
          r.2.mem ((c.tc : Thread Cert.KernelDIdeal.nD Cert.KernelDIdeal.τ).loc Cert.KernelDIdeal.main_v27) = v0 c
          ∧ r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
          ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
          ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
          ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
          ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4)
          ∧ r.2.mem ((c.tc : Thread Cert.KernelDIdeal.nD Cert.KernelDIdeal.τ).loc Cert.KernelDIdeal.main_arg5) = m ((c.tc : Thread Cert.KernelDIdeal.nD Cert.KernelDIdeal.τ).loc Cert.KernelDIdeal.main_arg5)
          ∧ r.2.mem ((c.tc : Thread Cert.KernelDIdeal.nD Cert.KernelDIdeal.τ).loc Cert.KernelDIdeal.main_arg6) = m ((c.tc : Thread Cert.KernelDIdeal.nD Cert.KernelDIdeal.τ).loc Cert.KernelDIdeal.main_arg6)
          ∧ r.2.mem ((c.tc : Thread Cert.KernelDIdeal.nD Cert.KernelDIdeal.τ).loc Cert.KernelDIdeal.main_arg7) = m ((c.tc : Thread Cert.KernelDIdeal.nD Cert.KernelDIdeal.τ).loc Cert.KernelDIdeal.main_arg7)
          ∧ r.2.mem ((c.tc : Thread Cert.KernelDIdeal.nD Cert.KernelDIdeal.τ).loc Cert.KernelDIdeal.main_arg8) = m ((c.tc : Thread Cert.KernelDIdeal.nD Cert.KernelDIdeal.τ).loc Cert.KernelDIdeal.main_arg8)
          ∧ r.2.mem ((c.tc : Thread Cert.KernelDIdeal.nD Cert.KernelDIdeal.τ).loc Cert.KernelDIdeal.main_arg9) = m ((c.tc : Thread Cert.KernelDIdeal.nD Cert.KernelDIdeal.τ).loc Cert.KernelDIdeal.main_arg9))
      ∧ θ_run (Cert.ReferenceDIdeal.defs (F := Ideal)) (onTc (τ := Cert.ReferenceDIdeal.τ) (Cert.ReferenceDIdeal.main (F := Ideal))) ⟨m', fun _ => 0, g'⟩ (fun r => ∀ c : Dev Cert.ReferenceDIdeal.nD,
          r.2.mem ((c.tc : Thread Cert.ReferenceDIdeal.nD Cert.ReferenceDIdeal.τ).loc Cert.ReferenceDIdeal.main_v43) = v0 c
          ∧ r.2.mem ((c.tc : Thread Cert.ReferenceDIdeal.nD Cert.ReferenceDIdeal.τ).loc Cert.ReferenceDIdeal.main_arg0) = m' ((c.tc : Thread Cert.ReferenceDIdeal.nD Cert.ReferenceDIdeal.τ).loc Cert.ReferenceDIdeal.main_arg0)
          ∧ r.2.mem ((c.tc : Thread Cert.ReferenceDIdeal.nD Cert.ReferenceDIdeal.τ).loc Cert.ReferenceDIdeal.main_arg1) = m' ((c.tc : Thread Cert.ReferenceDIdeal.nD Cert.ReferenceDIdeal.τ).loc Cert.ReferenceDIdeal.main_arg1)
          ∧ r.2.mem ((c.tc : Thread Cert.ReferenceDIdeal.nD Cert.ReferenceDIdeal.τ).loc Cert.ReferenceDIdeal.main_arg2) = m' ((c.tc : Thread Cert.ReferenceDIdeal.nD Cert.ReferenceDIdeal.τ).loc Cert.ReferenceDIdeal.main_arg2)
          ∧ r.2.mem ((c.tc : Thread Cert.ReferenceDIdeal.nD Cert.ReferenceDIdeal.τ).loc Cert.ReferenceDIdeal.main_arg3) = m' ((c.tc : Thread Cert.ReferenceDIdeal.nD Cert.ReferenceDIdeal.τ).loc Cert.ReferenceDIdeal.main_arg3)
          ∧ r.2.mem ((c.tc : Thread Cert.ReferenceDIdeal.nD Cert.ReferenceDIdeal.τ).loc Cert.ReferenceDIdeal.main_arg4) = m' ((c.tc : Thread Cert.ReferenceDIdeal.nD Cert.ReferenceDIdeal.τ).loc Cert.ReferenceDIdeal.main_arg4)
          ∧ r.2.mem ((c.tc : Thread Cert.ReferenceDIdeal.nD Cert.ReferenceDIdeal.τ).loc Cert.ReferenceDIdeal.main_arg5) = m' ((c.tc : Thread Cert.ReferenceDIdeal.nD Cert.ReferenceDIdeal.τ).loc Cert.ReferenceDIdeal.main_arg5)
          ∧ r.2.mem ((c.tc : Thread Cert.ReferenceDIdeal.nD Cert.ReferenceDIdeal.τ).loc Cert.ReferenceDIdeal.main_arg6) = m' ((c.tc : Thread Cert.ReferenceDIdeal.nD Cert.ReferenceDIdeal.τ).loc Cert.ReferenceDIdeal.main_arg6)
          ∧ r.2.mem ((c.tc : Thread Cert.ReferenceDIdeal.nD Cert.ReferenceDIdeal.τ).loc Cert.ReferenceDIdeal.main_arg7) = m' ((c.tc : Thread Cert.ReferenceDIdeal.nD Cert.ReferenceDIdeal.τ).loc Cert.ReferenceDIdeal.main_arg7)
          ∧ r.2.mem ((c.tc : Thread Cert.ReferenceDIdeal.nD Cert.ReferenceDIdeal.τ).loc Cert.ReferenceDIdeal.main_arg8) = m' ((c.tc : Thread Cert.ReferenceDIdeal.nD Cert.ReferenceDIdeal.τ).loc Cert.ReferenceDIdeal.main_arg8)
          ∧ r.2.mem ((c.tc : Thread Cert.ReferenceDIdeal.nD Cert.ReferenceDIdeal.τ).loc Cert.ReferenceDIdeal.main_arg9) = m' ((c.tc : Thread Cert.ReferenceDIdeal.nD Cert.ReferenceDIdeal.τ).loc Cert.ReferenceDIdeal.main_arg9))

def Claim : Prop :=
  ∃ (hKernel : Cert.Kernel.Facts) (hKernelIdeal : Cert.KernelIdeal.Facts) (hReferenceIdeal : Cert.ReferenceIdeal.Facts) (hKernelB : Cert.KernelB.Facts) (hKernelBIdeal : Cert.KernelBIdeal.Facts) (hReferenceBIdeal : Cert.ReferenceBIdeal.Facts) (hKernelE : Cert.KernelE.Facts) (hKernelEIdeal : Cert.KernelEIdeal.Facts) (hReferenceEIdeal : Cert.ReferenceEIdeal.Facts) (hKernelD : Cert.KernelD.Facts) (hKernelDIdeal : Cert.KernelDIdeal.Facts) (hReferenceDIdeal : Cert.ReferenceDIdeal.Facts) (hPre_finite_qk : Cert.Pre_finite_qk.Facts) (hPre_finite_qk_b : Cert.Pre_finite_qk_b.Facts) (hPre_routed : Cert.Pre_routed.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_KernelB (hKernelB := hKernelB)
    ∧ quiescent_KernelBIdeal (hKernelBIdeal := hKernelBIdeal)
    ∧ quiescent_KernelBIdeal_pre_finite_qk_b (hKernelBIdeal := hKernelBIdeal) (hPre_finite_qk_b := hPre_finite_qk_b)
    ∧ quiescent_ReferenceBIdeal (hReferenceBIdeal := hReferenceBIdeal)
    ∧ quiescent_ReferenceBIdeal_pre_finite_qk_b (hReferenceBIdeal := hReferenceBIdeal) (hPre_finite_qk_b := hPre_finite_qk_b)
    ∧ quiescent_KernelE (hKernelE := hKernelE) (hPre_routed := hPre_routed)
    ∧ quiescent_KernelEIdeal (hKernelEIdeal := hKernelEIdeal) (hPre_routed := hPre_routed)
    ∧ quiescent_ReferenceEIdeal (hReferenceEIdeal := hReferenceEIdeal)
    ∧ quiescent_ReferenceEIdeal_pre_routed (hReferenceEIdeal := hReferenceEIdeal) (hPre_routed := hPre_routed)
    ∧ quiescent_KernelD (hKernelD := hKernelD)
    ∧ quiescent_KernelDIdeal (hKernelDIdeal := hKernelDIdeal)
    ∧ quiescent_ReferenceDIdeal (hReferenceDIdeal := hReferenceDIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_KernelB_KernelBIdeal
    ∧ algebraic_KernelBIdeal_ReferenceBIdeal_pre_finite_qk_b (hKernelBIdeal := hKernelBIdeal) (hReferenceBIdeal := hReferenceBIdeal) (hPre_finite_qk_b := hPre_finite_qk_b)
    ∧ preserves_KernelE_KernelEIdeal
    ∧ algebraic_KernelEIdeal_ReferenceEIdeal (hKernelEIdeal := hKernelEIdeal) (hReferenceEIdeal := hReferenceEIdeal) (hPre_routed := hPre_routed)
    ∧ preserves_KernelD_KernelDIdeal
    ∧ algebraic_KernelDIdeal_ReferenceDIdeal (hKernelDIdeal := hKernelDIdeal) (hReferenceDIdeal := hReferenceDIdeal)
-- ==== Pre_finite_qk.lean ====
abbrev S8x4096x6x64 : Shape := ⟨4, ![8, 4096, 6, 64]⟩
abbrev S8x4352x2x64 : Shape := ⟨4, ![8, 4352, 2, 64]⟩
abbrev S_ : Shape := ⟨0, ![]⟩

class Facts : Prop where
  bcast_S_S8x4096x6x64 : S_.BroadcastsInDim S8x4096x6x64 (![] : Fin 0 → Fin S8x4096x6x64.rank)
  bcast_S_S8x4352x2x64 : S_.BroadcastsInDim S8x4352x2x64 (![] : Fin 0 → Fin S8x4352x2x64.rank)

variable [Facts]

def fn {F : FTy → Type} [FloatOps F] (main_arg0 : FVec F S8x4096x6x64 .f32) (main_arg1 : FVec F S8x4352x2x64 .f32) (main_arg2 : FVec F S8x4352x2x64 .f32) : IVec S8x4096x6x64 1 × IVec S8x4352x2x64 1 :=
  let main_v0 : FVec F S8x4096x6x64 .f32 := Host.absf main_arg0
  let main_cst : FVec F S_ .f32 := constant S_ .f32 0x7F800000#32
  let main_v1 : FVec F S8x4096x6x64 .f32 := broadcastInDim S8x4096x6x64 ![] bcast_S_S8x4096x6x64 main_cst
  let main_v2 : IVec S8x4096x6x64 1 := cmpf .olt main_v0 main_v1
  let main_v3 : FVec F S8x4352x2x64 .f32 := Host.absf main_arg1
  let main_cst_0 : FVec F S_ .f32 := constant S_ .f32 0x7F800000#32
  let main_v4 : FVec F S8x4352x2x64 .f32 := broadcastInDim S8x4352x2x64 ![] bcast_S_S8x4352x2x64 main_cst_0
  let main_v5 : IVec S8x4352x2x64 1 := cmpf .olt main_v3 main_v4
  (main_v2, main_v5)
-- ==== Pre_finite_qk_b.lean ====
abbrev S8x4096x4x96 : Shape := ⟨4, ![8, 4096, 4, 96]⟩
abbrev S8x4352x4x96 : Shape := ⟨4, ![8, 4352, 4, 96]⟩
abbrev S8x4352x4x64 : Shape := ⟨4, ![8, 4352, 4, 64]⟩
abbrev S_ : Shape := ⟨0, ![]⟩

class Facts : Prop where
  bcast_S_S8x4096x4x96 : S_.BroadcastsInDim S8x4096x4x96 (![] : Fin 0 → Fin S8x4096x4x96.rank)
  bcast_S_S8x4352x4x96 : S_.BroadcastsInDim S8x4352x4x96 (![] : Fin 0 → Fin S8x4352x4x96.rank)

variable [Facts]

def fn {F : FTy → Type} [FloatOps F] (main_arg0 : FVec F S8x4096x4x96 .f32) (main_arg1 : FVec F S8x4352x4x96 .f32) (main_arg2 : FVec F S8x4352x4x64 .f32) : IVec S8x4096x4x96 1 × IVec S8x4352x4x96 1 :=
  let main_v0 : FVec F S8x4096x4x96 .f32 := Host.absf main_arg0
  let main_cst : FVec F S_ .f32 := constant S_ .f32 0x7F800000#32
  let main_v1 : FVec F S8x4096x4x96 .f32 := broadcastInDim S8x4096x4x96 ![] bcast_S_S8x4096x4x96 main_cst
  let main_v2 : IVec S8x4096x4x96 1 := cmpf .olt main_v0 main_v1
  let main_v3 : FVec F S8x4352x4x96 .f32 := Host.absf main_arg1
  let main_cst_0 : FVec F S_ .f32 := constant S_ .f32 0x7F800000#32
  let main_v4 : FVec F S8x4352x4x96 .f32 := broadcastInDim S8x4352x4x96 ![] bcast_S_S8x4352x4x96 main_cst_0
  let main_v5 : IVec S8x4352x4x96 1 := cmpf .olt main_v3 main_v4
  (main_v2, main_v5)
-- ==== Pre_routed.lean ====
abbrev S136 : Shape := ⟨1, ![136]⟩
abbrev S136x512 : Shape := ⟨2, ![136, 512]⟩
abbrev S32768x1024 : Shape := ⟨2, ![32768, 1024]⟩
abbrev S8x1024x3584 : Shape := ⟨3, ![8, 1024, 3584]⟩
abbrev S8x3584x1024 : Shape := ⟨3, ![8, 3584, 1024]⟩
abbrev S_ : Shape := ⟨0, ![]⟩
abbrev S1 : Shape := ⟨1, ![1]⟩

class Facts : Prop where
  bcast_S_S136 : S_.BroadcastsInDim S136 (![] : Fin 0 → Fin S136.rank)
  bcast_S_S136x512 : S_.BroadcastsInDim S136x512 (![] : Fin 0 → Fin S136x512.rank)
  slices_S136_S1_0 : S136.Slices ![0] S1
  bcast_S_S1 : S_.BroadcastsInDim S1 (![] : Fin 0 → Fin S1.rank)

variable [Facts]

def fn {F : FTy → Type} [FloatOps F] (main_arg0 : IVec S136 32) (main_arg1 : IVec S136 32) (main_arg2 : IVec S136x512 32) (main_arg3 : FVec F S32768x1024 .f32) (main_arg4 : FVec F S8x1024x3584 .f32) (main_arg5 : FVec F S8x1024x3584 .f32) (main_arg6 : FVec F S8x3584x1024 .f32) : IVec S136 1 × IVec S136x512 1 × IVec S1 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 32 := constantI S_ 32 0#32
  let main_v5 : IVec S136x512 32 := broadcastInDim S136x512 ![] bcast_S_S136x512 main_c_1
  let main_v6 : IVec S136x512 1 := cmpi .sge main_arg2 main_v5
  let main_c_2 : IVec S_ 32 := constantI S_ 32 32768#32
  let main_v7 : IVec S136x512 32 := broadcastInDim S136x512 ![] bcast_S_S136x512 main_c_2
  let main_v8 : IVec S136x512 1 := cmpi .slt main_arg2 main_v7
  let main_v9 : IVec S136x512 1 := andi main_v6 main_v8
  let main_v10 : IVec S1 32 := (extractStridedSlice S1 ![0] · slices_S136_S1_0) main_arg1
  let main_c_3 : IVec S_ 32 := constantI S_ 32 0#32
  let main_v11 : IVec S1 32 := broadcastInDim S1 ![] bcast_S_S1 main_c_3
  let main_v12 : IVec S1 1 := cmpi .sgt main_v10 main_v11
  (main_v4, main_v9, main_v12)
-- ==== Kernel.lean ====
abbrev S8x4096x6x64 : Shape := ⟨4, ![8, 4096, 6, 64]⟩
abbrev S8x4352x2x64 : Shape := ⟨4, ![8, 4352, 2, 64]⟩
abbrev S_ : Shape := ⟨0, ![]⟩
abbrev S8x4096x2x3x64 : Shape := ⟨5, ![8, 4096, 2, 3, 64]⟩
abbrev S8x3x2x4096x64 : Shape := ⟨5, ![8, 3, 2, 4096, 64]⟩
abbrev S8x3x4096x64 : Shape := ⟨4, ![8, 3, 4096, 64]⟩
abbrev S8x3x1x4096x64 : Shape := ⟨5, ![8, 3, 1, 4096, 64]⟩
abbrev S8x3x4096x128 : Shape := ⟨4, ![8, 3, 4096, 128]⟩
abbrev S8x3x1x4096x128 : Shape := ⟨5, ![8, 3, 1, 4096, 128]⟩
abbrev S8x3x2x4096x128 : Shape := ⟨5, ![8, 3, 2, 4096, 128]⟩
abbrev S8x6x4096x128 : Shape := ⟨4, ![8, 6, 4096, 128]⟩
abbrev S8x1x4352x128 : Shape := ⟨4, ![8, 1, 4352, 128]⟩
abbrev S6 : Shape := ⟨1, ![6]⟩
abbrev S8x1x4096x128 : Shape := ⟨4, ![8, 1, 4096, 128]⟩
abbrev S8x1x256x128 : Shape := ⟨4, ![8, 1, 256, 128]⟩
abbrev S1x6x512x128 : Shape := ⟨4, ![1, 6, 512, 128]⟩
abbrev S1x1x4352x128 : Shape := ⟨4, ![1, 1, 4352, 128]⟩
abbrev S1x3x512x128 : Shape := ⟨4, ![1, 3, 512, 128]⟩
abbrev S512x128 : Shape := ⟨2, ![512, 128]⟩
abbrev S512x1 : Shape := ⟨2, ![512, 1]⟩
abbrev S1x1x2304x128 : Shape := ⟨4, ![1, 1, 2304, 128]⟩
abbrev S2304x128 : Shape := ⟨2, ![2304, 128]⟩
abbrev S1x1x512x128 : Shape := ⟨4, ![1, 1, 512, 128]⟩
abbrev S512x2304 : Shape := ⟨2, ![512, 2304]⟩
abbrev S512 : Shape := ⟨1, ![512]⟩
abbrev S1x1x2048x128 : Shape := ⟨4, ![1, 1, 2048, 128]⟩
abbrev S2048x128 : Shape := ⟨2, ![2048, 128]⟩
abbrev S512x2048 : Shape := ⟨2, ![512, 2048]⟩
abbrev S8x3x4096x2x64 : Shape := ⟨5, ![8, 3, 4096, 2, 64]⟩
abbrev S8x4096x384 : Shape := ⟨3, ![8, 4096, 384]⟩

abbrev nBuf : Space → Nat
  | .hbm => 41
  | .vmem => 8
  | .smem => 1
  | _ => 0

abbrev bufTy : (tb : Table) → Fin (tcTables nBuf tb) → BufTy
  | .hbm, ⟨0, _⟩ => ⟨S8x4096x6x64, .f32⟩
  | .hbm, ⟨1, _⟩ => ⟨S8x4352x2x64, .f32⟩
  | .hbm, ⟨2, _⟩ => ⟨S8x4352x2x64, .f32⟩
  | .hbm, ⟨3, _⟩ => ⟨S_, .f32⟩
  | .hbm, ⟨4, _⟩ => ⟨S8x4096x6x64, .f32⟩
  | .hbm, ⟨5, _⟩ => ⟨S8x4096x6x64, .f32⟩
  | .hbm, ⟨6, _⟩ => ⟨S_, .f32⟩
  | .hbm, ⟨7, _⟩ => ⟨S_, .f32⟩
  | .hbm, ⟨8, _⟩ => ⟨S8x4096x6x64, .f32⟩
  | .hbm, ⟨9, _⟩ => ⟨S8x4096x6x64, .f32⟩
  | .hbm, ⟨10, _⟩ => ⟨S8x4096x2x3x64, .f32⟩
  | .hbm, ⟨11, _⟩ => ⟨S8x3x2x4096x64, .f32⟩
  | .hbm, ⟨12, _⟩ => ⟨S_, .f32⟩
  | .hbm, ⟨13, _⟩ => ⟨S8x3x4096x64, .f32⟩
  | .hbm, ⟨14, _⟩ => ⟨S8x3x1x4096x64, .f32⟩
  | .hbm, ⟨15, _⟩ => ⟨S8x3x4096x64, .f32⟩
  | .hbm, ⟨16, _⟩ => ⟨S8x3x4096x128, .f32⟩
  | .hbm, ⟨17, _⟩ => ⟨S8x3x1x4096x64, .f32⟩
  | .hbm, ⟨18, _⟩ => ⟨S8x3x4096x64, .f32⟩
  | .hbm, ⟨19, _⟩ => ⟨S8x3x4096x128, .f32⟩
  | .hbm, ⟨20, _⟩ => ⟨S8x3x1x4096x128, .f32⟩
  | .hbm, ⟨21, _⟩ => ⟨S8x3x1x4096x128, .f32⟩
  | .hbm, ⟨22, _⟩ => ⟨S8x3x2x4096x128, .f32⟩
  | .hbm, ⟨23, _⟩ => ⟨S8x6x4096x128, .f32⟩
  | .hbm, ⟨24, _⟩ => ⟨S8x6x4096x128, .bf16⟩
  | .hbm, ⟨25, _⟩ => ⟨S8x1x4352x128, .f32⟩
  | .hbm, ⟨26, _⟩ => ⟨S8x1x4352x128, .bf16⟩
  | .hbm, ⟨27, _⟩ => ⟨S8x1x4352x128, .f32⟩
  | .hbm, ⟨28, _⟩ => ⟨S8x1x4352x128, .bf16⟩
  | .hbm, ⟨29, _⟩ => ⟨S_, .f32⟩
  | .hbm, ⟨30, _⟩ => ⟨S6, .f32⟩
  | .hbm, ⟨31, _⟩ => ⟨S8x1x4096x128, .bf16⟩
  | .hbm, ⟨32, _⟩ => ⟨S8x1x256x128, .bf16⟩
  | .hbm, ⟨33, _⟩ => ⟨S8x1x4352x128, .bf16⟩
  | .hbm, ⟨34, _⟩ => ⟨S8x1x4096x128, .bf16⟩
  | .hbm, ⟨35, _⟩ => ⟨S8x1x256x128, .bf16⟩
  | .hbm, ⟨36, _⟩ => ⟨S8x1x4352x128, .bf16⟩
  | .hbm, ⟨37, _⟩ => ⟨S8x3x4096x128, .bf16⟩
  | .hbm, ⟨38, _⟩ => ⟨S8x3x4096x2x64, .bf16⟩
  | .hbm, ⟨39, _⟩ => ⟨S8x4096x2x3x64, .bf16⟩
  | .hbm, ⟨40, _⟩ => ⟨S8x4096x384, .bf16⟩
  | .local _ .vmem, ⟨0, _⟩ => ⟨S1x6x512x128, .bf16⟩
  | .local _ .vmem, ⟨1, _⟩ => ⟨S1x6x512x128, .bf16⟩
  | .local _ .vmem, ⟨2, _⟩ => ⟨S1x1x4352x128, .bf16⟩
  | .local _ .vmem, ⟨3, _⟩ => ⟨S1x1x4352x128, .bf16⟩
  | .local _ .vmem, ⟨4, _⟩ => ⟨S1x1x4352x128, .bf16⟩
  | .local _ .vmem, ⟨5, _⟩ => ⟨S1x1x4352x128, .bf16⟩
  | .local _ .vmem, ⟨6, _⟩ => ⟨S1x3x512x128, .bf16⟩
  | .local _ .vmem, ⟨7, _⟩ => ⟨S1x3x512x128, .bf16⟩
  | .local _ .smem, ⟨0, _⟩ => ⟨S6, .f32⟩
  | _, _ => ⟨S8x4096x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x6x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x6x64 : Shape := ⟨4, ![8, 4096, 6, 64]⟩
abbrev S8x4352x2x64 : Shape := ⟨4, ![8, 4352, 2, 64]⟩
abbrev S8x4096x2x3x64 : Shape := ⟨5, ![8, 4096, 2, 3, 64]⟩
abbrev S8x2x3x4096x64 : Shape := ⟨5, ![8, 2, 3, 4096, 64]⟩
abbrev S8x2x4352x64 : Shape := ⟨4, ![8, 2, 4352, 64]⟩
abbrev S8x2x3x4096x4352 : Shape := ⟨5, ![8, 2, 3, 4096, 4352]⟩
abbrev S_ : Shape := ⟨0, ![]⟩
abbrev S8x2x3x4096 : Shape := ⟨4, ![8, 2, 3, 4096]⟩
abbrev S8x2x3x4096x1 : Shape := ⟨5, ![8, 2, 3, 4096, 1]⟩
abbrev S8x4096x384 : Shape := ⟨3, ![8, 4096, 384]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x6x64, .f32⟩
  | .hbm, ⟨1, _⟩ => ⟨S8x4352x2x64, .f32⟩
  | .hbm, ⟨2, _⟩ => ⟨S8x4352x2x64, .f32⟩
  | .hbm, ⟨3, _⟩ => ⟨S8x4096x2x3x64, .f32⟩
  | .hbm, ⟨4, _⟩ => ⟨S8x2x3x4096x64, .f32⟩
  | .hbm, ⟨5, _⟩ => ⟨S8x2x4352x64, .f32⟩
  | .hbm, ⟨6, _⟩ => ⟨S8x2x4352x64, .f32⟩
  | .hbm, ⟨7, _⟩ => ⟨S8x2x3x4096x4352, .f32⟩
  | .hbm, ⟨8, _⟩ => ⟨S_, .f32⟩
  | .hbm, ⟨9, _⟩ => ⟨S8x2x3x4096x4352, .f32⟩
  | .hbm, ⟨10, _⟩ => ⟨S8x2x3x4096x4352, .f32⟩
  | .hbm, ⟨11, _⟩ => ⟨S_, .f32⟩
  | .hbm, ⟨12, _⟩ => ⟨S8x2x3x4096, .f32⟩
  | .hbm, ⟨13, _⟩ => ⟨S_, .f32⟩
  | .hbm, ⟨14, _⟩ => ⟨S8x2x3x4096, .f32⟩
  | .hbm, ⟨15, _⟩ => ⟨S8x2x3x4096, .f32⟩
  | .hbm, ⟨16, _⟩ => ⟨S8x2x3x4096x1, .f32⟩
  | .hbm, ⟨17, _⟩ => ⟨S8x2x3x4096x4352, .f32⟩
  | .hbm, ⟨18, _⟩ => ⟨S8x2x3x4096x4352, .f32⟩
  | .hbm, ⟨19, _⟩ => ⟨S8x2x3x4096x4352, .f32⟩
  | .hbm, ⟨20, _⟩ => ⟨S_, .f32⟩
  | .hbm, ⟨21, _⟩ => ⟨S8x2x3x4096, .f32⟩
  | .hbm, ⟨22, _⟩ => ⟨S8x2x3x4096x1, .f32⟩
  | .hbm, ⟨23, _⟩ => ⟨S8x2x3x4096x4352, .f32⟩
  | .hbm, ⟨24, _⟩ => ⟨S8x2x3x4096x4352, .f32⟩
  | .hbm, ⟨25, _⟩ => ⟨S8x2x3x4096x64, .f32⟩
  | .hbm, ⟨26, _⟩ => ⟨S8x4096x2x3x64, .f32⟩
  | .hbm, ⟨27, _⟩ => ⟨S8x4096x384, .f32⟩
  | .hbm, ⟨28, _⟩ => ⟨S8x4096x384, .bf16⟩
  | _, _ => ⟨S8x4096x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KernelB.lean ====
abbrev S8x4096x4x96 : Shape := ⟨4, ![8, 4096, 4, 96]⟩
abbrev S8x4352x4x96 : Shape := ⟨4, ![8, 4352, 4, 96]⟩
abbrev S8x4352x4x64 : Shape := ⟨4, ![8, 4352, 4, 64]⟩
abbrev S_ : Shape := ⟨0, ![]⟩
abbrev S8x4096x4x128 : Shape := ⟨4, ![8, 4096, 4, 128]⟩
abbrev S8x4x4096x128 : Shape := ⟨4, ![8, 4, 4096, 128]⟩
abbrev S8x4352x4x128 : Shape := ⟨4, ![8, 4352, 4, 128]⟩
abbrev S8x4x4352x128 : Shape := ⟨4, ![8, 4, 4352, 128]⟩
abbrev S8x4352x2x128 : Shape := ⟨4, ![8, 4352, 2, 128]⟩
abbrev S8x2x4352x128 : Shape := ⟨4, ![8, 2, 4352, 128]⟩
abbrev S6 : Shape := ⟨1, ![6]⟩
abbrev S8x4x256x128 : Shape := ⟨4, ![8, 4, 256, 128]⟩
abbrev S8x2x4096x128 : Shape := ⟨4, ![8, 2, 4096, 128]⟩
abbrev S8x2x256x128 : Shape := ⟨4, ![8, 2, 256, 128]⟩
abbrev S1x4x512x128 : Shape := ⟨4, ![1, 4, 512, 128]⟩
abbrev S1x4x4352x128 : Shape := ⟨4, ![1, 4, 4352, 128]⟩
abbrev S1x2x4352x128 : Shape := ⟨4, ![1, 2, 4352, 128]⟩
abbrev S1x2x512x128 : Shape := ⟨4, ![1, 2, 512, 128]⟩
abbrev S512x128 : Shape := ⟨2, ![512, 128]⟩
abbrev S512x1 : Shape := ⟨2, ![512, 1]⟩
abbrev S1x1x2304x128 : Shape := ⟨4, ![1, 1, 2304, 128]⟩
abbrev S2304x128 : Shape := ⟨2, ![2304, 128]⟩
abbrev S1x1x512x128 : Shape := ⟨4, ![1, 1, 512, 128]⟩
abbrev S512x2304 : Shape := ⟨2, ![512, 2304]⟩
abbrev S512 : Shape := ⟨1, ![512]⟩
abbrev S1x1x2048x128 : Shape := ⟨4, ![1, 1, 2048, 128]⟩
abbrev S2048x128 : Shape := ⟨2, ![2048, 128]⟩
abbrev S512x2048 : Shape := ⟨2, ![512, 2048]⟩
abbrev S8x4096x2x128 : Shape := ⟨4, ![8, 4096, 2, 128]⟩
abbrev S8x4096x256 : Shape := ⟨3, ![8, 4096, 256]⟩

abbrev nBuf : Space → Nat
  | .hbm => 34
  | .vmem => 8
  | .smem => 1
  | _ => 0

abbrev bufTy : (tb : Table) → Fin (tcTables nBuf tb) → BufTy
  | .hbm, ⟨0, _⟩ => ⟨S8x4096x4x96, .f32⟩
  | .hbm, ⟨1, _⟩ => ⟨S8x4352x4x96, .f32⟩
  | .hbm, ⟨2, _⟩ => ⟨S8x4352x4x64, .f32⟩
  | .hbm, ⟨3, _⟩ => ⟨S_, .f32⟩
  | .hbm, ⟨4, _⟩ => ⟨S8x4096x4x96, .f32⟩
  | .hbm, ⟨5, _⟩ => ⟨S8x4096x4x96, .f32⟩
  | .hbm, ⟨6, _⟩ => ⟨S_, .f32⟩
  | .hbm, ⟨7, _⟩ => ⟨S_, .f32⟩
  | .hbm, ⟨8, _⟩ => ⟨S8x4096x4x96, .f32⟩
  | .hbm, ⟨9, _⟩ => ⟨S8x4096x4x96, .f32⟩
  | .hbm, ⟨10, _⟩ => ⟨S_, .i32⟩
  | .hbm, ⟨11, _⟩ => ⟨S_, .f32⟩
  | .hbm, ⟨12, _⟩ => ⟨S8x4096x4x128, .f32⟩
  | .hbm, ⟨13, _⟩ => ⟨S8x4x4096x128, .f32⟩
  | .hbm, ⟨14, _⟩ => ⟨S8x4x4096x128, .bf16⟩
  | .hbm, ⟨15, _⟩ => ⟨S_, .i32⟩
  | .hbm, ⟨16, _⟩ => ⟨S_, .f32⟩
  | .hbm, ⟨17, _⟩ => ⟨S8x4352x4x128, .f32⟩
  | .hbm, ⟨18, _⟩ => ⟨S8x4x4352x128, .f32⟩
  | .hbm, ⟨19, _⟩ => ⟨S8x4x4352x128, .bf16⟩
  | .hbm, ⟨20, _⟩ => ⟨S8x4352x2x128, .f32⟩
  | .hbm, ⟨21, _⟩ => ⟨S8x2x4352x128, .f32⟩
  | .hbm, ⟨22, _⟩ => ⟨S8x2x4352x128, .bf16⟩
  | .hbm, ⟨23, _⟩ => ⟨S_, .f32⟩
  | .hbm, ⟨24, _⟩ => ⟨S6, .f32⟩
  | .hbm, ⟨25, _⟩ => ⟨S8x4x4096x128, .bf16⟩
  | .hbm, ⟨26, _⟩ => ⟨S8x4x256x128, .bf16⟩
  | .hbm, ⟨27, _⟩ => ⟨S8x4x4352x128, .bf16⟩
  | .hbm, ⟨28, _⟩ => ⟨S8x2x4096x128, .bf16⟩
  | .hbm, ⟨29, _⟩ => ⟨S8x2x256x128, .bf16⟩
  | .hbm, ⟨30, _⟩ => ⟨S8x2x4352x128, .bf16⟩
  | .hbm, ⟨31, _⟩ => ⟨S8x2x4096x128, .bf16⟩
  | .hbm, ⟨32, _⟩ => ⟨S8x4096x2x128, .bf16⟩
  | .hbm, ⟨33, _⟩ => ⟨S8x4096x256, .bf16⟩
  | .local _ .vmem, ⟨0, _⟩ => ⟨S1x4x512x128, .bf16⟩
  | .local _ .vmem, ⟨1, _⟩ => ⟨S1x4x512x128, .bf16⟩
  | .local _ .vmem, ⟨2, _⟩ => ⟨S1x4x4352x128, .bf16⟩
  | .local _ .vmem, ⟨3, _⟩ => ⟨S1x4x4352x128, .bf16⟩
  | .local _ .vmem, ⟨4, _⟩ => ⟨S1x2x4352x128, .bf16⟩
  | .local _ .vmem, ⟨5, _⟩ => ⟨S1x2x4352x128, .bf16⟩
  | .local _ .vmem, ⟨6, _⟩ => ⟨S1x2x512x128, .bf16⟩
  | .local _ .vmem, ⟨7, _⟩ => ⟨S1x2x512x128, .bf16⟩
  | .local _ .smem, ⟨0, _⟩ => ⟨S6, .f32⟩
  | _, _ => ⟨S8x4096x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelBIdeal.lean ====
variable {F : FTy → Type} [FloatOps F] [Named F]
def κ : String → Option EReal := fun
  | "mask" => some ⊥
  | _ => none
-- ==== ReferenceBIdeal.lean ====
abbrev S8x4096x4x96 : Shape := ⟨4, ![8, 4096, 4, 96]⟩
abbrev S8x4352x4x96 : Shape := ⟨4, ![8, 4352, 4, 96]⟩
abbrev S8x4352x4x64 : Shape := ⟨4, ![8, 4352, 4, 64]⟩
abbrev S8x4096x4x1x96 : Shape := ⟨5, ![8, 4096, 4, 1, 96]⟩
abbrev S8x4x1x4096x96 : Shape := ⟨5, ![8, 4, 1, 4096, 96]⟩
abbrev S8x4x4352x96 : Shape := ⟨4, ![8, 4, 4352, 96]⟩
abbrev S8x4x4352x64 : Shape := ⟨4, ![8, 4, 4352, 64]⟩
abbrev S8x4x1x4096x4352 : Shape := ⟨5, ![8, 4, 1, 4096, 4352]⟩
abbrev S_ : Shape := ⟨0, ![]⟩
abbrev S8x4x1x4096 : Shape := ⟨4, ![8, 4, 1, 4096]⟩
abbrev S8x4x1x4096x1 : Shape := ⟨5, ![8, 4, 1, 4096, 1]⟩
abbrev S8x4x1x4096x64 : Shape := ⟨5, ![8, 4, 1, 4096, 64]⟩
abbrev S8x4096x4x1x64 : Shape := ⟨5, ![8, 4096, 4, 1, 64]⟩
abbrev S8x4096x256 : Shape := ⟨3, ![8, 4096, 256]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x4x96, .f32⟩
  | .hbm, ⟨1, _⟩ => ⟨S8x4352x4x96, .f32⟩
  | .hbm, ⟨2, _⟩ => ⟨S8x4352x4x64, .f32⟩
  | .hbm, ⟨3, _⟩ => ⟨S8x4096x4x1x96, .f32⟩
  | .hbm, ⟨4, _⟩ => ⟨S8x4x1x4096x96, .f32⟩
  | .hbm, ⟨5, _⟩ => ⟨S8x4x4352x96, .f32⟩
  | .hbm, ⟨6, _⟩ => ⟨S8x4x4352x64, .f32⟩
  | .hbm, ⟨7, _⟩ => ⟨S8x4x1x4096x4352, .f32⟩
  | .hbm, ⟨8, _⟩ => ⟨S_, .f32⟩
  | .hbm, ⟨9, _⟩ => ⟨S8x4x1x4096x4352, .f32⟩
  | .hbm, ⟨10, _⟩ => ⟨S8x4x1x4096x4352, .f32⟩
  | .hbm, ⟨11, _⟩ => ⟨S_, .f32⟩
  | .hbm, ⟨12, _⟩ => ⟨S8x4x1x4096, .f32⟩
  | .hbm, ⟨13, _⟩ => ⟨S_, .f32⟩
  | .hbm, ⟨14, _⟩ => ⟨S8x4x1x4096, .f32⟩
  | .hbm, ⟨15, _⟩ => ⟨S8x4x1x4096, .f32⟩
  | .hbm, ⟨16, _⟩ => ⟨S8x4x1x4096x1, .f32⟩
  | .hbm, ⟨17, _⟩ => ⟨S8x4x1x4096x4352, .f32⟩
  | .hbm, ⟨18, _⟩ => ⟨S8x4x1x4096x4352, .f32⟩
  | .hbm, ⟨19, _⟩ => ⟨S8x4x1x4096x4352, .f32⟩
  | .hbm, ⟨20, _⟩ => ⟨S_, .f32⟩
  | .hbm, ⟨21, _⟩ => ⟨S8x4x1x4096, .f32⟩
  | .hbm, ⟨22, _⟩ => ⟨S8x4x1x4096x1, .f32⟩
  | .hbm, ⟨23, _⟩ => ⟨S8x4x1x4096x4352, .f32⟩
  | .hbm, ⟨24, _⟩ => ⟨S8x4x1x4096x4352, .f32⟩
  | .hbm, ⟨25, _⟩ => ⟨S8x4x1x4096x64, .f32⟩
  | .hbm, ⟨26, _⟩ => ⟨S8x4096x4x1x64, .f32⟩
  | .hbm, ⟨27, _⟩ => ⟨S8x4096x256, .f32⟩
  | .hbm, ⟨28, _⟩ => ⟨S8x4096x256, .bf16⟩
  | _, _ => ⟨S8x4096x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KernelE.lean ====
abbrev S136 : Shape := ⟨1, ![136]⟩
abbrev S136x512 : Shape := ⟨2, ![136, 512]⟩
abbrev S32768x1024 : Shape := ⟨2, ![32768, 1024]⟩
abbrev S8x1024x3584 : Shape := ⟨3, ![8, 1024, 3584]⟩
abbrev S8x3584x1024 : Shape := ⟨3, ![8, 3584, 1024]⟩
abbrev S69632x1024 : Shape := ⟨2, ![69632, 1024]⟩
abbrev S1x1024x1792 : Shape := ⟨3, ![1, 1024, 1792]⟩
abbrev S1 : Shape := ⟨1, ![1]⟩
abbrev S1x1792x1024 : Shape := ⟨3, ![1, 1792, 1024]⟩
abbrev S512x1024 : Shape := ⟨2, ![512, 1024]⟩
abbrev S512 : Shape := ⟨1, ![512]⟩
abbrev S2x512x1024 : Shape := ⟨3, ![2, 512, 1024]⟩
abbrev S_ : Shape := ⟨0, ![]⟩
abbrev S2 : Shape := ⟨1, ![2]⟩
abbrev S1x512 : Shape := ⟨2, ![1, 512]⟩
abbrev S1x512x1024 : Shape := ⟨3, ![1, 512, 1024]⟩
abbrev S1x1024 : Shape := ⟨2, ![1, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 9
  | .vmem => 12
  | .smem => 3
  | _ => 0

abbrev bufTy : (tb : Table) → Fin (tcTables nBuf tb) → BufTy
  | .hbm, ⟨0, _⟩ => ⟨S136x512, .i32⟩
  | .hbm, ⟨1, _⟩ => ⟨S32768x1024, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S69632x1024, .f32⟩
  | .local _ .vmem, ⟨0, _⟩ => ⟨S136x512, .i32⟩
  | .local _ .vmem, ⟨1, _⟩ => ⟨S1x1024x1792, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1792x1024, .bf16⟩
  | .local _ .vmem, ⟨6, _⟩ => ⟨S1x1792x1024, .bf16⟩
  | .local _ .vmem, ⟨7, _⟩ => ⟨S512x1024, .f32⟩
  | .local _ .vmem, ⟨8, _⟩ => ⟨S512x1024, .f32⟩
  | .local _ .vmem, ⟨9, _⟩ => ⟨S2x512x1024, .f32⟩
  | .local _ .vmem, ⟨10, _⟩ => ⟨S512x1024, .bf16⟩
  | .local _ .vmem, ⟨11, _⟩ => ⟨S512x1024, .f32⟩
  | .local _ .smem, ⟨0, _⟩ => ⟨S136, .i32⟩
  | .local _ .smem, ⟨1, _⟩ => ⟨S136, .i32⟩
  | .local _ .smem, ⟨2, _⟩ => ⟨S512, .i32⟩
  | _, _ => ⟨S136x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.addi arg0 c1_i32
  let c135_i32 : BitVec 32 := 135#32
  let v1 : BitVec 32 := Scalar.minsi v0 c135_i32
  let v6 : Index := Scalar.indexCast v1
  ![v6.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let arg0 : BitVec 32 := BitVec.ofNat 32 (i 0).val
  let c0_i32_2 : BitVec 32 := 0#32
  let v10 : BitVec 1 := Scalar.cmpi .eq arg0 c0_i32_2
  let v11 : BitVec 1 := Scalar.andi v2 v10
  let v12 : BitVec 32 := Scalar.extui v11
  let c0_i32_3 : BitVec 32 := 0#32
  let v13 : BitVec 1 := Scalar.cmpi .ne v12 c0_i32_3
  v13

@[reducible] def k0_t1_loop : Scf.Loop 32 :=
  let c0_i32_17 : BitVec 32 := 0#32
  let c512_i32 : BitVec 32 := 512#32
  let v38 : BitVec 32 := Scalar.addi c0_i32_17 c512_i32
  let c1_i32_18 : BitVec 32 := 1#32
  ⟨c0_i32_17, v38, c1_i32_18⟩
def k0_off3 (k0_t1 : Fin k0_t1_loop.trips) : Fin 1 → Nat :=
  let c0_i32_17 : BitVec 32 := 0#32
  let c1_i32_18 : BitVec 32 := 1#32
  let arg16 : BitVec 32 := Scf.iv c0_i32_17 c1_i32_18 k0_t1
  let v39 : Index := Scalar.indexCast arg16
  ![v39.toNat]
def k0_off4 (k0_t1 : Fin k0_t1_loop.trips) : Fin 2 → Nat :=
  let c0_i32_17 : BitVec 32 := 0#32
  let c1_i32_18 : BitVec 32 := 1#32
  let arg16 : BitVec 32 := Scf.iv c0_i32_17 c1_i32_18 k0_t1
  let c0_i32_24 : BitVec 32 := 0#32
  ![arg16.toNat, 0]
def k0_off5 (v40 : BitVec 32) : Fin 2 → Nat :=
  let c0_i32_25 : BitVec 32 := 0#32
  ![v40.toNat, 0]

def k0_chk1 (i : grid0.Coords) (v40 : BitVec 32) : Prop :=
  (∀ (k0_h1 : k0_cond1 i = 1#1), ∀ a, (k0_off5 v40) a + S1x1024.size a ≤ S32768x1024.size a)
theorem k0_off5_inb : ∀ (i : grid0.Coords) (v40 : BitVec 32) (k0_hw1 : k0_chk1 i v40), ∀ (k0_h1 : k0_cond1 i = 1#1), ∀ a, (k0_off5 v40) a + S1x1024.size a ≤ S32768x1024.size a := fun i v40 k0_hw1 k0_h1 => k0_hw1 k0_h1

def k0_off6 (i : grid0.Coords) : Fin 2 → Nat :=
  let arg0 : BitVec 32 := BitVec.ofNat 32 (i 0).val
  let c1_i32 : BitVec 32 := 1#32
  let v0 : BitVec 32 := Scalar.addi arg0 c1_i32
  let c135_i32 : BitVec 32 := 135#32
  let v1 : BitVec 32 := Scalar.minsi v0 c135_i32
  let c0_i32_13 : BitVec 32 := 0#32
  ![v1.toNat, 0]
def k0_off7 (i : grid0.Coords) : Fin 1 → Nat :=
  let arg0 : BitVec 32 := BitVec.ofNat 32 (i 0).val
  let v16 : Index := Scalar.indexCast arg0
  ![v16.toNat]
@[reducible] def k0_t2_loop : Scf.Loop 32 :=
  let c0_i32_18 : BitVec 32 := 0#32
  let c512_i32 : BitVec 32 := 512#32
  let v44 : BitVec 32 := Scalar.addi c0_i32_18 c512_i32
  let c1_i32_19 : BitVec 32 := 1#32
  ⟨c0_i32_18, v44, c1_i32_19⟩
def k0_off8 (i : grid0.Coords) : Fin 1 → Nat :=
  let arg0 : BitVec 32 := BitVec.ofNat 32 (i 0).val
  let c2_i32 : BitVec 32 := 2#32
  let c0_i32_13 : BitVec 32 := 0#32
  let v34 : BitVec 1 := Scalar.cmpi .eq c2_i32 c0_i32_13
  let c1_i32_14 : BitVec 32 := 1#32
  let v35 : BitVec 32 := Scalar.select v34 c1_i32_14 c2_i32
  let v36 : BitVec 32 := Scalar.remsi arg0 v35
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let c0_i32_15 : BitVec 32 := 0#32
  let v37 : BitVec 1 := Scalar.cmpi .ne v36 c0_i32_15
  let v41 : BitVec 1 := Scalar.andi v40 v37
  let v42 : BitVec 32 := Scalar.addi v36 v35
  let v43 : BitVec 32 := Scalar.select v41 v42 v36
  ![v43.toNat]
def k0_off9 (i : grid0.Coords) : Fin 3 → Nat :=
  let arg0 : BitVec 32 := BitVec.ofNat 32 (i 0).val
  let c2_i32 : BitVec 32 := 2#32
  let c0_i32_13 : BitVec 32 := 0#32
  let v34 : BitVec 1 := Scalar.cmpi .eq c2_i32 c0_i32_13
  let c1_i32_14 : BitVec 32 := 1#32
  let v35 : BitVec 32 := Scalar.select v34 c1_i32_14 c2_i32
  let v36 : BitVec 32 := Scalar.remsi arg0 v35
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let c0_i32_15 : BitVec 32 := 0#32
  let v37 : BitVec 1 := Scalar.cmpi .ne v36 c0_i32_15
  let v41 : BitVec 1 := Scalar.andi v40 v37
  let v42 : BitVec 32 := Scalar.addi v36 v35
  let v43 : BitVec 32 := Scalar.select v41 v42 v36
  let c0_i32_24 : BitVec 32 := 0#32
  let c0_i32_25 : BitVec 32 := 0#32
  ![v43.toNat, 0, 0]
def k0_off10 (k0_t2 : Fin k0_t2_loop.trips) : Fin 2 → Nat :=
  let c0_i32_18 : BitVec 32 := 0#32
  let c1_i32_19 : BitVec 32 := 1#32
  let arg16 : BitVec 32 := Scf.iv c0_i32_18 c1_i32_19 k0_t2
  let c0_i32_26 : BitVec 32 := 0#32
  ![arg16.toNat, 0]
def k0_off11 (i : grid0.Coords) : Fin 3 → Nat :=
  let arg0 : BitVec 32 := BitVec.ofNat 32 (i 0).val
  let c2_i32 : BitVec 32 := 2#32
  let c0_i32_13 : BitVec 32 := 0#32
  let v34 : BitVec 1 := Scalar.cmpi .eq c2_i32 c0_i32_13
  let c1_i32_14 : BitVec 32 := 1#32
  let v35 : BitVec 32 := Scalar.select v34 c1_i32_14 c2_i32
  let v36 : BitVec 32 := Scalar.remsi arg0 v35
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let c0_i32_15 : BitVec 32 := 0#32
  let v37 : BitVec 1 := Scalar.cmpi .ne v36 c0_i32_15
  let v41 : BitVec 1 := Scalar.andi v40 v37
  let v42 : BitVec 32 := Scalar.addi v36 v35
  let v43 : BitVec 32 := Scalar.select v41 v42 v36
  let v45 : Index := Scalar.indexCast v43
  let c0 : Index := 0#32
  let c0_21 : Index := 0#32
  ![v45.toNat, 0, 0]
def k0_off12 (i : grid0.Coords) : Fin 2 → Nat :=
  let arg0 : BitVec 32 := BitVec.ofNat 32 (i 0).val
  let c1_i32 : BitVec 32 := 1#32
  let v0 : BitVec 32 := Scalar.addi arg0 c1_i32
  let c135_i32 : BitVec 32 := 135#32
  let v1 : BitVec 32 := Scalar.minsi v0 c135_i32
  let c0_i32_13 : BitVec 32 := 0#32
  ![v1.toNat, 0]
@[reducible] def k0_t3_loop : Scf.Loop 32 :=
  let c0_i32_19 : BitVec 32 := 0#32
  let c512_i32 : BitVec 32 := 512#32
  let v46 : BitVec 32 := Scalar.addi c0_i32_19 c512_i32
  let c1_i32_20 : BitVec 32 := 1#32
  ⟨c0_i32_19, v46, c1_i32_20⟩
def k0_off13 (k0_t3 : Fin k0_t3_loop.trips) : Fin 1 → Nat :=
  let c0_i32_19 : BitVec 32 := 0#32
  let c1_i32_20 : BitVec 32 := 1#32
  let arg16 : BitVec 32 := Scf.iv c0_i32_19 c1_i32_20 k0_t3
  let v47 : Index := Scalar.indexCast arg16
  ![v47.toNat]
def k0_off14 (i : grid0.Coords) : Fin 1 → Nat :=
  let arg0 : BitVec 32 := BitVec.ofNat 32 (i 0).val
  let c1_i32 : BitVec 32 := 1#32
  let v0 : BitVec 32 := Scalar.addi arg0 c1_i32
  let c135_i32 : BitVec 32 := 135#32
  let v1 : BitVec 32 := Scalar.minsi v0 c135_i32
  let c2_i32 : BitVec 32 := 2#32
  let c0_i32_14 : BitVec 32 := 0#32
  let v36 : BitVec 1 := Scalar.cmpi .eq c2_i32 c0_i32_14
  let c1_i32_15 : BitVec 32 := 1#32
  let v37 : BitVec 32 := Scalar.select v36 c1_i32_15 c2_i32
  let v38 : BitVec 32 := Scalar.remsi v1 v37
  let c0_i32_17 : BitVec 32 := 0#32
  let v40 : BitVec 1 := Scalar.cmpi .slt v38 c0_i32_17
  let c0_i32_18 : BitVec 32 := 0#32
  let v41 : BitVec 1 := Scalar.cmpi .slt v37 c0_i32_18
  let v42 : BitVec 1 := Scalar.xori v40 v41
  let c0_i32_16 : BitVec 32 := 0#32
  let v39 : BitVec 1 := Scalar.cmpi .ne v38 c0_i32_16
  let v43 : BitVec 1 := Scalar.andi v42 v39
  let v44 : BitVec 32 := Scalar.addi v38 v37
  let v45 : BitVec 32 := Scalar.select v43 v44 v38
  ![v45.toNat]
def k0_off15 (i : grid0.Coords) : Fin 3 → Nat :=
  let arg0 : BitVec 32 := BitVec.ofNat 32 (i 0).val
  let c1_i32 : BitVec 32 := 1#32
  let v0 : BitVec 32 := Scalar.addi arg0 c1_i32
  let c135_i32 : BitVec 32 := 135#32
  let v1 : BitVec 32 := Scalar.minsi v0 c135_i32
  let c2_i32 : BitVec 32 := 2#32
  let c0_i32_14 : BitVec 32 := 0#32
  let v36 : BitVec 1 := Scalar.cmpi .eq c2_i32 c0_i32_14
  let c1_i32_15 : BitVec 32 := 1#32
  let v37 : BitVec 32 := Scalar.select v36 c1_i32_15 c2_i32
  let v38 : BitVec 32 := Scalar.remsi v1 v37
  let c0_i32_17 : BitVec 32 := 0#32
  let v40 : BitVec 1 := Scalar.cmpi .slt v38 c0_i32_17
  let c0_i32_18 : BitVec 32 := 0#32
  let v41 : BitVec 1 := Scalar.cmpi .slt v37 c0_i32_18
  let v42 : BitVec 1 := Scalar.xori v40 v41
  let c0_i32_16 : BitVec 32 := 0#32
  let v39 : BitVec 1 := Scalar.cmpi .ne v38 c0_i32_16
  let v43 : BitVec 1 := Scalar.andi v42 v39
  let v44 : BitVec 32 := Scalar.addi v38 v37
  let v45 : BitVec 32 := Scalar.select v43 v44 v38
  let c0_i32_22 : BitVec 32 := 0#32
  let c0_i32_23 : BitVec 32 := 0#32
  ![v45.toNat, 0, 0]
def k0_off16 (k0_t3 : Fin k0_t3_loop.trips) : Fin 2 → Nat :=
  let c0_i32_19 : BitVec 32 := 0#32
  let c1_i32_20 : BitVec 32 := 1#32
  let arg16 : BitVec 32 := Scf.iv c0_i32_19 c1_i32_20 k0_t3
  let c0_i32_24 : BitVec 32 := 0#32
  ![arg16.toNat, 0]
def k0_off17 (v48 : BitVec 32) : Fin 2 → Nat :=
  let c0_i32_25 : BitVec 32 := 0#32
  ![v48.toNat, 0]
def k0_cond5 (i : grid0.Coords) (v7 : BitVec 32) : BitVec 1 :=
  let arg1 : BitVec 32 := BitVec.ofNat 32 (i 1).val
  let c0_i32 : BitVec 32 := 0#32
  let v2 : BitVec 1 := Scalar.cmpi .eq arg1 c0_i32
  let arg0 : BitVec 32 := BitVec.ofNat 32 (i 0).val
  let c1_i32_0 : BitVec 32 := 1#32
  let v3 : BitVec 32 := Scalar.addi arg0 c1_i32_0
  let c136_i32 : BitVec 32 := 136#32
  let v4 : BitVec 1 := Scalar.cmpi .slt v3 c136_i32
  let v5 : BitVec 1 := Scalar.andi v2 v4
  let c0_i32_1 : BitVec 32 := 0#32
  let v8 : BitVec 1 := Scalar.cmpi .sgt v7 c0_i32_1
  let v9 : BitVec 1 := Scalar.andi v5 v8
  let v24 : BitVec 32 := Scalar.extui v9
  let c0_i32_8 : BitVec 32 := 0#32
  let v25 : BitVec 1 := Scalar.cmpi .ne v24 c0_i32_8
  v25

def k0_chk2 (i : grid0.Coords) (v7 : BitVec 32) (v48 : BitVec 32) : Prop :=
  (∀ (k0_h5 : k0_cond5 i v7 = 1#1), ∀ a, (k0_off17 v48) a + S1x1024.size a ≤ S32768x1024.size a)
theorem k0_off17_inb : ∀ (i : grid0.Coords) (v7 : BitVec 32) (v48 : BitVec 32) (k0_hw2 : k0_chk2 i v7 v48), ∀ (k0_h5 : k0_cond5 i v7 = 1#1), ∀ a, (k0_off17 v48) a + S1x1024.size a ≤ S32768x1024.size a := fun i v7 v48 k0_hw2 k0_h5 => k0_hw2 k0_h5

def k0_off18 (i : grid0.Coords) : Fin 1 → Nat :=
  let arg0 : BitVec 32 := BitVec.ofNat 32 (i 0).val
  let v26 : Index := Scalar.indexCast arg0
  ![v26.toNat]
def k0_cond7 (i : grid0.Coords) : BitVec 1 :=
  let arg1 : BitVec 32 := BitVec.ofNat 32 (i 1).val
  let c1_i32_11 : BitVec 32 := 1#32
  let v31 : BitVec 1 := Scalar.cmpi .eq arg1 c1_i32_11
  let v32 : BitVec 32 := Scalar.extui v31
  let c0_i32_12 : BitVec 32 := 0#32
  let v33 : BitVec 1 := Scalar.cmpi .ne v32 c0_i32_12
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S136x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceEIdeal.lean ====
abbrev S136 : Shape := ⟨1, ![136]⟩
abbrev S136x512 : Shape := ⟨2, ![136, 512]⟩
abbrev S32768x1024 : Shape := ⟨2, ![32768, 1024]⟩
abbrev S8x1024x3584 : Shape := ⟨3, ![8, 1024, 3584]⟩
abbrev S8x3584x1024 : Shape := ⟨3, ![8, 3584, 1024]⟩
abbrev S_ : Shape := ⟨0, ![]⟩
abbrev S136x512x1 : Shape := ⟨3, ![136, 512, 1]⟩
abbrev S136x512x1024 : Shape := ⟨3, ![136, 512, 1024]⟩
abbrev S136x1 : Shape := ⟨2, ![136, 1]⟩
abbrev S136x1024x3584 : Shape := ⟨3, ![136, 1024, 3584]⟩
abbrev S136x3584x1024 : Shape := ⟨3, ![136, 3584, 1024]⟩
abbrev S136x512x3584 : Shape := ⟨3, ![136, 512, 3584]⟩
abbrev S136x1x1 : Shape := ⟨3, ![136, 1, 1]⟩
abbrev S69632x1024 : Shape := ⟨2, ![69632, 1024]⟩

abbrev nBuf : Space → Nat
  | .hbm => 66
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S136x512, .i32⟩
  | .hbm, ⟨3, _⟩ => ⟨S32768x1024, .f32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S_, .i32⟩
  | .hbm, ⟨8, _⟩ => ⟨S136x512, .i32⟩
  | .hbm, ⟨9, _⟩ => ⟨S136x512, .i1⟩
  | .hbm, ⟨10, _⟩ => ⟨S_, .i32⟩
  | .hbm, ⟨11, _⟩ => ⟨S136x512, .i32⟩
  | .hbm, ⟨12, _⟩ => ⟨S136x512, .i32⟩
  | .hbm, ⟨13, _⟩ => ⟨S136x512, .i32⟩
  | .hbm, ⟨14, _⟩ => ⟨S136x512x1, .i32⟩
  | .hbm, ⟨15, _⟩ => ⟨S136x512x1024, .f32⟩
  | .hbm, ⟨16, _⟩ => ⟨S_, .i32⟩
  | .hbm, ⟨17, _⟩ => ⟨S136, .i32⟩
  | .hbm, ⟨18, _⟩ => ⟨S136, .i1⟩
  | .hbm, ⟨19, _⟩ => ⟨S_, .i32⟩
  | .hbm, ⟨20, _⟩ => ⟨S136, .i32⟩
  | .hbm, ⟨21, _⟩ => ⟨S136, .i32⟩
  | .hbm, ⟨22, _⟩ => ⟨S136, .i32⟩
  | .hbm, ⟨23, _⟩ => ⟨S136x1, .i32⟩
  | .hbm, ⟨24, _⟩ => ⟨S136x1024x3584, .f32⟩
  | .hbm, ⟨25, _⟩ => ⟨S_, .i32⟩
  | .hbm, ⟨26, _⟩ => ⟨S136, .i32⟩
  | .hbm, ⟨27, _⟩ => ⟨S136, .i1⟩
  | .hbm, ⟨28, _⟩ => ⟨S_, .i32⟩
  | .hbm, ⟨29, _⟩ => ⟨S136, .i32⟩
  | .hbm, ⟨30, _⟩ => ⟨S136, .i32⟩
  | .hbm, ⟨31, _⟩ => ⟨S136, .i32⟩
  | .hbm, ⟨32, _⟩ => ⟨S136x1, .i32⟩
  | .hbm, ⟨33, _⟩ => ⟨S136x1024x3584, .f32⟩
  | .hbm, ⟨34, _⟩ => ⟨S_, .i32⟩
  | .hbm, ⟨35, _⟩ => ⟨S136, .i32⟩
  | .hbm, ⟨36, _⟩ => ⟨S136, .i1⟩
  | .hbm, ⟨37, _⟩ => ⟨S_, .i32⟩
  | .hbm, ⟨38, _⟩ => ⟨S136, .i32⟩
  | .hbm, ⟨39, _⟩ => ⟨S136, .i32⟩
  | .hbm, ⟨40, _⟩ => ⟨S136, .i32⟩
  | .hbm, ⟨41, _⟩ => ⟨S136x1, .i32⟩
  | .hbm, ⟨42, _⟩ => ⟨S136x3584x1024, .f32⟩
  | .hbm, ⟨43, _⟩ => ⟨S136x512x3584, .f32⟩
  | .hbm, ⟨44, _⟩ => ⟨S136x512x3584, .f32⟩
  | .hbm, ⟨45, _⟩ => ⟨S136x512x3584, .f32⟩
  | .hbm, ⟨46, _⟩ => ⟨S136x512x3584, .f32⟩
  | .hbm, ⟨47, _⟩ => ⟨S_, .f32⟩
  | .hbm, ⟨48, _⟩ => ⟨S136x512x3584, .f32⟩
  | .hbm, ⟨49, _⟩ => ⟨S136x512x3584, .f32⟩
  | .hbm, ⟨50, _⟩ => ⟨S_, .f32⟩
  | .hbm, ⟨51, _⟩ => ⟨S136x512x3584, .f32⟩
  | .hbm, ⟨52, _⟩ => ⟨S136x512x3584, .f32⟩
  | .hbm, ⟨53, _⟩ => ⟨S136x512x3584, .f32⟩
  | .hbm, ⟨54, _⟩ => ⟨S136x512x3584, .f32⟩
  | .hbm, ⟨55, _⟩ => ⟨S136x512x1024, .f32⟩
  | .hbm, ⟨56, _⟩ => ⟨S_, .i32⟩
  | .hbm, ⟨57, _⟩ => ⟨S136, .i32⟩
  | .hbm, ⟨58, _⟩ => ⟨S136, .i1⟩
  | .hbm, ⟨59, _⟩ => ⟨S136x1x1, .i1⟩
  | .hbm, ⟨60, _⟩ => ⟨S_, .f32⟩
  | .hbm, ⟨61, _⟩ => ⟨S_, .f32⟩
  | .hbm, ⟨62, _⟩ => ⟨S136x512x1024, .i1⟩
  | .hbm, ⟨63, _⟩ => ⟨S136x512x1024, .f32⟩
  | .hbm, ⟨64, _⟩ => ⟨S136x512x1024, .f32⟩
  | .hbm, ⟨65, _⟩ => ⟨S69632x1024, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v36 : Ref sig .tc := ⟨.hbm, 64, rfl⟩
abbrev main_v37 : Ref sig .tc := ⟨.hbm, 65, rfl⟩

abbrev nD : Nat := 1
abbrev τ : Topo := Topo.v7x

variable {F : FTy → Type} [FloatOps F]
-- ==== KernelD.lean ====
abbrev S8x4096x1024 : Shape := ⟨3, ![8, 4096, 1024]⟩
abbrev S8x4096x384 : Shape := ⟨3, ![8, 4096, 384]⟩
abbrev S8x4096x256 : Shape := ⟨3, ![8, 4096, 256]⟩
abbrev S8x6144 : Shape := ⟨2, ![8, 6144]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x4096x2x128 : Shape := ⟨4, ![8, 4096, 2, 128]⟩
abbrev S8x2x4096x128 : Shape := ⟨4, ![8, 2, 4096, 128]⟩
abbrev S384x1024 : Shape := ⟨2, ![384, 1024]⟩
abbrev S2x3x64x1024 : Shape := ⟨4, ![2, 3, 64, 1024]⟩
abbrev S3x2x64x1024 : Shape := ⟨4, ![3, 2, 64, 1024]⟩
abbrev S256x1024 : Shape := ⟨2, ![256, 1024]⟩
abbrev S1x1024 : Shape := ⟨2, ![1, 1024]⟩
abbrev S8x4096x2x3x64 : Shape := ⟨5, ![8, 4096, 2, 3, 64]⟩
abbrev S8x3x4096x2x64 : Shape := ⟨5, ![8, 3, 4096, 2, 64]⟩
abbrev S8x3x4096x128 : Shape := ⟨4, ![8, 3, 4096, 128]⟩
abbrev S8x6x1024 : Shape := ⟨3, ![8, 6, 1024]⟩
abbrev S1x512x1024 : Shape := ⟨3, ![1, 512, 1024]⟩
abbrev S1x3x512x128 : Shape := ⟨4, ![1, 3, 512, 128]⟩
abbrev S1x2x512x128 : Shape := ⟨4, ![1, 2, 512, 128]⟩
abbrev S1x6x1024 : Shape := ⟨3, ![1, 6, 1024]⟩
abbrev S6x1024 : Shape := ⟨2, ![6, 1024]⟩
abbrev S1x1x512x128 : Shape := ⟨4, ![1, 1, 512, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 38
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x384, .f32⟩
  | .hbm, ⟨2, _⟩ => ⟨S8x4096x256, .f32⟩
  | .hbm, ⟨3, _⟩ => ⟨S8x4096x384, .f32⟩
  | .hbm, ⟨4, _⟩ => ⟨S8x6144, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S8x4096x2x128, .f32⟩
  | .hbm, ⟨11, _⟩ => ⟨S8x2x4096x128, .f32⟩
  | .hbm, ⟨12, _⟩ => ⟨S8x2x4096x128, .bf16⟩
  | .hbm, ⟨13, _⟩ => ⟨S384x1024, .f32⟩
  | .hbm, ⟨14, _⟩ => ⟨S2x3x64x1024, .f32⟩
  | .hbm, ⟨15, _⟩ => ⟨S3x2x64x1024, .f32⟩
  | .hbm, ⟨16, _⟩ => ⟨S384x1024, .f32⟩
  | .hbm, ⟨17, _⟩ => ⟨S256x1024, .f32⟩
  | .hbm, ⟨18, _⟩ => ⟨S384x1024, .f32⟩
  | .hbm, ⟨19, _⟩ => ⟨S2x3x64x1024, .f32⟩
  | .hbm, ⟨20, _⟩ => ⟨S3x2x64x1024, .f32⟩
  | .hbm, ⟨21, _⟩ => ⟨S384x1024, .f32⟩
  | .hbm, ⟨22, _⟩ => ⟨S1024x1024, .f32⟩
  | .hbm, ⟨23, _⟩ => ⟨S1024x1024, .bf16⟩
  | .hbm, ⟨24, _⟩ => ⟨S1x1024, .f32⟩
  | .hbm, ⟨25, _⟩ => ⟨S1024x2816, .bf16⟩
  | .hbm, ⟨26, _⟩ => ⟨S1024x2816, .bf16⟩
  | .hbm, ⟨27, _⟩ => ⟨S2816x1024, .bf16⟩
  | .hbm, ⟨28, _⟩ => ⟨S8x4096x2x3x64, .f32⟩
  | .hbm, ⟨29, _⟩ => ⟨S8x3x4096x2x64, .f32⟩
  | .hbm, ⟨30, _⟩ => ⟨S8x3x4096x128, .f32⟩
  | .hbm, ⟨31, _⟩ => ⟨S8x3x4096x128, .bf16⟩
  | .hbm, ⟨32, _⟩ => ⟨S8x4096x2x3x64, .f32⟩
  | .hbm, ⟨33, _⟩ => ⟨S8x3x4096x2x64, .f32⟩
  | .hbm, ⟨34, _⟩ => ⟨S8x3x4096x128, .f32⟩
  | .hbm, ⟨35, _⟩ => ⟨S8x3x4096x128, .bf16⟩
  | .hbm, ⟨36, _⟩ => ⟨S8x6x1024, .f32⟩
  | .hbm, ⟨37, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x512x128, .bf16⟩
  | .local _ .vmem, ⟨3, _⟩ => ⟨S1x3x512x128, .bf16⟩
  | .local _ .vmem, ⟨4, _⟩ => ⟨S1x2x512x128, .bf16⟩
  | .local _ .vmem, ⟨5, _⟩ => ⟨S1x2x512x128, .bf16⟩
  | .local _ .vmem, ⟨6, _⟩ => ⟨S1x3x512x128, .bf16⟩
  | .local _ .vmem, ⟨7, _⟩ => ⟨S1x3x512x128, .bf16⟩
  | .local _ .vmem, ⟨8, _⟩ => ⟨S1x6x1024, .f32⟩
  | .local _ .vmem, ⟨9, _⟩ => ⟨S1x6x1024, .f32⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x512x1024, .f32⟩
  | .local _ .vmem, ⟨16, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceDIdeal.lean ====
abbrev S8x4096x1024 : Shape := ⟨3, ![8, 4096, 1024]⟩
abbrev S8x4096x384 : Shape := ⟨3, ![8, 4096, 384]⟩
abbrev S8x4096x256 : Shape := ⟨3, ![8, 4096, 256]⟩
abbrev S8x6144 : Shape := ⟨2, ![8, 6144]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x384, .f32⟩
  | .hbm, ⟨2, _⟩ => ⟨S8x4096x256, .f32⟩
  | .hbm, ⟨3, _⟩ => ⟨S8x4096x384, .f32⟩
  | .hbm, ⟨4, _⟩ => ⟨S8x6144, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S1x1x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x1x1024, .f32⟩
  | .hbm, ⟨45, _⟩ => ⟨S8x1x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S_, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Proof.Flash.Math.lean ====
/- The mathematics of one attention row over the extended reals: an online softmax in base two, taken over two
   chunks of the keys, is the softmax of the same scores in base e. -/
module

public import Idealize.ShloMosaic.PureOps.Ideal

@[expose] public section

noncomputable section

open scoped BigOperators

namespace Cert.Flash

open Idealize.ShloMosaic

/-- One row's online softmax over two chunks: `e₁`, `e₂` the chunks' scores in base two, `w₁`, `w₂` their values; the
    running maximum starts at `⊥`, the running sums at `0`. -/
def flashVal {n₁ n₂ : ℕ} (e₁ w₁ : Fin n₁ → EReal) (e₂ w₂ : Fin n₂ → EReal) : EReal :=
  let m₁ := max ⊥ ((Finset.univ : Finset (Fin n₁)).fold max ⊥ e₁)
  let a₁ := Ideal.exp2 (⊥ - m₁)
  let m₂ := max m₁ ((Finset.univ : Finset (Fin n₂)).fold max ⊥ e₂)
  let a₂ := Ideal.exp2 (m₁ - m₂)
  Ideal.div
    (a₂ * (a₁ * 0 + ∑ k, Ideal.exp2 (e₁ k - m₁) * w₁ k) + ∑ k, Ideal.exp2 (e₂ k - m₂) * w₂ k)
    (a₂ * (a₁ * 0 + ∑ k, Ideal.exp2 (e₁ k - m₁)) + ∑ k, Ideal.exp2 (e₂ k - m₂))

/-- One row's softmax of the scores `z` against the values `w`, each weight divided before it is used. -/
def softVal {n : ℕ} (z w : Fin n → EReal) : EReal :=
  let M := max ⊥ ((Finset.univ : Finset (Fin n)).fold max ⊥ z)
  ∑ k, Ideal.div (Ideal.exp (z k - M)) (0 + ∑ j, Ideal.exp (z j - M)) * w k

/-- A coerced finite sum of reals is the extended reals' sum. -/
theorem coe_sum {ι : Type*} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- A nonnegative real factor distributes over a finite sum of extended reals. -/
theorem mul_sum_coe {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s h ih =>
    rw [Finset.sum_insert h, Finset.sum_insert h,
      EReal.left_distrib_of_nonneg_of_ne_top (EReal.coe_nonneg.mpr hc) (EReal.coe_ne_top c), ih]

/-- The fold of `max` from `⊥` over real scores of a nonempty row is a real number. -/
theorem fold_max_real {n : ℕ} (hn : 0 < n) (s : Fin n → ℝ) :
    ∃ M : ℝ, (Finset.univ : Finset (Fin n)).fold max ⊥ (fun k => (s k : EReal)) = (M : EReal) := by
  have key : ∀ t : Finset (Fin n), t.fold max ⊥ (fun k => (s k : EReal)) = ⊥ ∧ t = ∅
      ∨ ∃ M : ℝ, t.fold max ⊥ (fun k => (s k : EReal)) = (M : EReal) := by
    intro t
    classical
    induction t using Finset.induction_on with
    | empty => exact Or.inl ⟨Finset.fold_empty, rfl⟩
    | insert a t h ih =>
      refine Or.inr ?_
      rw [Finset.fold_insert h]
      rcases ih with ⟨ih, -⟩ | ⟨M, ih⟩
      · exact ⟨s a, by rw [ih]; exact max_eq_left bot_le⟩
      · exact ⟨max (s a) M, by rw [ih]; exact (EReal.coe_strictMono.monotone.map_max).symm⟩
  rcases key Finset.univ with ⟨-, h⟩ | h
  · exact absurd h (Finset.ne_empty_of_mem (Finset.mem_univ ⟨0, hn⟩))
  · exact h

/-- Two to a difference of reals, at the ideal values. -/
theorem exp2_sub_coe (x m : ℝ) :
    Ideal.exp2 ((x : EReal) - (m : EReal)) = (((2 : ℝ) ^ (-m) * (2 : ℝ) ^ x : ℝ) : EReal) := by
  rw [← EReal.coe_sub, Ideal.exp2_coe]
  congr 1
  show (2 : ℝ) ^ (x - m) = _
  rw [← Real.rpow_add (by norm_num)]; congr 1; ring

/-- Dividing by a positive real is multiplying by its inverse. -/
theorem div_coe_pos (x : EReal) (d : ℝ) (hd : 0 < d) : Ideal.div x (d : EReal) = (d⁻¹ : ℝ) * x := by
  unfold Ideal.div
  rw [if_neg (by exact_mod_cast hd.ne'), mul_comm, EReal.coe_inv]

/-- The weighted mean of the values with weights two to the scores. -/
def meanVal {n : ℕ} (s : Fin n → ℝ) (w : Fin n → EReal) : EReal :=
  (((∑ k, (2 : ℝ) ^ s k)⁻¹ : ℝ) : EReal) * ∑ k, (((2 : ℝ) ^ s k : ℝ) : EReal) * w k

/-- The online softmax over two chunks of real scores is the weighted mean over both chunks. -/
theorem flashVal_eq {n₁ n₂ : ℕ} (h₁ : 0 < n₁) (h₂ : 0 < n₂) (s₁ : Fin n₁ → ℝ) (s₂ : Fin n₂ → ℝ)
    (w₁ : Fin n₁ → EReal) (w₂ : Fin n₂ → EReal) :
    flashVal (fun k => (s₁ k : EReal)) w₁ (fun k => (s₂ k : EReal)) w₂
      = (((∑ k, (2 : ℝ) ^ s₁ k + ∑ k, (2 : ℝ) ^ s₂ k)⁻¹ : ℝ) : EReal)
        * (∑ k, (((2 : ℝ) ^ s₁ k : ℝ) : EReal) * w₁ k + ∑ k, (((2 : ℝ) ^ s₂ k : ℝ) : EReal) * w₂ k) := by
  obtain ⟨M₁, hM₁⟩ := fold_max_real h₁ s₁
  obtain ⟨M₂', hM₂'⟩ := fold_max_real h₂ s₂
  have hm₁ : max (⊥ : EReal) (M₁ : EReal) = (M₁ : EReal) := max_eq_right bot_le
  obtain ⟨M₂, hM₂⟩ : ∃ M₂ : ℝ, max (M₁ : EReal) (M₂' : EReal) = (M₂ : EReal) :=
    ⟨max M₁ M₂', (EReal.coe_strictMono.monotone.map_max).symm⟩
  have p2 : ∀ x : ℝ, 0 < (2 : ℝ) ^ x := fun x => Real.rpow_pos_of_pos (by norm_num) x
  simp only [flashVal, hM₁, hM₂', hm₁, hM₂, exp2_sub_coe, EReal.bot_sub, Ideal.exp2_bot, zero_mul, zero_add]
  have c₁ : (2 : ℝ) ^ (-M₂) * (2 : ℝ) ^ M₁ * (2 : ℝ) ^ (-M₁) = (2 : ℝ) ^ (-M₂) := by
    rw [mul_assoc, ← Real.rpow_add (by norm_num), add_neg_cancel, Real.rpow_zero, mul_one]
  -- the numerator
  have hnum : ((((2 : ℝ) ^ (-M₂) * (2 : ℝ) ^ M₁ : ℝ) : EReal)
        * ∑ k, (((2 : ℝ) ^ (-M₁) * (2 : ℝ) ^ s₁ k : ℝ) : EReal) * w₁ k)
        + ∑ k, (((2 : ℝ) ^ (-M₂) * (2 : ℝ) ^ s₂ k : ℝ) : EReal) * w₂ k
      = (((2 : ℝ) ^ (-M₂) : ℝ) : EReal)
        * (∑ k, (((2 : ℝ) ^ s₁ k : ℝ) : EReal) * w₁ k + ∑ k, (((2 : ℝ) ^ s₂ k : ℝ) : EReal) * w₂ k) := by
    rw [EReal.left_distrib_of_nonneg_of_ne_top (EReal.coe_nonneg.mpr (p2 _).le) (EReal.coe_ne_top _),
      mul_sum_coe _ _ (mul_pos (p2 _) (p2 _)).le, mul_sum_coe _ _ (p2 _).le, mul_sum_coe _ _ (p2 _).le]
    congr 1
    · refine Finset.sum_congr rfl fun k _ => ?_
      rw [← mul_assoc, ← mul_assoc, ← EReal.coe_mul, ← EReal.coe_mul, ← mul_assoc, c₁]
    · refine Finset.sum_congr rfl fun k _ => ?_
      rw [← mul_assoc, ← EReal.coe_mul]
  -- the denominator
  have hden : ((((2 : ℝ) ^ (-M₂) * (2 : ℝ) ^ M₁ : ℝ) : EReal)
        * ∑ k, (((2 : ℝ) ^ (-M₁) * (2 : ℝ) ^ s₁ k : ℝ) : EReal))
        + ∑ k, (((2 : ℝ) ^ (-M₂) * (2 : ℝ) ^ s₂ k : ℝ) : EReal)
      = (((2 : ℝ) ^ (-M₂) * (∑ k, (2 : ℝ) ^ s₁ k + ∑ k, (2 : ℝ) ^ s₂ k) : ℝ) : EReal) := by
    rw [← coe_sum, ← coe_sum, ← EReal.coe_mul, ← EReal.coe_add]
    congr 1
    rw [← Finset.mul_sum, ← Finset.mul_sum, ← mul_assoc, c₁, mul_add]
  rw [hnum, hden]
  have hs₁ : 0 < ∑ k, (2 : ℝ) ^ s₁ k := Finset.sum_pos (fun k _ => p2 _) ⟨⟨0, h₁⟩, Finset.mem_univ _⟩
  have hs₂ : 0 < ∑ k, (2 : ℝ) ^ s₂ k := Finset.sum_pos (fun k _ => p2 _) ⟨⟨0, h₂⟩, Finset.mem_univ _⟩
  rw [div_coe_pos _ _ (mul_pos (p2 _) (add_pos hs₁ hs₂)), ← mul_assoc, ← EReal.coe_mul]
  congr 2
  rw [mul_inv, mul_comm ((2 : ℝ) ^ (-M₂))⁻¹, mul_assoc, inv_mul_cancel₀ (p2 _).ne', mul_one]

/-- The softmax of real scores, given in base two as `s`, is the weighted mean. -/
theorem softVal_eq {n : ℕ} (hn : 0 < n) (z : Fin n → EReal) (s : Fin n → ℝ)
    (hz : ∀ k, z k = ((s k * Real.log 2 : ℝ) : EReal)) (w : Fin n → EReal) : softVal z w = meanVal s w := by
  obtain rfl : z = fun k => ((s k * Real.log 2 : ℝ) : EReal) := funext hz
  obtain ⟨M, hM⟩ := fold_max_real hn fun k => s k * Real.log 2
  have hm : max (⊥ : EReal) (M : EReal) = (M : EReal) := max_eq_right bot_le
  have p2 : ∀ x : ℝ, 0 < (2 : ℝ) ^ x := fun x => Real.rpow_pos_of_pos (by norm_num) x
  have he : ∀ k, Ideal.exp (((s k * Real.log 2 : ℝ) : EReal) - (M : EReal))
      = ((Real.exp (-M) * (2 : ℝ) ^ s k : ℝ) : EReal) := fun k => by
    rw [← EReal.coe_sub]
    show ((Real.exp _ : ℝ) : EReal) = _
    congr 1
    rw [Real.rpow_def_of_pos (by norm_num), ← Real.exp_add]; congr 1; ring
  have hS : 0 < ∑ k, (2 : ℝ) ^ s k := Finset.sum_pos (fun k _ => p2 _) ⟨⟨0, hn⟩, Finset.mem_univ _⟩
  simp only [softVal, meanVal, hM, hm, he, zero_add]
  rw [← coe_sum, ← Finset.mul_sum, mul_sum_coe _ _ (inv_pos.mpr hS).le]
  refine Finset.sum_congr rfl fun k _ => ?_
  rw [div_coe_pos _ _ (mul_pos (Real.exp_pos _) hS), ← EReal.coe_mul, ← mul_assoc ((_ : ℝ) : EReal) ((_ : ℝ) : EReal) (w k), ← EReal.coe_mul]
  congr 2
  have := (Real.exp_pos (-M)).ne'
  field_simp

/-- The weighted mean does not depend on the order of the keys. -/
theorem meanVal_perm {n : ℕ} (σ : Equiv.Perm (Fin n)) (s : Fin n → ℝ) (w : Fin n → EReal) :
    meanVal (fun k => s (σ k)) (fun k => w (σ k)) = meanVal s w := by
  unfold meanVal
  rw [Equiv.sum_comp σ fun k => (2 : ℝ) ^ s k, Equiv.sum_comp σ fun k => (((2 : ℝ) ^ s k : ℝ) : EReal) * w k]

/-- The online softmax over the keys cut in two chunks is the softmax over all keys in another order `σ`, where the
    online one's scores `s` are real and in base two and the softmax's are the same in base e. -/
theorem flash_eq_soft {n₁ n₂ : ℕ} (h₁ : 0 < n₁) (h₂ : 0 < n₂) (s : Fin (n₁ + n₂) → ℝ) (w : Fin (n₁ + n₂) → EReal)
    (σ : Equiv.Perm (Fin (n₁ + n₂))) (e₁ w₁ : Fin n₁ → EReal) (e₂ w₂ : Fin n₂ → EReal) (z wz : Fin (n₁ + n₂) → EReal)
    (he₁ : ∀ k, e₁ k = (s (Fin.castAdd n₂ k) : EReal)) (hw₁ : ∀ k, w₁ k = w (Fin.castAdd n₂ k))
    (he₂ : ∀ k, e₂ k = (s (Fin.natAdd n₁ k) : EReal)) (hw₂ : ∀ k, w₂ k = w (Fin.natAdd n₁ k))
    (hz : ∀ k, z k = ((s (σ k) * Real.log 2 : ℝ) : EReal)) (hwz : ∀ k, wz k = w (σ k)) :
    flashVal e₁ w₁ e₂ w₂ = softVal z wz := by
  obtain rfl := funext he₁
  obtain rfl := funext he₂
  obtain rfl := funext hw₁
  obtain rfl := funext hw₂
  obtain rfl := funext hwz
  rw [flashVal_eq h₁ h₂, softVal_eq (by omega) z (fun k => s (σ k)) hz, meanVal_perm]
  unfold meanVal
  rw [Fin.sum_univ_add, Fin.sum_univ_add]

end Cert.Flash

end
-- ==== Proof.Flash.Block.lean ====
/- What one grid step of the packed attention kernels computes for one head and for one pair of heads, as vector
   expressions, and those expressions read at an element. Both attention kernels (the one with two key heads and the one
   with four) run these expressions, on tiles of 512 queries and on the keys cut at 2304. -/
module

public import Idealize.ShloMosaic.Lib.Pointwise
public import Idealize.ShloMosaic.Lib.MatmulPlain
public import proofs.«01_k».proof.Proof.Flash.Math

@[expose] public section

noncomputable section

open scoped BigOperators

namespace Cert.Flash

open Idealize.ShloMosaic

/-- A tile of queries, of one packed head. -/
abbrev TQ : Shape := ⟨4, ![1, 1, 512, 128]⟩
/-- A chunk of `n` keys or values. -/
abbrev TK (n : ℕ) : Shape := ⟨4, ![1, 1, n, 128]⟩
/-- A matrix. -/
abbrev TM (a b : ℕ) : Shape := ⟨2, ![a, b]⟩
/-- A row of numbers. -/
abbrev TV (a : ℕ) : Shape := ⟨1, ![a]⟩

section Chunk
variable (n : ℕ) (hK : (TK n).ShapeCasts (TM n 128)) (hR : (TM 512 n).Reduces [1] (TV 512))
  (hB : (TM 512 1).Broadcasts (TM 512 n))

/-- The scores of a tile of queries against a chunk of keys. -/
def scores (K : FVec Ideal (TK n) .bf16) (Q : FVec Ideal TQ .bf16) : FVec Ideal (TM 512 n) .f32 :=
  matmul (DotDims.transposedRhs 512 128 n) none (shapeCast (TM 512 128) Q (by decide))
    (shapeCast (TM n 128) K hK) (constant (TM 512 n) .f32 0x00000000#32)

/-- The running maximum after a chunk. -/
def nextMax (m : FVec Ideal (TM 512 1) .f32) (e : FVec Ideal (TM 512 n) .f32) : FVec Ideal (TM 512 1) .f32 :=
  maximumf m (shapeCast (TM 512 1) (multiReduction .maximumf [1] (TV 512) e 0xFF800000#32 hR (.inl rfl) rfl) (by decide))

/-- The unnormalised weights of a chunk. -/
def weights (m : FVec Ideal (TM 512 1) .f32) (e : FVec Ideal (TM 512 n) .f32) : FVec Ideal (TM 512 n) .f32 :=
  exp2 (subf e (broadcastTo (TM 512 n) m hB))

/-- The running sum of weights after a chunk. -/
def nextSum (a l : FVec Ideal (TM 512 1) .f32) (p : FVec Ideal (TM 512 n) .f32) : FVec Ideal (TM 512 1) .f32 :=
  addf (mulf a l)
    (shapeCast (TM 512 1) (multiReduction .add [1] (TV 512) p 0x00000000#32 hR (.inl rfl) rfl) (by decide))

/-- The running weighted sum of values after a chunk. -/
def nextAcc (a : FVec Ideal (TM 512 1) .f32) (c : FVec Ideal (TM 512 128) .f32) (p : FVec Ideal (TM 512 n) .f32)
    (W : FVec Ideal (TK n) .bf16) : FVec Ideal (TM 512 128) .f32 :=
  addf (mulf (broadcastTo (TM 512 128) a (by decide)) c)
    (matmul (DotDims.plain 512 n 128) none (truncf .bf16 p (by decide)) (shapeCast (TM n 128) W hK)
      (constant (TM 512 128) .f32 0x00000000#32))

/-- A chunk of keys as a matrix, at an element. -/
theorem castK_apply (K : FVec Ideal (TK n) .bf16) (k : Fin n) (j : Fin 128) :
    shapeCast (TM n 128) K hK (ix2 k j) = K (ix4 0 0 k j) := by
  refine shapeCast_apply K hK (ix2 k j) (ix4 0 0 k j) ?_
  rw [Shape.rowMajor_val_four, Shape.rowMajor_val_two]
  show ((0 * 1 + 0) * n + k.val) * 128 + j.val = k.val * 128 + j.val
  omega

/-- A score is the query's product with the key. -/
theorem scores_apply (K : FVec Ideal (TK n) .bf16) (Q : FVec Ideal TQ .bf16) (r : Fin 512) (k : Fin n) :
    scores n hK K Q (ix2 r k) = ∑ j : Fin 128, Q (ix4 0 0 r j) * K (ix4 0 0 k j) := by
  have h := Ideal.matmul_transposedRhs_apply (M := 512) (K := 128) (N := n) (φ₁ := .bf16) (φ₂ := .bf16) none
    (shapeCast (TM 512 128) Q (by decide)) (shapeCast (TM n 128) K hK) (constant (TM 512 n) .f32 0x00000000#32) r k
  simp only [← ix2_eq_valueIdx] at h
  refine h.trans ?_
  simp only [castK_apply]
  pointwise

/-- The running maximum, at a row. -/
theorem nextMax_apply (m : FVec Ideal (TM 512 1) .f32) (e : FVec Ideal (TM 512 n) .f32) (r : Fin 512) :
    nextMax n hR m e (ix2 r 0) = max (m (ix2 r 0)) ((Finset.univ : Finset (Fin n)).fold max ⊥ fun k => e (ix2 r k)) := by
  pointwise [nextMax]
  rw [show Ideal.ofBits .f32 4286578688#32 = ⊥ by simp [Ideal.ofBits, Ideal.ieee]]

/-- A weight, at a row and a key. -/
theorem weights_apply (m : FVec Ideal (TM 512 1) .f32) (e : FVec Ideal (TM 512 n) .f32) (r : Fin 512) (k : Fin n) :
    weights n hB m e (ix2 r k) = Ideal.exp2 (e (ix2 r k) - m (ix2 r 0)) := by
  pointwise [weights]
  rfl

/-- The running sum, at a row. -/
theorem nextSum_apply (a l : FVec Ideal (TM 512 1) .f32) (p : FVec Ideal (TM 512 n) .f32) (r : Fin 512) :
    nextSum n hR a l p (ix2 r 0) = a (ix2 r 0) * l (ix2 r 0) + ∑ k : Fin n, p (ix2 r k) := by
  pointwise [nextSum]

/-- The running weighted sum, at a row and a lane. -/
theorem nextAcc_apply (a : FVec Ideal (TM 512 1) .f32) (c : FVec Ideal (TM 512 128) .f32) (p : FVec Ideal (TM 512 n) .f32)
    (W : FVec Ideal (TK n) .bf16) (r : Fin 512) (l : Fin 128) :
    nextAcc n hK a c p W (ix2 r l) = a (ix2 r 0) * c (ix2 r l) + ∑ k : Fin n, p (ix2 r k) * W (ix4 0 0 k l) := by
  have h := Ideal.matmul_plain_apply (M := 512) (K := n) (N := 128) (φ₁ := .bf16) (φ₂ := .bf16) none
    (truncf .bf16 p (by decide)) (shapeCast (TM n 128) W hK) (constant (TM 512 128) .f32 0x00000000#32) r l
  simp only [← ix2_eq_valueIdx] at h
  refine (congrArg (_ + ·) h).trans ?_
  simp only [castK_apply]
  pointwise

end Chunk

/-- One head's attention of a tile, the keys cut in chunks of 2304 and 2048: the running maximum from `mk`. -/
def headOut (mk : EReal) (K₁ V₁ : FVec Ideal (TK 2304) .bf16) (K₂ V₂ : FVec Ideal (TK 2048) .bf16)
    (Q : FVec Ideal TQ .bf16) : FVec Ideal (TM 512 128) .f32 :=
  let m₀ : FVec Ideal (TM 512 1) .f32 := broadcast (TM 512 1) mk
  let z₀ : FVec Ideal (TM 512 1) .f32 := broadcast (TM 512 1) (FloatOps.ofBits .f32 0x00000000#32)
  let c₀ : FVec Ideal (TM 512 128) .f32 := broadcast (TM 512 128) (FloatOps.ofBits .f32 0x00000000#32)
  let e₁ := scores 2304 (by decide) K₁ Q
  let m₁ := nextMax 2304 (by decide) m₀ e₁
  let a₁ := exp2 (subf m₀ m₁)
  let p₁ := weights 2304 (by decide) m₁ e₁
  let l₁ := nextSum 2304 (by decide) a₁ z₀ p₁
  let c₁ := nextAcc 2304 (by decide) a₁ c₀ p₁ V₁
  let e₂ := scores 2048 (by decide) K₂ Q
  let m₂ := nextMax 2048 (by decide) m₁ e₂
  let a₂ := exp2 (subf m₁ m₂)
  let p₂ := weights 2048 (by decide) m₂ e₂
  let l₂ := nextSum 2048 (by decide) a₂ l₁ p₂
  let c₂ := nextAcc 2048 (by decide) a₂ c₁ p₂ V₂
  divf c₂ (broadcastTo (TM 512 128) l₂ (by decide))

/-- A pair of heads' output: the first 64 lanes the even head's, the last 64 the odd head's. -/
def pairOut (mk : EReal) (K₁ V₁ : FVec Ideal (TK 2304) .bf16) (K₂ V₂ : FVec Ideal (TK 2048) .bf16) (Q : FVec Ideal TQ .bf16)
    (K₁' V₁' : FVec Ideal (TK 2304) .bf16) (K₂' V₂' : FVec Ideal (TK 2048) .bf16) (Q' : FVec Ideal TQ .bf16) :
    FVec Ideal TQ .bf16 :=
  shapeCast TQ (truncf .bf16 (select (cmpi .slt (iota .tc (TM 512 128) 32 [1] (by decide)) (broadcast (TM 512 128) 64#32))
    (headOut mk K₁ V₁ K₂ V₂ Q) (headOut mk K₁' V₁' K₂' V₂' Q')) (by decide)) (by decide)

/-- One head's output at a row and a lane is the row's online softmax of its scores against that lane's values. -/
theorem headOut_apply (K₁ V₁ : FVec Ideal (TK 2304) .bf16) (K₂ V₂ : FVec Ideal (TK 2048) .bf16)
    (Q : FVec Ideal TQ .bf16) (r : Fin 512) (l : Fin 128) :
    headOut ⊥ K₁ V₁ K₂ V₂ Q (ix2 r l)
      = flashVal (fun k => ∑ j : Fin 128, Q (ix4 0 0 r j) * K₁ (ix4 0 0 k j)) (fun k => V₁ (ix4 0 0 k l))
          (fun k => ∑ j : Fin 128, Q (ix4 0 0 r j) * K₂ (ix4 0 0 k j)) (fun k => V₂ (ix4 0 0 k l)) := by
  have hz : (FloatOps.ofBits .f32 0x00000000#32 : Ideal .f32) = 0 := Ideal.ofBits_zero_f32
  have hb : ∀ (v : FVec Ideal (TM 512 1) .f32) (h : (TM 512 1).Broadcasts (TM 512 128)),
      broadcastTo (TM 512 128) v h (ix2 r l) = v (ix2 r 0) := fun v h => by pointwise
  have hexp : ∀ (v : FVec Ideal (TM 512 1) .f32), exp2 v (ix2 r 0) = Ideal.exp2 (v (ix2 r 0)) := fun _ => rfl
  have hsub : ∀ (u v : FVec Ideal (TM 512 1) .f32), subf u v (ix2 r 0) = u (ix2 r 0) - v (ix2 r 0) := fun _ _ => rfl
  have hdiv : ∀ (u v : FVec Ideal (TM 512 128) .f32), divf u v (ix2 r l) = Ideal.div (u (ix2 r l)) (v (ix2 r l)) :=
    fun _ _ => rfl
  have hbc : ∀ (s : Shape) (x : EReal) (i : s.Idx), broadcast s x i = x := fun _ _ _ => rfl
  simp only [headOut, flashVal, hdiv, hb, nextAcc_apply, nextSum_apply, weights_apply, nextMax_apply, scores_apply,
    hexp, hsub, hbc, hz]

/-- A pair's output at a row and a lane is the lane's head's. -/
theorem pairOut_apply (mk : EReal) (K₁ V₁ : FVec Ideal (TK 2304) .bf16) (K₂ V₂ : FVec Ideal (TK 2048) .bf16) (Q : FVec Ideal TQ .bf16)
    (K₁' V₁' : FVec Ideal (TK 2304) .bf16) (K₂' V₂' : FVec Ideal (TK 2048) .bf16) (Q' : FVec Ideal TQ .bf16)
    (r : Fin 512) (l : Fin 128) :
    pairOut mk K₁ V₁ K₂ V₂ Q K₁' V₁' K₂' V₂' Q' (ix4 0 0 r l)
      = if l.val < 64 then headOut mk K₁ V₁ K₂ V₂ Q (ix2 r l) else headOut mk K₁' V₁' K₂' V₂' Q' (ix2 r l) := by
  unfold pairOut
  pointwise
  have hl : l.val < 128 := l.isLt
  have hc : IntOp.cmpi .slt (BitVec.ofNat 32 l.val) 64#32 = if l.val < 64 then 1#1 else 0#1 := by
    revert hl; generalize l.val = x; revert x; decide
  rw [hc]
  split <;> rfl

/-- One row of one packed head: the row's online softmax of its scores against one lane of the values, the 4352 keys
    cut at 2304. -/
def rowVal (q : Fin 128 → EReal) (K : Fin 4352 → Fin 128 → EReal) (w : Fin 4352 → EReal) : EReal :=
  flashVal (fun k : Fin 2304 => ∑ j : Fin 128, q j * K ⟨k.val, by omega⟩ j) (fun k => w ⟨k.val, by omega⟩)
    (fun k : Fin 2048 => ∑ j : Fin 128, q j * K ⟨2304 + k.val, by omega⟩ j) (fun k => w ⟨2304 + k.val, by omega⟩)

end Cert.Flash

end
-- ==== Proof.Flash.Row.lean ====
/- One row of the two-chunk attention against one row of the softmax: the keys in their rotated order, the scale and
   the change of base, and the zero padding of the lanes. -/
module

public import proofs.«01_k».proof.Proof.Flash.Block
public import Idealize.ShloMosaic.Lib.Pipeline.Value
public import Idealize.ShloMosaic.Lib.Pipeline.ValueKit.Acc

@[expose] public section
noncomputable section
namespace Cert.Flash

open Idealize.ShloMosaic

/-- The keys' rotation: the softmax's key `k` is the 4096 later of the packed order. -/
def rotate : Equiv.Perm (Fin 4352) where
  toFun k := ⟨(k.val + 4096) % 4352, by omega⟩
  invFun k := ⟨(k.val + 256) % 4352, by omega⟩
  left_inv k := Fin.ext (show ((k.val + 4096) % 4352 + 256) % 4352 = k.val by omega)
  right_inv k := Fin.ext (show ((k.val + 256) % 4352 + 4096) % 4352 = k.val by omega)

/-- A packed row equals the softmax of the row, its scores `s` real and in base two, the softmax's scores `z` the same
    in base e, keys and values in rotated order. -/
theorem rowVal_eq (q : Fin 128 → EReal) (K : Fin 4352 → Fin 128 → EReal) (w z wz : Fin 4352 → EReal) (s : Fin 4352 → ℝ)
    (hs : ∀ k, ∑ j : Fin 128, q j * K k j = (s k : EReal))
    (hz : ∀ k, z k = ((s (rotate k) * Real.log 2 : ℝ) : EReal)) (hw : ∀ k, wz k = w (rotate k)) :
    rowVal q K w = softVal z wz :=
  flash_eq_soft (n₁ := 2304) (n₂ := 2048) (by decide) (by decide) s w rotate _ _ _ _ z wz
    (fun k => hs ⟨k.val, by omega⟩) (fun _ => rfl) (fun k => hs ⟨2304 + k.val, by omega⟩) (fun _ => rfl) hz hw

/-- A sum over 128 lanes of which only the half `g` is not zero. -/
theorem sum_half (g : ℕ) (hg : g < 2) (f : Fin 128 → EReal) (h : ∀ j : Fin 128, g ≠ j.val / 64 → f j = 0) :
    ∑ j, f j = ∑ d : Fin 64, f ⟨g * 64 + d.val, by omega⟩ := by
  have hs : ∑ j, f j = ∑ d : Fin 64, f ⟨d.val, by omega⟩ + ∑ d : Fin 64, f ⟨64 + d.val, by omega⟩ :=
    Fin.sum_univ_add (a := 64) (b := 64) f
  rw [hs]
  have hg' : g = 0 ∨ g = 1 := by omega
  rcases hg' with rfl | rfl
  · rw [Finset.sum_eq_zero (s := Finset.univ) (f := fun d : Fin 64 => f ⟨64 + d.val, by omega⟩)
      (fun d _ => h _ (show 0 ≠ (64 + d.val) / 64 by omega)), add_zero]
    exact Finset.sum_congr rfl fun d _ => congrArg f (Fin.ext (show d.val = 0 * 64 + d.val by omega))
  · rw [Finset.sum_eq_zero (s := Finset.univ) (f := fun d : Fin 64 => f ⟨d.val, by omega⟩)
      (fun d _ => h _ (show 1 ≠ d.val / 64 by omega)), zero_add]

/-- A sum over 128 lanes of which only the first 96 are not zero. -/
theorem sum_first (f : Fin 128 → EReal) (h : ∀ j : Fin 128, 96 ≤ j.val → f j = 0) :
    ∑ j, f j = ∑ d : Fin 96, f ⟨d.val, by omega⟩ := by
  have hs : ∑ j, f j = ∑ d : Fin 96, f ⟨d.val, by omega⟩ + ∑ d : Fin 32, f ⟨96 + d.val, by omega⟩ :=
    Fin.sum_univ_add (a := 96) (b := 32) f
  rw [hs, Finset.sum_eq_zero (s := Finset.univ) (f := fun d : Fin 32 => f ⟨96 + d.val, by omega⟩)
      (fun d _ => h _ (show 96 ≤ 96 + d.val by omega)), add_zero]

/-- The score of finite queries, scaled by `a` and to base two, against finite keys. -/
theorem score_two {n : ℕ} (a : ℝ) (x y : Fin n → ℝ) :
    ∑ d, Ideal.div ((x d : EReal) * (a : EReal)) (Ideal.log ((2 : ℝ) : EReal)) * (y d : EReal)
      = (((∑ d, x d * y d) * a / Real.log 2 : ℝ) : EReal) := by
  have hl : Real.log 2 ≠ 0 := (Real.log_pos (by norm_num)).ne'
  rw [Ideal.log_coe, if_neg (by norm_num)]
  simp only [Ideal.div_coe hl, ← EReal.coe_mul, ← coe_sum]
  congr 1
  rw [Finset.sum_mul, Finset.sum_div]
  exact Finset.sum_congr rfl fun d _ => by ring

/-- The same score in base e, from the unscaled product. -/
theorem score_e {n : ℕ} (a : ℝ) (x y : Fin n → ℝ) :
    (∑ d, (x d : EReal) * (y d : EReal)) * (a : EReal)
      = (((∑ d, x d * y d) * a / Real.log 2 * Real.log 2 : ℝ) : EReal) := by
  have hl : Real.log 2 ≠ 0 := (Real.log_pos (by norm_num)).ne'
  simp only [← EReal.coe_mul, ← coe_sum]
  congr 1
  field_simp

/-- The word of minus infinity is `⊥`. -/
theorem bits_neg_inf : Ideal.ofBits .f32 0xFF800000#32 = (⊥ : EReal) := by
  simp [Ideal.ofBits, Ideal.ieee]

/-- The word of one eighth is one eighth. -/
theorem bits_eighth : Ideal.ofBits .f32 0x3E000000#32 = (((1 / 8 : ℝ)) : EReal) := by
  have h : ((8388608 : ℝ) : EReal) * (((2 ^ 26 : ℝ)⁻¹ : ℝ) : EReal) = ((1 / 8 : ℝ) : EReal) := by
    rw [← EReal.coe_mul]; norm_num
  simpa [Ideal.ofBits, Ideal.ieee] using h

/-- The word of the other mixer's scale is real. -/
theorem bits_scale : ∃ a : ℝ, Ideal.ofBits .f32 0x3DD105EC#32 = (a : EReal) := by
  simp only [Ideal.ofBits, Ideal.ieee]
  exact ⟨_, rfl⟩

/-- The word of infinity is `⊤`. -/
theorem bits_inf : Ideal.ofBits .f32 0x7F800000#32 = (⊤ : EReal) := by
  simp [Ideal.ofBits, Ideal.ieee]

/-- An extended real whose absolute value compares below infinity is real. -/
theorem real_of_lt (x : EReal) (h : Ideal.cmp .olt (max x (-x)) (Ideal.ofBits .f32 0x7F800000#32) = 1#1) :
    ∃ r : ℝ, x = (r : EReal) := by
  rw [bits_inf] at h
  have hx : max x (-x) < ⊤ := by
    by_contra hn
    rw [Ideal.cmp, decide_eq_false hn] at h
    exact absurd h (by decide)
  obtain ⟨h₁, h₂⟩ := max_lt_iff.mp hx
  induction x with
  | bot => exact absurd h₂ (by simp)
  | top => exact absurd h₁ (by simp)
  | coe r => exact ⟨r, rfl⟩

/-- The word of two is two. -/
theorem bits_two : Ideal.ofBits .f32 0x40000000#32 = (((2 : ℝ)) : EReal) := by
  have h : ((8388608 : ℝ) : EReal) * (((2 ^ 22 : ℝ)⁻¹ : ℝ) : EReal) = ((2 : ℝ) : EReal) := by
    rw [← EReal.coe_mul]; norm_num
  simpa [Ideal.ofBits, Ideal.ieee] using h

/-- A place outside of the newest store holds what the earlier ones left. -/
theorem canon_miss {s : Shape} {e : EltTy} (R : Rect s) (w : R.shape.Idx → Elt Ideal e) (L : List (View.Piece (Elt Ideal) s e)) (y : s.Idx)
    (h : y ∉ R.set) : View.canon (⟨R, w⟩ :: L) y = View.canon L y := View.canon_cons_of_not_mem ⟨R, w⟩ L h

/-- A place of the newest store holds its payload. -/
theorem canon_hit {s : Shape} {e : EltTy} (R : Rect s) (w : R.shape.Idx → Elt Ideal e) (L : List (View.Piece (Elt Ideal) s e)) (x : R.shape.Idx)
    (y : s.Idx) (h : R.emb x = y) : View.canon (⟨R, w⟩ :: L) y = w x := h ▸ View.canon_cons_emb R w L x

end Cert.Flash

end
-- ==== Proof.Flash.PiecesA.lean ====
/- The first attention call (six query heads over two key heads): what one grid step leaves in its output block. -/
module

public import proofs.«01_k».proof.Proof.Gen.KernelIdeal.Run
public import proofs.«01_k».proof.Proof.Flash.Row
public import Idealize.ShloMosaic.Lib.Pipeline.Value
public import Idealize.ShloMosaic.Lib.Pipeline.ValueKit.Acc
public import Idealize.ShloMosaic.Lib.Pipeline.ValueKit.Geometry
public import Idealize.ShloMosaic.Lib.Tactic

@[expose] public section

set_option maxRecDepth 16384

noncomputable section

namespace Cert.FlashA

open Idealize.ShloMosaic Idealize.ShloMosaic.TcCoe
open Cert.KernelIdeal Cert.KernelIdeal.Gen Cert.Flash

/-- The first 2304 rows of a block of keys or values. -/
def lo (X : Vec Ideal S1x1x4352x128 .bf16) : FVec Ideal (TK 2304) .bf16 :=
  View.ld X (Rect.unit ![0, 0, 0, 0] ![1, 1, 2304, 128] inb_S1x1x4352x128_S1x1x2304x128_0_0_0_0)

/-- The last 2048 rows of a block of keys or values. -/
def hi (X : Vec Ideal S1x1x4352x128 .bf16) : FVec Ideal (TK 2048) .bf16 :=
  View.ld X (Rect.unit ![0, 0, 2304, 0] ![1, 1, 2048, 128] inb_S1x1x4352x128_S1x1x2048x128_0_0_2304_0)

/-- The queries of one packed head. -/
def head (X : Vec Ideal S1x6x512x128 .bf16) (h : ℕ) (hh : ∀ a, (![0, h, 0, 0] : Fin 4 → ℕ) a + (![1, 1, 512, 128] : Fin 4 → ℕ) a ≤ S1x6x512x128.size a) :
    FVec Ideal TQ .bf16 :=
  View.ld X (Rect.unit ![0, h, 0, 0] ![1, 1, 512, 128] hh)

/-- One stored pair of heads. -/
def pair (X : Vec Ideal S1x6x512x128 .bf16) (K V : Vec Ideal S1x1x4352x128 .bf16) (h : ℕ)
    (h₀ : ∀ a, (![0, h, 0, 0] : Fin 4 → ℕ) a + (![1, 1, 512, 128] : Fin 4 → ℕ) a ≤ S1x6x512x128.size a)
    (h₁ : ∀ a, (![0, h + 1, 0, 0] : Fin 4 → ℕ) a + (![1, 1, 512, 128] : Fin 4 → ℕ) a ≤ S1x6x512x128.size a) : FVec Ideal TQ .bf16 :=
  pairOut (Named.named κ "mask" 0xF149F2CA#32 : Ideal .f32) (lo K) (lo V) (hi K) (hi V) (head X h h₀) (lo K) (lo V) (hi K) (hi V) (head X (h + 1) h₁)

variable (m : (ℓ : Loc nD τ sig) → Buf (Elt Ideal) ℓ)

/-- What a grid step leaves in its output block: the three pairs of heads. -/
theorem out_eq (c : Dev nD) (t : Fin cfg0.N) : outsAt0 m c t =
    View.canon (Val := Elt Ideal) [⟨Rect.unit ![0, 2, 0, 0] ![1, 1, 512, 128] inb_S1x3x512x128_S1x1x512x128_0_2_0_0,
        pair (iblk m c 1 t) (iblk m c 2 t) (iblk m c 3 t) 4 (by decide) (by decide)⟩,
      ⟨Rect.unit ![0, 1, 0, 0] ![1, 1, 512, 128] inb_S1x3x512x128_S1x1x512x128_0_1_0_0,
        pair (iblk m c 1 t) (iblk m c 2 t) (iblk m c 3 t) 2 (by decide) (by decide)⟩,
      ⟨Rect.unit ![0, 0, 0, 0] ![1, 1, 512, 128] inb_S1x3x512x128_S1x1x512x128_0_0_0_0,
        pair (iblk m c 1 t) (iblk m c 2 t) (iblk m c 3 t) 0 (by decide) (by decide)⟩] := by
  unfold outsAt0
  frame_out
  generalize iblk m c 1 t = X
  generalize iblk m c 2 t = K
  generalize iblk m c 3 t = V
  refine congrArg (View.canon (Val := Elt Ideal)) (congrArg₂ List.cons (Sigma.ext rfl (heq_of_eq ?_)) (congrArg₂ List.cons (Sigma.ext rfl (heq_of_eq ?_)) (congrArg₂ List.cons (Sigma.ext rfl (heq_of_eq ?_)) rfl)))
  · rfl
  · rfl
  · rfl

/-- The first key chunk, at an index. -/
theorem lo_apply (X : Vec Ideal S1x1x4352x128 .bf16) (k : Fin 2304) (l : Fin 128) :
    lo X (ix4 0 0 k l) = X (ix4 0 0 ⟨k.val, by omega⟩ l) := by
  refine congrArg X (funext fun a => Fin.ext ?_)
  fin_cases a
  exacts [rfl, rfl, show 0 + 1 * k.val = k.val by omega, show 0 + 1 * l.val = l.val by omega]

/-- The second key chunk, at an index. -/
theorem hi_apply (X : Vec Ideal S1x1x4352x128 .bf16) (k : Fin 2048) (l : Fin 128) :
    hi X (ix4 0 0 k l) = X (ix4 0 0 ⟨2304 + k.val, by omega⟩ l) := by
  refine congrArg X (funext fun a => Fin.ext ?_)
  fin_cases a
  exacts [rfl, rfl, show 2304 + 1 * k.val = 2304 + k.val by omega, show 0 + 1 * l.val = l.val by omega]

/-- One head of the block of queries, at an index. -/
theorem head_apply (X : Vec Ideal S1x6x512x128 .bf16) (h : ℕ) (hh) (h6 : h < 6) (r : Fin 512) (l : Fin 128) :
    head X h hh (ix4 0 0 r l) = X (ix4 0 ⟨h, h6⟩ r l) := by
  refine congrArg X (funext fun a => Fin.ext ?_)
  fin_cases a
  exacts [rfl, rfl, show 0 + 1 * r.val = r.val by omega, show 0 + 1 * l.val = l.val by omega]

/-- Where a stored pair lies in the output block. -/
theorem emb_pair (p : Fin 3) (n : ℕ) (hn : n = p.val) (inb : ∀ a, (![0, n, 0, 0] : Fin 4 → ℕ) a + (![1, 1, 512, 128] : Fin 4 → ℕ) a ≤ S1x3x512x128.size a)
    (r : Fin 512) (l : Fin 128) :
    (Rect.unit (s := S1x3x512x128) ![0, n, 0, 0] ![1, 1, 512, 128] inb).emb (ix4 0 0 r l) = ix4 0 p r l := by
  subst hn
  refine funext fun a => Fin.ext ?_
  fin_cases a
  exacts [rfl, rfl, show 0 + 1 * r.val = r.val by omega, show 0 + 1 * l.val = l.val by omega]

/-- A pair's place is outside of the places of the others. -/
theorem off_pair (p : Fin 3) (n : ℕ) (hn : p.val ≠ n) (inb : ∀ a, (![0, n, 0, 0] : Fin 4 → ℕ) a + (![1, 1, 512, 128] : Fin 4 → ℕ) a ≤ S1x3x512x128.size a)
    (r : Fin 512) (l : Fin 128) :
    (ix4 0 p r l : S1x3x512x128.Idx) ∉ (Rect.unit (s := S1x3x512x128) ![0, n, 0, 0] ![1, 1, 512, 128] inb).set :=
  Rect.not_mem_set_of_axis _ _ (1 : Fin 4) n 1 rfl rfl rfl (show p.val < n ∨ n + 1 ≤ p.val by omega)

/-- The packed head of a pair and a lane. -/
def packed (p : Fin 3) (l : Fin 128) : Fin 6 := ⟨2 * p.val + if l.val < 64 then 0 else 1, by split <;> omega⟩

/-- What a pair of heads computes at a row and lane: the row value of the head that owns the lane. -/
theorem pair_apply (X : Vec Ideal S1x6x512x128 .bf16) (K V : Vec Ideal S1x1x4352x128 .bf16) (p : Fin 3) (n : ℕ) (hn : n = 2 * p.val) (h₀) (h₁)
    (r : Fin 512) (l : Fin 128) :
    pair X K V n h₀ h₁ (ix4 0 0 r l)
      = rowVal (fun j => X (ix4 0 (packed p l) r j)) (fun k j => K (ix4 0 0 k j)) (fun k => V (ix4 0 0 k l)) := by
  have hm : (Named.named κ "mask" 0xF149F2CA#32 : Ideal .f32) = ⊥ := IdealRules.named_const.ideal_named_scalar _ _ _ _ rfl
  subst hn
  unfold pair
  rw [hm, pairOut_apply, headOut_apply, headOut_apply]
  simp only [lo_apply, hi_apply, head_apply X (2 * p.val) _ (by omega), head_apply X (2 * p.val + 1) _ (by omega)]
  unfold rowVal packed
  split <;> rfl

/-- The block that three stored pairs leave. -/
def three (P₂ P₁ P₀ : FVec Ideal TQ .bf16) : Vec Ideal S1x3x512x128 .bf16 :=
  View.canon (Val := Elt Ideal) [⟨Rect.unit ![0, 2, 0, 0] ![1, 1, 512, 128] inb_S1x3x512x128_S1x1x512x128_0_2_0_0, P₂⟩,
    ⟨Rect.unit ![0, 1, 0, 0] ![1, 1, 512, 128] inb_S1x3x512x128_S1x1x512x128_0_1_0_0, P₁⟩,
    ⟨Rect.unit ![0, 0, 0, 0] ![1, 1, 512, 128] inb_S1x3x512x128_S1x1x512x128_0_0_0_0, P₀⟩]

/-- The third pair, of the three stored. -/
theorem three_2 (P₂ P₁ P₀ : FVec Ideal TQ .bf16) (r : Fin 512) (l : Fin 128) :
    three P₂ P₁ P₀ (ix4 0 2 r l) = P₂ (ix4 0 0 r l) := by
  unfold three
  exact canon_hit (s := S1x3x512x128) (e := .bf16) (Rect.unit ![0, 2, 0, 0] ![1, 1, 512, 128] inb_S1x3x512x128_S1x1x512x128_0_2_0_0) P₂ _ (ix4 0 0 r l) _ (emb_pair 2 2 rfl inb_S1x3x512x128_S1x1x512x128_0_2_0_0 r l)

/-- The second pair, of the three stored. -/
theorem three_1 (P₂ P₁ P₀ : FVec Ideal TQ .bf16) (r : Fin 512) (l : Fin 128) :
    three P₂ P₁ P₀ (ix4 0 1 r l) = P₁ (ix4 0 0 r l) := by
  unfold three
  refine (canon_miss (s := S1x3x512x128) (e := .bf16) (Rect.unit ![0, 2, 0, 0] ![1, 1, 512, 128] inb_S1x3x512x128_S1x1x512x128_0_2_0_0) _ _ _ (off_pair 1 2 (by decide) inb_S1x3x512x128_S1x1x512x128_0_2_0_0 r l)).trans ?_
  exact canon_hit (s := S1x3x512x128) (e := .bf16) (Rect.unit ![0, 1, 0, 0] ![1, 1, 512, 128] inb_S1x3x512x128_S1x1x512x128_0_1_0_0) P₁ _ (ix4 0 0 r l) _ (emb_pair 1 1 rfl inb_S1x3x512x128_S1x1x512x128_0_1_0_0 r l)

/-- The first pair, of the three stored. -/
theorem three_0 (P₂ P₁ P₀ : FVec Ideal TQ .bf16) (r : Fin 512) (l : Fin 128) :
    three P₂ P₁ P₀ (ix4 0 0 r l) = P₀ (ix4 0 0 r l) := by
  unfold three
  refine (canon_miss (s := S1x3x512x128) (e := .bf16) (Rect.unit ![0, 2, 0, 0] ![1, 1, 512, 128] inb_S1x3x512x128_S1x1x512x128_0_2_0_0) _ _ _ (off_pair 0 2 (by decide) inb_S1x3x512x128_S1x1x512x128_0_2_0_0 r l)).trans ?_
  refine (canon_miss (s := S1x3x512x128) (e := .bf16) (Rect.unit ![0, 1, 0, 0] ![1, 1, 512, 128] inb_S1x3x512x128_S1x1x512x128_0_1_0_0) _ _ _ (off_pair 0 1 (by decide) inb_S1x3x512x128_S1x1x512x128_0_1_0_0 r l)).trans ?_
  exact canon_hit (s := S1x3x512x128) (e := .bf16) (Rect.unit ![0, 0, 0, 0] ![1, 1, 512, 128] inb_S1x3x512x128_S1x1x512x128_0_0_0_0) P₀ _ (ix4 0 0 r l) _ (emb_pair 0 0 rfl inb_S1x3x512x128_S1x1x512x128_0_0_0_0 r l)

/-- An output block at an element. -/
theorem out_apply (c : Dev nD) (t : Fin cfg0.N) (p : Fin 3) (r : Fin 512) (l : Fin 128) :
    outsAt0 m c t (ix4 0 p r l)
      = rowVal (fun j => iblk m c 1 t (ix4 0 (packed p l) r j)) (fun k j => iblk m c 2 t (ix4 0 0 k j))
          (fun k => iblk m c 3 t (ix4 0 0 k l)) := by
  refine (congrFun (out_eq m c t) _).trans ?_
  generalize iblk m c 1 t = X
  generalize iblk m c 2 t = K
  generalize iblk m c 3 t = W
  have hp : p = 0 ∨ p = 1 ∨ p = 2 := by omega
  rcases hp with rfl | rfl | rfl
  · exact (three_0 _ _ _ r l).trans (pair_apply X K W 0 0 rfl (by decide) (by decide) r l)
  · exact (three_1 _ _ _ r l).trans (pair_apply X K W 1 2 rfl (by decide) (by decide) r l)
  · exact (three_2 _ _ _ r l).trans (pair_apply X K W 2 4 rfl (by decide) (by decide) r l)

/-- The result array of the call, from the arrays its windows read. -/
def packedOut (Q : Vec Ideal S8x6x4096x128 .bf16) (K V : Vec Ideal S8x1x4352x128 .bf16) : Vec Ideal S8x3x4096x128 .bf16 :=
  fun i => rowVal (fun j => Q (ix4 (i 0) (packed (i 1) (i 3)) (i 2) j)) (fun k j => K (ix4 (i 0) 0 k j)) (fun k => V (ix4 (i 0) 0 k (i 3)))

/-- The block of queries of a grid point. -/
theorem idx1 : ∀ t : Fin cfg0.N, win0_1.index t = ![t.val / 8, 0, t.val % 8, 0] := (by decide +kernel : ∀ t : Fin grid0.N, _)
/-- The block of keys of a grid point. -/
theorem idx2 : ∀ t : Fin cfg0.N, win0_2.index t = ![t.val / 8, 0, 0, 0] := (by decide +kernel : ∀ t : Fin grid0.N, _)
/-- The block of values of a grid point. -/
theorem idx3 : ∀ t : Fin cfg0.N, win0_3.index t = ![t.val / 8, 0, 0, 0] := (by decide +kernel : ∀ t : Fin grid0.N, _)
/-- The block of results of a grid point. -/
theorem idx4 : ∀ t : Fin cfg0.N, win0_4.index t = ![t.val / 8, 0, t.val % 8, 0] := (by decide +kernel : ∀ t : Fin grid0.N, _)

end Cert.FlashA
-- ==== Proof.Flash.FinalA.lean ====
/- The first attention call (six query heads over two key heads): its result array after the run, from the arrays its
   windows read at the entry of the call. -/
module

public import proofs.«01_k».proof.Proof.Flash.PiecesA

@[expose] public section
noncomputable section
namespace Cert.FlashA

open Idealize.ShloMosaic Idealize.ShloMosaic.TcCoe
open Cert.KernelIdeal Cert.KernelIdeal.Gen Cert.Flash
variable (m : (ℓ : Loc nD τ sig) → Buf (Elt Ideal) ℓ)
/-- A grid point's batch is one of eight. -/
theorem lt8 (t : Fin cfg0.N) : t.val / 8 < 8 := by
  have h₁ := t.isLt
  have h₂ : cfg0.N = 64 := N_0
  omega

/-- A row of a grid point's block is one of the 4096 tokens. -/
theorem lt4096 (t : Fin cfg0.N) (r : Fin 512) : 512 * (t.val % 8) + r.val < 4096 := by omega

/-- The queries' block at a grid step. -/
theorem read1 (A : Vec Ideal S8x6x4096x128 .bf16) (t : Fin cfg0.N) (h : Fin 6) (r : Fin 512) (j : Fin 128) :
    ((cfg0.win 1).blk t).view.read (Elt Ideal) A (ix4 0 h r j) = A (ix4 ⟨t.val / 8, lt8 t⟩ h ⟨512 * (t.val % 8) + r.val, lt4096 t r⟩ j) := by
  rw [View.read_apply]
  show A _ = A _
  congr 1
  blk_ext [idx1 t]

/-- The block of keys of a grid point, at an index. -/
theorem read2 (A : Vec Ideal S8x1x4352x128 .bf16) (t : Fin cfg0.N) (k : Fin 4352) (j : Fin 128) :
    ((cfg0.win 2).blk t).view.read (Elt Ideal) A (ix4 0 0 k j) = A (ix4 ⟨t.val / 8, lt8 t⟩ 0 k j) := by
  rw [View.read_apply]
  show A _ = A _
  congr 1
  blk_ext [idx2 t]

/-- The block of values of a grid point, at an index. -/
theorem read3 (A : Vec Ideal S8x1x4352x128 .bf16) (t : Fin cfg0.N) (k : Fin 4352) (j : Fin 128) :
    ((cfg0.win 3).blk t).view.read (Elt Ideal) A (ix4 0 0 k j) = A (ix4 ⟨t.val / 8, lt8 t⟩ 0 k j) := by
  rw [View.read_apply]
  show A _ = A _
  congr 1
  blk_ext [idx3 t]

/-- The place in the result of a row of a grid point's block. -/
theorem emb4 (t : Fin cfg0.N) (p : Fin 3) (r : Fin 512) (l : Fin 128) :
    ((win0_4.blk t).view.emb (ix4 0 p r l) : S8x3x4096x128.Idx) = ix4 ⟨t.val / 8, lt8 t⟩ p ⟨512 * (t.val % 8) + r.val, lt4096 t r⟩ l := by
  blk_ext [idx4 t]

/-- The result array after the run. -/
theorem final_out (c : Dev nD) : (dats m 0 c).arrAt 4 cfg0.N
    = packedOut (V m c (Pipeline.arrRef spec0 1)) (V m c (Pipeline.arrRef spec0 2)) (V m c (Pipeline.arrRef spec0 3)) := by
  have key : ∀ (t : Fin cfg0.N) (y : S1x3x512x128.Idx), outsAt0 m c t y
      = packedOut (V m c (Pipeline.arrRef spec0 1)) (V m c (Pipeline.arrRef spec0 2)) (V m c (Pipeline.arrRef spec0 3))
        ((win0_4.blk t).view.emb y) := by
    intro t y
    rw [eq_ix4 (n0 := 1) (n1 := 3) (n2 := 512) (n3 := 128) y]
    obtain ⟨p, hp⟩ : ∃ p : Fin 3, y 1 = p := ⟨_, rfl⟩
    obtain ⟨r, hr⟩ : ∃ r : Fin 512, y 2 = r := ⟨_, rfl⟩
    obtain ⟨l, hl⟩ : ∃ l : Fin 128, y 3 = l := ⟨_, rfl⟩
    obtain h0 : y 0 = (0 : Fin 1) := Subsingleton.elim (α := Fin 1) _ _
    rw [h0, hp, hr, hl, out_apply, emb4]
    unfold iblk
    generalize V m c (Pipeline.arrRef spec0 1) = A
    generalize V m c (Pipeline.arrRef spec0 2) = B
    generalize V m c (Pipeline.arrRef spec0 3) = C
    unfold packedOut
    congr 1
    · exact funext fun j => read1 A t _ r j
    · exact funext fun k => funext fun j => read2 B t k j
    · exact funext fun k => read3 C t k l
  refine (dats m 0 c).arrAt_eq_of_covers 4 _ (by decide +kernel) fun t hf y => ?_
  blk_simp
  rw [after0_4]
  exact key t y

end Cert.FlashA
-- ==== Proof.Flash.EntryA.lean ====
/- The first attention call: the arrays that its windows read, from the arguments. -/
module

public import proofs.«01_k».proof.Proof.Gen.KernelIdeal.Run
public import proofs.«01_k».proof.Proof.Flash.Block
public import Idealize.ShloMosaic.Lib.StableHlo.Run
public import Idealize.ShloMosaic.Lib.Tactic
public import Idealize.ShloMosaic.Lib.Pointwise

@[expose] public section
set_option maxRecDepth 16384
noncomputable section
namespace Cert.FlashA

open Idealize.ShloMosaic Idealize.ShloMosaic.TcCoe
open Cert.KernelIdeal Cert.KernelIdeal.Gen Cert.Flash
/-- The scaled queries. -/
def scaled (x : FVec Ideal S8x4096x6x64 .f32) : FVec Ideal S8x4096x6x64 .f32 :=
  Host.divf (mulf x (broadcastInDim S8x4096x6x64 ![] bcast_S_S8x4096x6x64 (constant S_ .f32 0x3E000000#32)))
    (broadcastInDim S8x4096x6x64 ![] bcast_S_S8x4096x6x64 (Host.log (constant S_ .f32 0x40000000#32)))

/-- The scaled queries by pair of heads and key head. -/
def byPair (x : FVec Ideal S8x4096x6x64 .f32) : FVec Ideal S8x3x2x4096x64 .f32 :=
  transpose S8x3x2x4096x64 [0, 3, 2, 1, 4] (shapeCast S8x4096x2x3x64 (scaled x) shapeCasts_S8x4096x6x64_S8x4096x2x3x64)
    transposes_S8x4096x2x3x64_S8x3x2x4096x64_0_3_2_1_4

/-- Zeros. -/
def zeros : FVec Ideal S8x3x4096x64 .f32 := broadcastInDim S8x3x4096x64 ![] bcast_S_S8x3x4096x64 (constant S_ .f32 0x00000000#32)

/-- The queries of the first key head. -/
def first (x : FVec Ideal S8x4096x6x64 .f32) : FVec Ideal S8x3x4096x64 .f32 :=
  shapeCast S8x3x4096x64 (extractStridedSlice S8x3x1x4096x64 ![0, 0, 0, 0, 0] (byPair x) slices_S8x3x2x4096x64_S8x3x1x4096x64_0_0_0_0_0)
    shapeCasts_S8x3x1x4096x64_S8x3x4096x64

/-- The queries of the second key head. -/
def second (x : FVec Ideal S8x4096x6x64 .f32) : FVec Ideal S8x3x4096x64 .f32 :=
  shapeCast S8x3x4096x64 (extractStridedSlice S8x3x1x4096x64 ![0, 0, 1, 0, 0] (byPair x) slices_S8x3x2x4096x64_S8x3x1x4096x64_0_0_1_0_0)
    shapeCasts_S8x3x1x4096x64_S8x3x4096x64

/-- The queries padded to 128 lanes, a packed head for each pair and key head. -/
def stacked (x : FVec Ideal S8x4096x6x64 .f32) : FVec Ideal S8x3x2x4096x128 .f32 :=
  concatenate S8x3x2x4096x128 2
    [⟨S8x3x1x4096x128, broadcastInDim S8x3x1x4096x128 ![0, 1, 3, 4] bcast_S8x3x4096x128_S8x3x1x4096x128_0_1_3_4
        (concatenate S8x3x4096x128 3 [⟨S8x3x4096x64, first x⟩, ⟨S8x3x4096x64, zeros⟩]
          concatenates_S8x3x4096x64_S8x3x4096x64_S8x3x4096x128_d3)⟩,
      ⟨S8x3x1x4096x128, broadcastInDim S8x3x1x4096x128 ![0, 1, 3, 4] bcast_S8x3x4096x128_S8x3x1x4096x128_0_1_3_4
        (concatenate S8x3x4096x128 3 [⟨S8x3x4096x64, zeros⟩, ⟨S8x3x4096x64, second x⟩]
          concatenates_S8x3x4096x64_S8x3x4096x64_S8x3x4096x128_d3)⟩]
    concatenates_S8x3x1x4096x128_S8x3x1x4096x128_S8x3x2x4096x128_d2

/-- The packed queries. -/
def packQ (x : FVec Ideal S8x4096x6x64 .f32) : FVec Ideal S8x6x4096x128 .bf16 :=
  truncf .bf16 (shapeCast S8x6x4096x128 (stacked x) shapeCasts_S8x3x2x4096x128_S8x6x4096x128) bitsLt_bf16_f32

/-- Keys or values with the key heads side by side. -/
def side (x : FVec Ideal S8x4352x2x64 .f32) : FVec Ideal S8x1x4352x128 .bf16 :=
  truncf .bf16 (shapeCast S8x1x4352x128 x shapeCasts_S8x4352x2x64_S8x1x4352x128) bitsLt_bf16_f32

/-- The packed keys or values: the last 4096 before the first 256. -/
def packK (x : FVec Ideal S8x4352x2x64 .f32) : FVec Ideal S8x1x4352x128 .bf16 :=
  concatenate S8x1x4352x128 2
    [⟨S8x1x4096x128, extractStridedSlice S8x1x4096x128 ![0, 0, 256, 0] (side x) slices_S8x1x4352x128_S8x1x4096x128_0_0_256_0⟩,
      ⟨S8x1x256x128, extractStridedSlice S8x1x256x128 ![0, 0, 0, 0] (side x) slices_S8x1x4352x128_S8x1x256x128_0_0_0_0⟩]
    concatenates_S8x1x4096x128_S8x1x256x128_S8x1x4352x128_d2

section Entry
variable (m : (ℓ : Loc nD τ sig) → Buf (Elt Ideal) ℓ)

/-- The call finds the packed queries. -/
theorem entry_q (c : Dev nD) : V m c main_v18 = packQ (m ((c.tc : Thread nD τ).loc main_arg0)) := by
  unfold_abbrev_sides
  simp only [List.flatten_cons, List.flatten_nil, List.append_nil]
  after_results
  rfl

/-- The call finds the packed keys. -/
theorem entry_k (c : Dev nD) : V m c main_v26 = packK (m ((c.tc : Thread nD τ).loc main_arg1)) := by
  unfold_abbrev_sides
  simp only [List.flatten_cons, List.flatten_nil, List.append_nil]
  after_results
  rfl

/-- The call finds the packed values. -/
theorem entry_v (c : Dev nD) : V m c main_v29 = packK (m ((c.tc : Thread nD τ).loc main_arg2)) := by
  unfold_abbrev_sides
  simp only [List.flatten_cons, List.flatten_nil, List.append_nil]
  after_results
  rfl

end Entry

/-- The two groups' heads side by side, at an index. -/
theorem side_apply (x : FVec Ideal S8x4352x2x64 .f32) (b : Fin 8) (k : Fin 4352) (l : Fin 128) :
    side x (ix4 b 0 k l) = x (ix4 b k ⟨l.val / 64, by omega⟩ ⟨l.val % 64, by omega⟩) := by
  unfold side
  pointwise

/-- The packed keys at an index: the tokens rotated, the groups side by side. -/
theorem packK_apply (x : FVec Ideal S8x4352x2x64 .f32) (b : Fin 8) (k : Fin 4352) (l : Fin 128) :
    packK x (ix4 b 0 k l) = x (ix4 b ⟨(k.val + 256) % 4352, by omega⟩ ⟨l.val / 64, by omega⟩ ⟨l.val % 64, by omega⟩) := by
  unfold packK
  pointwise
  by_cases h : k.val < 4096
  · have e : (⟨256 + k.val, by omega⟩ : Fin 4352) = ⟨(k.val + 256) % 4352, by omega⟩ := Fin.ext (show 256 + k.val = (k.val + 256) % 4352 by omega)
    rw [dif_pos h, side_apply, e]
  · have e : (⟨k.val - 4096, by omega⟩ : Fin 4352) = ⟨(k.val + 256) % 4352, by omega⟩ := Fin.ext (show k.val - 4096 = (k.val + 256) % 4352 by omega)
    rw [dif_neg h, side_apply, e]

/-- The scaled queries by pair and group, at an index. -/
theorem byPair_apply (x : FVec Ideal S8x4096x6x64 .f32) (b : Fin 8) (p : Fin 3) (g : Fin 2) (s : Fin 4096) (j : Fin 64) :
    byPair x (ix5 b p g s j) = scaled x (ix4 b s ⟨3 * g.val + p.val, by omega⟩ j) := by
  unfold byPair
  pointwise
  congr 2
  ext
  dsimp only
  omega

/-- The first group's heads, at an index. -/
theorem first_apply (x : FVec Ideal S8x4096x6x64 .f32) (b : Fin 8) (p : Fin 3) (s : Fin 4096) (j : Fin 64) :
    first x (ix4 b p s j) = byPair x (ix5 b p 0 s j) := by
  unfold first
  pointwise

/-- The second group's heads, at an index. -/
theorem second_apply (x : FVec Ideal S8x4096x6x64 .f32) (b : Fin 8) (p : Fin 3) (s : Fin 4096) (j : Fin 64) :
    second x (ix4 b p s j) = byPair x (ix5 b p 1 s j) := by
  unfold second
  pointwise

/-- The padding is zero. -/
theorem zeros_apply (i : S8x3x4096x64.Idx) : zeros i = 0 := Ideal.ofBits_zero_f32

/-- The heads of a pair, each in its half of the lanes with zeros in the other. -/
theorem stacked_apply (x : FVec Ideal S8x4096x6x64 .f32) (b : Fin 8) (p : Fin 3) (g : Fin 2) (s : Fin 4096) (j : Fin 128) :
    stacked x (ix5 b p g s j) = if g.val = j.val / 64 then scaled x (ix4 b s ⟨3 * g.val + p.val, by omega⟩ ⟨j.val % 64, by omega⟩) else 0 := by
  unfold stacked
  pointwise
  have hg : g = 0 ∨ g = 1 := by omega
  rcases hg with rfl | rfl
  · by_cases hj : j.val < 64
    · rw [dif_pos (by decide), dif_pos hj, first_apply, byPair_apply]
      refine Eq.trans ?_ (if_pos (show (0 : Fin 2).val = j.val / 64 by show 0 = j.val / 64; omega)).symm
      congr 2
      ext; dsimp only; omega
    · rw [dif_pos (by decide), dif_neg hj, zeros_apply]
      exact (if_neg (show ¬ (0 : Fin 2).val = j.val / 64 by show ¬ 0 = j.val / 64; omega)).symm
  · by_cases hj : j.val < 64
    · rw [dif_neg (by decide), dif_pos hj, zeros_apply]
      exact (if_neg (show ¬ (1 : Fin 2).val = j.val / 64 by show ¬ 1 = j.val / 64; omega)).symm
    · rw [dif_neg (by decide), dif_neg hj, second_apply, byPair_apply]
      refine Eq.trans ?_ (if_pos (show (1 : Fin 2).val = j.val / 64 by show 1 = j.val / 64; omega)).symm
      congr 2
      ext; dsimp only; omega

/-- Pairs and groups joined to six heads, at an index. -/
theorem merge_apply (Y : FVec Ideal S8x3x2x4096x128 .f32) (b : Fin 8) (h : Fin 6) (s : Fin 4096) (j : Fin 128) :
    truncf .bf16 (shapeCast S8x6x4096x128 Y shapeCasts_S8x3x2x4096x128_S8x6x4096x128) bitsLt_bf16_f32 (ix4 b h s j)
      = Y (ix5 b ⟨h.val / 2, by omega⟩ ⟨h.val % 2, by omega⟩ s j) := by
  pointwise

/-- The packed queries at an index. -/
theorem packQ_apply (x : FVec Ideal S8x4096x6x64 .f32) (b : Fin 8) (h : Fin 6) (s : Fin 4096) (j : Fin 128) :
    packQ x (ix4 b h s j) = if h.val % 2 = j.val / 64 then
      scaled x (ix4 b s ⟨3 * (h.val % 2) + h.val / 2, by omega⟩ ⟨j.val % 64, by omega⟩) else 0 :=
  (merge_apply (stacked x) b h s j).trans (stacked_apply x b _ _ s j)

end Cert.FlashA
-- ==== Proof.Flash.RefA.lean ====
/- What the reference of the first latent attention computes: at each index of its result, the softmax of that row's
   scores against the values of its key head. -/
module

public import proofs.«01_k».proof.Proof.Gen.ReferenceIdeal.Run
public import proofs.«01_k».proof.Proof.Gen.ReferenceIdeal.Read
public import proofs.«01_k».proof.Proof.Flash.Row
public import Idealize.ShloMosaic.Lib.Pointwise
public import Idealize.ShloMosaic.Lib.KernelVsHost

@[expose] public section
set_option maxRecDepth 16384
noncomputable section
namespace Cert.FlashA.Ref

open Idealize.ShloMosaic Idealize.ShloMosaic.TcCoe
open Cert.ReferenceIdeal Cert.ReferenceIdeal.Gen Cert.ReferenceIdeal.Read Cert.Flash

/-- The row maximum over the last axis of any array of scores. -/
theorem rowMax (y : FVec Ideal S8x2x3x4096x4352 .f32) (j : S8x2x3x4096.Idx) :
    Host.reduce (FloatOps.maximumf (F := Ideal) (φ := .f32)) y (val_main_cst_0 (F := Ideal)) reducesTo_S8x2x3x4096x4352_S8x2x3x4096_d4 h_S_ j
      = (Finset.univ : Finset (Fin 4352)).fold max (⊥ : EReal) fun k => y (idx_main_v14 j k) := by
  have h : S8x2x3x4096x4352.Reduces [4] S8x2x3x4096 := by decide
  show Host.reduce (max : EReal → EReal → EReal) y (val_main_cst_0 (F := Ideal)) reducesTo_S8x2x3x4096x4352_S8x2x3x4096_d4 h_S_ j = _
  rw [Host.reduce_eq_fold_single (max : EReal → EReal → EReal) y _ _ h]
  refine congrArg₂ (fun b f => Finset.fold max b f (Finset.univ : Finset (Fin 4352))) bits_neg_inf (funext fun k => congrArg y (funext fun a => Fin.ext ?_))
  match a with | ⟨0, _⟩ => rfl | ⟨1, _⟩ => rfl | ⟨2, _⟩ => rfl | ⟨3, _⟩ => rfl | ⟨4, _⟩ => rfl

/-- The scores of one row. -/
def rowScore (x0 : FVec Ideal S8x4096x6x64 .f32) (x1 : FVec Ideal S8x4352x2x64 .f32) (b : Fin 8) (s : Fin 4096) (g : Fin 2) (p : Fin 3)
    (k : Fin 4352) : EReal :=
  (∑ d : Fin 64, x0 (ix4 b s ⟨3 * g.val + p.val, by omega⟩ d) * x1 (ix4 b k g d)) * ((1 / 8 : ℝ) : EReal)

/-- An array reshaped to key head and query head reads the query head three times the key head on. -/
theorem head_index (x0 : FVec Ideal S8x4096x6x64 .f32) (b : Fin 8) (s : Fin 4096) (g : Fin 2) (p : Fin 3) (d : Fin 64) :
    val_main_v1 (F := Ideal) x0 (ix5 b g p s d) = x0 (ix4 b s ⟨3 * g.val + p.val, by omega⟩ d) := by
  rw [val_main_v1_apply, val_main_v0_apply]
  refine congrArg x0 (funext fun a => Fin.ext ?_)
  match a with
  | ⟨0, _⟩ => show ((((b.val * 4096 + s.val) * 2 + g.val) * 3 + p.val) * 64 + d.val) / 1572864 = b.val; omega
  | ⟨1, _⟩ => show ((((b.val * 4096 + s.val) * 2 + g.val) * 3 + p.val) * 64 + d.val) / 384 % 4096 = s.val; omega
  | ⟨2, _⟩ => show ((((b.val * 4096 + s.val) * 2 + g.val) * 3 + p.val) * 64 + d.val) / 64 % 6 = 3 * g.val + p.val; omega
  | ⟨3, _⟩ => show ((((b.val * 4096 + s.val) * 2 + g.val) * 3 + p.val) * 64 + d.val) % 64 = d.val; omega

/-- The scaled scores at an index. -/
theorem score_apply (x0 : FVec Ideal S8x4096x6x64 .f32) (x1 : FVec Ideal S8x4352x2x64 .f32) (b : Fin 8) (s : Fin 4096) (g : Fin 2) (p : Fin 3)
    (k : Fin 4352) : val_main_v6 (F := Ideal) x0 x1 (ix5 b g p s k) = rowScore x0 x1 b s g p k := by
  rw [val_main_v6_apply, val_main_v4_apply, val_main_v5_apply]
  refine congrArg₂ (fun x y : EReal => x * y) (Finset.sum_congr rfl fun d _ => congrArg₂ (fun x y : EReal => x * y) ?_ ?_) bits_eighth
  · refine Eq.trans (congrArg (val_main_v1 (F := Ideal) x0) (funext fun a => ?_)) (head_index x0 b s g p d)
    match a with | ⟨0, _⟩ => rfl | ⟨1, _⟩ => rfl | ⟨2, _⟩ => rfl | ⟨3, _⟩ => rfl | ⟨4, _⟩ => rfl
  · rw [val_main_v2_apply]
    refine congrArg x1 (funext fun a => ?_)
    match a with | ⟨0, _⟩ => rfl | ⟨1, _⟩ => rfl | ⟨2, _⟩ => rfl | ⟨3, _⟩ => rfl

/-- The scores' exponentials, less the row's maximum, at an index. -/
theorem exp_apply (x0 : FVec Ideal S8x4096x6x64 .f32) (x1 : FVec Ideal S8x4352x2x64 .f32) (b : Fin 8) (s : Fin 4096) (g : Fin 2) (p : Fin 3)
    (k : Fin 4352) :
    val_main_v13 (F := Ideal) x0 x1 (ix5 b g p s k)
      = Ideal.exp (rowScore x0 x1 b s g p k
          - max ⊥ ((Finset.univ : Finset (Fin 4352)).fold max ⊥ (rowScore x0 x1 b s g p))) := by
  rw [val_main_v13_apply, val_main_v12_apply, score_apply, val_main_v11_apply, val_main_v10_apply, val_main_v9_apply, val_main_v8_apply]
  have hm : val_main_v7 (F := Ideal) x0 x1 (idx_main_v10 (idx_main_v11 (ix5 b g p s k)))
      = (Finset.univ : Finset (Fin 4352)).fold max ⊥ (rowScore x0 x1 b s g p) := by
    unfold val_main_v7
    rw [rowMax]
    refine congrArg (fun f => Finset.fold max ⊥ f (Finset.univ : Finset (Fin 4352))) (funext fun k' => Eq.trans (congrArg _ (funext fun a => ?_)) (score_apply x0 x1 b s g p k'))
    match a with | ⟨0, _⟩ => rfl | ⟨1, _⟩ => rfl | ⟨2, _⟩ => rfl | ⟨3, _⟩ => rfl | ⟨4, _⟩ => rfl
  rw [hm]
  generalize rowScore x0 x1 b s g p = z
  exact congrArg (fun t : EReal => Ideal.exp (z k - max t _)) bits_neg_inf

/-- The weighted sum of values at an index: the softmax of the row. -/
theorem soft_apply (x0 : FVec Ideal S8x4096x6x64 .f32) (x1 x2 : FVec Ideal S8x4352x2x64 .f32) (b : Fin 8) (s : Fin 4096) (g : Fin 2) (p : Fin 3)
    (d : Fin 64) :
    val_main_v18 (F := Ideal) x0 x1 x2 (ix5 b g p s d)
      = softVal (rowScore x0 x1 b s g p) (fun k => x2 (ix4 b k g d)) := by
  rw [val_main_v18_apply]
  unfold softVal
  refine Finset.sum_congr rfl fun k _ => congrArg₂ (fun x y : EReal => x * y) ?_ ?_
  · have hi : lidx_main_v18 (ix5 b g p s d) k = ix5 b g p s k := funext fun a => by
      match a with | ⟨0, _⟩ => rfl | ⟨1, _⟩ => rfl | ⟨2, _⟩ => rfl | ⟨3, _⟩ => rfl | ⟨4, _⟩ => rfl
    rw [hi, val_main_v17_apply, exp_apply, val_main_v16_apply, val_main_v15_apply, val_main_v14_apply]
    have hs : ∀ k' : Fin 4352, val_main_v13 (F := Ideal) x0 x1 (idx_main_v14 (idx_main_v15 (idx_main_v16 (ix5 b g p s k))) k')
        = Ideal.exp (rowScore x0 x1 b s g p k'
          - max ⊥ ((Finset.univ : Finset (Fin 4352)).fold max ⊥ (rowScore x0 x1 b s g p))) := fun k' => by
      refine Eq.trans (congrArg _ (funext fun a => ?_)) (exp_apply x0 x1 b s g p k')
      match a with | ⟨0, _⟩ => rfl | ⟨1, _⟩ => rfl | ⟨2, _⟩ => rfl | ⟨3, _⟩ => rfl | ⟨4, _⟩ => rfl
    rw [Finset.sum_congr rfl fun k' _ => hs k']
    generalize rowScore x0 x1 b s g p = z
    exact congrArg (fun t : EReal => Ideal.div _ (t + _)) Ideal.ofBits_zero_f32
  · rw [val_main_v3_apply]
    refine congrArg x2 (funext fun a => ?_)
    match a with | ⟨0, _⟩ => rfl | ⟨1, _⟩ => rfl | ⟨2, _⟩ => rfl | ⟨3, _⟩ => rfl

/-- The reference's result before the last reshape, at an index. -/
theorem result_apply (x0 : FVec Ideal S8x4096x6x64 .f32) (x1 x2 : FVec Ideal S8x4352x2x64 .f32) (b : Fin 8) (s : Fin 4096) (g : Fin 2) (p : Fin 3)
    (d : Fin 64) :
    val_main_v19 (F := Ideal) x0 x1 x2 (ix5 b s g p d)
      = softVal (rowScore x0 x1 b s g p) (fun k => x2 (ix4 b k g d)) := by
  rw [val_main_v19_apply]
  refine Eq.trans (congrArg _ (funext fun a => ?_)) (soft_apply x0 x1 x2 b s g p d)
  match a with | ⟨0, _⟩ => rfl | ⟨1, _⟩ => rfl | ⟨2, _⟩ => rfl | ⟨3, _⟩ => rfl | ⟨4, _⟩ => rfl

end Cert.FlashA.Ref
end
-- ==== Proof.Flash.EqA.lean ====
/- The equation of the first latent attention: with finite queries and keys the kernel's result is the reference's. -/
module

public import proofs.«01_k».proof.Defs
public import proofs.«01_k».proof.Proof.Flash.FinalA
public import proofs.«01_k».proof.Proof.Flash.EntryA
public import proofs.«01_k».proof.Proof.Flash.RefA
public import proofs.«01_k».proof.Proof.Flash.Row
public import proofs.«01_k».proof.Proof.Gen.KernelIdeal.Read
public import proofs.«01_k».proof.Proof.Gen.Pre_finite_qk

@[expose] public section
set_option maxRecDepth 16384
noncomputable section
namespace Cert.FlashA

open Idealize.ShloMosaic Idealize.ShloMosaic.TcCoe
open Cert.KernelIdeal Cert.KernelIdeal.Gen Cert.Flash

/-- The scaled queries of real ones. -/
theorem scaled_real (x : FVec Ideal S8x4096x6x64 .f32) (i : S8x4096x6x64.Idx) :
    scaled x i = Ideal.div (x i * ((1 / 8 : ℝ) : EReal)) (Ideal.log ((2 : ℝ) : EReal)) := by
  rw [← bits_two, ← bits_eighth]
  rfl

/-- A packed query row against a packed key row is the scaled score of the head, at the key rotated back. -/
theorem packed_dot (x : FVec Ideal S8x4096x6x64 .f32) (y : FVec Ideal S8x4352x2x64 .f32) (b : Fin 8) (s : Fin 4096)
    (g : Fin 2) (p : Fin 3) (h : Fin 6) (hh : h.val = 2 * p.val + g.val) (k : Fin 4352) :
    ∑ j : Fin 128, packQ x (ix4 b h s j) * packK y (ix4 b 0 k j)
      = ∑ d : Fin 64, scaled x (ix4 b s ⟨3 * g.val + p.val, by omega⟩ d) * y (ix4 b ⟨(k.val + 256) % 4352, by omega⟩ g d) := by
  have hg : h.val % 2 = g.val := by omega
  have hp : h.val / 2 = p.val := by omega
  rw [sum_half g.val g.isLt _ fun j hj => by
    rw [packQ_apply, if_neg (by omega), zero_mul]]
  refine Finset.sum_congr rfl fun d _ => congrArg₂ (fun u v : EReal => u * v) ?_ ?_
  · rw [packQ_apply, if_pos (show h.val % 2 = (g.val * 64 + d.val) / 64 by omega)]
    refine congrArg (scaled x) ?_
    have e₁ : (⟨3 * (h.val % 2) + h.val / 2, by omega⟩ : Fin 6) = ⟨3 * g.val + p.val, by omega⟩ :=
      Fin.ext (show 3 * (h.val % 2) + h.val / 2 = 3 * g.val + p.val by omega)
    have e₂ : (⟨(g.val * 64 + d.val) % 64, by omega⟩ : Fin 64) = d := Fin.ext (show (g.val * 64 + d.val) % 64 = d.val by omega)
    exact congrArg₂ (ix4 b s) e₁ e₂
  · rw [packK_apply]
    have e₁ : (⟨(g.val * 64 + d.val) / 64, by omega⟩ : Fin 2) = g := Fin.ext (show (g.val * 64 + d.val) / 64 = g.val by omega)
    have e₂ : (⟨(g.val * 64 + d.val) % 64, by omega⟩ : Fin 64) = d := Fin.ext (show (g.val * 64 + d.val) % 64 = d.val by omega)
    exact congrArg y (congrArg₂ (ix4 b _) e₁ e₂)

/-- One element of the packed result is the reference's softmax of its row. -/
theorem packed_eq (x : FVec Ideal S8x4096x6x64 .f32) (y w : FVec Ideal S8x4352x2x64 .f32)
    (hx : ∀ i, ∃ r : ℝ, x i = (r : EReal)) (hy : ∀ i, ∃ r : ℝ, y i = (r : EReal))
    (b : Fin 8) (s : Fin 4096) (g : Fin 2) (p : Fin 3) (d : Fin 64) (l : Fin 128) (hl : l.val = g.val * 64 + d.val) :
    packedOut (packQ x) (packK y) (packK w) (ix4 b p s l)
      = softVal (Ref.rowScore x y b s g p) (fun k => w (ix4 b k g d)) := by
  choose xr hxr using hx
  choose yr hyr using hy
  have hp : (packed p l).val = 2 * p.val + g.val := by
    show 2 * p.val + (if l.val < 64 then 0 else 1) = _
    split <;> omega
  refine rowVal_eq _ _ _ _ _
    (fun k => (∑ e : Fin 64, xr (ix4 b s ⟨3 * g.val + p.val, by omega⟩ e) * yr (ix4 b ⟨(k.val + 256) % 4352, by omega⟩ g e)) * (1 / 8) / Real.log 2)
    (fun k => ?_) (fun k => ?_) (fun k => ?_)
  · refine (packed_dot x y b s g p (packed p l) hp k).trans ?_
    rw [← score_two]
    exact Finset.sum_congr rfl fun e _ => by rw [scaled_real, hxr, hyr]
  · have hk : (⟨((rotate k).val + 256) % 4352, by omega⟩ : Fin 4352) = k := rotate.left_inv k
    rw [hk, ← score_e]
    unfold Ref.rowScore
    simp only [hxr, hyr]
  · show w (ix4 b k g d) = packK w (ix4 b 0 (rotate k) l)
    have hk : (⟨((rotate k).val + 256) % 4352, by omega⟩ : Fin 4352) = k := rotate.left_inv k
    have e₁ : (⟨l.val / 64, by omega⟩ : Fin 2) = g := Fin.ext (show l.val / 64 = g.val by omega)
    have e₂ : (⟨l.val % 64, by omega⟩ : Fin 64) = d := Fin.ext (show l.val % 64 = d.val by omega)
    rw [packK_apply, hk, e₁, e₂]

/-- The result array of the host code after the kernel, at an index by key head, query head and lane. -/
theorem unpack_apply (r : FVec Ideal S8x3x4096x128 .bf16) (b : Fin 8) (s : Fin 4096) (g : Fin 2) (p : Fin 3) (d : Fin 64) :
    Read.val_main_v32 (F := Ideal) r (ix5 b s g p d) = r (ix4 b p s ⟨g.val * 64 + d.val, by omega⟩) := by
  rw [Read.val_main_v32_apply, Read.val_main_v31_apply]
  refine congrArg r (funext fun a => Fin.ext ?_)
  match a with
  | ⟨0, _⟩ => show ((((b.val * 3 + p.val) * 4096 + s.val) * 2 + g.val) * 64 + d.val) / 1572864 = b.val; omega
  | ⟨1, _⟩ => show ((((b.val * 3 + p.val) * 4096 + s.val) * 2 + g.val) * 64 + d.val) / 524288 % 3 = p.val; omega
  | ⟨2, _⟩ => show ((((b.val * 3 + p.val) * 4096 + s.val) * 2 + g.val) * 64 + d.val) / 128 % 4096 = s.val; omega
  | ⟨3, _⟩ => show ((((b.val * 3 + p.val) * 4096 + s.val) * 2 + g.val) * 64 + d.val) % 128 = g.val * 64 + d.val; omega

/-- The kernel's result is the reference's, of finite queries and keys and any values. -/
theorem result_eq (x : FVec Ideal S8x4096x6x64 .f32) (y w : FVec Ideal S8x4352x2x64 .f32)
    (hx : ∀ i, ∃ r : ℝ, x i = (r : EReal)) (hy : ∀ i, ∃ r : ℝ, y i = (r : EReal)) :
    Read.val_main_v33 (F := Ideal) (packedOut (packQ x) (packK y) (packK w))
      = Cert.ReferenceIdeal.Read.val_main_v21 (F := Ideal) x y w := by
  funext i
  rw [Read.val_main_v33_apply]
  generalize hj : Read.idx_main_v33 i = j
  refine Eq.trans ?_ (show Cert.ReferenceIdeal.Read.val_main_v19 (F := Ideal) x y w j = Cert.ReferenceIdeal.Read.val_main_v21 (F := Ideal) x y w i from ?_)
  · have hi : j = ix5 (j 0) (j 1) (j 2) (j 3) (j 4) := funext fun a => by
      match a with | ⟨0, _⟩ => rfl | ⟨1, _⟩ => rfl | ⟨2, _⟩ => rfl | ⟨3, _⟩ => rfl | ⟨4, _⟩ => rfl
    rw [hi]
    exact (unpack_apply _ (j 0) (j 1) (j 2) (j 3) (j 4)).trans
      ((packed_eq x y w hx hy (j 0) (j 1) (j 2) (j 3) (j 4) _ rfl).trans (Ref.result_apply x y w (j 0) (j 1) (j 2) (j 3) (j 4)).symm)
  · rw [Cert.ReferenceIdeal.Read.val_main_v21_apply, Cert.ReferenceIdeal.Read.val_main_v20_apply, ← hj]
    rfl

/-- The precondition says that queries and keys are finite. -/
theorem finite (m : (ℓ : Loc nD τ sig) → Buf (Elt Ideal) ℓ) (h : Cert.Pre_KernelIdeal_finite_qk m) (c : Dev nD) :
    (∀ i, ∃ r : ℝ, (m ((c.tc : Thread nD τ).loc main_arg0) : FVec Ideal S8x4096x6x64 .f32) i = (r : EReal))
      ∧ ∀ i, ∃ r : ℝ, (m ((c.tc : Thread nD τ).loc main_arg1) : FVec Ideal S8x4352x2x64 .f32) i = (r : EReal) :=
  ⟨fun i => real_of_lt _ (congrFun (h c).1 i), fun i => real_of_lt _ (congrFun (h c).2 i)⟩

end Cert.FlashA

end
-- ==== Proof.Flash.ClaimA.lean ====
/- The value claim of the first latent attention. -/
module

public import proofs.«01_k».proof.Proof.Flash.EqA

@[expose] public section
set_option maxRecDepth 16384
noncomputable section
namespace Cert.FlashA

open Idealize.ShloMosaic Idealize.ShloMosaic.TcCoe Idealize.SL.Sem
open Cert.KernelIdeal Cert.KernelIdeal.Gen Cert.Flash

/-- The region's output array, from the arguments. -/
theorem region (m : (ℓ : Loc nD τ sig) → Buf (Elt Ideal) ℓ) (c : Dev nD) :
    Value.reg_main_v30 (F := Ideal) m c = packedOut (packQ (m ((c.tc : Thread nD τ).loc main_arg0)))
      (packK (m ((c.tc : Thread nD τ).loc main_arg1))) (packK (m ((c.tc : Thread nD τ).loc main_arg2))) :=
  (final_out m c).trans (by
    have h₁ := entry_q m c
    have h₂ := entry_k m c
    have h₃ := entry_v m c
    revert h₁ h₂ h₃
    generalize packQ (m ((c.tc : Thread nD τ).loc main_arg0)) = a
    generalize packK (m ((c.tc : Thread nD τ).loc main_arg1)) = b
    generalize packK (m ((c.tc : Thread nD τ).loc main_arg2)) = d
    intro h₁ h₂ h₃
    subst h₁ h₂ h₃
    rfl)

/-- Kernel and reference compute the same array. -/
theorem value : Cert.algebraic_KernelIdeal_ReferenceIdeal_pre_finite_qk := by
  intro m g m' g' hpre hargs
  refine ⟨fun c => Cert.ReferenceIdeal.Read.val_main_v21 (F := Ideal) (m ((c.tc : Thread nD τ).loc main_arg0))
      (m ((c.tc : Thread nD τ).loc main_arg1)) (m ((c.tc : Thread nD τ).loc main_arg2)), ?_, ?_⟩
  · refine (θ_run _ _ _).mono (fun _ h c => ⟨(h c).1.trans ?_, (h c).2⟩) (Value.run (F := Ideal) m g)
    refine Eq.trans ?_ (result_eq _ _ _ (finite m hpre c).1 (finite m hpre c).2)
    exact congrArg (Read.val_main_v33 (F := Ideal)) (region m c)
  · refine (θ_run _ _ _).mono (fun _ h c => ⟨(h c).1.trans ?_, (h c).2⟩) (Cert.ReferenceIdeal.Value.run (F := Ideal) m' g')
    have h₀ := (hargs c).1
    have h₁ := (hargs c).2.1
    have h₂ := (hargs c).2.2
    refine (Cert.ReferenceIdeal.Read.val_main_v21_eq (F := Ideal) _ _ _).trans ?_
    rw [h₀, h₁, h₂]

end Cert.FlashA

end
-- ==== Proof.Flash.PiecesB.lean ====
/- The second attention call (four heads): what one grid step leaves in its output block. -/
module

public import proofs.«01_k».proof.Proof.Gen.KernelBIdeal.Run
public import proofs.«01_k».proof.Proof.Flash.Row
public import Idealize.ShloMosaic.Lib.Pipeline.Value
public import Idealize.ShloMosaic.Lib.Pipeline.ValueKit.Acc
public import Idealize.ShloMosaic.Lib.Pipeline.ValueKit.Geometry
public import Idealize.ShloMosaic.Lib.Tactic

@[expose] public section

set_option maxRecDepth 16384

noncomputable section

namespace Cert.FlashB

open Idealize.ShloMosaic Idealize.ShloMosaic.TcCoe
open Cert.KernelBIdeal Cert.KernelBIdeal.Gen Cert.Flash

/-- The first 2304 rows of one head of a block of keys or values with `n` heads. -/
def lo {n : ℕ} (X : Vec Ideal ⟨4, ![1, n, 4352, 128]⟩ .bf16) (h : ℕ)
    (hh : ∀ a, (![0, h, 0, 0] : Fin 4 → ℕ) a + (![1, 1, 2304, 128] : Fin 4 → ℕ) a ≤ (⟨4, ![1, n, 4352, 128]⟩ : Shape).size a) : FVec Ideal (TK 2304) .bf16 :=
  View.ld X (Rect.unit ![0, h, 0, 0] ![1, 1, 2304, 128] hh)

/-- The last 2048 rows of one head of a block of keys or values with `n` heads. -/
def hi {n : ℕ} (X : Vec Ideal ⟨4, ![1, n, 4352, 128]⟩ .bf16) (h : ℕ)
    (hh : ∀ a, (![0, h, 2304, 0] : Fin 4 → ℕ) a + (![1, 1, 2048, 128] : Fin 4 → ℕ) a ≤ (⟨4, ![1, n, 4352, 128]⟩ : Shape).size a) : FVec Ideal (TK 2048) .bf16 :=
  View.ld X (Rect.unit ![0, h, 2304, 0] ![1, 1, 2048, 128] hh)

/-- The queries of one packed head. -/
def head (X : Vec Ideal S1x4x512x128 .bf16) (h : ℕ) (hh : ∀ a, (![0, h, 0, 0] : Fin 4 → ℕ) a + (![1, 1, 512, 128] : Fin 4 → ℕ) a ≤ S1x4x512x128.size a) :
    FVec Ideal TQ .bf16 :=
  View.ld X (Rect.unit ![0, h, 0, 0] ![1, 1, 512, 128] hh)

/-- One stored pair of heads. -/
def pair (X : Vec Ideal S1x4x512x128 .bf16) (K : Vec Ideal S1x4x4352x128 .bf16) (V : Vec Ideal S1x2x4352x128 .bf16) (p : ℕ) (hp : p < 2) : FVec Ideal TQ .bf16 :=
  pairOut (Named.named κ "mask" 0xF149F2CA#32 : Ideal .f32)
    (lo K (2 * p) (by have : p = 0 ∨ p = 1 := by omega
                      rcases this with rfl | rfl <;> decide))
    (lo V p (by have : p = 0 ∨ p = 1 := by omega
                rcases this with rfl | rfl <;> decide))
    (hi K (2 * p) (by have : p = 0 ∨ p = 1 := by omega
                      rcases this with rfl | rfl <;> decide))
    (hi V p (by have : p = 0 ∨ p = 1 := by omega
                rcases this with rfl | rfl <;> decide))
    (head X (2 * p) (by have : p = 0 ∨ p = 1 := by omega
                        rcases this with rfl | rfl <;> decide))
    (lo K (2 * p + 1) (by have : p = 0 ∨ p = 1 := by omega
                          rcases this with rfl | rfl <;> decide))
    (lo V p (by have : p = 0 ∨ p = 1 := by omega
                rcases this with rfl | rfl <;> decide))
    (hi K (2 * p + 1) (by have : p = 0 ∨ p = 1 := by omega
                          rcases this with rfl | rfl <;> decide))
    (hi V p (by have : p = 0 ∨ p = 1 := by omega
                rcases this with rfl | rfl <;> decide))
    (head X (2 * p + 1) (by have : p = 0 ∨ p = 1 := by omega
                            rcases this with rfl | rfl <;> decide))

variable (m : (ℓ : Loc nD τ sig) → Buf (Elt Ideal) ℓ)

/-- What a grid step leaves in its output block: the two pairs of heads. -/
theorem out_eq (c : Dev nD) (t : Fin cfg0.N) : outsAt0 m c t =
    View.canon (Val := Elt Ideal) [⟨Rect.unit ![0, 1, 0, 0] ![1, 1, 512, 128] inb_S1x2x512x128_S1x1x512x128_0_1_0_0,
        pair (iblk m c 1 t) (iblk m c 2 t) (iblk m c 3 t) 1 (by decide)⟩,
      ⟨Rect.unit ![0, 0, 0, 0] ![1, 1, 512, 128] inb_S1x2x512x128_S1x1x512x128_0_0_0_0,
        pair (iblk m c 1 t) (iblk m c 2 t) (iblk m c 3 t) 0 (by decide)⟩] := by
  unfold outsAt0
  frame_out
  generalize iblk m c 1 t = X
  generalize iblk m c 2 t = K
  generalize iblk m c 3 t = V
  refine congrArg (View.canon (Val := Elt Ideal)) (congrArg₂ List.cons (Sigma.ext rfl (heq_of_eq ?_)) (congrArg₂ List.cons (Sigma.ext rfl (heq_of_eq ?_)) rfl))
  · rfl
  · rfl

/-- The first key chunk, at an index. -/
theorem lo_apply {n : ℕ} (X : Vec Ideal ⟨4, ![1, n, 4352, 128]⟩ .bf16) (h : ℕ) (hh) (hn : h < n) (k : Fin 2304) (l : Fin 128) :
    lo X h hh (ix4 0 0 k l) = X (ix4 0 ⟨h, hn⟩ ⟨k.val, by omega⟩ l) := by
  refine congrArg X (funext fun a => Fin.ext ?_)
  fin_cases a
  exacts [rfl, rfl, show 0 + 1 * k.val = k.val by omega, show 0 + 1 * l.val = l.val by omega]

/-- The second key chunk, at an index. -/
theorem hi_apply {n : ℕ} (X : Vec Ideal ⟨4, ![1, n, 4352, 128]⟩ .bf16) (h : ℕ) (hh) (hn : h < n) (k : Fin 2048) (l : Fin 128) :
    hi X h hh (ix4 0 0 k l) = X (ix4 0 ⟨h, hn⟩ ⟨2304 + k.val, by omega⟩ l) := by
  refine congrArg X (funext fun a => Fin.ext ?_)
  fin_cases a
  exacts [rfl, rfl, show 2304 + 1 * k.val = 2304 + k.val by omega, show 0 + 1 * l.val = l.val by omega]

/-- One head of the block of queries, at an index. -/
theorem head_apply (X : Vec Ideal S1x4x512x128 .bf16) (h : ℕ) (hh) (h4 : h < 4) (r : Fin 512) (l : Fin 128) :
    head X h hh (ix4 0 0 r l) = X (ix4 0 ⟨h, h4⟩ r l) := by
  refine congrArg X (funext fun a => Fin.ext ?_)
  fin_cases a
  exacts [rfl, rfl, show 0 + 1 * r.val = r.val by omega, show 0 + 1 * l.val = l.val by omega]

/-- Where a stored pair lies in the output block. -/
theorem emb_pair (p : Fin 2) (n : ℕ) (hn : n = p.val) (inb : ∀ a, (![0, n, 0, 0] : Fin 4 → ℕ) a + (![1, 1, 512, 128] : Fin 4 → ℕ) a ≤ S1x2x512x128.size a)
    (r : Fin 512) (l : Fin 128) :
    (Rect.unit (s := S1x2x512x128) ![0, n, 0, 0] ![1, 1, 512, 128] inb).emb (ix4 0 0 r l) = ix4 0 p r l := by
  subst hn
  refine funext fun a => Fin.ext ?_
  fin_cases a
  exacts [rfl, rfl, show 0 + 1 * r.val = r.val by omega, show 0 + 1 * l.val = l.val by omega]

/-- A pair's place is outside of the places of the others. -/
theorem off_pair (p : Fin 2) (n : ℕ) (hn : p.val ≠ n) (inb : ∀ a, (![0, n, 0, 0] : Fin 4 → ℕ) a + (![1, 1, 512, 128] : Fin 4 → ℕ) a ≤ S1x2x512x128.size a)
    (r : Fin 512) (l : Fin 128) :
    (ix4 0 p r l : S1x2x512x128.Idx) ∉ (Rect.unit (s := S1x2x512x128) ![0, n, 0, 0] ![1, 1, 512, 128] inb).set :=
  Rect.not_mem_set_of_axis _ _ (1 : Fin 4) n 1 rfl rfl rfl (show p.val < n ∨ n + 1 ≤ p.val by omega)

/-- The head of a pair and a lane. -/
def packed (p : Fin 2) (l : Fin 128) : Fin 4 := ⟨2 * p.val + if l.val < 64 then 0 else 1, by split <;> omega⟩

/-- What a pair of heads computes at a row and lane: the row value of the head that owns the lane. -/
theorem pair_apply (X : Vec Ideal S1x4x512x128 .bf16) (K : Vec Ideal S1x4x4352x128 .bf16) (V : Vec Ideal S1x2x4352x128 .bf16) (p : Fin 2)
    (r : Fin 512) (l : Fin 128) :
    pair X K V p.val p.isLt (ix4 0 0 r l)
      = rowVal (fun j => X (ix4 0 (packed p l) r j)) (fun k j => K (ix4 0 (packed p l) k j)) (fun k => V (ix4 0 p k l)) := by
  have hm : (Named.named κ "mask" 0xF149F2CA#32 : Ideal .f32) = ⊥ := IdealRules.named_const.ideal_named_scalar _ _ _ _ rfl
  unfold pair
  rw [hm, pairOut_apply, headOut_apply, headOut_apply]
  simp only [lo_apply K (2 * p.val) _ (by omega), hi_apply K (2 * p.val) _ (by omega), lo_apply K (2 * p.val + 1) _ (by omega),
    hi_apply K (2 * p.val + 1) _ (by omega), lo_apply V p.val _ p.isLt, hi_apply V p.val _ p.isLt,
    head_apply X (2 * p.val) _ (by omega), head_apply X (2 * p.val + 1) _ (by omega)]
  unfold rowVal packed
  split <;> rfl

/-- The block that two stored pairs leave. -/
def two (P₁ P₀ : FVec Ideal TQ .bf16) : Vec Ideal S1x2x512x128 .bf16 :=
  View.canon (Val := Elt Ideal) [⟨Rect.unit ![0, 1, 0, 0] ![1, 1, 512, 128] inb_S1x2x512x128_S1x1x512x128_0_1_0_0, P₁⟩,
    ⟨Rect.unit ![0, 0, 0, 0] ![1, 1, 512, 128] inb_S1x2x512x128_S1x1x512x128_0_0_0_0, P₀⟩]

/-- The second pair, of the two stored. -/
theorem two_1 (P₁ P₀ : FVec Ideal TQ .bf16) (r : Fin 512) (l : Fin 128) :
    two P₁ P₀ (ix4 0 1 r l) = P₁ (ix4 0 0 r l) := by
  unfold two
  exact canon_hit (s := S1x2x512x128) (e := .bf16) (Rect.unit ![0, 1, 0, 0] ![1, 1, 512, 128] inb_S1x2x512x128_S1x1x512x128_0_1_0_0) P₁ _ (ix4 0 0 r l) _ (emb_pair 1 1 rfl inb_S1x2x512x128_S1x1x512x128_0_1_0_0 r l)

/-- The first pair, of the two stored. -/
theorem two_0 (P₁ P₀ : FVec Ideal TQ .bf16) (r : Fin 512) (l : Fin 128) :
    two P₁ P₀ (ix4 0 0 r l) = P₀ (ix4 0 0 r l) := by
  unfold two
  refine (canon_miss (s := S1x2x512x128) (e := .bf16) (Rect.unit ![0, 1, 0, 0] ![1, 1, 512, 128] inb_S1x2x512x128_S1x1x512x128_0_1_0_0) _ _ _ (off_pair 0 1 (by decide) inb_S1x2x512x128_S1x1x512x128_0_1_0_0 r l)).trans ?_
  exact canon_hit (s := S1x2x512x128) (e := .bf16) (Rect.unit ![0, 0, 0, 0] ![1, 1, 512, 128] inb_S1x2x512x128_S1x1x512x128_0_0_0_0) P₀ _ (ix4 0 0 r l) _ (emb_pair 0 0 rfl inb_S1x2x512x128_S1x1x512x128_0_0_0_0 r l)

/-- An output block at an element. -/
theorem out_apply (c : Dev nD) (t : Fin cfg0.N) (p : Fin 2) (r : Fin 512) (l : Fin 128) :
    outsAt0 m c t (ix4 0 p r l)
      = rowVal (fun j => iblk m c 1 t (ix4 0 (packed p l) r j)) (fun k j => iblk m c 2 t (ix4 0 (packed p l) k j))
          (fun k => iblk m c 3 t (ix4 0 p k l)) := by
  refine (congrFun (out_eq m c t) _).trans ?_
  generalize iblk m c 1 t = X
  generalize iblk m c 2 t = K
  generalize iblk m c 3 t = W
  have hp : p = 0 ∨ p = 1 := by omega
  rcases hp with rfl | rfl
  · exact (two_0 _ _ r l).trans (pair_apply X K W 0 r l)
  · exact (two_1 _ _ r l).trans (pair_apply X K W 1 r l)

/-- The result array of the call, from the arrays its windows read. -/
def packedOut (Q : Vec Ideal S8x4x4096x128 .bf16) (K : Vec Ideal S8x4x4352x128 .bf16) (V : Vec Ideal S8x2x4352x128 .bf16) : Vec Ideal S8x2x4096x128 .bf16 :=
  fun i => rowVal (fun j => Q (ix4 (i 0) (packed (i 1) (i 3)) (i 2) j)) (fun k j => K (ix4 (i 0) (packed (i 1) (i 3)) k j)) (fun k => V (ix4 (i 0) (i 1) k (i 3)))

/-- The block of queries of a grid point. -/
theorem idx1 : ∀ t : Fin cfg0.N, win0_1.index t = ![t.val / 8, 0, t.val % 8, 0] := (by decide +kernel : ∀ t : Fin grid0.N, _)
/-- The block of keys of a grid point. -/
theorem idx2 : ∀ t : Fin cfg0.N, win0_2.index t = ![t.val / 8, 0, 0, 0] := (by decide +kernel : ∀ t : Fin grid0.N, _)
/-- The block of values of a grid point. -/
theorem idx3 : ∀ t : Fin cfg0.N, win0_3.index t = ![t.val / 8, 0, 0, 0] := (by decide +kernel : ∀ t : Fin grid0.N, _)
/-- The block of results of a grid point. -/
theorem idx4 : ∀ t : Fin cfg0.N, win0_4.index t = ![t.val / 8, 0, t.val % 8, 0] := (by decide +kernel : ∀ t : Fin grid0.N, _)

end Cert.FlashB
-- ==== Proof.Flash.FinalB.lean ====
/- The second attention call (four heads): its result array after the run, from the arrays its
   windows read at the entry of the call. -/
module

public import proofs.«01_k».proof.Proof.Flash.PiecesB

@[expose] public section
noncomputable section
namespace Cert.FlashB

open Idealize.ShloMosaic Idealize.ShloMosaic.TcCoe
open Cert.KernelBIdeal Cert.KernelBIdeal.Gen Cert.Flash
variable (m : (ℓ : Loc nD τ sig) → Buf (Elt Ideal) ℓ)
/-- A grid point's batch is one of eight. -/
theorem lt8 (t : Fin cfg0.N) : t.val / 8 < 8 := by
  have h₁ := t.isLt
  have h₂ : cfg0.N = 64 := N_0
  omega

/-- A row of a grid point's block is one of the 4096 tokens. -/
theorem lt4096 (t : Fin cfg0.N) (r : Fin 512) : 512 * (t.val % 8) + r.val < 4096 := by omega

/-- The queries' block at a grid step. -/
theorem read1 (A : Vec Ideal S8x4x4096x128 .bf16) (t : Fin cfg0.N) (h : Fin 4) (r : Fin 512) (j : Fin 128) :
    ((cfg0.win 1).blk t).view.read (Elt Ideal) A (ix4 0 h r j) = A (ix4 ⟨t.val / 8, lt8 t⟩ h ⟨512 * (t.val % 8) + r.val, lt4096 t r⟩ j) := by
  rw [View.read_apply]
  show A _ = A _
  congr 1
  blk_ext [idx1 t]

/-- The block of keys of a grid point, at an index. -/
theorem read2 (A : Vec Ideal S8x4x4352x128 .bf16) (t : Fin cfg0.N) (h : Fin 4) (k : Fin 4352) (j : Fin 128) :
    ((cfg0.win 2).blk t).view.read (Elt Ideal) A (ix4 0 h k j) = A (ix4 ⟨t.val / 8, lt8 t⟩ h k j) := by
  rw [View.read_apply]
  show A _ = A _
  congr 1
  blk_ext [idx2 t]

/-- The block of values of a grid point, at an index. -/
theorem read3 (A : Vec Ideal S8x2x4352x128 .bf16) (t : Fin cfg0.N) (p : Fin 2) (k : Fin 4352) (j : Fin 128) :
    ((cfg0.win 3).blk t).view.read (Elt Ideal) A (ix4 0 p k j) = A (ix4 ⟨t.val / 8, lt8 t⟩ p k j) := by
  rw [View.read_apply]
  show A _ = A _
  congr 1
  blk_ext [idx3 t]

/-- The place in the result of a row of a grid point's block. -/
theorem emb4 (t : Fin cfg0.N) (p : Fin 2) (r : Fin 512) (l : Fin 128) :
    ((win0_4.blk t).view.emb (ix4 0 p r l) : S8x2x4096x128.Idx) = ix4 ⟨t.val / 8, lt8 t⟩ p ⟨512 * (t.val % 8) + r.val, lt4096 t r⟩ l := by
  blk_ext [idx4 t]

/-- The result array after the run. -/
theorem final_out (c : Dev nD) : (dats m 0 c).arrAt 4 cfg0.N
    = packedOut (V m c (Pipeline.arrRef spec0 1)) (V m c (Pipeline.arrRef spec0 2)) (V m c (Pipeline.arrRef spec0 3)) := by
  have key : ∀ (t : Fin cfg0.N) (y : S1x2x512x128.Idx), outsAt0 m c t y
      = packedOut (V m c (Pipeline.arrRef spec0 1)) (V m c (Pipeline.arrRef spec0 2)) (V m c (Pipeline.arrRef spec0 3))
        ((win0_4.blk t).view.emb y) := by
    intro t y
    rw [eq_ix4 (n0 := 1) (n1 := 2) (n2 := 512) (n3 := 128) y]
    obtain ⟨p, hp⟩ : ∃ p : Fin 2, y 1 = p := ⟨_, rfl⟩
    obtain ⟨r, hr⟩ : ∃ r : Fin 512, y 2 = r := ⟨_, rfl⟩
    obtain ⟨l, hl⟩ : ∃ l : Fin 128, y 3 = l := ⟨_, rfl⟩
    obtain h0 : y 0 = (0 : Fin 1) := Subsingleton.elim (α := Fin 1) _ _
    rw [h0, hp, hr, hl, out_apply, emb4]
    unfold iblk
    generalize V m c (Pipeline.arrRef spec0 1) = A
    generalize V m c (Pipeline.arrRef spec0 2) = B
    generalize V m c (Pipeline.arrRef spec0 3) = C
    unfold packedOut
    congr 1
    · exact funext fun j => read1 A t _ r j
    · exact funext fun k => funext fun j => read2 B t _ k j
    · exact funext fun k => read3 C t p k l
  refine (dats m 0 c).arrAt_eq_of_covers 4 _ (by decide +kernel) fun t hf y => ?_
  blk_simp
  rw [after0_4]
  exact key t y

end Cert.FlashB
-- ==== Proof.Flash.EntryB.lean ====
/- The second attention call: the arrays that its windows read, from the arguments. -/
module

public import proofs.«01_k».proof.Proof.Gen.KernelBIdeal.Run
public import proofs.«01_k».proof.Proof.Flash.Block
public import Idealize.ShloMosaic.Lib.StableHlo.Run
public import Idealize.ShloMosaic.Lib.Tactic
public import Idealize.ShloMosaic.Lib.Pointwise

@[expose] public section
set_option maxRecDepth 16384
noncomputable section
namespace Cert.FlashB

open Idealize.ShloMosaic Idealize.ShloMosaic.TcCoe
open Cert.KernelBIdeal Cert.KernelBIdeal.Gen Cert.Flash
/-- The scaled queries. -/
def scaled (x : FVec Ideal S8x4096x4x96 .f32) : FVec Ideal S8x4096x4x96 .f32 :=
  Host.divf (mulf x (broadcastInDim S8x4096x4x96 ![] bcast_S_S8x4096x4x96 (constant S_ .f32 0x3DD105EC#32)))
    (broadcastInDim S8x4096x4x96 ![] bcast_S_S8x4096x4x96 (Host.log (constant S_ .f32 0x40000000#32)))

/-- The padding's value: the integer zero, cast. -/
def padding : FVec Ideal S_ .f32 := sitofp .f32 (constantI S_ 32 0#32)

/-- The queries padded to 128 lanes, by head. -/
def packQ (x : FVec Ideal S8x4096x4x96 .f32) : FVec Ideal S8x4x4096x128 .bf16 :=
  truncf .bf16 (transpose S8x4x4096x128 [0, 2, 1, 3]
    (pad S8x4096x4x128 ![0, 0, 0, 0] ![0, 0, 0, 32] ![0, 0, 0, 0] (scaled x) padding pads_S8x4096x4x96_S8x4096x4x128_000_000_000_0320 h_S_)
    transposes_S8x4096x4x128_S8x4x4096x128_0_2_1_3) bitsLt_bf16_f32

/-- The keys padded to 128 lanes, by head, in their own order. -/
def padK (x : FVec Ideal S8x4352x4x96 .f32) : FVec Ideal S8x4x4352x128 .bf16 :=
  truncf .bf16 (transpose S8x4x4352x128 [0, 2, 1, 3]
    (pad S8x4352x4x128 ![0, 0, 0, 0] ![0, 0, 0, 32] ![0, 0, 0, 0] x padding pads_S8x4352x4x96_S8x4352x4x128_000_000_000_0320 h_S_)
    transposes_S8x4352x4x128_S8x4x4352x128_0_2_1_3) bitsLt_bf16_f32

/-- The packed keys: the last 4096 before the first 256. -/
def packK (x : FVec Ideal S8x4352x4x96 .f32) : FVec Ideal S8x4x4352x128 .bf16 :=
  concatenate S8x4x4352x128 2
    [⟨S8x4x4096x128, extractStridedSlice S8x4x4096x128 ![0, 0, 256, 0] (padK x) slices_S8x4x4352x128_S8x4x4096x128_0_0_256_0⟩,
      ⟨S8x4x256x128, extractStridedSlice S8x4x256x128 ![0, 0, 0, 0] (padK x) slices_S8x4x4352x128_S8x4x256x128_0_0_0_0⟩]
    concatenates_S8x4x4096x128_S8x4x256x128_S8x4x4352x128_d2

/-- The values by pair of heads. -/
def sideV (x : FVec Ideal S8x4352x4x64 .f32) : FVec Ideal S8x2x4352x128 .bf16 :=
  truncf .bf16 (transpose S8x2x4352x128 [0, 2, 1, 3] (shapeCast S8x4352x2x128 x shapeCasts_S8x4352x4x64_S8x4352x2x128)
    transposes_S8x4352x2x128_S8x2x4352x128_0_2_1_3) bitsLt_bf16_f32

/-- The packed values: the last 4096 before the first 256. -/
def packV (x : FVec Ideal S8x4352x4x64 .f32) : FVec Ideal S8x2x4352x128 .bf16 :=
  concatenate S8x2x4352x128 2
    [⟨S8x2x4096x128, extractStridedSlice S8x2x4096x128 ![0, 0, 256, 0] (sideV x) slices_S8x2x4352x128_S8x2x4096x128_0_0_256_0⟩,
      ⟨S8x2x256x128, extractStridedSlice S8x2x256x128 ![0, 0, 0, 0] (sideV x) slices_S8x2x4352x128_S8x2x256x128_0_0_0_0⟩]
    concatenates_S8x2x4096x128_S8x2x256x128_S8x2x4352x128_d2

section Entry
variable (m : (ℓ : Loc nD τ sig) → Buf (Elt Ideal) ℓ)

/-- The queries that the call reads are the packed queries. -/
theorem entry_q (c : Dev nD) : V m c main_v7 = packQ (m ((c.tc : Thread nD τ).loc main_arg0)) := by
  unfold_abbrev_sides
  simp only [hostOps0, hostOps0_1, hostOps0_2, hostOps0_3, hostOps0_4, List.flatten_cons, List.flatten_nil, List.append_nil, List.cons_append,
    List.nil_append]
  after_results
  rfl

/-- The keys that the call reads are the packed keys. -/
theorem entry_k (c : Dev nD) : V m c main_v17 = packK (m ((c.tc : Thread nD τ).loc main_arg1)) := by
  unfold_abbrev_sides
  simp only [hostOps0, hostOps0_1, hostOps0_2, hostOps0_3, hostOps0_4, List.flatten_cons, List.flatten_nil, List.append_nil, List.cons_append,
    List.nil_append]
  after_results
  rfl

/-- The values that the call reads are the packed values. -/
theorem entry_v (c : Dev nD) : V m c main_v20 = packV (m ((c.tc : Thread nD τ).loc main_arg2)) := by
  unfold_abbrev_sides
  simp only [hostOps0, hostOps0_1, hostOps0_2, hostOps0_3, hostOps0_4, List.flatten_cons, List.flatten_nil, List.append_nil, List.cons_append,
    List.nil_append]
  after_results
  rfl

end Entry

/-- The padding is zero. -/
theorem padding_apply (i : S_.Idx) : padding i = 0 := by
  show (((0#32 : BitVec 32).toInt : ℝ) : EReal) = 0
  simp

/-- The packed queries at an index. -/
theorem packQ_apply (x : FVec Ideal S8x4096x4x96 .f32) (b : Fin 8) (h : Fin 4) (s : Fin 4096) (j : Fin 128) :
    packQ x (ix4 b h s j) = if hj : j.val < 96 then scaled x (ix4 b s h ⟨j.val, hj⟩) else 0 := by
  unfold packQ
  generalize scaled x = y
  have hz := padding_apply
  generalize padding = z at hz
  pointwise
  rw [hz]

/-- The padded keys at an index. -/
theorem padK_apply (x : FVec Ideal S8x4352x4x96 .f32) (b : Fin 8) (h : Fin 4) (k : Fin 4352) (j : Fin 128) :
    padK x (ix4 b h k j) = if hj : j.val < 96 then x (ix4 b k h ⟨j.val, hj⟩) else 0 := by
  unfold padK
  have hz := padding_apply
  generalize padding = z at hz
  pointwise
  rw [hz]

/-- The packed keys at an index: the key rotated back. -/
theorem packK_apply (x : FVec Ideal S8x4352x4x96 .f32) (b : Fin 8) (h : Fin 4) (k : Fin 4352) (j : Fin 128) :
    packK x (ix4 b h k j) = padK x (ix4 b h ⟨(k.val + 256) % 4352, by omega⟩ j) := by
  unfold packK
  generalize padK x = y
  pointwise
  by_cases hk : k.val < 4096
  · have e : (⟨256 + k.val, by omega⟩ : Fin 4352) = ⟨(k.val + 256) % 4352, by omega⟩ := Fin.ext (show 256 + k.val = (k.val + 256) % 4352 by omega)
    rw [dif_pos hk, e]
  · have e : (⟨k.val - 4096, by omega⟩ : Fin 4352) = ⟨(k.val + 256) % 4352, by omega⟩ := Fin.ext (show k.val - 4096 = (k.val + 256) % 4352 by omega)
    rw [dif_neg hk, e]

/-- The values by pair at an index. -/
theorem sideV_apply (x : FVec Ideal S8x4352x4x64 .f32) (b : Fin 8) (p : Fin 2) (k : Fin 4352) (l : Fin 128) :
    sideV x (ix4 b p k l) = x (ix4 b k ⟨2 * p.val + l.val / 64, by omega⟩ ⟨l.val % 64, by omega⟩) := by
  unfold sideV
  pointwise
  exact congrArg (fun h : Fin 4 => x (ix4 b k h ⟨l.val % 64, by omega⟩)) (Fin.ext (show p.val * 2 + l.val / 64 = 2 * p.val + l.val / 64 by omega))

/-- The packed values at an index: the key rotated back. -/
theorem packV_apply (x : FVec Ideal S8x4352x4x64 .f32) (b : Fin 8) (p : Fin 2) (k : Fin 4352) (l : Fin 128) :
    packV x (ix4 b p k l) = x (ix4 b ⟨(k.val + 256) % 4352, by omega⟩ ⟨2 * p.val + l.val / 64, by omega⟩ ⟨l.val % 64, by omega⟩) := by
  refine Eq.trans ?_ (sideV_apply x b p ⟨(k.val + 256) % 4352, by omega⟩ l)
  unfold packV
  generalize sideV x = y
  pointwise
  by_cases hk : k.val < 4096
  · have e : (⟨256 + k.val, by omega⟩ : Fin 4352) = ⟨(k.val + 256) % 4352, by omega⟩ := Fin.ext (show 256 + k.val = (k.val + 256) % 4352 by omega)
    rw [dif_pos hk, e]
  · have e : (⟨k.val - 4096, by omega⟩ : Fin 4352) = ⟨(k.val + 256) % 4352, by omega⟩ := Fin.ext (show k.val - 4096 = (k.val + 256) % 4352 by omega)
    rw [dif_neg hk, e]

end Cert.FlashB
-- ==== Proof.Flash.RefB.lean ====
/- What the reference of the second latent attention computes: at each index of its result, the softmax of that row's
   scores against the values of its head. -/
module

public import proofs.«01_k».proof.Proof.Gen.ReferenceBIdeal.Run
public import proofs.«01_k».proof.Proof.Gen.ReferenceBIdeal.Read
public import proofs.«01_k».proof.Proof.Flash.Row
public import Idealize.ShloMosaic.Lib.Pointwise
public import Idealize.ShloMosaic.Lib.KernelVsHost

@[expose] public section
set_option maxRecDepth 16384
noncomputable section
namespace Cert.FlashB.Ref

open Idealize.ShloMosaic Idealize.ShloMosaic.TcCoe
open Cert.ReferenceBIdeal Cert.ReferenceBIdeal.Gen Cert.ReferenceBIdeal.Read Cert.Flash

/-- The row maximum over the last axis of any array of scores. -/
theorem rowMax (y : FVec Ideal S8x4x1x4096x4352 .f32) (j : S8x4x1x4096.Idx) :
    Host.reduce (FloatOps.maximumf (F := Ideal) (φ := .f32)) y (val_main_cst_0 (F := Ideal)) reducesTo_S8x4x1x4096x4352_S8x4x1x4096_d4 h_S_ j
      = (Finset.univ : Finset (Fin 4352)).fold max (⊥ : EReal) fun k => y (idx_main_v14 j k) := by
  have h : S8x4x1x4096x4352.Reduces [4] S8x4x1x4096 := by decide
  show Host.reduce (max : EReal → EReal → EReal) y (val_main_cst_0 (F := Ideal)) reducesTo_S8x4x1x4096x4352_S8x4x1x4096_d4 h_S_ j = _
  rw [Host.reduce_eq_fold_single (max : EReal → EReal → EReal) y _ _ h]
  refine congrArg₂ (fun b f => Finset.fold max b f (Finset.univ : Finset (Fin 4352))) bits_neg_inf (funext fun k => congrArg y (funext fun a => Fin.ext ?_))
  match a with | ⟨0, _⟩ => rfl | ⟨1, _⟩ => rfl | ⟨2, _⟩ => rfl | ⟨3, _⟩ => rfl | ⟨4, _⟩ => rfl

/-- The scores of one row. -/
def rowScore (x0 : FVec Ideal S8x4096x4x96 .f32) (x1 : FVec Ideal S8x4352x4x96 .f32) (b : Fin 8) (s : Fin 4096) (g : Fin 4) (p : Fin 1)
    (k : Fin 4352) : EReal :=
  (∑ d : Fin 96, x0 (ix4 b s g d) * x1 (ix4 b k g d)) * Ideal.ofBits .f32 0x3DD105EC#32

/-- An array reshaped to groups of one query head reads that head. -/
theorem head_index (x0 : FVec Ideal S8x4096x4x96 .f32) (b : Fin 8) (s : Fin 4096) (g : Fin 4) (p : Fin 1) (d : Fin 96) :
    val_main_v1 (F := Ideal) x0 (ix5 b g p s d) = x0 (ix4 b s g d) := by
  rw [val_main_v1_apply, val_main_v0_apply]
  refine congrArg x0 (funext fun a => Fin.ext ?_)
  match a with
  | ⟨0, _⟩ => show ((((b.val * 4096 + s.val) * 4 + g.val) * 1 + p.val) * 96 + d.val) / 1572864 = b.val; omega
  | ⟨1, _⟩ => show ((((b.val * 4096 + s.val) * 4 + g.val) * 1 + p.val) * 96 + d.val) / 384 % 4096 = s.val; omega
  | ⟨2, _⟩ => show ((((b.val * 4096 + s.val) * 4 + g.val) * 1 + p.val) * 96 + d.val) / 96 % 4 = g.val; omega
  | ⟨3, _⟩ => show ((((b.val * 4096 + s.val) * 4 + g.val) * 1 + p.val) * 96 + d.val) % 96 = d.val; omega

/-- The scaled scores at an index. -/
theorem score_apply (x0 : FVec Ideal S8x4096x4x96 .f32) (x1 : FVec Ideal S8x4352x4x96 .f32) (b : Fin 8) (s : Fin 4096) (g : Fin 4) (p : Fin 1)
    (k : Fin 4352) : val_main_v6 (F := Ideal) x0 x1 (ix5 b g p s k) = rowScore x0 x1 b s g p k := by
  rw [val_main_v6_apply, val_main_v4_apply, val_main_v5_apply]
  refine congrArg₂ (fun x y : EReal => x * y) (Finset.sum_congr rfl fun d _ => congrArg₂ (fun x y : EReal => x * y) ?_ ?_) rfl
  · refine Eq.trans (congrArg (val_main_v1 (F := Ideal) x0) (funext fun a => ?_)) (head_index x0 b s g p d)
    match a with | ⟨0, _⟩ => rfl | ⟨1, _⟩ => rfl | ⟨2, _⟩ => rfl | ⟨3, _⟩ => rfl | ⟨4, _⟩ => rfl
  · rw [val_main_v2_apply]
    refine congrArg x1 (funext fun a => ?_)
    match a with | ⟨0, _⟩ => rfl | ⟨1, _⟩ => rfl | ⟨2, _⟩ => rfl | ⟨3, _⟩ => rfl

/-- The scores' exponentials, less the row's maximum, at an index. -/
theorem exp_apply (x0 : FVec Ideal S8x4096x4x96 .f32) (x1 : FVec Ideal S8x4352x4x96 .f32) (b : Fin 8) (s : Fin 4096) (g : Fin 4) (p : Fin 1)
    (k : Fin 4352) :
    val_main_v13 (F := Ideal) x0 x1 (ix5 b g p s k)
      = Ideal.exp (rowScore x0 x1 b s g p k
          - max ⊥ ((Finset.univ : Finset (Fin 4352)).fold max ⊥ (rowScore x0 x1 b s g p))) := by
  rw [val_main_v13_apply, val_main_v12_apply, score_apply, val_main_v11_apply, val_main_v10_apply, val_main_v9_apply, val_main_v8_apply]
  have hm : val_main_v7 (F := Ideal) x0 x1 (idx_main_v10 (idx_main_v11 (ix5 b g p s k)))
      = (Finset.univ : Finset (Fin 4352)).fold max ⊥ (rowScore x0 x1 b s g p) := by
    unfold val_main_v7
    rw [rowMax]
    refine congrArg (fun f => Finset.fold max ⊥ f (Finset.univ : Finset (Fin 4352))) (funext fun k' => Eq.trans (congrArg _ (funext fun a => ?_)) (score_apply x0 x1 b s g p k'))
    match a with | ⟨0, _⟩ => rfl | ⟨1, _⟩ => rfl | ⟨2, _⟩ => exact Subsingleton.elim (α := Fin 1) _ _ | ⟨3, _⟩ => rfl | ⟨4, _⟩ => rfl
  rw [hm]
  generalize rowScore x0 x1 b s g p = z
  exact congrArg (fun t : EReal => Ideal.exp (z k - max t _)) bits_neg_inf

/-- The weighted sum of values at an index: the softmax of the row. -/
theorem soft_apply (x0 : FVec Ideal S8x4096x4x96 .f32) (x1 : FVec Ideal S8x4352x4x96 .f32) (x2 : FVec Ideal S8x4352x4x64 .f32) (b : Fin 8) (s : Fin 4096) (g : Fin 4) (p : Fin 1)
    (d : Fin 64) :
    val_main_v18 (F := Ideal) x0 x1 x2 (ix5 b g p s d)
      = softVal (rowScore x0 x1 b s g p) (fun k => x2 (ix4 b k g d)) := by
  rw [val_main_v18_apply]
  unfold softVal
  refine Finset.sum_congr rfl fun k _ => congrArg₂ (fun x y : EReal => x * y) ?_ ?_
  · have hi : lidx_main_v18 (ix5 b g p s d) k = ix5 b g p s k := funext fun a => by
      match a with | ⟨0, _⟩ => rfl | ⟨1, _⟩ => rfl | ⟨2, _⟩ => rfl | ⟨3, _⟩ => rfl | ⟨4, _⟩ => rfl
    rw [hi, val_main_v17_apply, exp_apply, val_main_v16_apply, val_main_v15_apply, val_main_v14_apply]
    have hs : ∀ k' : Fin 4352, val_main_v13 (F := Ideal) x0 x1 (idx_main_v14 (idx_main_v15 (idx_main_v16 (ix5 b g p s k))) k')
        = Ideal.exp (rowScore x0 x1 b s g p k'
          - max ⊥ ((Finset.univ : Finset (Fin 4352)).fold max ⊥ (rowScore x0 x1 b s g p))) := fun k' => by
      refine Eq.trans (congrArg _ (funext fun a => ?_)) (exp_apply x0 x1 b s g p k')
      match a with | ⟨0, _⟩ => rfl | ⟨1, _⟩ => rfl | ⟨2, _⟩ => exact Subsingleton.elim (α := Fin 1) _ _ | ⟨3, _⟩ => rfl | ⟨4, _⟩ => rfl
    rw [Finset.sum_congr rfl fun k' _ => hs k']
    generalize rowScore x0 x1 b s g p = z
    exact congrArg (fun t : EReal => Ideal.div _ (t + _)) Ideal.ofBits_zero_f32
  · rw [val_main_v3_apply]
    refine congrArg x2 (funext fun a => ?_)
    match a with | ⟨0, _⟩ => rfl | ⟨1, _⟩ => rfl | ⟨2, _⟩ => rfl | ⟨3, _⟩ => rfl

/-- The reference's result before the last reshape, at an index. -/
theorem result_apply (x0 : FVec Ideal S8x4096x4x96 .f32) (x1 : FVec Ideal S8x4352x4x96 .f32) (x2 : FVec Ideal S8x4352x4x64 .f32) (b : Fin 8) (s : Fin 4096) (g : Fin 4) (p : Fin 1)
    (d : Fin 64) :
    val_main_v19 (F := Ideal) x0 x1 x2 (ix5 b s g p d)
      = softVal (rowScore x0 x1 b s g p) (fun k => x2 (ix4 b k g d)) := by
  rw [val_main_v19_apply]
  refine Eq.trans (congrArg _ (funext fun a => ?_)) (soft_apply x0 x1 x2 b s g p d)
  match a with | ⟨0, _⟩ => rfl | ⟨1, _⟩ => rfl | ⟨2, _⟩ => rfl | ⟨3, _⟩ => rfl | ⟨4, _⟩ => rfl

end Cert.FlashB.Ref
end
-- ==== Proof.Flash.EqB.lean ====
/- The equation of the second latent attention: with finite queries and keys the kernel's result is the reference's. -/
module

public import proofs.«01_k».proof.Defs
public import proofs.«01_k».proof.Proof.Flash.FinalB
public import proofs.«01_k».proof.Proof.Flash.EntryB
public import proofs.«01_k».proof.Proof.Flash.RefB
public import proofs.«01_k».proof.Proof.Flash.Row
public import proofs.«01_k».proof.Proof.Gen.KernelBIdeal.Read
public import proofs.«01_k».proof.Proof.Gen.Pre_finite_qk_b

@[expose] public section
set_option maxRecDepth 16384
noncomputable section
namespace Cert.FlashB

open Idealize.ShloMosaic Idealize.ShloMosaic.TcCoe
open Cert.KernelBIdeal Cert.KernelBIdeal.Gen Cert.Flash

/-- The scaled queries, the scale written out. -/
theorem scaled_real (x : FVec Ideal S8x4096x4x96 .f32) (i : S8x4096x4x96.Idx) :
    scaled x i = Ideal.div (x i * Ideal.ofBits .f32 0x3DD105EC#32) (Ideal.log ((2 : ℝ) : EReal)) := by
  rw [← bits_two]
  rfl

/-- A packed query row against a packed key row is the scaled score of the head, at the key rotated back. -/
theorem packed_dot (x : FVec Ideal S8x4096x4x96 .f32) (y : FVec Ideal S8x4352x4x96 .f32) (b : Fin 8) (s : Fin 4096)
    (h : Fin 4) (k : Fin 4352) :
    ∑ j : Fin 128, packQ x (ix4 b h s j) * packK y (ix4 b h k j)
      = ∑ d : Fin 96, scaled x (ix4 b s h d) * y (ix4 b ⟨(k.val + 256) % 4352, by omega⟩ h d) := by
  rw [sum_first _ fun j hj => by
    rw [packQ_apply, dif_neg (by omega), zero_mul]]
  refine Finset.sum_congr rfl fun d _ => congrArg₂ (fun u v : EReal => u * v) ?_ ?_
  · rw [packQ_apply, dif_pos (show (⟨d.val, by omega⟩ : Fin 128).val < 96 from d.isLt)]
  · rw [packK_apply, padK_apply, dif_pos (show (⟨d.val, by omega⟩ : Fin 128).val < 96 from d.isLt)]

/-- One element of the packed result is the reference's softmax of its row. -/
theorem packed_eq (x : FVec Ideal S8x4096x4x96 .f32) (y : FVec Ideal S8x4352x4x96 .f32) (w : FVec Ideal S8x4352x4x64 .f32)
    (hx : ∀ i, ∃ r : ℝ, x i = (r : EReal)) (hy : ∀ i, ∃ r : ℝ, y i = (r : EReal))
    (b : Fin 8) (s : Fin 4096) (p : Fin 2) (l : Fin 128) (h : Fin 4) (z : Fin 1) (d : Fin 64) (hh : h.val = 2 * p.val + l.val / 64)
    (hd : d.val = l.val % 64) :
    packedOut (packQ x) (packK y) (packV w) (ix4 b p s l)
      = softVal (Ref.rowScore x y b s h z) (fun k => w (ix4 b k h d)) := by
  choose xr hxr using hx
  choose yr hyr using hy
  obtain ⟨a, ha⟩ := bits_scale
  have hp : packed p l = h := Fin.ext (by
    show 2 * p.val + (if l.val < 64 then 0 else 1) = _
    split <;> omega)
  have hrot : ∀ k : Fin 4352, (⟨((rotate k).val + 256) % 4352, by omega⟩ : Fin 4352) = k := rotate.left_inv
  refine rowVal_eq _ _ _ _ _
    (fun k => (∑ e : Fin 96, xr (ix4 b s h e) * yr (ix4 b ⟨(k.val + 256) % 4352, by omega⟩ h e)) * a / Real.log 2)
    (fun k => ?_) (fun k => ?_) (fun k => ?_)
  · show ∑ j : Fin 128, packQ x (ix4 b (packed p l) s j) * packK y (ix4 b (packed p l) k j) = _
    rw [hp]
    refine (packed_dot x y b s h k).trans ?_
    rw [← score_two]
    exact Finset.sum_congr rfl fun e _ => by rw [scaled_real, hxr, hyr, ha]
  · rw [hrot k, ← score_e]
    unfold Ref.rowScore
    simp only [hxr, hyr, ha]
  · show w (ix4 b k h d) = packV w (ix4 b p (rotate k) l)
    have e₁ : (⟨2 * p.val + l.val / 64, by omega⟩ : Fin 4) = h := Fin.ext hh.symm
    have e₂ : (⟨l.val % 64, by omega⟩ : Fin 64) = d := Fin.ext hd.symm
    rw [packV_apply, hrot k, e₁, e₂]

/-- The kernel's result is the reference's, of finite queries and keys and any values. -/
theorem result_eq (x : FVec Ideal S8x4096x4x96 .f32) (y : FVec Ideal S8x4352x4x96 .f32) (w : FVec Ideal S8x4352x4x64 .f32)
    (hx : ∀ i, ∃ r : ℝ, x i = (r : EReal)) (hy : ∀ i, ∃ r : ℝ, y i = (r : EReal)) :
    Read.val_main_v23 (F := Ideal) (packedOut (packQ x) (packK y) (packV w))
      = Cert.ReferenceBIdeal.Read.val_main_v21 (F := Ideal) x y w := by
  funext i
  rw [Read.val_main_v23_apply, Read.val_main_v22_apply]
  generalize hj : Cert.ReferenceBIdeal.Read.idx_main_v20 i = j
  refine Eq.trans ?_ (show Cert.ReferenceBIdeal.Read.val_main_v19 (F := Ideal) x y w j = Cert.ReferenceBIdeal.Read.val_main_v21 (F := Ideal) x y w i from ?_)
  · have hi : j = ix5 (j 0) (j 1) (j 2) (j 3) (j 4) := funext fun a => by
      match a with | ⟨0, _⟩ => rfl | ⟨1, _⟩ => rfl | ⟨2, _⟩ => rfl | ⟨3, _⟩ => rfl | ⟨4, _⟩ => rfl
    have h0 : (i 0).val < 8 := (i 0).isLt
    have h1 : (i 1).val < 4096 := (i 1).isLt
    have h2 : (i 2).val < 256 := (i 2).isLt
    have hk : Read.idx_main_v22 (Read.idx_main_v23 i)
        = ix4 (j 0) ⟨(i 2).val / 128, by omega⟩ (j 1) ⟨(i 2).val % 128, by omega⟩ := by
      subst hj
      refine funext fun a => Fin.ext ?_
      match a with
      | ⟨0, _⟩ => rfl
      | ⟨1, _⟩ => show (((i 0).val * 4096 + (i 1).val) * 256 + (i 2).val) / 128 % 2 = (i 2).val / 128; omega
      | ⟨2, _⟩ => rfl
      | ⟨3, _⟩ => show (((i 0).val * 4096 + (i 1).val) * 256 + (i 2).val) % 128 = (i 2).val % 128; omega
    have hh : (j 2).val = 2 * ((i 2).val / 128) + (i 2).val % 128 / 64 := by
      subst hj
      show (((i 0).val * 4096 + (i 1).val) * 256 + (i 2).val) / 64 % 4 = _
      omega
    have hd : (j 4).val = (i 2).val % 128 % 64 := by
      subst hj
      show (((i 0).val * 4096 + (i 1).val) * 256 + (i 2).val) % 64 = _
      omega
    rw [hi]
    exact (congrArg _ hk).trans
      ((packed_eq x y w hx hy (j 0) (j 1) _ _ (j 2) (j 3) (j 4) hh hd).trans (Ref.result_apply x y w (j 0) (j 1) (j 2) (j 3) (j 4)).symm)
  · rw [Cert.ReferenceBIdeal.Read.val_main_v21_apply, Cert.ReferenceBIdeal.Read.val_main_v20_apply, ← hj]
    rfl

/-- The precondition says that queries and keys are finite. -/
theorem finite (m : (ℓ : Loc nD τ sig) → Buf (Elt Ideal) ℓ) (h : Cert.Pre_KernelBIdeal_finite_qk_b m) (c : Dev nD) :
    (∀ i, ∃ r : ℝ, (m ((c.tc : Thread nD τ).loc main_arg0) : FVec Ideal S8x4096x4x96 .f32) i = (r : EReal))
      ∧ ∀ i, ∃ r : ℝ, (m ((c.tc : Thread nD τ).loc main_arg1) : FVec Ideal S8x4352x4x96 .f32) i = (r : EReal) :=
  ⟨fun i => real_of_lt _ (congrFun (h c).1 i), fun i => real_of_lt _ (congrFun (h c).2 i)⟩

end Cert.FlashB

end
-- ==== Proof.Flash.ClaimB.lean ====
/- The value claim of the second latent attention. -/
module

public import proofs.«01_k».proof.Proof.Flash.EqB

@[expose] public section
set_option maxRecDepth 16384
noncomputable section
namespace Cert.FlashB

open Idealize.ShloMosaic Idealize.ShloMosaic.TcCoe Idealize.SL.Sem
open Cert.KernelBIdeal Cert.KernelBIdeal.Gen Cert.Flash

/-- The region's output array, from the arguments. -/
theorem region (m : (ℓ : Loc nD τ sig) → Buf (Elt Ideal) ℓ) (c : Dev nD) :
    Value.reg_main_v21 (F := Ideal) m c = packedOut (packQ (m ((c.tc : Thread nD τ).loc main_arg0)))
      (packK (m ((c.tc : Thread nD τ).loc main_arg1))) (packV (m ((c.tc : Thread nD τ).loc main_arg2))) :=
  (final_out m c).trans (by
    have h₁ := entry_q m c
    have h₂ := entry_k m c
    have h₃ := entry_v m c
    revert h₁ h₂ h₃
    generalize packQ (m ((c.tc : Thread nD τ).loc main_arg0)) = a
    generalize packK (m ((c.tc : Thread nD τ).loc main_arg1)) = b
    generalize packV (m ((c.tc : Thread nD τ).loc main_arg2)) = d
    intro h₁ h₂ h₃
    subst h₁ h₂ h₃
    rfl)

/-- Kernel and reference compute the same array. -/
theorem value : Cert.algebraic_KernelBIdeal_ReferenceBIdeal_pre_finite_qk_b := by
  intro m g m' g' hpre hargs
  refine ⟨fun c => Cert.ReferenceBIdeal.Read.val_main_v21 (F := Ideal) (m ((c.tc : Thread nD τ).loc main_arg0))
      (m ((c.tc : Thread nD τ).loc main_arg1)) (m ((c.tc : Thread nD τ).loc main_arg2)), ?_, ?_⟩
  · refine (θ_run _ _ _).mono (fun _ h c => ⟨(h c).1.trans ?_, (h c).2⟩) (Value.run (F := Ideal) m g)
    refine Eq.trans ?_ (result_eq _ _ _ (finite m hpre c).1 (finite m hpre c).2)
    exact congrArg (Read.val_main_v23 (F := Ideal)) (region m c)
  · refine (θ_run _ _ _).mono (fun _ h c => ⟨(h c).1.trans ?_, (h c).2⟩) (Cert.ReferenceBIdeal.Value.run (F := Ideal) m' g')
    have h₀ := (hargs c).1
    have h₁ := (hargs c).2.1
    have h₂ := (hargs c).2.2
    refine (Cert.ReferenceBIdeal.Read.val_main_v21_eq (F := Ideal) _ _ _).trans ?_
    rw [h₀, h₁, h₂]

end Cert.FlashB

end
-- ==== Proof.Experts.Geom.lean ====
module

public import proofs.«01_k».proof.Proof.Gen.KernelEIdeal.Launch
public import proofs.«01_k».proof.Proof.Gen.KernelEIdeal.Skeleton
public import Idealize.ShloMosaic.Lib.Pointwise
public import Idealize.ShloMosaic.Lib.Batch
public import Idealize.ShloMosaic.Lib.Ring
public import Idealize.ShloMosaic.Lib.Tactic

@[expose] public section

noncomputable section

namespace Cert.Proof.Experts

open Idealize.ShloMosaic Idealize.ShloMosaic.TcCoe
open Cert.KernelEIdeal Cert.KernelEIdeal.Gen

/-- Row `off2 0` of slot `off 0` of the row buffer, as the copies name it. -/
abbrev rowM (off : Fin 3 → Nat) (inb : ∀ a, off a + S1x512x1024.size a ≤ S2x512x1024.size a) (off2 : Fin 2 → Nat)
    (inb2 : ∀ a, off2 a + S1x1024.size a ≤ S512x1024.size a) : Memref sig .tc .vmem S1x1024 .f32 :=
  (((Memref.whole cc0_scratch1).slice (Rect.unit (s := S2x512x1024) off S1x512x1024.size inb) (fun _ => rfl)).squeeze S512x1024
    squeezes_S1x512x1024_S512x1024).slice (Rect.unit (s := S512x1024) off2 S1x1024.size inb2) (fun _ => rfl)

/-- Where an element of that row lies in the buffer. -/
theorem row_emb (off : Fin 3 → Nat) (inb : ∀ a, off a + S1x512x1024.size a ≤ S2x512x1024.size a) (off2 : Fin 2 → Nat)
    (inb2 : ∀ a, off2 a + S1x1024.size a ≤ S512x1024.size a) (j : S1x1024.Idx) :
    (((rowM off inb off2 inb2).view.emb j : S2x512x1024.Idx) 0 : ℕ) = off 0
      ∧ (((rowM off inb off2 inb2).view.emb j : S2x512x1024.Idx) 1 : ℕ) = off 1 + off2 0
      ∧ (((rowM off inb off2 inb2).view.emb j : S2x512x1024.Idx) 2 : ℕ) = off 2 + (off2 1 + (j 1).val) := by
  have h0 : (j 0).val = 0 := by have : (j 0).val < 1 := (j 0).isLt; omega
  have e : ((rowM off inb off2 inb2).view.emb j : S2x512x1024.Idx)
      = (Rect.unit (s := S2x512x1024) off S1x512x1024.size inb).emb
          (Shape.reshapeEquiv (s := S1x512x1024) (s' := S512x1024) squeezes_S1x512x1024_S512x1024.numel_eq
            ((Rect.unit (s := S512x1024) off2 S1x1024.size inb2).emb j)) := rfl
  rw [e]
  erw [Shape.reshapeEquiv_cons_one]
  refine ⟨?_, ?_, ?_⟩
  · show off 0 + 1 * 0 = off 0; omega
  · show off 1 + 1 * (off2 0 + 1 * (j 0).val) = off 1 + off2 0; omega
  · show off 2 + 1 * (off2 1 + 1 * (j 1).val) = _; omega

/-- The column `b` of a one-row array's row `a`. -/
def idx2 (a b : ℕ) (ha : a < 1) (hb : b < 1024) : S1x1024.Idx :=
  fun x => match x with | ⟨0, _⟩ => ⟨a, ha⟩ | ⟨1, _⟩ => ⟨b, hb⟩

/-- The elements of row `k` of slot `s`. -/
def rset (s k : ℕ) : Finset S2x512x1024.Idx := Finset.univ.filter fun y => (y 0).val = s ∧ (y 1).val = k

/-- An index lies in row `k` of buffer `s` when its first two coordinates say so. -/
theorem mem_rset (s k : ℕ) (y : S2x512x1024.Idx) : y ∈ rset s k ↔ (y 0).val = s ∧ (y 1).val = k := by
  simp [rset]

/-- They are what the copy's destination addresses. -/
theorem row_set (off : Fin 3 → Nat) (inb : ∀ a, off a + S1x512x1024.size a ≤ S2x512x1024.size a) (off2 : Fin 2 → Nat)
    (inb2 : ∀ a, off2 a + S1x1024.size a ≤ S512x1024.size a) (s k : ℕ) (h0 : off 0 = s) (h1 : off 1 = 0) (h2 : off 2 = 0)
    (h3 : off2 0 = k) (h4 : off2 1 = 0) :
    ((rowM off inb off2 inb2).view.set : Finset S2x512x1024.Idx) = rset s k := by
  ext y
  rw [mem_rset]
  constructor
  · intro hy
    obtain ⟨j, -, rfl⟩ := Finset.mem_map.mp hy
    obtain ⟨a, b, -⟩ := row_emb off inb off2 inb2 j
    exact ⟨a.trans h0, b.trans (by omega)⟩
  · rintro ⟨a, b⟩
    refine Finset.mem_map.mpr ⟨idx2 0 (y 2).val (by decide) (y 2).isLt, Finset.mem_univ _, ?_⟩
    obtain ⟨a', b', c'⟩ := row_emb off inb off2 inb2 (idx2 0 (y 2).val (by decide) (y 2).isLt)
    funext x
    refine Fin.ext ?_
    match x with
    | ⟨0, _⟩ => exact a'.trans (h0.trans a.symm)
    | ⟨1, _⟩ => exact b'.trans (show off 1 + off2 0 = (y 1).val by rw [h1, h3, b]; exact Nat.zero_add k)
    | ⟨2, _⟩ =>
      exact c'.trans (show off 2 + (off2 1 + (y 2).val) = (y 2).val by rw [h2, h4]; exact (Nat.zero_add _).trans (Nat.zero_add _))

/-- The array row the copy reads. -/
abbrev hfM (off : Fin 2 → Nat) (inb : ∀ a, off a + S1x1024.size a ≤ S32768x1024.size a) : Memref sig .tc .hbm S1x1024 .f32 :=
  (Memref.whole main_arg3).slice (Rect.unit (s := S32768x1024) off S1x1024.size inb) (fun _ => rfl)

/-- What the copy leaves at an element of its destination row: the source row's element in the same column. -/
theorem row_write {Val : EltTy → Type} (off : Fin 3 → Nat) (inb : ∀ a, off a + S1x512x1024.size a ≤ S2x512x1024.size a) (off2 : Fin 2 → Nat)
    (inb2 : ∀ a, off2 a + S1x1024.size a ≤ S512x1024.size a) (offs : Fin 2 → Nat) (inbs : ∀ a, offs a + S1x1024.size a ≤ S32768x1024.size a)
    (h2 : off 2 = 0) (h4 : off2 1 = 0) (h6 : offs 1 = 0)
    (fd : S2x512x1024.Idx → Val .f32) (fs : S32768x1024.Idx → Val .f32) (y : S2x512x1024.Idx) (hy : y ∈ (rowM off inb off2 inb2).view.set)
    (z : S32768x1024.Idx) (hz0 : (z 0).val = offs 0) (hz1 : (z 1).val = (y 2).val) :
    (rowM off inb off2 inb2).view.write Val fd ((hfM offs inbs).view.read Val fs) Finset.univ y = fs z := by
  obtain ⟨j, -, rfl⟩ := Finset.mem_map.mp hy
  obtain ⟨-, -, c'⟩ := row_emb off inb off2 inb2 j
  have h0 : (j 0).val = 0 := by have : (j 0).val < 1 := (j 0).isLt; omega
  have hw := View.write_emb_of_mem (Val := Val) (v := (rowM off inb off2 inb2).view) (f := fd)
    (w := (hfM offs inbs).view.read Val fs) (Finset.mem_univ j)
  refine hw.trans ?_
  refine congrArg fs (funext fun x => Fin.ext ?_)
  match x with
  | ⟨0, _⟩ => show offs 0 + 1 * (j 0).val = (z 0).val; omega
  | ⟨1, _⟩ =>
    show offs 1 + 1 * (j 1).val = (z 1).val
    rw [hz1]; refine Eq.trans ?_ c'.symm; omega

end Cert.Proof.Experts
-- ==== Proof.Experts.Offs.lean ====
module

public import proofs.«01_k».proof.Proof.Experts.Geom

@[expose] public section

noncomputable section

namespace Cert.Proof.Experts

open Idealize.ShloMosaic Idealize.ShloMosaic.TcCoe
open Cert.KernelEIdeal Cert.KernelEIdeal.Gen

/-- The remainder by two, as the kernel computes it. -/
def par (v : BitVec 32) : BitVec 32 :=
  Scalar.select (Scalar.andi (Scalar.xori (Scalar.cmpi .slt (Scalar.remsi v (Scalar.select (Scalar.cmpi .eq (2#32 : BitVec 32) 0#32) 1#32 2#32)) 0#32)
      (Scalar.cmpi .slt (Scalar.select (Scalar.cmpi .eq (2#32 : BitVec 32) 0#32) (1#32 : BitVec 32) 2#32) 0#32))
      (Scalar.cmpi .ne (Scalar.remsi v (Scalar.select (Scalar.cmpi .eq (2#32 : BitVec 32) 0#32) 1#32 2#32)) 0#32))
    (Scalar.addi (Scalar.remsi v (Scalar.select (Scalar.cmpi .eq (2#32 : BitVec 32) 0#32) 1#32 2#32)) (Scalar.select (Scalar.cmpi .eq (2#32 : BitVec 32) 0#32) 1#32 2#32))
    (Scalar.remsi v (Scalar.select (Scalar.cmpi .eq (2#32 : BitVec 32) 0#32) 1#32 2#32))

/-- The next tile, at most the last, as the kernel computes it. -/
def nxt (n : ℕ) : BitVec 32 := Scalar.minsi (Scalar.addi (BitVec.ofNat 32 n) 1#32) 135#32

/-- The next tile's number, held at the last tile. -/
theorem nxt_fact : ∀ n : Fin 136, (nxt n.val).toNat = min (n.val + 1) 135 := by decide +kernel
/-- The buffer of a tile is its number modulo two. -/
theorem par_fact : ∀ n : Fin 136, (par (BitVec.ofNat 32 n.val)).toNat = n.val % 2 := by decide +kernel
/-- The buffer of the next tile. -/
theorem par_nxt_fact : ∀ n : Fin 136, (par (nxt n.val)).toNat = (min (n.val + 1) 135) % 2 := by decide +kernel
/-- A tile's number, read back from its word. -/
theorem nat_fact : ∀ n : Fin 136, (BitVec.ofNat 32 n.val).toNat = n.val := by decide +kernel

/-- The tile of a grid point. -/
abbrev tile (i : grid0.Coords) : Fin 136 := ⟨(i 0).val, (i 0).isLt⟩

/-- The next tile's entry, as an offset. -/
theorem off2_eq (i : grid0.Coords) : k0_off2 i = ![min ((i 0).val + 1) 135] := congrArg (fun x => ![x]) (nxt_fact (tile i))
/-- The next tile's row of the table of tokens, as an offset. -/
theorem off6_eq (i : grid0.Coords) : k0_off6 i = ![min ((i 0).val + 1) 135, 0] := congrArg (fun x => ![x, 0]) (nxt_fact (tile i))
/-- The next tile's row of the table of tokens, in the loop of copies, as an offset. -/
theorem off12_eq (i : grid0.Coords) : k0_off12 i = ![min ((i 0).val + 1) 135, 0] := congrArg (fun x => ![x, 0]) (nxt_fact (tile i))
/-- The tile's entry, as an offset. -/
theorem off7_eq (i : grid0.Coords) : k0_off7 i = ![(i 0).val] := congrArg (fun x => ![x]) (nat_fact (tile i))
/-- The tile's entry, as an offset. -/
theorem off18_eq (i : grid0.Coords) : k0_off18 i = ![(i 0).val] := congrArg (fun x => ![x]) (nat_fact (tile i))
/-- The tile's entry, as an offset. -/
theorem off1_eq (i : grid0.Coords) : k0_off1 i = ![(i 0).val] := congrArg (fun x => ![x]) (nat_fact (tile i))
/-- The counter of the tile's buffer, as an offset. -/
theorem off8_eq (i : grid0.Coords) : k0_off8 i = ![(i 0).val % 2] := congrArg (fun x => ![x]) (par_fact (tile i))
/-- The tile's buffer, as an offset. -/
theorem off9_eq (i : grid0.Coords) : k0_off9 i = ![(i 0).val % 2, 0, 0] := congrArg (fun x => ![x, 0, 0]) (par_fact (tile i))
/-- The tile's buffer, as an offset. -/
theorem off11_eq (i : grid0.Coords) : k0_off11 i = ![(i 0).val % 2, 0, 0] := congrArg (fun x => ![x, 0, 0]) (par_fact (tile i))
/-- The counter of the next tile's buffer, as an offset. -/
theorem off14_eq (i : grid0.Coords) : k0_off14 i = ![(min ((i 0).val + 1) 135) % 2] := congrArg (fun x => ![x]) (par_nxt_fact (tile i))
/-- The next tile's buffer, as an offset. -/
theorem off15_eq (i : grid0.Coords) : k0_off15 i = ![(min ((i 0).val + 1) 135) % 2, 0, 0] := congrArg (fun x => ![x, 0, 0]) (par_nxt_fact (tile i))

/-- The first tile's loop of copies goes round 512 times. -/
theorem trips1 : k0_t1_loop.trips = 512 := by decide +kernel
/-- The loop of waits goes round 512 times. -/
theorem trips2 : k0_t2_loop.trips = 512 := by decide +kernel
/-- The next tile's loop of copies goes round 512 times. -/
theorem trips3 : k0_t3_loop.trips = 512 := by decide +kernel

/-- The loop variable of a trip is the trip's number. -/
theorem iv_fact : ∀ n : Fin 512, (Scf.iv (0#32 : BitVec 32) 1#32 n.val).toNat = n.val := by decide +kernel

/-- The trip's token, as an offset. -/
theorem off3_eq (k : Fin k0_t1_loop.trips) : k0_off3 k = ![k.val] := congrArg (fun x => ![x]) (iv_fact ⟨k.val, trips1 ▸ k.isLt⟩)
/-- The trip's row of a buffer, as an offset. -/
theorem off4_eq (k : Fin k0_t1_loop.trips) : k0_off4 k = ![k.val, 0] := congrArg (fun x => ![x, 0]) (iv_fact ⟨k.val, trips1 ▸ k.isLt⟩)
/-- The trip's row of a buffer, as an offset. -/
theorem off10_eq (k : Fin k0_t2_loop.trips) : k0_off10 k = ![k.val, 0] := congrArg (fun x => ![x, 0]) (iv_fact ⟨k.val, trips2 ▸ k.isLt⟩)
/-- The trip's token, as an offset. -/
theorem off13_eq (k : Fin k0_t3_loop.trips) : k0_off13 k = ![k.val] := congrArg (fun x => ![x]) (iv_fact ⟨k.val, trips3 ▸ k.isLt⟩)
/-- The trip's row of a buffer, as an offset. -/
theorem off16_eq (k : Fin k0_t3_loop.trips) : k0_off16 k = ![k.val, 0] := congrArg (fun x => ![x, 0]) (iv_fact ⟨k.val, trips3 ▸ k.isLt⟩)

/-- The first point's condition, from the numbers of tile and half. -/
theorem cond1_fact : ∀ (n : Fin 136) (f : Fin 2),
    (Scalar.cmpi .ne (Scalar.extui (Scalar.andi (Scalar.cmpi .eq (BitVec.ofNat 32 f.val) 0#32) (Scalar.cmpi .eq (BitVec.ofNat 32 n.val) 0#32)) : BitVec 32) 0#32 : BitVec 1) = 1#1
      ↔ f.val = 0 ∧ n.val = 0 := by decide +kernel

/-- The last half's condition, from the number of the half. -/
theorem cond7_fact : ∀ f : Fin 2,
    (Scalar.cmpi .ne (Scalar.extui (Scalar.cmpi .eq (BitVec.ofNat 32 f.val) 1#32 : BitVec 1) : BitVec 32) 0#32 : BitVec 1) = 1#1 ↔ f.val = 1 := by decide +kernel

/-- The first tile's copies are issued at the first grid point. -/
theorem cond1_iff (i : grid0.Coords) : k0_cond1 i = 1#1 ↔ (i 1).val = 0 ∧ (i 0).val = 0 := cond1_fact (tile i) ⟨(i 1).val, (i 1).isLt⟩
/-- The result is written at the second half. -/
theorem cond7_iff (i : grid0.Coords) : k0_cond7 i = 1#1 ↔ (i 1).val = 1 := cond7_fact ⟨(i 1).val, (i 1).isLt⟩

/-- A word's positivity, as the kernel tests it. -/
def pos (v : BitVec 32) : BitVec 1 := Scalar.cmpi .sgt v 0#32

/-- Whether the next tile's rows are to be fetched. -/
def pfc (n f : ℕ) (v : BitVec 32) : BitVec 1 :=
  Scalar.andi (Scalar.andi (Scalar.cmpi .eq (BitVec.ofNat 32 f) 0#32) (Scalar.cmpi .slt (Scalar.addi (BitVec.ofNat 32 n) 1#32) 136#32)) (pos v)

/-- The condition of the copies ahead: the first half, not the last tile, and the next tile in use. -/
theorem pfc_fact : ∀ (n : Fin 136) (f : Fin 2) (b : BitVec 1),
    (Scalar.cmpi .ne (Scalar.extui (Scalar.andi (Scalar.andi (Scalar.cmpi .eq (BitVec.ofNat 32 f.val) 0#32) (Scalar.cmpi .slt (Scalar.addi (BitVec.ofNat 32 n.val) 1#32) 136#32)) b) : BitVec 32) 0#32 : BitVec 1) = 1#1
      ↔ f.val = 0 ∧ n.val + 1 < 136 ∧ b = 1#1 := by
  have h : ∀ (n : Fin 136) (f : Fin 2) (b : Fin 2),
    (Scalar.cmpi .ne (Scalar.extui (Scalar.andi (Scalar.andi (Scalar.cmpi .eq (BitVec.ofNat 32 f.val) 0#32) (Scalar.cmpi .slt (Scalar.addi (BitVec.ofNat 32 n.val) 1#32) 136#32)) (BitVec.ofFin b : BitVec 1)) : BitVec 32) 0#32 : BitVec 1) = 1#1
      ↔ f.val = 0 ∧ n.val + 1 < 136 ∧ (BitVec.ofFin b : BitVec 1) = 1#1 := by decide +kernel
  exact fun n f b => h n f b.toFin

/-- When the next tile's rows are to be fetched. -/
theorem pfc_iff (i : grid0.Coords) (v : BitVec 32) :
    (Scalar.cmpi .ne (Scalar.extui (pfc (i 0).val (i 1).val v) : BitVec 32) 0#32 : BitVec 1) = 1#1 ↔ (i 1).val = 0 ∧ (i 0).val + 1 < 136 ∧ pos v = 1#1 :=
  pfc_fact (tile i) ⟨(i 1).val, (i 1).isLt⟩ (pos v)

/-- The next tile's copies are issued at the first half, when there is a next tile and it is in use. -/
theorem cond5_iff (i : grid0.Coords) (v : BitVec 32) : k0_cond5 i v = 1#1 ↔ (i 1).val = 0 ∧ (i 0).val + 1 < 136 ∧ pos v = 1#1 := pfc_iff i v

/-- The condition of the waits: the first half, and the tile in use. -/
theorem drain_fact : ∀ (f : Fin 2) (b : BitVec 1),
    (Scalar.cmpi .ne (Scalar.extui (Scalar.andi (Scalar.cmpi .eq (BitVec.ofNat 32 f.val) 0#32) b) : BitVec 32) 0#32 : BitVec 1) = 1#1 ↔ f.val = 0 ∧ b = 1#1 := by
  have h : ∀ (f : Fin 2) (b : Fin 2),
    (Scalar.cmpi .ne (Scalar.extui (Scalar.andi (Scalar.cmpi .eq (BitVec.ofNat 32 f.val) 0#32) (BitVec.ofFin b : BitVec 1)) : BitVec 32) 0#32 : BitVec 1) = 1#1
      ↔ f.val = 0 ∧ (BitVec.ofFin b : BitVec 1) = 1#1 := by decide +kernel
  exact fun f b => h f b.toFin

/-- The first half's condition, from the number of the half. -/
theorem first_fact : ∀ f : Fin 2,
    (Scalar.cmpi .ne (Scalar.extui (Scalar.cmpi .eq (BitVec.ofNat 32 f.val) 0#32 : BitVec 1) : BitVec 32) 0#32 : BitVec 1) = 1#1 ↔ f.val = 0 := by decide +kernel

/-- A bit widened and compared with zero is the bit. -/
theorem comp_fact (b : BitVec 1) : (Scalar.cmpi .ne (Scalar.extui b : BitVec 32) 0#32 : BitVec 1) = 1#1 ↔ b = 1#1 := by
  have h : ∀ b : Fin 2, (Scalar.cmpi .ne (Scalar.extui (BitVec.ofFin b : BitVec 1) : BitVec 32) 0#32 : BitVec 1) = 1#1 ↔ (BitVec.ofFin b : BitVec 1) = 1#1 := by decide +kernel
  exact h b.toFin

/-- The semaphore of slot `s` of the row buffer. -/
abbrev semS (s : ℕ) (h : s < 2) : DmaSem sig := ⟨10 + s, by show 10 + s < 12; omega⟩

/-- The counter that a one-element slice names is that of its buffer. -/
theorem sem_eq (off : Fin 1 → Nat) (inb : ∀ a, off a + S1.size a ≤ S2.size a) (s : ℕ) (h : s < 2) (h0 : off = ![s]) :
    ((cc0_scratch5.slice (Rect.unit (s := S2) off S1.size inb)).squeeze S_ squeezes_S1_S_).sem = semS s h := by
  subst h0
  interval_cases s
  · exact (by decide +kernel : ((cc0_scratch5.slice (Rect.unit (s := S2) ![0] S1.size (by decide))).squeeze S_ squeezes_S1_S_).sem = semS 0 (by decide))
  · exact (by decide +kernel : ((cc0_scratch5.slice (Rect.unit (s := S2) ![1] S1.size (by decide))).squeeze S_ squeezes_S1_S_).sem = semS 1 (by decide))

end Cert.Proof.Experts
-- ==== Proof.Experts.Rows.lean ====
module

public import proofs.«01_k».proof.Proof.Experts.Offs
public import proofs.«01_k».proof.Proof.Gen.KernelEIdeal.Loops
public import Idealize.ShloMosaic.Lib.Pipeline.Frame

@[expose] public section

noncomputable section

namespace Cert.Proof.Experts

open Idealize.ShloMosaic Idealize.ShloMosaic.TcCoe
open Cert.KernelEIdeal Cert.KernelEIdeal.Gen
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Tactic
open Idealize.ShloMosaic.Pipeline (UD)

variable {F : FTy → Type} [FloatOps F]

/-- The resources the run is stated over. -/
local notation "𝕄" => MT nD τ sig Unit (Elt F) ℕ (UD sig nD τ) ℕ

/-- The row a word names, the last one if it names none. -/
def clampRow (n : ℕ) : Fin 32768 := ⟨min n 32767, by omega⟩

/-- The elements of row `n` of the array of tokens. -/
def hset (n : ℕ) : Finset S32768x1024.Idx := Finset.univ.filter fun y => (y 0).val = n

/-- The places of a one-row view of the tokens are that token's row. -/
theorem hf_set (off : Fin 2 → Nat) (inb : ∀ a, off a + S1x1024.size a ≤ S32768x1024.size a) (n : ℕ) (h : off = ![n, 0]) :
    ((hfM off inb).view.set : Finset S32768x1024.Idx) = hset n := by
  subst h
  refine (View.set_slice_whole _ _).trans ?_
  ext y
  rw [Rect.mem_set_unit]
  unfold hset
  simp only [Finset.mem_filter, Finset.mem_univ, true_and]
  have h1 : (y 1).val < 1024 := (y 1).isLt
  constructor
  · intro H; have a0 : n ≤ (y 0).val ∧ (y 0).val < n + 1 := H 0; omega
  · intro H a; fin_cases a
    · show n ≤ (y 0).val ∧ (y 0).val < n + 1; omega
    · show 0 ≤ (y 1).val ∧ (y 1).val < 0 + 1024; omega

/-- An index of the array of tokens. -/
def hidx (r : Fin 32768) (j : Fin 1024) : S32768x1024.Idx := fun x => match x with | ⟨0, _⟩ => r | ⟨1, _⟩ => j

/-- The gathered rows: row `r` of a slot is the token row `ix r` names. -/
def gath (ix : ℕ → ℕ) (h : S32768x1024.Idx → Elt F .f32) : S2x512x1024.Idx → Elt F .f32 :=
  fun y => h (hidx (clampRow (ix (y 1).val)) (y 2))

section
variable (c : Dev nD)

/-- The two slots' buffer, held on a set of elements. -/
abbrev xgOn (S : Finset S2x512x1024.Idx) (g : S2x512x1024.Idx → Elt F .f32) : sProp 𝕄 :=
  (Memref.whole cc0_scratch1).view.loc (c : Thread nD τ) ↦[S]{fullShare} g
/-- The array of tokens, held on a set of elements at a share. -/
abbrev hfOn (S : Finset S32768x1024.Idx) (q : PosShare TreeShare) (h : S32768x1024.Idx → Elt F .f32) : sProp 𝕄 :=
  (Memref.whole main_arg3).view.loc (c : Thread nD τ) ↦[S]{q} h

/-- The share one row's copy holds of the array of tokens. -/
abbrev tk (k : ℕ) : PosShare TreeShare := Transfers.shareTokN fullShare k

/-- What copy `k` delivers: its row of the slot, and the token row it read. -/
abbrev dlv (s : ℕ) (ix : ℕ → ℕ) (h : S32768x1024.Idx → Elt F .f32) (k : ℕ) : sProp 𝕄 :=
  iprop(xgOn c (rset s k) (gath ix h) ∗ hfOn c (hset (ix k)) (tk k) h)

/-- One row's credit on its slot's semaphore. -/
def NN : ℕ := (rowM ![0, 0, 0] (by decide) ![0, 0] (by decide)).view.dmaCredit

/-- A row's copy is worth a positive amount on its counter. -/
theorem NN_pos : 0 < NN := by decide +kernel

/-- Every row's copy is worth the same amount. -/
theorem NN_eq (off : Fin 3 → Nat) (inb : ∀ a, off a + S1x512x1024.size a ≤ S2x512x1024.size a) (off2 : Fin 2 → Nat)
    (inb2 : ∀ a, off2 a + S1x1024.size a ≤ S512x1024.size a) : (rowM off inb off2 inb2).view.dmaCredit = NN := rfl

/-- The 512 row copies into slot `s`: `j` issued, `u` units consumed. -/
abbrev batch (s : ℕ) (hs : s < 2) (ix : ℕ → ℕ) (h : S32768x1024.Idx → Elt F .f32) (j u : ℕ) : sProp 𝕄 :=
  Transfers.Batch (countersEmb (U := UD sig nD τ)) (c : Thread nD τ) (.dma (semS s hs)) () NN
    (fun k : Fin 512 => dlv c s ix h k.val) j u

/-- What copy `k` takes: its row of the slot, and the token row it will read. -/
abbrev src (s : ℕ) (ix : ℕ → ℕ) (g : S2x512x1024.Idx → Elt F .f32) (h : S32768x1024.Idx → Elt F .f32) (k : ℕ) : sProp 𝕄 :=
  iprop(xgOn c (rset s k) g ∗ hfOn c (hset (ix k)) (tk k) h)

/-- Before trip `k` of the loop that issues: `k` copies issued, the later rows in hand, the row numbers in scalar memory. -/
def issueAt (s : ℕ) (hs : s < 2) (ix : ℕ → ℕ) (g : S2x512x1024.Idx → Elt F .f32) (h : S32768x1024.Idx → Elt F .f32)
    (sm : S512.Idx → Elt F .i32) (k : ℕ) (_ : Unit) : sProp 𝕄 :=
  iprop(((Memref.whole cc0_scratch0).view.loc (c : Thread nD τ) ↦{fullShare} sm) ∗ batch c s hs ix h k 0
    ∗ bigSep (Ring.rangeSet 512 k 512) (fun r => src c s ix g h r.val))

/-- One copy issued. -/
theorem issue_dma (s : ℕ) (hs : s < 2) (ix : ℕ → ℕ) (g : S2x512x1024.Idx → Elt F .f32) (h : S32768x1024.Idx → Elt F .f32)
    (off : Fin 3 → Nat) (inb : ∀ a, off a + S1x512x1024.size a ≤ S2x512x1024.size a) (off2 : Fin 2 → Nat)
    (inb2 : ∀ a, off2 a + S1x1024.size a ≤ S512x1024.size a) (offs : Fin 2 → Nat) (inbs : ∀ a, offs a + S1x1024.size a ≤ S32768x1024.size a)
    (k : ℕ) (hk : k < 512) (e1 : off = ![s, 0, 0]) (e2 : off2 = ![k, 0]) (e3 : offs = ![ix k, 0]) (sem : DmaSem sig) (e4 : sem = semS s hs)
    {hsrc : (hfM offs inbs).view.WordExact} {hdst : (rowM off inb off2 inb2).view.WordExact}
    {hsem : (DmaTarget.here (rowM off inb off2 inb2) : DmaTarget nD τ sig .tc .vmem S1x1024 .f32).Typed .hbm (.dma sem)}
    {α : Type} {kk : PUnit → Prog (TpuEff nD τ sig (Elt F) Λ₀ .tc) α} {Q : α → sProp 𝕄} :
    iprop(src c s ix g h k ∗ batch c s hs ix h k 0)
      ⊢ iprop((batch c s hs ix h (k + 1) 0 -∗ wp frame (wpE (defs₀ (F := F)) Variants.none (c : Thread nD τ) none) Set.univ (kk ⟨⟩) Q)
        -∗ wp frame (wpE (defs₀ (F := F)) Variants.none (c : Thread nD τ) none) Set.univ
          (.op (.enqueueDma (hfM offs inbs) (.here (rowM off inb off2 inb2)) (.dma sem) hsrc hdst hsem) kk) Q) := by
  subst e4
  have hset' : ((rowM off inb off2 inb2).view.set : Finset S2x512x1024.Idx) = rset s k :=
    row_set off inb off2 inb2 s k (by rw [e1]; rfl) (by rw [e1]; rfl) (by rw [e1]; rfl) (by rw [e2]; rfl) (by rw [e2]; rfl)
  have hfs : ((hfM offs inbs).view.set : Finset S32768x1024.Idx) = hset (ix k) := hf_set offs inbs (ix k) e3
  have hix : ix k < 32768 := by
    have := inbs 0; rw [e3] at this; have h' : ix k + 1 ≤ 32768 := this; omega
  iintro ⟨⟨Hx, Hh⟩, HB⟩ HK
  iapply (Transfers.wp_dmaBatch (countersEmb (U := UD sig nD τ)) Variants.none (c : Thread nD τ) none (src := hfM offs inbs)
    (via := .same) (dst := rowM off inb off2 inb2) (q := tk k) (fs := h) (Sd := rset s k) (fd := g) (sm := .dma (semS s hs)) (j := k) (u := 0)
    (D := fun k : Fin 512 => dlv c s ix h k.val) () NN (NN_eq off inb off2 inb2)
    (le_of_eq hset') hk (Nat.zero_le _) ?_) $$ [Hx Hh HB] [HK]
  · rw [hfs]
    refine sep_mono (Entails.of_eq (pointsTo_congr fun y hy => ?_)) .rfl
    refine (row_write off inb off2 inb2 offs inbs (by rw [e1]; rfl) (by rw [e2]; rfl) (by rw [e3]; rfl) g h y (by rw [hset']; exact hy)
      (hidx (clampRow (ix k)) (y 2)) ?_ rfl).trans ?_
    · rw [e3]; show min (ix k) 32767 = ix k; omega
    · unfold gath; rw [((mem_rset s k y).mp hy).2]
  · rw [hfs]
    isplitl [Hh]; · iexact Hh
    isplitl [Hx]; · iexact Hx
    iexact HB
  · iexact HK

/-- An index of the row numbers. -/
def sidx (k : ℕ) (hk : k < 512) : S512.Idx := fun a => match a with | ⟨0, _⟩ => ⟨k, hk⟩

/-- The row numbers in scalar memory. -/
def wix (sm : S512.Idx → Elt F .i32) (k : ℕ) : ℕ := if hk : k < 512 then (show BitVec 32 from sm (sidx k hk)).toNat else 0

/-- The word a scalar load of row number `k` reads. -/
theorem sm_read (off : Fin 1 → Nat) (inb : ∀ a, off a + S1.size a ≤ S512.size a) (k : ℕ) (hk : k < 512) (e : off = ![k])
    (sm : S512.Idx → Elt F .i32) (x : (Rect.unit (s := S512) off S1.size inb).shape.Idx) :
    ((Memref.whole cc0_scratch0).access (Rect.unit (s := S512) off S1.size inb)).read (Elt F) sm x = sm (sidx k hk) := by
  subst e
  refine congrArg sm (funext fun a => Fin.ext ?_)
  match a with
  | ⟨0, _⟩ =>
    have : (x 0).val < 1 := (x 0).isLt
    show k + 1 * (x 0).val = k
    omega

/-- One drain wait's trip invariant: `k` rows' units consumed, or, at the end, every row delivered. -/
def drainAt (s : ℕ) (hs : s < 2) (ix : ℕ → ℕ) (h : S32768x1024.Idx → Elt F .f32) (k : ℕ) (_ : Unit) : sProp 𝕄 :=
  iprop((∃ W, owes (c : Thread nD τ) 0 W)
    ∗ (if k < 512 then batch c s hs ix h 512 (k * NN)
       else iprop(semVal ((c : Thread nD τ), SemLoc.dma (semS s hs)) 0 ∗ bigSep Finset.univ (fun k : Fin 512 => dlv c s ix h k.val))))

/-- One wait of the drain. -/
theorem drain_wait (s : ℕ) (hs : s < 2) (ix : ℕ → ℕ) (h : S32768x1024.Idx → Elt F .f32)
    (off : Fin 3 → Nat) (inb : ∀ a, off a + S1x512x1024.size a ≤ S2x512x1024.size a) (off2 : Fin 2 → Nat)
    (inb2 : ∀ a, off2 a + S1x1024.size a ≤ S512x1024.size a) (offs : Fin 2 → Nat) (inbs : ∀ a, offs a + S1x1024.size a ≤ S32768x1024.size a)
    (k : ℕ) (hk : k < 512) (sem : DmaSem sig) (e4 : sem = semS s hs)
    {hsrc : (hfM offs inbs).view.WordExact} {hdst : (rowM off inb off2 inb2).view.WordExact} :
    drainAt c s hs ix h k () ⊢ wp frame (wpE (defs₀ (F := F)) Variants.none (c : Thread nD τ) none) Set.univ
          (Prog.op (.waitDma2 sem (hfM offs inbs) (rowM off inb off2 inb2) hsrc hdst) fun _ => .ret ()) (drainAt c s hs ix h (k + 1)) := by
  subst e4
  unfold drainAt
  rw [if_pos hk]
  rcases Nat.lt_or_ge (k + 1) 512 with h1 | h1
  · simp only [if_pos h1]
    iintro ⟨⟨%W, HO⟩, HB⟩
    iapply (Transfers.wp_waitBatch (countersEmb (U := UD sig nD τ)) Variants.none (c : Thread nD τ) none (srcw := hfM offs inbs)
      (dstw := rowM off inb off2 inb2) () (NN_eq off inb off2 inb2) (u := k * NN) ?_) $$ [HB HO]
    · rw [← Nat.succ_mul, Nat.mul_comm NN]; exact Nat.mul_lt_mul_of_pos_right h1 NN_pos
    · isplitl [HB] <;> iassumption
    iintro ⟨HB, HO⟩
    rw [wp_ret]
    imodintro
    isplitl [HO]; · iexists _; iexact HO
    rw [Nat.succ_mul]
    iexact HB
  · simp only [if_neg (Nat.not_lt.mpr h1)]
    iintro ⟨⟨%W, HO⟩, HB⟩
    iapply (Transfers.wp_waitBatchLast (countersEmb (U := UD sig nD τ)) Variants.none (c : Thread nD τ) none (srcw := hfM offs inbs)
      (dstw := rowM off inb off2 inb2) () (NN_eq off inb off2 inb2) NN_pos (u := k * NN) ?_) $$ [HB HO]
    · rw [← Nat.succ_mul, Nat.mul_comm NN, show k.succ = 512 from Nat.le_antisymm hk h1]
    · isplitl [HB] <;> iassumption
    iintro ⟨HD, Hs, HO⟩
    rw [wp_ret]
    imodintro
    isplitl [HO]; · iexists _; iexact HO
    isplitl [Hs]; · iexact Hs
    iexact HD

end
end Cert.Proof.Experts
-- ==== Proof.Experts.Loops.lean ====
module

public import proofs.«01_k».proof.Proof.Experts.Rows

@[expose] public section

noncomputable section

namespace Cert.Proof.Experts

open Idealize.ShloMosaic Idealize.ShloMosaic.TcCoe
open Cert.KernelEIdeal Cert.KernelEIdeal.Gen
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Tactic
open Idealize.ShloMosaic.Pipeline (UD)

variable {F : FTy → Type} [FloatOps F]

/-- The resources the run is stated over. -/
local notation "𝕄" => MT nD τ sig Unit (Elt F) ℕ (UD sig nD τ) ℕ

section
variable (c : Dev nD)
variable (i : grid0.Coords) (a2 : Memref sig .tc .smem S136 .i32) (h2 : a2.IsWhole) (a3 : Memref sig .tc .smem S136 .i32) (h3 : a3.IsWhole)
  (a4 : Memref sig .tc .vmem S136x512 .i32) (h4 : a4.IsWhole)
  (a6 : Memref sig .tc .vmem S1x1024x1792 .bf16) (h6 : a6.IsWhole) (a7 : Memref sig .tc .vmem S1x1024x1792 .bf16) (h7 : a7.IsWhole)
  (a8 : Memref sig .tc .vmem S1x1792x1024 .bf16) (h8 : a8.IsWhole) (a9 : Memref sig .tc .vmem S512x1024 .f32) (h9 : a9.IsWhole)

/-- The first loop's trip on the call's operands. -/
abbrev body1 (hc : k0_cond1 i = 1#1) : Fin k0_t1_loop.trips → Unit → Prog (TpuEff nD τ sig (Elt F) Λ₀ .tc) Unit :=
  k0_t1_body (F := F) i a2 h2 a3 h3 a4 h4 (Memref.whole main_arg3) (Memref.isWhole_whole _) a6 h6 a7 h7 a8 h8 a9 h9
    (Memref.whole cc0_scratch0) (Memref.isWhole_whole _) (Memref.whole cc0_scratch1) (Memref.isWhole_whole _) (Memref.whole cc0_scratch2)
    (Memref.isWhole_whole _) (Memref.whole cc0_scratch3) (Memref.isWhole_whole _) cc0_scratch4 cc0_scratch5 hc

/-- One trip of the first loop issues one copy. -/
theorem issue_trip1 (hc : k0_cond1 i = 1#1) (g : S2x512x1024.Idx → Elt F .f32) (h : S32768x1024.Idx → Elt F .f32)
    (sm : S512.Idx → Elt F .i32) (hr : ∀ k, wix sm k < 32768) (k : Fin k0_t1_loop.trips) (acc : Unit) :
    issueAt c 0 (by decide) (wix sm) g h sm k.val acc
      ⊢ wp frame (wpE (defs₀ (F := F)) Variants.none (c : Thread nD τ) none) Set.univ
        (body1 i a2 h2 a3 h3 a4 h4 a6 h6 a7 h7 a8 h8 a9 h9 hc k acc) (issueAt c 0 (by decide) (wix sm) g h sm (k.val + 1)) := by
  have hk : k.val < 512 := trips1 ▸ k.isLt
  unfold issueAt
  rw [Ring.bigSep_rangeSet_head (Φ := fun r : Fin 512 => src c 0 (wix sm) g h r.val) hk hk]
  iintro ⟨HS, HB, Hr, Hrs⟩
  dsimp only [body1, k0_t1_body]
  rw [wp_bind]
  iapply (wp_smemLoadElt Variants.none (c : Thread nD τ) none Set.univ (m := Memref.whole cc0_scratch0)
    (r := Rect.unit (s := S512) (k0_off3 k) S1.size (k0_off3_inb i k hc)) (f := sm) (S := Finset.univ) (q := fullShare) (Finset.subset_univ _)) $$ [HS]
  · iexact HS
  iintro HS
  rw [sm_read (k0_off3 k) _ k.val hk (off3_eq k), wp_ret]
  imodintro
  have hv : (show BitVec 32 from sm (sidx k.val hk)).toNat = wix sm k.val := by unfold wix; rw [dif_pos hk]
  have hch : k0_chk1 i (sm (sidx k.val hk)) := by
    intro _ a
    have h1 := hr k.val
    rw [← hv] at h1
    match a with
    | ⟨0, _⟩ => exact h1
    | ⟨1, _⟩ => exact le_of_eq rfl
  rw [wp_bind]
  iapply (wp_assume Variants.none (c : Thread nD τ) none Set.univ hch)
  rw [wp_ret]
  imodintro
  rw [wp_bind]
  iapply (issue_dma c 0 (by decide) (wix sm) g h ![0, 0, 0] inb_S2x512x1024_S1x512x1024_0_0_0 (k0_off4 k) (k0_off4_inb i k hc)
    (k0_off5 (sm (sidx k.val hk))) (k0_off5_inb i _ hch hc) k.val hk rfl (off4_eq k) (by rw [← hv]; rfl) _
    (sem_eq ![0] inb_S2_S1_0 0 (by decide) rfl)) $$ [Hr HB]
  · isplitl [Hr] <;> iassumption
  iintro HB
  rw [wp_ret]
  imodintro
  rw [wp_pure]
  imodintro
  isplitl [HS]; · iexact HS
  isplitl [HB]; · iexact HB
  iexact Hrs

/-- The third loop's trip on the call's operands. -/
abbrev body3 (v7 : Elt F .i32) (hc : k0_cond5 i v7 = 1#1) : Fin k0_t3_loop.trips → Unit → Prog (TpuEff nD τ sig (Elt F) Λ₀ .tc) Unit :=
  k0_t3_body (F := F) i a2 h2 a3 h3 a4 h4 (Memref.whole main_arg3) (Memref.isWhole_whole _) a6 h6 a7 h7 a8 h8 a9 h9
    (Memref.whole cc0_scratch0) (Memref.isWhole_whole _) (Memref.whole cc0_scratch1) (Memref.isWhole_whole _) (Memref.whole cc0_scratch2)
    (Memref.isWhole_whole _) (Memref.whole cc0_scratch3) (Memref.isWhole_whole _) cc0_scratch4 cc0_scratch5 v7 hc

/-- One trip of the third loop issues one copy. -/
theorem issue_trip3 (v7 : Elt F .i32) (hc : k0_cond5 i v7 = 1#1) (g : S2x512x1024.Idx → Elt F .f32) (h : S32768x1024.Idx → Elt F .f32)
    (sm : S512.Idx → Elt F .i32) (hr : ∀ k, wix sm k < 32768) (k : Fin k0_t3_loop.trips) (acc : Unit) :
    issueAt c ((min ((i 0).val + 1) 135) % 2) (Nat.mod_lt _ (by decide)) (wix sm) g h sm k.val acc
      ⊢ wp frame (wpE (defs₀ (F := F)) Variants.none (c : Thread nD τ) none) Set.univ
        (body3 i a2 h2 a3 h3 a4 h4 a6 h6 a7 h7 a8 h8 a9 h9 v7 hc k acc) (issueAt c ((min ((i 0).val + 1) 135) % 2) (Nat.mod_lt _ (by decide)) (wix sm) g h sm (k.val + 1)) := by
  have hk : k.val < 512 := trips3 ▸ k.isLt
  unfold issueAt
  rw [Ring.bigSep_rangeSet_head (Φ := fun r : Fin 512 => src c ((min ((i 0).val + 1) 135) % 2) (wix sm) g h r.val) hk hk]
  iintro ⟨HS, HB, Hr, Hrs⟩
  dsimp only [body3, k0_t3_body]
  rw [wp_bind]
  iapply (wp_smemLoadElt Variants.none (c : Thread nD τ) none Set.univ (m := Memref.whole cc0_scratch0)
    (r := Rect.unit (s := S512) (k0_off13 k) S1.size (k0_off13_inb k)) (f := sm) (S := Finset.univ) (q := fullShare) (Finset.subset_univ _)) $$ [HS]
  · iexact HS
  iintro HS
  rw [sm_read (k0_off13 k) _ k.val hk (off13_eq k), wp_ret]
  imodintro
  have hv : (show BitVec 32 from sm (sidx k.val hk)).toNat = wix sm k.val := by unfold wix; rw [dif_pos hk]
  have hch : k0_chk2 i v7 (sm (sidx k.val hk)) := by
    intro _ a
    have h1 := hr k.val
    rw [← hv] at h1
    match a with
    | ⟨0, _⟩ => exact h1
    | ⟨1, _⟩ => exact le_of_eq rfl
  rw [wp_bind]
  iapply (wp_assume Variants.none (c : Thread nD τ) none Set.univ hch)
  rw [wp_ret]
  imodintro
  rw [wp_bind]
  iapply (issue_dma c ((min ((i 0).val + 1) 135) % 2) (Nat.mod_lt _ (by decide)) (wix sm) g h (k0_off15 i) (k0_off15_inb i) (k0_off16 k) (k0_off16_inb k)
    (k0_off17 (sm (sidx k.val hk))) (k0_off17_inb i v7 _ hch hc) k.val hk (off15_eq i) (off16_eq k) (by rw [← hv]; rfl) _
    (sem_eq (k0_off14 i) (k0_off14_inb i) ((min ((i 0).val + 1) 135) % 2) (Nat.mod_lt _ (by decide)) (off14_eq i))) $$ [Hr HB]
  · isplitl [Hr] <;> iassumption
  iintro HB
  rw [wp_ret]
  imodintro
  rw [wp_pure]
  imodintro
  isplitl [HS]; · iexact HS
  isplitl [HB]; · iexact HB
  iexact Hrs

/-- The second loop's trip on the call's operands. -/
abbrev body2 : Fin k0_t2_loop.trips → Unit → Prog (TpuEff nD τ sig (Elt F) Λ₀ .tc) Unit :=
  k0_t2_body (F := F) i a2 h2 a3 h3 a4 h4 (Memref.whole main_arg3) (Memref.isWhole_whole _) a6 h6 a7 h7 a8 h8 a9 h9
    (Memref.whole cc0_scratch0) (Memref.isWhole_whole _) (Memref.whole cc0_scratch1) (Memref.isWhole_whole _) (Memref.whole cc0_scratch2)
    (Memref.isWhole_whole _) (Memref.whole cc0_scratch3) (Memref.isWhole_whole _) cc0_scratch4 cc0_scratch5

/-- One trip of the second loop waits for one row. -/
theorem drain_trip (ix : ℕ → ℕ) (h : S32768x1024.Idx → Elt F .f32) (k : Fin k0_t2_loop.trips) (acc : Unit) :
    drainAt c ((i 0).val % 2) (Nat.mod_lt _ (by decide)) ix h k.val acc
      ⊢ wp frame (wpE (defs₀ (F := F)) Variants.none (c : Thread nD τ) none) Set.univ
        (body2 (F := F) i a2 h2 a3 h3 a4 h4 a6 h6 a7 h7 a8 h8 a9 h9 k acc) (drainAt c ((i 0).val % 2) (Nat.mod_lt _ (by decide)) ix h (k.val + 1)) := by
  have hk : k.val < 512 := trips2 ▸ k.isLt
  dsimp only [body2, k0_t2_body]
  exact drain_wait c ((i 0).val % 2) (Nat.mod_lt _ (by decide)) ix h (k0_off9 i) (k0_off9_inb i) (k0_off10 k) (k0_off10_inb k) ![0, 0]
    inb_S32768x1024_S1x1024_0_0 k.val hk _ (sem_eq (k0_off8 i) (k0_off8_inb i) ((i 0).val % 2) (Nat.mod_lt _ (by decide)) (off8_eq i))

/-- The first loop issues all 512 copies. -/
theorem issue_loop1 (hc : k0_cond1 i = 1#1) (g : S2x512x1024.Idx → Elt F .f32) (h : S32768x1024.Idx → Elt F .f32)
    (sm : S512.Idx → Elt F .i32) (hr : ∀ k, wix sm k < 32768)
    {β : Type} {kk : Unit → Prog (TpuEff nD τ sig (Elt F) Λ₀ .tc) β} {Q : β → sProp 𝕄} :
    issueAt c 0 (by decide) (wix sm) g h sm 0 ()
      ⊢ iprop((issueAt c 0 (by decide) (wix sm) g h sm 512 () -∗ wp frame (wpE (defs₀ (F := F)) Variants.none (c : Thread nD τ) none) Set.univ (kk ()) Q)
        -∗ wp frame (wpE (defs₀ (F := F)) Variants.none (c : Thread nD τ) none) Set.univ
        (Scf.Loop.for k0_t1_loop (k0_t1_ok i hc) () (body1 i a2 h2 a3 h3 a4 h4 a6 h6 a7 h7 a8 h8 a9 h9 hc) >>= kk) Q) := by
  have h0 := Scf.wp_for_bind frame (wpE (defs₀ (F := F)) Variants.none (c : Thread nD τ) none) Set.univ k0_t1_loop.lb k0_t1_loop.ub k0_t1_loop.st
    (k0_t1_ok i hc) () (body1 i a2 h2 a3 h3 a4 h4 a6 h6 a7 h7 a8 h8 a9 h9 hc) (issueAt c 0 (by decide) (wix sm) g h sm)
    (issue_trip1 c i a2 h2 a3 h3 a4 h4 a6 h6 a7 h7 a8 h8 a9 h9 hc g h sm hr) (kk := kk) (Q := Q)
  refine h0.trans (wand_mono_left ?_)
  iintro HK
  iintro %acc HI
  iapply HK
  rw [show Scf.trips k0_t1_loop.lb k0_t1_loop.ub k0_t1_loop.st = 512 from trips1]
  iexact HI

/-- The third loop issues all 512 copies. -/
theorem issue_loop3 (v7 : Elt F .i32) (hc : k0_cond5 i v7 = 1#1) (g : S2x512x1024.Idx → Elt F .f32) (h : S32768x1024.Idx → Elt F .f32)
    (sm : S512.Idx → Elt F .i32) (hr : ∀ k, wix sm k < 32768)
    {β : Type} {kk : Unit → Prog (TpuEff nD τ sig (Elt F) Λ₀ .tc) β} {Q : β → sProp 𝕄} :
    issueAt c ((min ((i 0).val + 1) 135) % 2) (Nat.mod_lt _ (by decide)) (wix sm) g h sm 0 ()
      ⊢ iprop((issueAt c ((min ((i 0).val + 1) 135) % 2) (Nat.mod_lt _ (by decide)) (wix sm) g h sm 512 ()
          -∗ wp frame (wpE (defs₀ (F := F)) Variants.none (c : Thread nD τ) none) Set.univ (kk ()) Q)
        -∗ wp frame (wpE (defs₀ (F := F)) Variants.none (c : Thread nD τ) none) Set.univ
        (Scf.Loop.for k0_t3_loop k0_t3_ok () (body3 i a2 h2 a3 h3 a4 h4 a6 h6 a7 h7 a8 h8 a9 h9 v7 hc) >>= kk) Q) := by
  have h0 := Scf.wp_for_bind frame (wpE (defs₀ (F := F)) Variants.none (c : Thread nD τ) none) Set.univ k0_t3_loop.lb k0_t3_loop.ub k0_t3_loop.st
    k0_t3_ok () (body3 i a2 h2 a3 h3 a4 h4 a6 h6 a7 h7 a8 h8 a9 h9 v7 hc)
    (issueAt c ((min ((i 0).val + 1) 135) % 2) (Nat.mod_lt _ (by decide)) (wix sm) g h sm)
    (issue_trip3 c i a2 h2 a3 h3 a4 h4 a6 h6 a7 h7 a8 h8 a9 h9 v7 hc g h sm hr) (kk := kk) (Q := Q)
  refine h0.trans (wand_mono_left ?_)
  iintro HK
  iintro %acc HI
  iapply HK
  rw [show Scf.trips k0_t3_loop.lb k0_t3_loop.ub k0_t3_loop.st = 512 from trips3]
  iexact HI

/-- The second loop waits for all 512 rows. -/
theorem drain_loop (ix : ℕ → ℕ) (h : S32768x1024.Idx → Elt F .f32)
    {β : Type} {kk : Unit → Prog (TpuEff nD τ sig (Elt F) Λ₀ .tc) β} {Q : β → sProp 𝕄} :
    drainAt c ((i 0).val % 2) (Nat.mod_lt _ (by decide)) ix h 0 ()
      ⊢ iprop((drainAt c ((i 0).val % 2) (Nat.mod_lt _ (by decide)) ix h 512 ()
          -∗ wp frame (wpE (defs₀ (F := F)) Variants.none (c : Thread nD τ) none) Set.univ (kk ()) Q)
        -∗ wp frame (wpE (defs₀ (F := F)) Variants.none (c : Thread nD τ) none) Set.univ
        (Scf.Loop.for k0_t2_loop k0_t2_ok () (body2 (F := F) i a2 h2 a3 h3 a4 h4 a6 h6 a7 h7 a8 h8 a9 h9) >>= kk) Q) := by
  have h0 := Scf.wp_for_bind frame (wpE (defs₀ (F := F)) Variants.none (c : Thread nD τ) none) Set.univ k0_t2_loop.lb k0_t2_loop.ub k0_t2_loop.st
    k0_t2_ok () (body2 (F := F) i a2 h2 a3 h3 a4 h4 a6 h6 a7 h7 a8 h8 a9 h9)
    (drainAt c ((i 0).val % 2) (Nat.mod_lt _ (by decide)) ix h)
    (drain_trip c i a2 h2 a3 h3 a4 h4 a6 h6 a7 h7 a8 h8 a9 h9 ix h) (kk := kk) (Q := Q)
  refine h0.trans (wand_mono_left ?_)
  iintro HK
  iintro %acc HI
  iapply HK
  rw [show Scf.trips k0_t2_loop.lb k0_t2_loop.ub k0_t2_loop.st = 512 from trips2]
  iexact HI

end
end Cert.Proof.Experts
-- ==== Proof.Experts.Slots.lean ====
module

public import proofs.«01_k».proof.Proof.Experts.Loops

@[expose] public section

noncomputable section

namespace Cert.Proof.Experts

open Idealize.ShloMosaic Idealize.ShloMosaic.TcCoe
open Cert.KernelEIdeal Cert.KernelEIdeal.Gen
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Tactic
open Idealize.ShloMosaic.Pipeline (UD)

variable {F : FTy → Type} [FloatOps F]

/-- The resources the run is stated over. -/
local notation "𝕄" => MT nD τ sig Unit (Elt F) ℕ (UD sig nD τ) ℕ

section
variable (c : Dev nD)

/-- The elements of slot `s`. -/
def sset (s : ℕ) : Finset S2x512x1024.Idx := Finset.univ.filter fun y => (y 0).val = s

/-- What stays of the array of tokens beside the copies in flight. -/
def hfRest (ix : ℕ → ℕ) (h : S32768x1024.Idx → Elt F .f32) : sProp 𝕄 :=
  iprop(hfOn c Finset.univ (Transfers.shareDrop fullShare 512) h
    ∗ bigSep Finset.univ (fun k : Fin 512 => hfOn c (Finset.univ \ hset (ix k.val)) (tk k.val) h))

/-- Slot `s` with its 512 copies in flight. -/
def busy (s : ℕ) (hs : s < 2) (ix : ℕ → ℕ) (h : S32768x1024.Idx → Elt F .f32) : sProp 𝕄 :=
  iprop(batch c s hs ix h 512 0 ∗ hfRest c ix h)

/-- Different rows of a buffer share no place. -/
theorem rset_disj (s : ℕ) (b b' : Fin 512) (hne : b ≠ b') : Disjoint (rset s b.val) (rset s b'.val) := by
  rw [Finset.disjoint_left]; intro y hy hy'; rw [mem_rset] at hy hy'; exact hne (Fin.ext (by omega))

/-- The 512 rows make up the buffer. -/
theorem rset_cover (s : ℕ) : (Finset.univ : Finset (Fin 512)).biUnion (fun b => rset s b.val) = sset s := by
  ext y
  unfold sset
  simp only [Finset.mem_biUnion, Finset.mem_univ, true_and, mem_rset, Finset.mem_filter]
  exact ⟨fun ⟨_, h, _⟩ => h, fun h => ⟨⟨(y 1).val, (y 1).isLt⟩, h, rfl⟩⟩

/-- A slot is its 512 rows. -/
theorem slot_rows (s : ℕ) (g : S2x512x1024.Idx → Elt F .f32) :
    xgOn c (sset s) g = (bigSep Finset.univ (fun k : Fin 512 => xgOn c (rset s k.val) g) : sProp 𝕄) :=
  Ring.pointsTo_sub_blocks (ℓ := (Memref.whole cc0_scratch1).view.loc (c : Thread nD τ)) (fun b : Fin 512 => rset s b.val) (rset_disj s) (sset s) (rset_cover s) g

/-- The array at a share is a row of it and the rest. -/
theorem tok_row (n : ℕ) (q : PosShare TreeShare) (h : S32768x1024.Idx → Elt F .f32) :
    hfOn c Finset.univ q h = (iprop(hfOn c (hset n) q h ∗ hfOn c (Finset.univ \ hset n) q h) : sProp 𝕄) := by
  have e : (Finset.univ : Finset S32768x1024.Idx) = hset n ∪ (Finset.univ \ hset n) := (Finset.union_sdiff_of_subset (Finset.subset_univ _)).symm
  have hu := pointsTo_union (Ix := Unit) (Name := ℕ) (U := UD sig nD τ) (Lvl := ℕ) (ℓ := (Memref.whole main_arg3).view.loc (c : Thread nD τ)) (q := q) (f := h) (I := hset n) (J := Finset.univ \ hset n)
    Finset.disjoint_sdiff
  refine Eq.trans ?_ (Idealize.SL.BI.Entails.antisymm hu.1 hu.2)
  exact congrArg (fun S => (hfOn c S q h : sProp 𝕄)) e

/-- The array whole is 512 shares of it, each a row and the rest, and a last share. -/
theorem hf_split (ix : ℕ → ℕ) (h : S32768x1024.Idx → Elt F .f32) :
    (hfOn c Finset.univ fullShare h : sProp 𝕄)
      ⊣⊢ iprop(bigSep Finset.univ (fun k : Fin 512 => hfOn c (hset (ix k.val)) (tk k.val) h) ∗ hfRest c ix h) := by
  have h0 := Transfers.pointsTo_toks (Ix := Unit) (Name := ℕ) (U := UD sig nD τ) (Lvl := ℕ) (ℓ := (Memref.whole main_arg3).view.loc (c : Thread nD τ)) (S := Finset.univ) (f := h) fullShare 512
  have e : (bigSep Finset.univ (fun k : Fin 512 => hfOn c Finset.univ (tk k.val) h) : sProp 𝕄)
      = iprop(bigSep Finset.univ (fun k : Fin 512 => hfOn c (hset (ix k.val)) (tk k.val) h)
        ∗ bigSep Finset.univ (fun k : Fin 512 => hfOn c (Finset.univ \ hset (ix k.val)) (tk k.val) h)) := by
    rw [show (fun k : Fin 512 => (hfOn c Finset.univ (tk k.val) h : sProp 𝕄))
      = fun k => iprop(hfOn c (hset (ix k.val)) (tk k.val) h ∗ hfOn c (Finset.univ \ hset (ix k.val)) (tk k.val) h) from funext fun k => tok_row c (ix k.val) _ h]
    exact BI.bigSep_sep _ _ _
  unfold hfRest
  constructor
  · refine h0.1.trans ?_
    iintro ⟨Hd, Ht⟩
    ihave Ht' := (Entails.of_eq e) $$ Ht
    icases Ht' with ⟨H1, H2⟩
    isplitl [H1]; · iexact H1
    isplitl [Hd]; · iexact Hd
    iexact H2
  · refine Entails.trans ?_ h0.2
    iintro ⟨H1, Hd, H2⟩
    isplitl [Hd]; · iexact Hd
    iapply (Entails.of_eq e.symm)
    isplitl [H1] <;> iassumption

/-- What a slot's 512 copies start from. -/
theorem issue_start (s : ℕ) (hs : s < 2) (ix : ℕ → ℕ) (g : S2x512x1024.Idx → Elt F .f32) (h : S32768x1024.Idx → Elt F .f32) (sm : S512.Idx → Elt F .i32) :
    iprop(((Memref.whole cc0_scratch0).view.loc (c : Thread nD τ) ↦{fullShare} sm) ∗ xgOn c (sset s) g ∗ hfOn c Finset.univ fullShare h
        ∗ semVal ((c : Thread nD τ), SemLoc.dma (semS s hs)) 0)
      ⊢ (|={Set.univ}=> iprop(issueAt c s hs ix g h sm 0 () ∗ hfRest c ix h) : sProp 𝕄) := by
  iintro ⟨HS, Hx, Hh, Hs⟩
  imod (Transfers.batch_alloc' (Lvl := ℕ) (countersEmb (U := UD sig nD τ)) (c : Thread nD τ) () NN (fun k : Fin 512 => dlv c s ix h k.val) (sm := .dma (semS s hs)) (E := Set.univ)) $$ Hs with HB
  imodintro
  ihave Hh' := (hf_split c ix h).1 $$ Hh
  icases Hh' with ⟨Hr, Hrest⟩
  isplitr [Hrest]
  · unfold issueAt
    isplitl [HS]; · iexact HS
    isplitl [HB]; · iexact HB
    rw [Ring.rangeSet_univ]
    iapply (show iprop(xgOn c (sset s) g ∗ bigSep Finset.univ (fun k : Fin 512 => hfOn c (hset (ix k.val)) (tk k.val) h))
        ⊢ (bigSep Finset.univ (fun k : Fin 512 => src c s ix g h k.val) : sProp 𝕄) from by
      rw [slot_rows]; exact Entails.of_eq (BI.bigSep_sep _ _ _).symm)
    isplitl [Hx] <;> iassumption
  · iexact Hrest

/-- What they are once all are issued. -/
theorem issue_end (s : ℕ) (hs : s < 2) (ix : ℕ → ℕ) (g : S2x512x1024.Idx → Elt F .f32) (h : S32768x1024.Idx → Elt F .f32) (sm : S512.Idx → Elt F .i32) :
    iprop(issueAt c s hs ix g h sm 512 () ∗ hfRest c ix h)
      ⊢ (iprop(((Memref.whole cc0_scratch0).view.loc (c : Thread nD τ) ↦{fullShare} sm) ∗ busy c s hs ix h) : sProp 𝕄) := by
  unfold issueAt busy
  iintro ⟨⟨HS, HB, -⟩, Hrest⟩
  isplitl [HS]; · iexact HS
  isplitl [HB]; · iexact HB
  iexact Hrest

/-- What the waits start from, -/
theorem drain_start (s : ℕ) (hs : s < 2) (ix : ℕ → ℕ) (h : S32768x1024.Idx → Elt F .f32) :
    iprop(busy c s hs ix h ∗ ∃ W, owes (c : Thread nD τ) 0 W) ⊢ (iprop(drainAt c s hs ix h 0 () ∗ hfRest c ix h) : sProp 𝕄) := by
  unfold drainAt busy
  rw [if_pos (by decide), Nat.zero_mul]
  iintro ⟨⟨HB, Hrest⟩, HO⟩
  isplitr [Hrest]
  · isplitl [HO]; · iexact HO
    iexact HB
  · iexact Hrest

/-- and what they end with: the slot's gathered rows, and the array of tokens whole. -/
theorem drain_end (s : ℕ) (hs : s < 2) (ix : ℕ → ℕ) (h : S32768x1024.Idx → Elt F .f32) :
    iprop(drainAt c s hs ix h 512 () ∗ hfRest c ix h)
      ⊢ (iprop((∃ W, owes (c : Thread nD τ) 0 W) ∗ xgOn c (sset s) (gath ix h) ∗ hfOn c Finset.univ fullShare h
        ∗ semVal ((c : Thread nD τ), SemLoc.dma (semS s hs)) 0) : sProp 𝕄) := by
  unfold drainAt
  rw [if_neg (by decide)]
  iintro ⟨⟨HO, Hs, HD⟩, Hrest⟩
  ihave HD' := (show (bigSep Finset.univ (fun k : Fin 512 => dlv c s ix h k.val) : sProp 𝕄)
      ⊢ iprop(xgOn c (sset s) (gath ix h) ∗ bigSep Finset.univ (fun k : Fin 512 => hfOn c (hset (ix k.val)) (tk k.val) h)) from by
    rw [slot_rows]; exact Entails.of_eq (BI.bigSep_sep _ _ _)) $$ HD
  icases HD' with ⟨Hx, Hr⟩
  isplitl [HO]; · iexact HO
  isplitl [Hx]
  · iexact Hx
  isplitl [Hr Hrest]
  · iapply (hf_split c ix h).2
    isplitl [Hr] <;> iassumption
  · iexact Hs

/-- The buffer is its two slots. -/
theorem two_slots (g : S2x512x1024.Idx → Elt F .f32) :
    (xgOn c Finset.univ g : sProp 𝕄) ⊣⊢ iprop(xgOn c (sset 0) g ∗ xgOn c (sset 1) g) := by
  have e : (Finset.univ : Finset S2x512x1024.Idx) = sset 0 ∪ sset 1 := by
    ext y; unfold sset; simp only [Finset.mem_univ, Finset.mem_union, Finset.mem_filter, true_and, true_iff]
    have : (y 0).val < 2 := (y 0).isLt; omega
  have hd : Disjoint (sset 0) (sset 1) := by
    rw [Finset.disjoint_left]; intro y; unfold sset; simp only [Finset.mem_filter, Finset.mem_univ, true_and]; omega
  have hu := pointsTo_union (Ix := Unit) (Name := ℕ) (U := UD sig nD τ) (Lvl := ℕ) (ℓ := (Memref.whole cc0_scratch1).view.loc (c : Thread nD τ)) (q := fullShare) (f := g) hd
  rw [show (xgOn c Finset.univ g : sProp 𝕄) = xgOn c (sset 0 ∪ sset 1) g from congrArg (fun S => xgOn c S g) e]
  exact hu

end
end Cert.Proof.Experts
-- ==== Proof.Experts.Stages.lean ====
module

public import proofs.«01_k».proof.Proof.Experts.Slots

@[expose] public section

noncomputable section

namespace Cert.Proof.Experts

open Idealize.ShloMosaic Idealize.ShloMosaic.TcCoe
open Cert.KernelEIdeal Cert.KernelEIdeal.Gen
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Tactic
open Idealize.ShloMosaic.Pipeline (UD)

variable {F : FTy → Type} [FloatOps F]

/-- The resources the run is stated over. -/
local notation "𝕄" => MT nD τ sig Unit (Elt F) ℕ (UD sig nD τ) ℕ

section
variable (c : Dev nD)
variable (i : grid0.Coords) (a2 : Memref sig .tc .smem S136 .i32) (h2 : a2.IsWhole) (a3 : Memref sig .tc .smem S136 .i32) (h3 : a3.IsWhole)
  (a4 : Memref sig .tc .vmem S136x512 .i32) (h4 : a4.IsWhole)
  (a6 : Memref sig .tc .vmem S1x1024x1792 .bf16) (h6 : a6.IsWhole) (a7 : Memref sig .tc .vmem S1x1024x1792 .bf16) (h7 : a7.IsWhole)
  (a8 : Memref sig .tc .vmem S1x1792x1024 .bf16) (h8 : a8.IsWhole) (a9 : Memref sig .tc .vmem S512x1024 .f32) (h9 : a9.IsWhole)

/-! The body is seven stages. -/

/-- The first tile's row numbers fetched and its rows' copies issued, at the first point, -/
def st1 (K : Prog (TpuEff nD τ sig (Elt F) Λ₀ .tc) PUnit) : Prog (TpuEff nD τ sig (Elt F) Λ₀ .tc) PUnit :=
  if k0_h1 : k0_cond1 i = 1#1 then do
    let v34 : Memref sig .tc .vmem S1x512 .i32 := a4.slice (Rect.unit (s := S136x512) ![0, 0] S1x512.size inb_S136x512_S1x512_0_0) (fun _ => rfl)
    let v35 : Memref sig .tc .vmem S512 .i32 := v34.squeeze S512 squeezes_S1x512_S512
    Prog.lift (.enqueueDma v35 (.here (Memref.whole cc0_scratch0)) (.dma cc0_scratch4.sem) ((View.wordExact_bits rfl).reshape _ _) (Memref.isWhole_whole cc0_scratch0).wordExact ⟨Or.inl rfl, trivial⟩)
    let v36 : Memref sig .tc .vmem S1x512 .i32 := a4.slice (Rect.unit (s := S136x512) ![0, 0] S1x512.size inb_S136x512_S1x512_0_0) (fun _ => rfl)
    let v37 : Memref sig .tc .vmem S512 .i32 := v36.squeeze S512 squeezes_S1x512_S512
    Prog.lift (.waitDma2 cc0_scratch4.sem v37 (Memref.whole cc0_scratch0) ((View.wordExact_bits rfl).reshape _ _) (Memref.isWhole_whole cc0_scratch0).wordExact)
    Scf.Loop.for k0_t1_loop (k0_t1_ok i k0_h1) ⟨⟩ (k0_t1_body i a2 h2 a3 h3 a4 h4 (Memref.whole main_arg3) (Memref.isWhole_whole main_arg3) a6 h6 a7 h7 a8 h8 a9 h9 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) cc0_scratch4 cc0_scratch5 k0_h1)
    K
  else K

/-- the next tile's row numbers asked for, -/
def st2 (v15 : BitVec 1) (K : Prog (TpuEff nD τ sig (Elt F) Λ₀ .tc) PUnit) : Prog (TpuEff nD τ sig (Elt F) Λ₀ .tc) PUnit :=
  if v15 = 1#1 then do
    let v34 : Memref sig .tc .vmem S1x512 .i32 := a4.slice (Rect.unit (s := S136x512) (k0_off6 i) S1x512.size (k0_off6_inb i)) (fun _ => rfl)
    let v35 : Memref sig .tc .vmem S512 .i32 := v34.squeeze S512 squeezes_S1x512_S512
    Prog.lift (.enqueueDma v35 (.here (Memref.whole cc0_scratch0)) (.dma cc0_scratch4.sem) ((View.wordExact_bits rfl).reshape _ _) (Memref.isWhole_whole cc0_scratch0).wordExact ⟨Or.inl rfl, trivial⟩)
    K
  else K

/-- this tile's rows waited for and cast, -/
def st3 (v21 : BitVec 1) (K : Prog (TpuEff nD τ sig (Elt F) Λ₀ .tc) PUnit) : Prog (TpuEff nD τ sig (Elt F) Λ₀ .tc) PUnit :=
  if v21 = 1#1 then do
    Scf.Loop.for k0_t2_loop k0_t2_ok ⟨⟩ (k0_t2_body i a2 h2 a3 h3 a4 h4 (Memref.whole main_arg3) (Memref.isWhole_whole main_arg3) a6 h6 a7 h7 a8 h8 a9 h9 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) cc0_scratch4 cc0_scratch5)
    let v46 : Vec F S1x512x1024 .f32 ← Prog.lift (.load (Memref.whole cc0_scratch1) (Rect.unit (s := S2x512x1024) (k0_off11 i) S1x512x1024.size (k0_off11_inb i)).toLoadRect (View.loadsAt_vmem h_S1x512x1024))
    let v49 : Vec F S512x1024 .bf16 ← Prog.lift (.load (Memref.whole cc0_scratch2) (Rect.unit (s := S512x1024) ![0, 0] S512x1024.size inb_S512x1024_S512x1024_0_0).toLoadRect (View.loadsAt_vmem h_S512x1024))
    Prog.lift (.store (Memref.whole cc0_scratch2) (Rect.unit (s := S512x1024) ![0, 0] S512x1024.size inb_S512x1024_S512x1024_0_0) (k0_pay1 v46) Finset.univ (View.stores_vmem h_S512x1024 ((Memref.isWhole_whole cc0_scratch2).storeExact_slice rfl _ packedbf16_S512x1024_S512x1024_0_0) (fun _ => rfl)) (.inl rfl))
    K
  else K

/-- the accumulator cleared, -/
def st4 (v23 : BitVec 1) (K : Prog (TpuEff nD τ sig (Elt F) Λ₀ .tc) PUnit) : Prog (TpuEff nD τ sig (Elt F) Λ₀ .tc) PUnit :=
  if k0_h4 : v23 = 1#1 then do
    let v35 : Vec F S512x1024 .f32 ← Prog.lift (.load (Memref.whole cc0_scratch3) (Rect.unit (s := S512x1024) ![0, 0] S512x1024.size inb_S512x1024_S512x1024_0_0).toLoadRect (View.loadsAt_vmem h_S512x1024))
    Prog.lift (.store (Memref.whole cc0_scratch3) (Rect.unit (s := S512x1024) ![0, 0] S512x1024.size inb_S512x1024_S512x1024_0_0) (k0_pay2 (F := F)) Finset.univ (View.stores_vmem_bits_univ h_S512x1024 rfl) (.inl rfl))
    K
  else K

/-- the next tile's row numbers waited for and its rows' copies issued, -/
def st5 (v7 : Elt F .i32) (K : Prog (TpuEff nD τ sig (Elt F) Λ₀ .tc) PUnit) : Prog (TpuEff nD τ sig (Elt F) Λ₀ .tc) PUnit :=
  if k0_h5 : k0_cond5 i v7 = 1#1 then do
    let v34 : Memref sig .tc .vmem S1x512 .i32 := a4.slice (Rect.unit (s := S136x512) (k0_off12 i) S1x512.size (k0_off12_inb i)) (fun _ => rfl)
    let v35 : Memref sig .tc .vmem S512 .i32 := v34.squeeze S512 squeezes_S1x512_S512
    Prog.lift (.waitDma2 cc0_scratch4.sem v35 (Memref.whole cc0_scratch0) ((View.wordExact_bits rfl).reshape _ _) (Memref.isWhole_whole cc0_scratch0).wordExact)
    Scf.Loop.for k0_t3_loop k0_t3_ok ⟨⟩ (k0_t3_body i a2 h2 a3 h3 a4 h4 (Memref.whole main_arg3) (Memref.isWhole_whole main_arg3) a6 h6 a7 h7 a8 h8 a9 h9 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) cc0_scratch4 cc0_scratch5 v7 k0_h5)
    K
  else K

/-- this half of the hidden columns added to the accumulator, -/
def st6 (v30 : BitVec 1) (K : Prog (TpuEff nD τ sig (Elt F) Λ₀ .tc) PUnit) : Prog (TpuEff nD τ sig (Elt F) Λ₀ .tc) PUnit :=
  if v30 = 1#1 then do
    let v34 : Vec F S512x1024 .bf16 ← Prog.lift (.load (Memref.whole cc0_scratch2) (Rect.unit (s := S512x1024) ![0, 0] S512x1024.size inb_S512x1024_S512x1024_0_0).toLoadRect (View.loadsAt_vmem h_S512x1024))
    let v35 : Vec F S1x1024x1792 .bf16 ← Prog.lift (.load a6 (Rect.unit (s := S1x1024x1792) ![0, 0, 0] S1x1024x1792.size inb_S1x1024x1792_S1x1024x1792_0_0_0).toLoadRect (View.loadsAt_vmem h_S1x1024x1792))
    let v38 : Vec F S1x1024x1792 .bf16 ← Prog.lift (.load a7 (Rect.unit (s := S1x1024x1792) ![0, 0, 0] S1x1024x1792.size inb_S1x1024x1792_S1x1024x1792_0_0_0).toLoadRect (View.loadsAt_vmem h_S1x1024x1792))
    let v41 : Vec F S512x1024 .f32 ← Prog.lift (.load (Memref.whole cc0_scratch3) (Rect.unit (s := S512x1024) ![0, 0] S512x1024.size inb_S512x1024_S512x1024_0_0).toLoadRect (View.loadsAt_vmem h_S512x1024))
    let v46 : Vec F S1x1792x1024 .bf16 ← Prog.lift (.load a8 (Rect.unit (s := S1x1792x1024) ![0, 0, 0] S1x1792x1024.size inb_S1x1792x1024_S1x1792x1024_0_0_0).toLoadRect (View.loadsAt_vmem h_S1x1792x1024))
    let v50 : Vec F S512x1024 .f32 ← Prog.lift (.load (Memref.whole cc0_scratch3) (Rect.unit (s := S512x1024) ![0, 0] S512x1024.size inb_S512x1024_S512x1024_0_0).toLoadRect (View.loadsAt_vmem h_S512x1024))
    Prog.lift (.store (Memref.whole cc0_scratch3) (Rect.unit (s := S512x1024) ![0, 0] S512x1024.size inb_S512x1024_S512x1024_0_0) (k0_pay3 v34 v35 v38 v41 v46) Finset.univ (View.stores_vmem_bits_univ h_S512x1024 rfl) (.inl rfl))
    K
  else K

/-- and the accumulator written out. -/
def st7 (K : Prog (TpuEff nD τ sig (Elt F) Λ₀ .tc) PUnit) : Prog (TpuEff nD τ sig (Elt F) Λ₀ .tc) PUnit :=
  if k0_h7 : k0_cond7 i = 1#1 then do
    let v34 : Vec F S512x1024 .f32 ← Prog.lift (.load (Memref.whole cc0_scratch3) (Rect.unit (s := S512x1024) ![0, 0] S512x1024.size inb_S512x1024_S512x1024_0_0).toLoadRect (View.loadsAt_vmem h_S512x1024))
    let v35 : Vec F S512x1024 .f32 ← Prog.lift (.load a9 (Rect.unit (s := S512x1024) ![0, 0] S512x1024.size inb_S512x1024_S512x1024_0_0).toLoadRect (View.loadsAt_vmem h_S512x1024))
    Prog.lift (.store a9 (Rect.unit (s := S512x1024) ![0, 0] S512x1024.size inb_S512x1024_S512x1024_0_0) v34 Finset.univ (View.stores_vmem_bits_univ h_S512x1024 rfl) (.inl rfl))
    K
  else K

/-- The body, stage by stage. -/
theorem body_stages :
    k0_part1_skel (F := F) i a2 h2 a3 h3 a4 h4 (Memref.whole main_arg3) (Memref.isWhole_whole _) a6 h6 a7 h7 a8 h8 a9 h9
      (Memref.whole cc0_scratch0) (Memref.isWhole_whole _) (Memref.whole cc0_scratch1) (Memref.isWhole_whole _) (Memref.whole cc0_scratch2)
      (Memref.isWhole_whole _) (Memref.whole cc0_scratch3) (Memref.isWhole_whole _) cc0_scratch4 cc0_scratch5
    = (smemLoad a3 (Rect.unit (s := S136) (k0_off2 i) S1.size (k0_off2_inb i)) numel1_S1 rfl) >>= fun (v7 : Elt F .i32) =>
        st1 i a2 h2 a3 h3 a4 h4 a6 h6 a7 h7 a8 h8 a9 h9
          (st2 i a4 (Scalar.cmpi .ne (Scalar.extui (pfc (i 0).val (i 1).val v7) : BitVec 32) 0#32)
            ((smemLoad a3 (Rect.unit (s := S136) (k0_off7 i) S1.size (k0_off7_inb i)) numel1_S1 rfl) >>= fun (v17 : Elt F .i32) =>
              st3 i a2 h2 a3 h3 a4 h4 a6 h6 a7 h7 a8 h8 a9 h9
                (Scalar.cmpi .ne (Scalar.extui (Scalar.andi (Scalar.cmpi .eq (BitVec.ofNat 32 (i 1).val) 0#32) (pos v17)) : BitVec 32) 0#32)
                (st4 (Scalar.cmpi .ne (Scalar.extui (Scalar.cmpi .eq (BitVec.ofNat 32 (i 1).val) 0#32 : BitVec 1) : BitVec 32) 0#32)
                  (st5 i a2 h2 a3 h3 a4 h4 a6 h6 a7 h7 a8 h8 a9 h9 v7
                    ((smemLoad a3 (Rect.unit (s := S136) (k0_off18 i) S1.size (k0_off18_inb i)) numel1_S1 rfl) >>= fun (v27 : Elt F .i32) =>
                      st6 a6 a7 a8 (Scalar.cmpi .ne (Scalar.extui (pos v27) : BitVec 32) 0#32) (st7 i a9 (pure ⟨⟩))))))) := rfl

end
end Cert.Proof.Experts
-- ==== Proof.Experts.Steps.lean ====
module

public import proofs.«01_k».proof.Proof.Experts.Stages

@[expose] public section

noncomputable section

namespace Cert.Proof.Experts

open Idealize.ShloMosaic Idealize.ShloMosaic.TcCoe
open Cert.KernelEIdeal Cert.KernelEIdeal.Gen
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Tactic
open Idealize.ShloMosaic.Pipeline (UD)

variable {F : FTy → Type} [FloatOps F]

/-- The resources the run is stated over. -/
local notation "𝕄" => MT nD τ sig Unit (Elt F) ℕ (UD sig nD τ) ℕ

section
variable (c : Dev nD)

/-- A rectangle of the shape's own sizes places every index at itself. -/
theorem emb_full {s : Shape} {off : Fin s.rank → ℕ} (inb : ∀ a, off a + s.size a ≤ s.size a) (z : s.Idx) :
    (Rect.unit off s.size inb).emb z = z :=
  funext fun a => Fin.ext (by
    show off a + 1 * (z a).val = (z a).val
    have := inb a; omega)

/-- A load of a whole memref. -/
theorem ld_full {cs : CoreSpace} {s : Shape} {e : EltTy} (m : Memref sig .tc cs s e) (q : PosShare TreeShare) (X : s.Idx → Elt F e)
    {off : Fin s.rank → ℕ} (inb : ∀ a, off a + s.size a ≤ s.size a) {hl : m.view.LoadsAt (Rect.unit off s.size inb).toLoadRect}
    {α : Type} {k : (s.Idx → Elt F e) → Prog (TpuEff nD τ sig (Elt F) Λ₀ .tc) α} {Q : α → sProp 𝕄} :
    owns (c : Thread nD τ) m q X
      ⊢ iprop((owns (c : Thread nD τ) m q X -∗ wp frame (wpE (defs₀ (F := F)) Variants.none (c : Thread nD τ) none) Set.univ (k X) Q)
        -∗ wp frame (wpE (defs₀ (F := F)) Variants.none (c : Thread nD τ) none) Set.univ (.op (.load m (Rect.unit off s.size inb).toLoadRect hl) k) Q) := by
  unfold owns
  iintro ⟨%f, %hf, H⟩ HK
  subst hf
  iapply (wp_load Variants.none (c : Thread nD τ) none Set.univ (m := m) (S := m.view.set) (q := q) (f := f) (View.setOn_subset_set _ _)) $$ [H]
  · iexact H
  iintro H
  rw [show m.view.readAt (Elt F) (Rect.unit off s.size inb).toLoadRect f = m.view.read (Elt F) f from
    funext fun y => congrArg (m.view.read (Elt F) f) (emb_full inb y)]
  iapply HK
  iexists f
  isplitr; · ipureintro; rfl
  iexact H

/-- A store of a whole memref. -/
theorem st_full {cs : CoreSpace} {s : Shape} {e : EltTy} (m : Memref sig .tc cs s e) (X w : s.Idx → Elt F e)
    {off : Fin s.rank → ℕ} (inb : ∀ a, off a + s.size a ≤ s.size a)
    {hx : (m.access (Rect.unit off s.size inb)).Stores Finset.univ} {hm : (Finset.univ : Finset (Rect.unit off s.size inb).shape.Idx) = Finset.univ ∨ ∀ a, (Rect.unit off s.size inb).stride a = 1}
    {α : Type} {k : PUnit → Prog (TpuEff nD τ sig (Elt F) Λ₀ .tc) α} {Q : α → sProp 𝕄} :
    owns (c : Thread nD τ) m fullShare X
      ⊢ iprop((owns (c : Thread nD τ) m fullShare w -∗ wp frame (wpE (defs₀ (F := F)) Variants.none (c : Thread nD τ) none) Set.univ (k ⟨⟩) Q)
        -∗ wp frame (wpE (defs₀ (F := F)) Variants.none (c : Thread nD τ) none) Set.univ (.op (.store m (Rect.unit off s.size inb) w Finset.univ hx hm) k) Q) := by
  unfold owns
  iintro ⟨%f, %hf, H⟩ HK
  iapply (wp_store Variants.none (c : Thread nD τ) none Set.univ (m := m) (r := Rect.unit off s.size inb) (S := m.view.set) (f := f)
    (View.set_slice_subset m.view (Rect.unit off s.size inb))) $$ [H]
  · iexact H
  iintro H
  iapply HK
  iexists _
  isplitr
  swap; · iexact H
  ipureintro
  funext y
  have h0 : (m.access (Rect.unit off s.size inb)).read (Elt F) ((m.access (Rect.unit off s.size inb)).write (Elt F) f w Finset.univ) y = w y :=
    View.read_write_of_mem (v := m.access (Rect.unit off s.size inb)) f w (Finset.mem_univ y)
  refine Eq.trans ?_ h0
  have e : (Rect.unit off s.size inb).emb y = y := emb_full inb y
  show m.view.read (Elt F) _ y = m.view.read (Elt F) _ ((Rect.unit off s.size inb).emb y)
  rw [e]

/-! The row numbers of one tile, copied to scalar memory. -/

/-- The row numbers' index at tile `n` and place `y`. -/
def sIdx (n : ℕ) (y : S512.Idx) : S136x512.Idx :=
  fun a => match a with | ⟨0, _⟩ => ⟨min n 135, by show min n 135 < 136; omega⟩ | ⟨1, _⟩ => ⟨(y 0).val, (y 0).isLt⟩

/-- The row numbers of tile `n`. -/
def srow (S : S136x512.Idx → Elt F .i32) (n : ℕ) : S512.Idx → Elt F .i32 := fun y => S (sIdx n y)

/-- A tile's row numbers, as the copy names them. -/
abbrev rowV (a4 : Memref sig .tc .vmem S136x512 .i32) (off : Fin 2 → Nat) (inb : ∀ a, off a + S1x512.size a ≤ S136x512.size a) :
    Memref sig .tc .vmem S512 .i32 :=
  (a4.slice (Rect.unit (s := S136x512) off S1x512.size inb) (fun _ => rfl)).squeeze S512 squeezes_S1x512_S512

/-- The places of row `n` of the table of tokens. -/
theorem rowV_emb (a4 : Memref sig .tc .vmem S136x512 .i32) (off : Fin 2 → Nat) (inb : ∀ a, off a + S1x512.size a ≤ S136x512.size a)
    (n : ℕ) (hn : n < 136) (e : off = ![n, 0]) (y : S512.Idx) :
    (Rect.unit (s := S136x512) off S1x512.size inb).emb (Shape.reshapeEquiv (s := S1x512) (s' := S512) squeezes_S1x512_S512.numel_eq y) = sIdx n y := by
  subst e
  erw [Shape.reshapeEquiv_cons_one]
  funext a
  refine Fin.ext ?_
  match a with
  | ⟨0, _⟩ => show n + 1 * 0 = min n 135; omega
  | ⟨1, _⟩ => show 0 + 1 * (y 0).val = (y 0).val; omega

/-- What a view of row `n` of the table reads. -/
theorem rowV_read (a4 : Memref sig .tc .vmem S136x512 .i32) (off : Fin 2 → Nat) (inb : ∀ a, off a + S1x512.size a ≤ S136x512.size a)
    (n : ℕ) (hn : n < 136) (e : off = ![n, 0]) (f) :
    (rowV a4 off inb).view.read (Elt F) f = srow (a4.view.read (Elt F) f) n := by
  funext y
  show a4.view.read (Elt F) f ((Rect.unit (s := S136x512) off S1x512.size inb).emb (Shape.reshapeEquiv (s := S1x512) (s' := S512) squeezes_S1x512_S512.numel_eq y)) = _
  rw [rowV_emb a4 off inb n hn e y]
  rfl

/-- A row of the table lies within the table. -/
theorem rowV_sub (a4 : Memref sig .tc .vmem S136x512 .i32) (off : Fin 2 → Nat) (inb : ∀ a, off a + S1x512.size a ≤ S136x512.size a) :
    (rowV a4 off inb).view.set ⊆ a4.view.set := by
  intro z hz
  obtain ⟨j, -, rfl⟩ := Finset.mem_map.mp hz
  exact Finset.mem_map.mpr ⟨(Rect.unit (s := S136x512) off S1x512.size inb).emb (Shape.reshapeEquiv (s := S1x512) (s' := S512) squeezes_S1x512_S512.numel_eq j), Finset.mem_univ _, rfl⟩

/-- The scalar memory's credit. -/
def N4 : ℕ := (Memref.whole cc0_scratch0).view.dmaCredit

/-- The amount on the counter is positive. -/
theorem N4_pos : 0 < N4 := by decide +kernel

/-- The copy of one tile's row numbers in flight. -/
def inflight (a4 : Memref sig .tc .vmem S136x512 .i32) (S : S136x512.Idx → Elt F .i32) (n : ℕ) : sProp 𝕄 :=
  iprop(∃ (off : Fin 2 → Nat) (inb : ∀ a, off a + S1x512.size a ≤ S136x512.size a) (f4 : Buf (Elt F) (a4.view.loc (c : Thread nD τ)))
      (fd : S512.Idx → Elt F .i32), ⌜off = ![n, 0] ∧ n < 136 ∧ a4.view.read (Elt F) f4 = S⌝
    ∗ (a4.view.loc (c : Thread nD τ) ↦[a4.view.set \ (rowV a4 off inb).view.set]{fullShare} f4)
    ∗ Transfers.Flight (countersEmb (U := UD sig nD τ)) (c : Thread nD τ) (.dma cc0_scratch4.sem) () N4
        (iprop(((Memref.whole cc0_scratch0).view.loc (c : Thread nD τ) ↦[Finset.univ]{fullShare}
            ((Memref.whole cc0_scratch0).view.write (Elt F) fd (ReadAs.same.apply ((rowV a4 off inb).view.read (Elt F) f4)) Finset.univ))
          ∗ (a4.view.loc (c : Thread nD τ) ↦[(rowV a4 off inb).view.set]{fullShare} f4))))

/-- The copy issued. -/
theorem row_issue (a4 : Memref sig .tc .vmem S136x512 .i32) (S : S136x512.Idx → Elt F .i32) (n : ℕ) (hn : n < 136)
    (off : Fin 2 → Nat) (inb : ∀ a, off a + S1x512.size a ≤ S136x512.size a) (e : off = ![n, 0]) (sm : S512.Idx → Elt F .i32)
    {hsrc : (rowV a4 off inb).view.WordExact} {hdst : (Memref.whole cc0_scratch0).view.WordExact}
    {hsem : (DmaTarget.here (Memref.whole cc0_scratch0) : DmaTarget nD τ sig .tc .smem S512 .i32).Typed .vmem (.dma cc0_scratch4.sem)}
    {α : Type} {kk : PUnit → Prog (TpuEff nD τ sig (Elt F) Λ₀ .tc) α} {Q : α → sProp 𝕄} :
    iprop(owns (c : Thread nD τ) a4 fullShare S ∗ ((Memref.whole cc0_scratch0).view.loc (c : Thread nD τ) ↦{fullShare} sm)
        ∗ semVal ((c : Thread nD τ), SemLoc.dma cc0_scratch4.sem) 0)
      ⊢ iprop((inflight c a4 S n -∗ wp frame (wpE (defs₀ (F := F)) Variants.none (c : Thread nD τ) none) Set.univ (kk ⟨⟩) Q)
        -∗ wp frame (wpE (defs₀ (F := F)) Variants.none (c : Thread nD τ) none) Set.univ
          (.op (.enqueueDma (rowV a4 off inb) (.here (Memref.whole cc0_scratch0)) (.dma cc0_scratch4.sem) hsrc hdst hsem) kk) Q) := by
  unfold owns
  iintro ⟨⟨%f4, %hf, H4⟩, HS, Hv⟩ HK
  ihave Hsplit := (pointsTo_split_subset (rowV_sub a4 off inb)).1 $$ H4
  icases Hsplit with ⟨Hs, Hd⟩
  iapply (Transfers.wp_dmaLocal (countersEmb (U := UD sig nD τ)) Variants.none (c : Thread nD τ) none (src := rowV a4 off inb) (via := .same)
    (dst := Memref.whole cc0_scratch0) (sm := .dma cc0_scratch4.sem) (q := fullShare) (fs := f4) (Sd := Finset.univ) (fd := sm) () N4 rfl N4_pos
    (Finset.subset_univ _)) $$ [Hs HS Hv]
  · isplitl [Hs]; · iexact Hs
    isplitl [HS]; · iexact HS
    iexact Hv
  iintro HF
  iapply HK
  unfold inflight
  iexists off
  iexists inb
  iexists f4
  iexists sm
  isplitr; · ipureintro; exact ⟨e, hn, hf⟩
  isplitl [Hd]; · iexact Hd
  iexact HF

/-- The copy waited for. -/
theorem row_wait (a4 : Memref sig .tc .vmem S136x512 .i32) (S : S136x512.Idx → Elt F .i32) (n : ℕ)
    (srcw : Memref sig .tc .vmem S512 .i32)
    {hsrc : srcw.view.WordExact} {hdst : (Memref.whole cc0_scratch0).view.WordExact}
    {α : Type} {kk : PUnit → Prog (TpuEff nD τ sig (Elt F) Λ₀ .tc) α} {Q : α → sProp 𝕄} :
    iprop(inflight c a4 S n ∗ (∃ W, owes (c : Thread nD τ) 0 W))
      ⊢ iprop((iprop(owns (c : Thread nD τ) a4 fullShare S ∗ ((Memref.whole cc0_scratch0).view.loc (c : Thread nD τ) ↦{fullShare} srow S n)
            ∗ semVal ((c : Thread nD τ), SemLoc.dma cc0_scratch4.sem) 0 ∗ (∃ W, owes (c : Thread nD τ) 0 W))
          -∗ wp frame (wpE (defs₀ (F := F)) Variants.none (c : Thread nD τ) none) Set.univ (kk ⟨⟩) Q)
        -∗ wp frame (wpE (defs₀ (F := F)) Variants.none (c : Thread nD τ) none) Set.univ
          (.op (.waitDma2 cc0_scratch4.sem srcw (Memref.whole cc0_scratch0) hsrc hdst) kk) Q) := by
  unfold inflight
  iintro ⟨⟨%off, %inb, %f4, %fd, %hh, Hd, HF⟩, %W, HO⟩ HK
  obtain ⟨e, hn, rfl⟩ := hh
  iapply (Transfers.wp_waitLocal (countersEmb (U := UD sig nD τ)) Variants.none (c : Thread nD τ) none (srcw := srcw)
    (dstw := Memref.whole cc0_scratch0) () (N := N4) rfl) $$ [HF HO]
  · isplitl [HF] <;> iassumption
  iintro ⟨⟨HS, Hs⟩, Hv, HO⟩
  iapply HK
  isplitl [Hs Hd]
  · iapply (owns_intro (c : Thread nD τ) a4 fullShare f4)
    iapply (pointsTo_split_subset (rowV_sub a4 off inb)).2
    isplitl [Hs] <;> iassumption
  isplitl [HS]
  · have ew : (Memref.whole cc0_scratch0).view.write (Elt F) fd (ReadAs.same.apply ((rowV a4 off inb).view.read (Elt F) f4)) Finset.univ
        = srow (a4.view.read (Elt F) f4) n := by
      rw [← rowV_read a4 off inb n hn e f4]
      exact View.write_whole_univ _ _ _
    rw [ew]
    iexact HS
  isplitl [Hv]; · iexact Hv
  iexists _
  iexact HO

end
end Cert.Proof.Experts
-- ==== Proof.Experts.Runs.lean ====
module

public import proofs.«01_k».proof.Proof.Experts.Steps

@[expose] public section

noncomputable section

namespace Cert.Proof.Experts

open Idealize.ShloMosaic Idealize.ShloMosaic.TcCoe
open Cert.KernelEIdeal Cert.KernelEIdeal.Gen
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Tactic
open Idealize.ShloMosaic.Pipeline (UD)

variable {F : FTy → Type} [FloatOps F]

/-- The resources the run is stated over. -/
local notation "𝕄" => MT nD τ sig Unit (Elt F) ℕ (UD sig nD τ) ℕ

section
variable (c : Dev nD)

/-- Slot `s` with nothing in flight. -/
def one (s : ℕ) (hs : s < 2) : sProp 𝕄 :=
  iprop((∃ g, xgOn c (sset s) g) ∗ semVal ((c : Thread nD τ), SemLoc.dma (semS s hs)) 0)

/-- Both slots with nothing in flight, and the array of tokens whole. -/
def idle (h : S32768x1024.Idx → Elt F .f32) : sProp 𝕄 :=
  iprop(one c 0 (by decide) ∗ one c 1 (by decide) ∗ hfOn c Finset.univ fullShare h)

/-- Tile `n`'s rows in flight into its slot, the other slot with nothing in flight. -/
def busyS (S : S136x512.Idx → Elt F .i32) (h : S32768x1024.Idx → Elt F .f32) (n : ℕ) : sProp 𝕄 :=
  iprop(one c ((n + 1) % 2) (Nat.mod_lt _ (by decide)) ∗ busy c (n % 2) (Nat.mod_lt _ (by decide)) (wix (srow S n)) h)

/-- Idle slots, the slot of tile `n` first. -/
theorem idle_split (h : S32768x1024.Idx → Elt F .f32) (n : ℕ) :
    (idle c h : sProp 𝕄) ⊣⊢ iprop(one c (n % 2) (Nat.mod_lt _ (by decide)) ∗ one c ((n + 1) % 2) (Nat.mod_lt _ (by decide)) ∗ hfOn c Finset.univ fullShare h) := by
  have key : ∀ (a b : ℕ) (ha : a < 2) (hb : b < 2), (a = 0 ∧ b = 1) ∨ (a = 1 ∧ b = 0) →
      ((idle c h : sProp 𝕄) ⊣⊢ iprop(one c a ha ∗ one c b hb ∗ hfOn c Finset.univ fullShare h)) := by
    rintro a b ha hb (⟨rfl, rfl⟩ | ⟨rfl, rfl⟩)
    · exact .rfl
    · unfold idle
      constructor
      · iintro ⟨H0, H1, H⟩
        isplitl [H1]; · iexact H1
        isplitl [H0] <;> iassumption
      · iintro ⟨H0, H1, H⟩
        isplitl [H1]; · iexact H1
        isplitl [H0] <;> iassumption
  exact key _ _ _ _ (by omega)

/-- The row numbers' array, the scalar memory and their semaphore, with no copy in flight. -/
def srcHeld (a4 : Memref sig .tc .vmem S136x512 .i32) (S : S136x512.Idx → Elt F .i32) : sProp 𝕄 :=
  iprop(owns (c : Thread nD τ) a4 fullShare S ∗ (∃ sm, ((Memref.whole cc0_scratch0).view.loc (c : Thread nD τ) ↦{fullShare} sm))
    ∗ semVal ((c : Thread nD τ), SemLoc.dma cc0_scratch4.sem) 0)

/-- Nothing owed. -/
abbrev calm : sProp 𝕄 := iprop(∃ W, owes (c : Thread nD τ) 0 W)

/-- A tile's word of a table. -/
def tIdx (n : ℕ) : S136.Idx := fun a => match a with | ⟨0, _⟩ => ⟨min n 135, by show min n 135 < 136; omega⟩

/-- A table word loaded. -/
theorem ld_tv (q : PosShare TreeShare) (tv : S136.Idx → Elt F .i32) (off : Fin 1 → Nat) (inb : ∀ a, off a + S1.size a ≤ S136.size a) (n : ℕ)
    (hn : n < 136) (e : off = ![n]) {hw : main_arg1.ty.elt.packing = 1}
    {α : Type} {k : Elt F .i32 → Prog (TpuEff nD τ sig (Elt F) Λ₀ .tc) α} {Q : α → sProp 𝕄} :
    ((Memref.whole main_arg1).view.loc (c : Thread nD τ) ↦{q} tv)
      ⊢ iprop((((Memref.whole main_arg1).view.loc (c : Thread nD τ) ↦{q} tv) -∗ wp frame (wpE (defs₀ (F := F)) Variants.none (c : Thread nD τ) none) Set.univ (k (tv (tIdx n))) Q)
        -∗ wp frame (wpE (defs₀ (F := F)) Variants.none (c : Thread nD τ) none) Set.univ
          (smemLoad (Memref.whole main_arg1) (Rect.unit (s := S136) off S1.size inb) numel1_S1 hw >>= k) Q) := by
  iintro HT HK
  rw [wp_bind]
  iapply (wp_smemLoadElt Variants.none (c : Thread nD τ) none Set.univ (m := Memref.whole main_arg1)
    (r := Rect.unit (s := S136) off S1.size inb) (f := tv) (S := Finset.univ) (q := q) (Finset.subset_univ _)) $$ [HT]
  · iexact HT
  iintro HT
  rw [wp_ret]
  imodintro
  have er : ∀ x, ((Memref.whole main_arg1).access (Rect.unit (s := S136) off S1.size inb)).read (Elt F) tv x = tv (tIdx n) := by
    intro x
    subst e
    refine congrArg tv (funext fun a => Fin.ext ?_)
    match a with
    | ⟨0, _⟩ =>
      have : (x 0).val < 1 := (x 0).isLt
      show n + 1 * (x 0).val = min n 135
      omega
  rw [er]
  iapply HK $$ HT

variable (i : grid0.Coords) (a2 : Memref sig .tc .smem S136 .i32) (h2 : a2.IsWhole) (a3 : Memref sig .tc .smem S136 .i32) (h3 : a3.IsWhole)
  (a4 : Memref sig .tc .vmem S136x512 .i32) (h4 : a4.IsWhole)
  (a6 : Memref sig .tc .vmem S1x1024x1792 .bf16) (h6 : a6.IsWhole) (a7 : Memref sig .tc .vmem S1x1024x1792 .bf16) (h7 : a7.IsWhole)
  (a8 : Memref sig .tc .vmem S1x1792x1024 .bf16) (h8 : a8.IsWhole) (a9 : Memref sig .tc .vmem S512x1024 .f32) (h9 : a9.IsWhole)
  (S : S136x512.Idx → Elt F .i32) (h : S32768x1024.Idx → Elt F .f32)

/-- The first stage at the first point. -/
theorem st1_run (hr : ∀ n k, wix (srow S n) k < 32768) (hc : k0_cond1 i = 1#1)
    {K : Prog (TpuEff nD τ sig (Elt F) Λ₀ .tc) PUnit} {Q : PUnit → sProp 𝕄} :
    iprop(srcHeld c a4 S ∗ calm (F := F) c ∗ idle c h)
      ⊢ iprop((iprop(srcHeld c a4 S ∗ calm (F := F) c ∗ busyS c S h 0)
          -∗ wp frame (wpE (defs₀ (F := F)) Variants.none (c : Thread nD τ) none) Set.univ K Q)
        -∗ wp frame (wpE (defs₀ (F := F)) Variants.none (c : Thread nD τ) none) Set.univ (st1 i a2 h2 a3 h3 a4 h4 a6 h6 a7 h7 a8 h8 a9 h9 K) Q) := by
  unfold st1
  rw [dif_pos hc]
  dsimp only
  unfold srcHeld
  iintro ⟨⟨H4, ⟨%sm, HS⟩, Hv⟩, HO, HI⟩ HK
  rw [wp_bind]
  iapply (row_issue c a4 S 0 (by decide) ![0, 0] inb_S136x512_S1x512_0_0 rfl sm) $$ [H4 HS Hv]
  · isplitl [H4]; · iexact H4
    isplitl [HS] <;> iassumption
  iintro HF
  rw [wp_ret]
  imodintro
  rw [wp_bind]
  iapply (row_wait c a4 S 0 _) $$ [HF HO]
  · isplitl [HF] <;> iassumption
  iintro ⟨H4, HS, Hv, HO⟩
  rw [wp_ret]
  imodintro
  ihave HI' := (idle_split c h 0).1 $$ HI
  unfold one
  icases HI' with ⟨⟨⟨%g, Hx⟩, Hs⟩, H1, Hh⟩
  imod (issue_start c 0 (by decide) (wix (srow S 0)) g h (srow S 0)) $$ [HS Hx Hh Hs] with ⟨HA, HR⟩
  · isplitl [HS]; · iexact HS
    isplitl [Hx]; · iexact Hx
    isplitl [Hh] <;> iassumption
  iapply (issue_loop1 c i a2 h2 a3 h3 a4 h4 a6 h6 a7 h7 a8 h8 a9 h9 hc g h (srow S 0) (hr 0) (kk := fun _ => K)) $$ [HA]
  · iexact HA
  iintro HA
  ihave HE := (issue_end c 0 (by decide) (wix (srow S 0)) g h (srow S 0)) $$ [HA HR]
  · isplitl [HA] <;> iassumption
  icases HE with ⟨HS, HB⟩
  iapply HK
  isplitl [H4 HS Hv]
  · isplitl [H4]; · iexact H4
    isplitl [HS]; · iexists _; iexact HS
    iexact Hv
  isplitl [HO]; · iexact HO
  unfold busyS one
  isplitl [H1]; · iexact H1
  iexact HB

/-- The second stage, the next tile's rows to be fetched. -/
theorem st2_run (v15 : BitVec 1) (hv : v15 = 1#1)
    {K : Prog (TpuEff nD τ sig (Elt F) Λ₀ .tc) PUnit} {Q : PUnit → sProp 𝕄} :
    srcHeld c a4 S
      ⊢ iprop((inflight c a4 S (min ((i 0).val + 1) 135)
          -∗ wp frame (wpE (defs₀ (F := F)) Variants.none (c : Thread nD τ) none) Set.univ K Q)
        -∗ wp frame (wpE (defs₀ (F := F)) Variants.none (c : Thread nD τ) none) Set.univ (st2 i a4 v15 K) Q) := by
  unfold st2
  rw [if_pos hv]
  dsimp only
  unfold srcHeld
  iintro ⟨H4, ⟨%sm, HS⟩, Hv⟩ HK
  rw [wp_bind]
  iapply (row_issue c a4 S (min ((i 0).val + 1) 135) (by omega) (k0_off6 i) (k0_off6_inb i) (off6_eq i) sm) $$ [H4 HS Hv]
  · isplitl [H4]; · iexact H4
    isplitl [HS] <;> iassumption
  iintro HF
  rw [wp_ret]
  imodintro
  iapply HK $$ HF

/-- The rows a tile gathers, as its slot holds them. -/
def xrows (S : S136x512.Idx → Elt F .i32) (h : S32768x1024.Idx → Elt F .f32) (n : ℕ) : Vec F S1x512x1024 .f32 :=
  fun z => h (hidx (clampRow (wix (srow S n) (z 1).val)) (z 2))

/-- The rows of the slot, loaded. -/
theorem slot_read (ix : ℕ → ℕ) (s : ℕ) (off : Fin 3 → Nat) (inb : ∀ a, off a + S1x512x1024.size a ≤ S2x512x1024.size a) (e : off = ![s, 0, 0])
    (z : S1x512x1024.Idx) :
    ((Memref.whole cc0_scratch1).access (Rect.unit (s := S2x512x1024) off S1x512x1024.size inb)).read (Elt F) (gath ix h) z
      = h (hidx (clampRow (ix (z 1).val)) (z 2)) := by
  subst e
  refine congrArg h (congrArg₂ hidx (congrArg (fun k => clampRow (ix k)) ?_) (Fin.ext ?_))
  · show 0 + 1 * (z 1).val = (z 1).val; omega
  · show 0 + 1 * (z 2).val = (z 2).val; omega

/-- A view of a whole buffer stays within that buffer. -/
theorem slot_sub (s : ℕ) (off : Fin 3 → Nat) (inb : ∀ a, off a + S1x512x1024.size a ≤ S2x512x1024.size a) (e : off = ![s, 0, 0]) :
    (((Memref.whole cc0_scratch1).access (Rect.unit (s := S2x512x1024) off S1x512x1024.size inb)).set : Finset S2x512x1024.Idx) ⊆ sset s := by
  intro y hy
  obtain ⟨z, -, rfl⟩ := Finset.mem_map.mp hy
  subst e
  refine Finset.mem_filter.mpr ⟨Finset.mem_univ _, ?_⟩
  have : (z 0).val < 1 := (z 0).isLt
  show s + 1 * (z 0).val = s
  omega

/-- The third stage, the tile's rows having been fetched. -/
theorem st3_run (v21 : BitVec 1) (hv : v21 = 1#1) (x : S512x1024.Idx → Elt F .bf16)
    {K : Prog (TpuEff nD τ sig (Elt F) Λ₀ .tc) PUnit} {Q : PUnit → sProp 𝕄} :
    iprop(busyS c S h (i 0).val ∗ calm (F := F) c ∗ owns (c : Thread nD τ) (Memref.whole cc0_scratch2) fullShare x)
      ⊢ iprop((iprop(idle c h ∗ calm (F := F) c ∗ owns (c : Thread nD τ) (Memref.whole cc0_scratch2) fullShare (k0_pay1 (xrows S h (i 0).val)))
          -∗ wp frame (wpE (defs₀ (F := F)) Variants.none (c : Thread nD τ) none) Set.univ K Q)
        -∗ wp frame (wpE (defs₀ (F := F)) Variants.none (c : Thread nD τ) none) Set.univ (st3 i a2 h2 a3 h3 a4 h4 a6 h6 a7 h7 a8 h8 a9 h9 v21 K) Q) := by
  unfold st3
  rw [if_pos hv]
  iintro ⟨HB, HO, HX⟩ HK
  unfold busyS
  icases HB with ⟨H1, HB⟩
  ihave HD := (drain_start c ((i 0).val % 2) (Nat.mod_lt _ (by decide)) (wix (srow S (i 0).val)) h) $$ [HB HO]
  · isplitl [HB] <;> iassumption
  icases HD with ⟨HD, HR⟩
  iapply (drain_loop c i a2 h2 a3 h3 a4 h4 a6 h6 a7 h7 a8 h8 a9 h9 (wix (srow S (i 0).val)) h) $$ [HD]
  · iexact HD
  iintro HD
  ihave HE := (drain_end c ((i 0).val % 2) (Nat.mod_lt _ (by decide)) (wix (srow S (i 0).val)) h) $$ [HD HR]
  · isplitl [HD] <;> iassumption
  icases HE with ⟨HO, Hx, Hh, Hs⟩
  rw [wp_bind]
  iapply (wp_load_rect Variants.none (c : Thread nD τ) none Set.univ (m := Memref.whole cc0_scratch1)
    (r := Rect.unit (s := S2x512x1024) (k0_off11 i) S1x512x1024.size (k0_off11_inb i)) (S := sset ((i 0).val % 2)) (q := fullShare)
    (f := gath (wix (srow S (i 0).val)) h) (slot_sub _ _ _ (off11_eq i))) $$ [Hx]
  · iexact Hx
  iintro Hx
  rw [wp_ret]
  imodintro
  rw [show ((Memref.whole cc0_scratch1).access (Rect.unit (s := S2x512x1024) (k0_off11 i) S1x512x1024.size (k0_off11_inb i))).read (Elt F) (gath (wix (srow S (i 0).val)) h)
    = xrows S h (i 0).val from funext fun z => slot_read h _ _ _ _ (off11_eq i) z]
  rw [wp_bind]
  iapply (ld_full c (Memref.whole cc0_scratch2) fullShare x inb_S512x1024_S512x1024_0_0) $$ [HX]
  · iexact HX
  iintro HX
  rw [wp_ret]
  imodintro
  rw [wp_bind]
  iapply (st_full c (Memref.whole cc0_scratch2) x (k0_pay1 (xrows S h (i 0).val)) inb_S512x1024_S512x1024_0_0) $$ [HX]
  · iexact HX
  iintro HX
  rw [wp_ret]
  imodintro
  iapply HK
  isplitl [H1 Hx Hh Hs]
  · iapply (idle_split c h (i 0).val).2
    isplitl [Hx Hs]
    · unfold one
      isplitl [Hx]; · iexists _; iexact Hx
      iexact Hs
    isplitl [H1] <;> iassumption
  isplitl [HO] <;> iassumption

/-- The fourth stage, at a tile's first point. -/
theorem st4_run (v23 : BitVec 1) (hv : v23 = 1#1) (A : S512x1024.Idx → Elt F .f32)
    {K : Prog (TpuEff nD τ sig (Elt F) Λ₀ .tc) PUnit} {Q : PUnit → sProp 𝕄} :
    owns (c : Thread nD τ) (Memref.whole cc0_scratch3) fullShare A
      ⊢ iprop((owns (c : Thread nD τ) (Memref.whole cc0_scratch3) fullShare (k0_pay2 (F := F))
          -∗ wp frame (wpE (defs₀ (F := F)) Variants.none (c : Thread nD τ) none) Set.univ K Q)
        -∗ wp frame (wpE (defs₀ (F := F)) Variants.none (c : Thread nD τ) none) Set.univ (st4 v23 K) Q) := by
  unfold st4
  rw [dif_pos hv]
  iintro HX HK
  rw [wp_bind]
  iapply (ld_full c (Memref.whole cc0_scratch3) fullShare A inb_S512x1024_S512x1024_0_0) $$ [HX]
  · iexact HX
  iintro HX
  rw [wp_ret]
  imodintro
  rw [wp_bind]
  iapply (st_full c (Memref.whole cc0_scratch3) A (k0_pay2 (F := F)) inb_S512x1024_S512x1024_0_0) $$ [HX]
  · iexact HX
  iintro HX
  rw [wp_ret]
  imodintro
  iapply HK $$ HX

/-- The fifth stage, the next tile's rows to be fetched. -/
theorem st5_run (hr : ∀ n k, wix (srow S n) k < 32768) (v7 : Elt F .i32) (hc : k0_cond5 i v7 = 1#1)
    {K : Prog (TpuEff nD τ sig (Elt F) Λ₀ .tc) PUnit} {Q : PUnit → sProp 𝕄} :
    iprop(inflight c a4 S (min ((i 0).val + 1) 135) ∗ calm (F := F) c ∗ idle c h)
      ⊢ iprop((iprop(srcHeld c a4 S ∗ calm (F := F) c ∗ busyS c S h (min ((i 0).val + 1) 135))
          -∗ wp frame (wpE (defs₀ (F := F)) Variants.none (c : Thread nD τ) none) Set.univ K Q)
        -∗ wp frame (wpE (defs₀ (F := F)) Variants.none (c : Thread nD τ) none) Set.univ (st5 i a2 h2 a3 h3 a4 h4 a6 h6 a7 h7 a8 h8 a9 h9 v7 K) Q) := by
  unfold st5
  rw [dif_pos hc]
  dsimp only
  iintro ⟨HF, HO, HI⟩ HK
  rw [wp_bind]
  iapply (row_wait c a4 S (min ((i 0).val + 1) 135) _) $$ [HF HO]
  · isplitl [HF] <;> iassumption
  iintro ⟨H4, HS, Hv, HO⟩
  rw [wp_ret]
  imodintro
  ihave HI' := (idle_split c h (min ((i 0).val + 1) 135)).1 $$ HI
  unfold one
  icases HI' with ⟨⟨⟨%g, Hx⟩, Hs⟩, H1, Hh⟩
  imod (issue_start c (min ((i 0).val + 1) 135 % 2) (Nat.mod_lt _ (by decide)) (wix (srow S (min ((i 0).val + 1) 135))) g h (srow S (min ((i 0).val + 1) 135))) $$ [HS Hx Hh Hs] with ⟨HA, HR⟩
  · isplitl [HS]; · iexact HS
    isplitl [Hx]; · iexact Hx
    isplitl [Hh] <;> iassumption
  iapply (issue_loop3 c i a2 h2 a3 h3 a4 h4 a6 h6 a7 h7 a8 h8 a9 h9 v7 hc g h (srow S (min ((i 0).val + 1) 135)) (hr _) (kk := fun _ => K)) $$ [HA]
  · iexact HA
  iintro HA
  ihave HE := (issue_end c (min ((i 0).val + 1) 135 % 2) (Nat.mod_lt _ (by decide)) (wix (srow S (min ((i 0).val + 1) 135))) g h (srow S (min ((i 0).val + 1) 135))) $$ [HA HR]
  · isplitl [HA] <;> iassumption
  icases HE with ⟨HS, HB⟩
  iapply HK
  isplitl [H4 HS Hv]
  · unfold srcHeld
    isplitl [H4]; · iexact H4
    isplitl [HS]; · iexists _; iexact HS
    iexact Hv
  isplitl [HO]; · iexact HO
  unfold busyS one
  isplitl [H1]; · iexact H1
  iexact HB

/-- The sixth stage, the tile being valid. -/
theorem st6_run (v30 : BitVec 1) (hv : v30 = 1#1) (x : S512x1024.Idx → Elt F .bf16) (w1 w3 : S1x1024x1792.Idx → Elt F .bf16)
    (w2 : S1x1792x1024.Idx → Elt F .bf16) (A : S512x1024.Idx → Elt F .f32)
    {K : Prog (TpuEff nD τ sig (Elt F) Λ₀ .tc) PUnit} {Q : PUnit → sProp 𝕄} :
    iprop(owns (c : Thread nD τ) (Memref.whole cc0_scratch2) fullShare x ∗ owns (c : Thread nD τ) a6 fullShare w1
        ∗ owns (c : Thread nD τ) a7 fullShare w3 ∗ owns (c : Thread nD τ) a8 fullShare w2
        ∗ owns (c : Thread nD τ) (Memref.whole cc0_scratch3) fullShare A)
      ⊢ iprop((iprop(owns (c : Thread nD τ) (Memref.whole cc0_scratch2) fullShare x ∗ owns (c : Thread nD τ) a6 fullShare w1
            ∗ owns (c : Thread nD τ) a7 fullShare w3 ∗ owns (c : Thread nD τ) a8 fullShare w2
            ∗ owns (c : Thread nD τ) (Memref.whole cc0_scratch3) fullShare (k0_pay3 x w1 w3 A w2))
          -∗ wp frame (wpE (defs₀ (F := F)) Variants.none (c : Thread nD τ) none) Set.univ K Q)
        -∗ wp frame (wpE (defs₀ (F := F)) Variants.none (c : Thread nD τ) none) Set.univ (st6 a6 a7 a8 v30 K) Q) := by
  unfold st6
  rw [if_pos hv]
  iintro ⟨HX, H6, H7, H8, HA⟩ HK
  rw [wp_bind]
  iapply (ld_full c (Memref.whole cc0_scratch2) fullShare x inb_S512x1024_S512x1024_0_0) $$ [HX]
  · iexact HX
  iintro HX
  rw [wp_ret]
  imodintro
  rw [wp_bind]
  iapply (ld_full c a6 fullShare w1 inb_S1x1024x1792_S1x1024x1792_0_0_0) $$ [H6]
  · iexact H6
  iintro H6
  rw [wp_ret]
  imodintro
  rw [wp_bind]
  iapply (ld_full c a7 fullShare w3 inb_S1x1024x1792_S1x1024x1792_0_0_0) $$ [H7]
  · iexact H7
  iintro H7
  rw [wp_ret]
  imodintro
  rw [wp_bind]
  iapply (ld_full c (Memref.whole cc0_scratch3) fullShare A inb_S512x1024_S512x1024_0_0) $$ [HA]
  · iexact HA
  iintro HA
  rw [wp_ret]
  imodintro
  rw [wp_bind]
  iapply (ld_full c a8 fullShare w2 inb_S1x1792x1024_S1x1792x1024_0_0_0) $$ [H8]
  · iexact H8
  iintro H8
  rw [wp_ret]
  imodintro
  rw [wp_bind]
  iapply (ld_full c (Memref.whole cc0_scratch3) fullShare A inb_S512x1024_S512x1024_0_0) $$ [HA]
  · iexact HA
  iintro HA
  rw [wp_ret]
  imodintro
  rw [wp_bind]
  iapply (st_full c (Memref.whole cc0_scratch3) A (k0_pay3 x w1 w3 A w2) inb_S512x1024_S512x1024_0_0) $$ [HA]
  · iexact HA
  iintro HA
  rw [wp_ret]
  imodintro
  iapply HK
  isplitl [HX]; · iexact HX
  isplitl [H6]; · iexact H6
  isplitl [H7]; · iexact H7
  isplitl [H8] <;> iassumption

/-- The last stage, at a tile's second point. -/
theorem st7_run (hc : k0_cond7 i = 1#1) (A o : S512x1024.Idx → Elt F .f32)
    {K : Prog (TpuEff nD τ sig (Elt F) Λ₀ .tc) PUnit} {Q : PUnit → sProp 𝕄} :
    iprop(owns (c : Thread nD τ) (Memref.whole cc0_scratch3) fullShare A ∗ owns (c : Thread nD τ) a9 fullShare o)
      ⊢ iprop((iprop(owns (c : Thread nD τ) (Memref.whole cc0_scratch3) fullShare A ∗ owns (c : Thread nD τ) a9 fullShare A)
          -∗ wp frame (wpE (defs₀ (F := F)) Variants.none (c : Thread nD τ) none) Set.univ K Q)
        -∗ wp frame (wpE (defs₀ (F := F)) Variants.none (c : Thread nD τ) none) Set.univ (st7 i a9 K) Q) := by
  unfold st7
  rw [dif_pos hc]
  iintro ⟨HA, H9⟩ HK
  rw [wp_bind]
  iapply (ld_full c (Memref.whole cc0_scratch3) fullShare A inb_S512x1024_S512x1024_0_0) $$ [HA]
  · iexact HA
  iintro HA
  rw [wp_ret]
  imodintro
  rw [wp_bind]
  iapply (ld_full c a9 fullShare o inb_S512x1024_S512x1024_0_0) $$ [H9]
  · iexact H9
  iintro H9
  rw [wp_ret]
  imodintro
  rw [wp_bind]
  iapply (st_full c a9 o A inb_S512x1024_S512x1024_0_0) $$ [H9]
  · iexact H9
  iintro H9
  rw [wp_ret]
  imodintro
  iapply HK
  isplitl [HA] <;> iassumption

end
end Cert.Proof.Experts
-- ==== Proof.Experts.Body.lean ====
module

public import proofs.«01_k».proof.Proof.Experts.Runs

@[expose] public section

noncomputable section

namespace Cert.Proof.Experts

open Idealize.ShloMosaic Idealize.ShloMosaic.TcCoe
open Cert.KernelEIdeal Cert.KernelEIdeal.Gen
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Tactic
open Idealize.ShloMosaic.Pipeline (UD)

variable {F : FTy → Type} [FloatOps F]

/-- The resources the run is stated over. -/
local notation "𝕄" => MT nD τ sig Unit (Elt F) ℕ (UD sig nD τ) ℕ

section
variable (c : Dev nD)

/-- The slots: tile `n`'s rows in flight, or nothing. -/
def slots (S : S136x512.Idx → Elt F .i32) (h : S32768x1024.Idx → Elt F .f32) (p : Prop) [Decidable p] (n : ℕ) : sProp 𝕄 :=
  if p then busyS c S h n else idle c h

/-- Whether tile `n` is valid. -/
abbrev on (tv : S136.Idx → Elt F .i32) (n : ℕ) : Prop := pos (tv (tIdx n)) = 1#1

/-- The cast rows of tile `n`, known only of a valid tile. -/
def xHeld (S : S136x512.Idx → Elt F .i32) (h : S32768x1024.Idx → Elt F .f32) (tv : S136.Idx → Elt F .i32) (n : ℕ) : sProp 𝕄 :=
  iprop(∃ x, ⌜on tv n → x = k0_pay1 (xrows S h n)⌝ ∗ owns (c : Thread nD τ) (Memref.whole cc0_scratch2) fullShare x)

/-- The accumulator after a half of the hidden columns. -/
def accOf (S : S136x512.Idx → Elt F .i32) (h : S32768x1024.Idx → Elt F .f32) (tv : S136.Idx → Elt F .i32) (n : ℕ)
    (w1 w3 : S1x1024x1792.Idx → Elt F .bf16) (w2 : S1x1792x1024.Idx → Elt F .bf16) (A : S512x1024.Idx → Elt F .f32) : S512x1024.Idx → Elt F .f32 :=
  if on tv n then k0_pay3 (k0_pay1 (xrows S h n)) w1 w3 A w2 else A

variable (i : grid0.Coords) (a2 : Memref sig .tc .smem S136 .i32) (h2 : a2.IsWhole) (a3 : Memref sig .tc .smem S136 .i32) (h3 : a3.IsWhole)
  (a4 : Memref sig .tc .vmem S136x512 .i32) (h4 : a4.IsWhole)
  (a6 : Memref sig .tc .vmem S1x1024x1792 .bf16) (h6 : a6.IsWhole) (a7 : Memref sig .tc .vmem S1x1024x1792 .bf16) (h7 : a7.IsWhole)
  (a8 : Memref sig .tc .vmem S1x1792x1024 .bf16) (h8 : a8.IsWhole) (a9 : Memref sig .tc .vmem S512x1024 .f32) (h9 : a9.IsWhole)
  (S : S136x512.Idx → Elt F .i32) (h : S32768x1024.Idx → Elt F .f32) (tv : S136.Idx → Elt F .i32)

/-- The first stage at a tile's first point. -/
theorem st1_any (hr : ∀ n k, wix (srow S n) k < 32768) (hon : on tv 0) (hi : (i 1).val = 0)
    {K : Prog (TpuEff nD τ sig (Elt F) Λ₀ .tc) PUnit} {Q : PUnit → sProp 𝕄} :
    iprop(srcHeld c a4 S ∗ calm (F := F) c ∗ slots c S h (0 < (i 0).val ∧ on tv (i 0).val) (i 0).val)
      ⊢ iprop((iprop(srcHeld c a4 S ∗ calm (F := F) c ∗ slots c S h (on tv (i 0).val) (i 0).val)
          -∗ wp frame (wpE (defs₀ (F := F)) Variants.none (c : Thread nD τ) none) Set.univ K Q)
        -∗ wp frame (wpE (defs₀ (F := F)) Variants.none (c : Thread nD τ) none) Set.univ (st1 i a2 h2 a3 h3 a4 h4 a6 h6 a7 h7 a8 h8 a9 h9 K) Q) := by
  unfold slots
  rcases Nat.eq_zero_or_pos (i 0).val with h0 | h0
  · rw [if_neg (fun hh => absurd hh.1 (by omega)), h0, if_pos hon]
    exact st1_run c i a2 h2 a3 h3 a4 h4 a6 h6 a7 h7 a8 h8 a9 h9 S h hr ((cond1_iff i).mpr ⟨hi, h0⟩)
  · rw [show st1 i a2 h2 a3 h3 a4 h4 a6 h6 a7 h7 a8 h8 a9 h9 K = K from by
      unfold st1; rw [dif_neg (fun hh => absurd ((cond1_iff i).mp hh).2 (by omega))]]
    simp only [h0, true_and]
    iintro H HK
    iapply HK $$ H

/-- The second stage at a tile's first point. -/
theorem st2_any (v15 : BitVec 1) (p : Prop) [Decidable p] (hv : v15 = 1#1 ↔ p)
    {K : Prog (TpuEff nD τ sig (Elt F) Λ₀ .tc) PUnit} {Q : PUnit → sProp 𝕄} :
    srcHeld c a4 S
      ⊢ iprop(((if p then inflight c a4 S (min ((i 0).val + 1) 135) else srcHeld c a4 S)
          -∗ wp frame (wpE (defs₀ (F := F)) Variants.none (c : Thread nD τ) none) Set.univ K Q)
        -∗ wp frame (wpE (defs₀ (F := F)) Variants.none (c : Thread nD τ) none) Set.univ (st2 i a4 v15 K) Q) := by
  by_cases hp : p
  · rw [if_pos hp]
    exact st2_run c i a4 S v15 (hv.mpr hp)
  · rw [if_neg hp, show st2 i a4 v15 K = K from by unfold st2; rw [if_neg (fun hh => hp (hv.mp hh))]]
    iintro H HK
    iapply HK $$ H

/-- The third stage at a tile's first point. -/
theorem st3_any (v21 : BitVec 1) (hv : v21 = 1#1 ↔ on tv (i 0).val)
    {K : Prog (TpuEff nD τ sig (Elt F) Λ₀ .tc) PUnit} {Q : PUnit → sProp 𝕄} :
    iprop(slots c S h (on tv (i 0).val) (i 0).val ∗ calm (F := F) c ∗ (∃ x, owns (c : Thread nD τ) (Memref.whole cc0_scratch2) fullShare x))
      ⊢ iprop((iprop(idle c h ∗ calm (F := F) c ∗ xHeld c S h tv (i 0).val)
          -∗ wp frame (wpE (defs₀ (F := F)) Variants.none (c : Thread nD τ) none) Set.univ K Q)
        -∗ wp frame (wpE (defs₀ (F := F)) Variants.none (c : Thread nD τ) none) Set.univ (st3 i a2 h2 a3 h3 a4 h4 a6 h6 a7 h7 a8 h8 a9 h9 v21 K) Q) := by
  unfold slots xHeld
  by_cases hp : on tv (i 0).val
  · rw [if_pos hp]
    iintro ⟨HB, HO, %x, HX⟩ HK
    iapply (st3_run c i a2 h2 a3 h3 a4 h4 a6 h6 a7 h7 a8 h8 a9 h9 S h v21 (hv.mpr hp) x) $$ [HB HO HX]
    · isplitl [HB]; · iexact HB
      isplitl [HO] <;> iassumption
    iintro ⟨HI, HO, HX⟩
    iapply HK
    isplitl [HI]; · iexact HI
    isplitl [HO]; · iexact HO
    iexists _
    isplitr
    swap; · iexact HX
    ipureintro; exact fun _ => rfl
  · rw [if_neg hp, show st3 i a2 h2 a3 h3 a4 h4 a6 h6 a7 h7 a8 h8 a9 h9 v21 K = K from by
      unfold st3; rw [if_neg (fun hh => hp (hv.mp hh))]]
    iintro ⟨HB, HO, %x, HX⟩ HK
    iapply HK
    isplitl [HB]; · iexact HB
    isplitl [HO]; · iexact HO
    iexists x
    isplitr
    swap; · iexact HX
    ipureintro; exact fun hh => absurd hh hp

/-- The fifth stage at a tile's first point. -/
theorem st5_any (hr : ∀ n k, wix (srow S n) k < 32768) (v7 : Elt F .i32) (p : Prop) [Decidable p] (hv : k0_cond5 i v7 = 1#1 ↔ p)
    (hp1 : p → (i 0).val + 1 < 136)
    {K : Prog (TpuEff nD τ sig (Elt F) Λ₀ .tc) PUnit} {Q : PUnit → sProp 𝕄} :
    iprop((if p then inflight c a4 S (min ((i 0).val + 1) 135) else srcHeld c a4 S) ∗ calm (F := F) c ∗ idle c h)
      ⊢ iprop((iprop(srcHeld c a4 S ∗ calm (F := F) c ∗ slots c S h p ((i 0).val + 1))
          -∗ wp frame (wpE (defs₀ (F := F)) Variants.none (c : Thread nD τ) none) Set.univ K Q)
        -∗ wp frame (wpE (defs₀ (F := F)) Variants.none (c : Thread nD τ) none) Set.univ (st5 i a2 h2 a3 h3 a4 h4 a6 h6 a7 h7 a8 h8 a9 h9 v7 K) Q) := by
  unfold slots
  by_cases hp : p
  · simp only [if_pos hp]
    have hm : min ((i 0).val + 1) 135 = (i 0).val + 1 := by have := hp1 hp; omega
    have := st5_run c i a2 h2 a3 h3 a4 h4 a6 h6 a7 h7 a8 h8 a9 h9 S h hr v7 (hv.mpr hp) (K := K) (Q := Q)
    rw [hm] at this ⊢
    exact this
  · simp only [if_neg hp]
    rw [show st5 i a2 h2 a3 h3 a4 h4 a6 h6 a7 h7 a8 h8 a9 h9 v7 K = K from by
      unfold st5; rw [dif_neg (fun hh => hp (hv.mp hh))]]
    iintro H HK
    iapply HK $$ H

/-- The sixth stage. -/
theorem st6_any (n : ℕ) (v30 : BitVec 1) (hv : v30 = 1#1 ↔ on tv n) (w1 w3 : S1x1024x1792.Idx → Elt F .bf16)
    (w2 : S1x1792x1024.Idx → Elt F .bf16) (A : S512x1024.Idx → Elt F .f32)
    {K : Prog (TpuEff nD τ sig (Elt F) Λ₀ .tc) PUnit} {Q : PUnit → sProp 𝕄} :
    iprop(xHeld c S h tv n ∗ owns (c : Thread nD τ) a6 fullShare w1
        ∗ owns (c : Thread nD τ) a7 fullShare w3 ∗ owns (c : Thread nD τ) a8 fullShare w2
        ∗ owns (c : Thread nD τ) (Memref.whole cc0_scratch3) fullShare A)
      ⊢ iprop((iprop(xHeld c S h tv n ∗ owns (c : Thread nD τ) a6 fullShare w1
            ∗ owns (c : Thread nD τ) a7 fullShare w3 ∗ owns (c : Thread nD τ) a8 fullShare w2
            ∗ owns (c : Thread nD τ) (Memref.whole cc0_scratch3) fullShare (accOf S h tv n w1 w3 w2 A))
          -∗ wp frame (wpE (defs₀ (F := F)) Variants.none (c : Thread nD τ) none) Set.univ K Q)
        -∗ wp frame (wpE (defs₀ (F := F)) Variants.none (c : Thread nD τ) none) Set.univ (st6 a6 a7 a8 v30 K) Q) := by
  unfold xHeld accOf
  by_cases hp : on tv n
  · rw [if_pos hp]
    iintro ⟨⟨%x, %hx, HX⟩, H6, H7, H8, HA⟩ HK
    iapply (st6_run c a6 a7 a8 v30 (hv.mpr hp) x w1 w3 w2 A) $$ [HX H6 H7 H8 HA]
    · isplitl [HX]; · iexact HX
      isplitl [H6]; · iexact H6
      isplitl [H7]; · iexact H7
      isplitl [H8] <;> iassumption
    iintro ⟨HX, H6, H7, H8, HA⟩
    iapply HK
    isplitl [HX]
    · iexists x
      isplitr; · ipureintro; exact hx
      iexact HX
    isplitl [H6]; · iexact H6
    isplitl [H7]; · iexact H7
    isplitl [H8]; · iexact H8
    rw [← hx hp]
    iexact HA
  · rw [if_neg hp, show st6 (F := F) a6 a7 a8 v30 K = K from by
      unfold st6; rw [if_neg (fun hh => hp (hv.mp hh))]]
    iintro H HK
    iapply HK $$ H

/-- The body on the call's operands. -/
abbrev theBody : Prog (TpuEff nD τ sig (Elt F) Λ₀ .tc) PUnit :=
  k0_part1_skel (F := F) i a2 h2 (Memref.whole main_arg1) (Memref.isWhole_whole _) a4 h4 (Memref.whole main_arg3) (Memref.isWhole_whole _) a6 h6 a7 h7 a8 h8 a9 h9
      (Memref.whole cc0_scratch0) (Memref.isWhole_whole _) (Memref.whole cc0_scratch1) (Memref.isWhole_whole _) (Memref.whole cc0_scratch2)
      (Memref.isWhole_whole _) (Memref.whole cc0_scratch3) (Memref.isWhole_whole _) cc0_scratch4 cc0_scratch5

/-- The body at a tile's first point. -/
theorem body0 (q : PosShare TreeShare) (hr : ∀ n k, wix (srow S n) k < 32768) (hon : on tv 0) (hi : (i 1).val = 0)
    (w1 w3 : S1x1024x1792.Idx → Elt F .bf16) (w2 : S1x1792x1024.Idx → Elt F .bf16) {Q : PUnit → sProp 𝕄} :
    iprop(((Memref.whole main_arg1).view.loc (c : Thread nD τ) ↦{q} tv) ∗ srcHeld c a4 S ∗ calm (F := F) c
        ∗ slots c S h (0 < (i 0).val ∧ on tv (i 0).val) (i 0).val
        ∗ (∃ x, owns (c : Thread nD τ) (Memref.whole cc0_scratch2) fullShare x) ∗ (∃ A, owns (c : Thread nD τ) (Memref.whole cc0_scratch3) fullShare A)
        ∗ owns (c : Thread nD τ) a6 fullShare w1 ∗ owns (c : Thread nD τ) a7 fullShare w3 ∗ owns (c : Thread nD τ) a8 fullShare w2)
      ⊢ iprop((iprop(((Memref.whole main_arg1).view.loc (c : Thread nD τ) ↦{q} tv) ∗ srcHeld c a4 S ∗ calm (F := F) c
            ∗ slots c S h ((i 0).val + 1 < 136 ∧ on tv ((i 0).val + 1)) ((i 0).val + 1)
            ∗ xHeld c S h tv (i 0).val
            ∗ owns (c : Thread nD τ) (Memref.whole cc0_scratch3) fullShare (accOf S h tv (i 0).val w1 w3 w2 (k0_pay2 (F := F)))
            ∗ owns (c : Thread nD τ) a6 fullShare w1 ∗ owns (c : Thread nD τ) a7 fullShare w3 ∗ owns (c : Thread nD τ) a8 fullShare w2) -∗ Q ⟨⟩)
        -∗ wp frame (wpE (defs₀ (F := F)) Variants.none (c : Thread nD τ) none) Set.univ (theBody i a2 h2 a4 h4 a6 h6 a7 h7 a8 h8 a9 h9) Q) := by
  have hlt : (i 0).val < 136 := (i 0).isLt
  have hnx : (i 0).val + 1 < 136 → tIdx (min ((i 0).val + 1) 135) = tIdx ((i 0).val + 1) := fun hh => by
    rw [show min ((i 0).val + 1) 135 = (i 0).val + 1 by omega]
  have hp : ∀ b : Prop, (b ↔ (i 1).val = 0 ∧ (i 0).val + 1 < 136 ∧ pos (tv (tIdx (min ((i 0).val + 1) 135))) = 1#1) →
      (b ↔ ((i 0).val + 1 < 136 ∧ on tv ((i 0).val + 1))) := fun b hb => hb.trans
    ⟨fun hh => ⟨hh.2.1, by have := hh.2.2; rw [hnx hh.2.1] at this; exact this⟩, fun hh => ⟨hi, hh.1, by rw [hnx hh.1]; exact hh.2⟩⟩
  unfold theBody
  rw [body_stages]
  iintro ⟨HT, HC, HO, HS, HX, ⟨%A, HA⟩, H6, H7, H8⟩ HK
  iapply (ld_tv c q tv (k0_off2 i) (k0_off2_inb i) (min ((i 0).val + 1) 135) (by omega) (off2_eq i)) $$ [HT]
  · iexact HT
  iintro HT
  iapply (st1_any c i a2 h2 _ _ a4 h4 a6 h6 a7 h7 a8 h8 a9 h9 S h tv hr hon hi) $$ [HC HO HS]
  · isplitl [HC]; · iexact HC
    isplitl [HO] <;> iassumption
  iintro ⟨HC, HO, HS⟩
  iapply (st2_any c i a4 S _ ((i 0).val + 1 < 136 ∧ on tv ((i 0).val + 1)) (hp _ (pfc_iff i _))) $$ [HC]
  · iexact HC
  iintro HC
  iapply (ld_tv c q tv (k0_off7 i) (k0_off7_inb i) (i 0).val hlt (off7_eq i)) $$ [HT]
  · iexact HT
  iintro HT
  iapply (st3_any c i a2 h2 _ _ a4 h4 a6 h6 a7 h7 a8 h8 a9 h9 S h tv _
    ((drain_fact ⟨(i 1).val, (i 1).isLt⟩ _).trans (and_iff_right hi))) $$ [HS HO HX]
  · isplitl [HS]; · iexact HS
    isplitl [HO] <;> iassumption
  iintro ⟨HI, HO, HX⟩
  iapply (st4_run c _ ((first_fact ⟨(i 1).val, (i 1).isLt⟩).mpr hi) A) $$ [HA]
  · iexact HA
  iintro HA
  iapply (st5_any c i a2 h2 _ _ a4 h4 a6 h6 a7 h7 a8 h8 a9 h9 S h hr _ ((i 0).val + 1 < 136 ∧ on tv ((i 0).val + 1)) (hp _ (cond5_iff i _))
    (fun hh => hh.1)) $$ [HC HO HI]
  · isplitl [HC]; · iexact HC
    isplitl [HO] <;> iassumption
  iintro ⟨HC, HO, HS⟩
  iapply (ld_tv c q tv (k0_off18 i) (k0_off18_inb i) (i 0).val hlt (off18_eq i)) $$ [HT]
  · iexact HT
  iintro HT
  iapply (st6_any c a6 a7 a8 S h tv (i 0).val _ (comp_fact _) w1 w3 w2 (k0_pay2 (F := F))) $$ [HX H6 H7 H8 HA]
  · isplitl [HX]; · iexact HX
    isplitl [H6]; · iexact H6
    isplitl [H7]; · iexact H7
    isplitl [H8] <;> iassumption
  iintro ⟨HX, H6, H7, H8, HA⟩
  rw [show st7 (F := F) i a9 (pure ⟨⟩) = pure ⟨⟩ from by
    unfold st7; rw [dif_neg (fun hh => absurd ((cond7_iff i).mp hh) (by omega))]]
  rw [wp_pure]
  imodintro
  iapply HK
  isplitl [HT]; · iexact HT
  isplitl [HC]; · iexact HC
  isplitl [HO]; · iexact HO
  isplitl [HS]; · iexact HS
  isplitl [HX]; · iexact HX
  isplitl [HA]; · iexact HA
  isplitl [H6]; · iexact H6
  isplitl [H7] <;> iassumption

/-- The body at a tile's second point. -/
theorem body1st (q : PosShare TreeShare) (hi : (i 1).val = 1)
    (w1 w3 : S1x1024x1792.Idx → Elt F .bf16) (w2 : S1x1792x1024.Idx → Elt F .bf16) (A : S512x1024.Idx → Elt F .f32) {Q : PUnit → sProp 𝕄} :
    iprop(((Memref.whole main_arg1).view.loc (c : Thread nD τ) ↦{q} tv)
        ∗ xHeld c S h tv (i 0).val ∗ owns (c : Thread nD τ) (Memref.whole cc0_scratch3) fullShare A
        ∗ owns (c : Thread nD τ) a6 fullShare w1 ∗ owns (c : Thread nD τ) a7 fullShare w3 ∗ owns (c : Thread nD τ) a8 fullShare w2
        ∗ (∃ o, owns (c : Thread nD τ) a9 fullShare o))
      ⊢ iprop((iprop(((Memref.whole main_arg1).view.loc (c : Thread nD τ) ↦{q} tv)
            ∗ xHeld c S h tv (i 0).val ∗ owns (c : Thread nD τ) (Memref.whole cc0_scratch3) fullShare (accOf S h tv (i 0).val w1 w3 w2 A)
            ∗ owns (c : Thread nD τ) a6 fullShare w1 ∗ owns (c : Thread nD τ) a7 fullShare w3 ∗ owns (c : Thread nD τ) a8 fullShare w2
            ∗ owns (c : Thread nD τ) a9 fullShare (accOf S h tv (i 0).val w1 w3 w2 A)) -∗ Q ⟨⟩)
        -∗ wp frame (wpE (defs₀ (F := F)) Variants.none (c : Thread nD τ) none) Set.univ (theBody i a2 h2 a4 h4 a6 h6 a7 h7 a8 h8 a9 h9) Q) := by
  have hlt : (i 0).val < 136 := (i 0).isLt
  unfold theBody
  rw [body_stages]
  iintro ⟨HT, HX, HA, H6, H7, H8, ⟨%o, H9⟩⟩ HK
  iapply (ld_tv c q tv (k0_off2 i) (k0_off2_inb i) (min ((i 0).val + 1) 135) (by omega) (off2_eq i)) $$ [HT]
  · iexact HT
  iintro HT
  rw [show ∀ K, st1 (F := F) i a2 h2 (Memref.whole main_arg1) (Memref.isWhole_whole _) a4 h4 a6 h6 a7 h7 a8 h8 a9 h9 K = K from fun K => by
    unfold st1; rw [dif_neg (fun hh => absurd ((cond1_iff i).mp hh).1 (by omega))]]
  rw [show ∀ v K, st2 (F := F) i a4 (Scalar.cmpi .ne (Scalar.extui (pfc (i 0).val (i 1).val v) : BitVec 32) 0#32) K = K from fun v K => by
    unfold st2; rw [if_neg (fun hh => absurd ((pfc_iff i v).mp hh).1 (by omega))]]
  iapply (ld_tv c q tv (k0_off7 i) (k0_off7_inb i) (i 0).val hlt (off7_eq i)) $$ [HT]
  · iexact HT
  iintro HT
  rw [show ∀ b K, st3 (F := F) i a2 h2 (Memref.whole main_arg1) (Memref.isWhole_whole _) a4 h4 a6 h6 a7 h7 a8 h8 a9 h9
      (Scalar.cmpi .ne (Scalar.extui (Scalar.andi (Scalar.cmpi .eq (BitVec.ofNat 32 (i 1).val) 0#32) b) : BitVec 32) 0#32) K = K from fun b K => by
    unfold st3; rw [if_neg (fun hh => absurd ((drain_fact ⟨(i 1).val, (i 1).isLt⟩ b).mp hh).1 (by show ¬ (i 1).val = 0; omega))]]
  rw [show ∀ K, st4 (F := F) (Scalar.cmpi .ne (Scalar.extui (Scalar.cmpi .eq (BitVec.ofNat 32 (i 1).val) 0#32 : BitVec 1) : BitVec 32) 0#32) K = K from fun K => by
    unfold st4; rw [dif_neg (fun hh => absurd ((first_fact ⟨(i 1).val, (i 1).isLt⟩).mp hh) (by show ¬ (i 1).val = 0; omega))]]
  rw [show ∀ v K, st5 (F := F) i a2 h2 (Memref.whole main_arg1) (Memref.isWhole_whole _) a4 h4 a6 h6 a7 h7 a8 h8 a9 h9 v K = K from fun v K => by
    unfold st5; rw [dif_neg (fun hh => absurd ((cond5_iff i v).mp hh).1 (by omega))]]
  iapply (ld_tv c q tv (k0_off18 i) (k0_off18_inb i) (i 0).val hlt (off18_eq i)) $$ [HT]
  · iexact HT
  iintro HT
  iapply (st6_any c a6 a7 a8 S h tv (i 0).val _ (comp_fact _) w1 w3 w2 A) $$ [HX H6 H7 H8 HA]
  · isplitl [HX]; · iexact HX
    isplitl [H6]; · iexact H6
    isplitl [H7]; · iexact H7
    isplitl [H8] <;> iassumption
  iintro ⟨HX, H6, H7, H8, HA⟩
  iapply (st7_run c i a9 ((cond7_iff i).mpr hi) (accOf S h tv (i 0).val w1 w3 w2 A) o) $$ [HA H9]
  · isplitl [HA] <;> iassumption
  iintro ⟨HA, H9⟩
  rw [wp_pure]
  imodintro
  iapply HK
  isplitl [HT]; · iexact HT
  isplitl [HX]; · iexact HX
  isplitl [HA]; · iexact HA
  isplitl [H6]; · iexact H6
  isplitl [H7]; · iexact H7
  isplitl [H8] <;> iassumption

end
end Cert.Proof.Experts
-- ==== Proof.Experts.Data.lean ====
module

public import proofs.«01_k».proof.Proof.Experts.Body
public import proofs.«01_k».proof.Proof.Gen.KernelEIdeal.Launch

@[expose] public section

noncomputable section

namespace Cert.Proof.Experts

open Idealize.ShloMosaic Idealize.ShloMosaic.TcCoe
open Cert.KernelEIdeal Cert.KernelEIdeal.Gen
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Tactic
open Idealize.ShloMosaic.Pipeline (UD)

variable {F : FTy → Type} [FloatOps F]

/-- The resources the run is stated over. -/
local notation "𝕄" => MT nD τ sig Unit (Elt F) ℕ (UD sig nD τ) ℕ

open Idealize.ShloMosaic.Pipeline (Dat Cfg Window BodyObligation)

section
variable (m : (ℓ : Loc nD τ sig) → Buf (Elt F) ℓ)

/-- The buffers when the region is entered: after the casts of the weights. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The casts allocate nothing. -/
theorem hostOps0_fresh : (hostOps0 : List (HloOp τ sig (Elt F))).Forall fun op => op.fresh = ∅ := by
  simp only [List.Forall]; repeat' constructor

/-- The casts leave every argument as it was. -/
theorem V_arg (c : Dev nD) (b : Ref sig .tc) (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, Finset.mem_singleton]
    exact ⟨StableHlo.devRef_ne_of_ne h0, StableHlo.devRef_ne_of_ne h1, StableHlo.devRef_ne_of_ne h2⟩))

/-- The tables the region is entered with. -/
def tbl : pre0.Contents (Elt F) := fun k => m (((0 : Dev nD) : Thread nD τ).loc (pre0.ref k))

/-- The pipeline's side condition of the tables. -/
def Ok : Prop := ok0 (tbl m)

variable (hok : Ok m)

/-- The tables with their side condition. -/
abbrev adm : (p : Fin 1) → (pcfgs (F := F) p).Adm := fun _ => ⟨tbl m, hok⟩

/-- The pipeline at the tables. -/
abbrev cfgE : Pipeline.Cfg sig Λ₀ := Pipeline.pin (pcfgs (F := F)) (adm m hok) 0

/-- A window's block at a point. -/
def iblk (c : Dev nD) (w : Fin 5) (t : Fin (cfgE m hok).N) : (((cfgE m hok).win w).xblock ((cfgE m hok).grid.coords t)).Idx → Elt F ((cfgE m hok).win w).elt :=
  (((cfgE m hok).win w).blk t).view.read (Elt F) (V m c (Pipeline.arrRef spec0 w))

/-- The token numbers, the tokens and the validity words as launched. -/
abbrev srcOf (c : Dev nD) : S136x512.Idx → Elt F .i32 := m ((c : Thread nD τ).loc main_arg2)
abbrev hfOf (c : Dev nD) : S32768x1024.Idx → Elt F .f32 := m ((c : Thread nD τ).loc main_arg3)
abbrev tvOf : S136.Idx → Elt F .i32 := tbl m 1

/-- The accumulator after a point, from what it held. -/
def accAt (c : Dev nD) (t : Fin (cfgE m hok).N) (A : S512x1024.Idx → Elt F .f32) : S512x1024.Idx → Elt F .f32 :=
  accOf (srcOf m c) (hfOf m c) (tvOf m) (t.val / 2) (iblk m hok c 1 t) (iblk m hok c 2 t) (iblk m hok c 3 t) A

/-- The accumulator after a tile's first point. -/
def accHalf (c : Dev nD) (t : Fin (cfgE m hok).N) : S512x1024.Idx → Elt F .f32 := accAt m hok c t (k0_pay2 (F := F))

/-- The point before. -/
def prv (t : Fin (cfgE m hok).N) : Fin (cfgE m hok).N := ⟨t.val - 1, Nat.lt_of_le_of_lt (Nat.sub_le _ _) t.isLt⟩

/-- The output block after a tile's second point. -/
def outAt (c : Dev nD) (t : Fin (cfgE m hok).N) : S512x1024.Idx → Elt F .f32 := accAt m hok c t (accHalf m hok c (prv m hok t))

/-- The tables' halves the body reads. -/
def tabs (c : Dev nD) : sProp 𝕄 :=
  iprop((((c : Thread nD τ).loc main_arg0) ↦{fullShare.right} (tbl m 0 : S136.Idx → Elt F .i32))
    ∗ (((Memref.whole main_arg1).view.loc (c : Thread nD τ)) ↦{fullShare.right} tvOf m))

/-- The two scratch arrays between points: anything before a tile's first point, the tile's rows and the half accumulated before its second. -/
def mids (c : Dev nD) (k : ℕ) : sProp 𝕄 :=
  if h : k % 2 = 1 ∧ k ≤ (cfgE m hok).N then
    iprop(xHeld c (srcOf m c) (hfOf m c) (tvOf m) (k / 2)
      ∗ owns (c : Thread nD τ) (Memref.whole cc0_scratch3) fullShare (accHalf m hok c ⟨k - 1, by omega⟩))
  else iprop((∃ x, owns (c : Thread nD τ) (Memref.whole cc0_scratch2) fullShare x) ∗ (∃ A, owns (c : Thread nD τ) (Memref.whole cc0_scratch3) fullShare A))

/-- What the run holds between points. -/
def inv (c : Dev nD) (k : ℕ) : sProp 𝕄 :=
  iprop(tabs m c ∗ (∃ r, prngReg c r)
    ∗ ((∃ sm, ((Memref.whole cc0_scratch0).view.loc (c : Thread nD τ) ↦{fullShare} sm)) ∗ semVal ((c : Thread nD τ), SemLoc.dma cc0_scratch4.sem) 0)
    ∗ slots c (srcOf m c) (hfOf m c) (0 < (k + 1) / 2 ∧ (k + 1) / 2 < 136 ∧ on (tvOf m) ((k + 1) / 2)) ((k + 1) / 2)
    ∗ mids m hok c k)

/-- The proof data of the pipeline. -/
def dats (_ : Fin 1) (c : Dev nD) : Dat τ (Elt F) Unit ℕ (UD sig nD τ) ℕ (cfgE m hok) c where
  A w := V m c (Pipeline.arrRef spec0 w)
  after w t := match w with
    | ⟨0, _⟩ => iblk m hok c 0 t
    | ⟨1, _⟩ => iblk m hok c 1 t
    | ⟨2, _⟩ => iblk m hok c 2 t
    | ⟨3, _⟩ => iblk m hok c 3 t
    | ⟨4, _⟩ => outAt m hok c t
  Φ t := inv m hok c t.val
  q _ := fullShare
  owed _ := 0

/-- A window's array, before the grid starts, holds what the run finds in it. -/
theorem A_eq (c : Dev nD) (w : Fin (cfgE m hok).W) : (dats m hok 0 c).A w = V m c (Pipeline.arrRef spec0 w) := by
  dsimp only [dats]
/-- After a point the table of tokens is still in its window. -/
theorem after0 (c : Dev nD) (t : Fin (cfgE m hok).N) : (dats m hok 0 c).after 0 t = iblk m hok c 0 t := by dsimp only [dats]; rfl
/-- After a point the window of `w1` still holds its block. -/
theorem after1 (c : Dev nD) (t : Fin (cfgE m hok).N) : (dats m hok 0 c).after 1 t = iblk m hok c 1 t := by dsimp only [dats]; rfl
/-- After a point the window of `w3` still holds its block. -/
theorem after2 (c : Dev nD) (t : Fin (cfgE m hok).N) : (dats m hok 0 c).after 2 t = iblk m hok c 2 t := by dsimp only [dats]; rfl
/-- After a point the window of `w2` still holds its block. -/
theorem after3 (c : Dev nD) (t : Fin (cfgE m hok).N) : (dats m hok 0 c).after 3 t = iblk m hok c 3 t := by dsimp only [dats]; rfl
/-- After a point the output window holds the tile's rows as far as they are computed. -/
theorem after4 (c : Dev nD) (t : Fin (cfgE m hok).N) : (dats m hok 0 c).after 4 t = outAt m hok c t := by dsimp only [dats]; rfl

/-- An input's staging buffer holds its block at every point. -/
theorem before0 (c : Dev nD) (t : Fin (cfgE m hok).N) (d) : (dats m hok 0 c).before 0 t d = iblk m hok c 0 t :=
  ((dats m hok 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Before a point the window of `w1` holds its block. -/
theorem before1 (c : Dev nD) (t : Fin (cfgE m hok).N) (d) : (dats m hok 0 c).before 1 t d = iblk m hok c 1 t :=
  ((dats m hok 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Before a point the window of `w3` holds its block. -/
theorem before2 (c : Dev nD) (t : Fin (cfgE m hok).N) (d) : (dats m hok 0 c).before 2 t d = iblk m hok c 2 t :=
  ((dats m hok 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Before a point the window of `w2` holds its block. -/
theorem before3 (c : Dev nD) (t : Fin (cfgE m hok).N) (d) : (dats m hok 0 c).before 3 t d = iblk m hok c 3 t :=
  ((dats m hok 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- A point's tile and half. -/
theorem coord0 (t : Fin (cfgE m hok).N) : (((cfgE m hok).grid.coords t) 0).val = t.val / 2 := by
  have h : t.val < 272 := Nat.lt_of_lt_of_eq t.isLt N_0
  rw [Pipeline.Grid.coords_val t 0 (S := 2) (B := 136) (by rfl) (by rfl)]; omega
/-- The second coordinate of a grid point is its number modulo two. -/
theorem coord1 (t : Fin (cfgE m hok).N) : (((cfgE m hok).grid.coords t) 1).val = t.val % 2 := by
  rw [Pipeline.Grid.coords_val t 1 (S := 1) (B := 2) (by rfl) (by rfl)]; omega

/-- The token numbers are staged whole. -/
theorem iblk0 (c : Dev nD) (t : Fin (cfgE m hok).N) : (iblk m hok c 0 t : S136x512.Idx → Elt F .i32) = srcOf m c := by
  unfold iblk
  rw [show V m c (Pipeline.arrRef spec0 0) = m ((c : Thread nD τ).loc main_arg2) from V_arg m c main_arg2 (by decide) (by decide) (by decide)]
  funext y
  show m ((c : Thread nD τ).loc main_arg2) _ = m ((c : Thread nD τ).loc main_arg2) y
  congr 1
  refine funext fun a => Fin.ext ?_
  match a with
  | ⟨0, _⟩ => show 0 * 136 + 1 * (y 0).val = (y 0).val; omega
  | ⟨1, _⟩ => show 0 * 512 + 1 * (y 1).val = (y 1).val; omega

end
end Cert.Proof.Experts
-- ==== Proof.Experts.Pay.lean ====
/- One half of a tile's hidden columns, as the kernel's step computes it, read at an element. -/
module

public import proofs.«01_k».proof.Proof.Experts.Data
public import Idealize.ShloMosaic.Lib.Pointwise
public import Idealize.ShloMosaic.Lib.MatmulPlain

@[expose] public section

noncomputable section

open scoped BigOperators

namespace Cert.Proof.Experts

open Idealize.ShloMosaic
open Cert.KernelEIdeal Cert.KernelEIdeal.Gen

/-- The gate: a number times its logistic, times another. -/
def gate (a b : EReal) : EReal := a * Ideal.logistic a * b

/-- Rows times in-weights. -/
theorem in_apply (x : FVec Ideal S512x1024 .bf16) (w : FVec Ideal S1x1024x1792 .bf16) (j : Fin 512) (f : Fin 1792) :
    matmul dot_S512x1024_S1024x1792_S512x1792_1_0_0_1_n_n none x (shapeCast S1024x1792 w shapeCasts_S1x1024x1792_S1024x1792)
      (constant S512x1792 .f32 0x00000000#32) (ix2 j f) = ∑ k : Fin 1024, x (ix2 j k) * w (ix3 0 k f) := by
  have h := Ideal.matmul_plain_apply (M := 512) (K := 1024) (N := 1792) (φ₁ := .bf16) (φ₂ := .bf16) none x
    (shapeCast S1024x1792 w shapeCasts_S1x1024x1792_S1024x1792) (constant S512x1792 .f32 0x00000000#32) j f
  simp only [← ix2_eq_valueIdx] at h
  refine h.trans ?_
  have hc : ∀ (k : Fin 1024), shapeCast S1024x1792 w shapeCasts_S1x1024x1792_S1024x1792 (ix2 k f) = w (ix3 0 k f) := fun k => by
    refine shapeCast_apply w _ (ix2 k f) (ix3 0 k f) ?_
    rw [Shape.rowMajor_val_three, Shape.rowMajor_val_two]
    show (0 * 1024 + k.val) * 1792 + f.val = k.val * 1792 + f.val
    omega
  simp only [hc]
  pointwise

/-- Hidden columns times out-weights. -/
theorem out_apply (y : FVec Ideal S512x1792 .bf16) (w : FVec Ideal S1x1792x1024 .bf16) (j : Fin 512) (d : Fin 1024) :
    matmul dot_S512x1792_S1792x1024_S512x1024_1_0_0_1_n_n none y (shapeCast S1792x1024 w shapeCasts_S1x1792x1024_S1792x1024)
      (constant S512x1024 .f32 0x00000000#32) (ix2 j d) = ∑ f : Fin 1792, y (ix2 j f) * w (ix3 0 f d) := by
  have h := Ideal.matmul_plain_apply (M := 512) (K := 1792) (N := 1024) (φ₁ := .bf16) (φ₂ := .bf16) none y
    (shapeCast S1792x1024 w shapeCasts_S1x1792x1024_S1792x1024) (constant S512x1024 .f32 0x00000000#32) j d
  simp only [← ix2_eq_valueIdx] at h
  refine h.trans ?_
  have hc : ∀ (f : Fin 1792), shapeCast S1792x1024 w shapeCasts_S1x1792x1024_S1792x1024 (ix2 f d) = w (ix3 0 f d) := fun f => by
    refine shapeCast_apply w _ (ix2 f d) (ix3 0 f d) ?_
    rw [Shape.rowMajor_val_three, Shape.rowMajor_val_two]
    show (0 * 1792 + f.val) * 1024 + d.val = f.val * 1024 + d.val
    omega
  simp only [hc]
  pointwise

/-- The rows of a slot, cut to the width the products take. -/
theorem pay1_apply (x : FVec Ideal S1x512x1024 .f32) (j : Fin 512) (k : Fin 1024) : k0_pay1 (F := Ideal) x (ix2 j k) = x (ix3 0 j k) := by
  unfold k0_pay1
  rw [shapeCast_self]
  show shapeCast S512x1024 x shapeCasts_S1x512x1024_S512x1024 (ix2 j k) = _
  refine shapeCast_apply x _ (ix2 j k) (ix3 0 j k) ?_
  rw [Shape.rowMajor_val_three, Shape.rowMajor_val_two]
  show (0 * 512 + j.val) * 1024 + k.val = j.val * 1024 + k.val
  omega

/-- The accumulator at the start. -/
theorem pay2_apply (j : Fin 512) (d : Fin 1024) : k0_pay2 (F := Ideal) (ix2 j d) = 0 := by
  unfold k0_pay2
  rw [shapeCast_self]
  show Ideal.ofBits .f32 0x00000000#32 = 0
  simp [Ideal.ofBits, Ideal.ieee]

/-- What a step adds to the accumulator. -/
theorem pay3_apply (x : FVec Ideal S512x1024 .bf16) (w1 w3 : FVec Ideal S1x1024x1792 .bf16) (A : FVec Ideal S512x1024 .f32) (w2 : FVec Ideal S1x1792x1024 .bf16)
    (j : Fin 512) (d : Fin 1024) :
    k0_pay3 (F := Ideal) x w1 w3 A w2 (ix2 j d) = A (ix2 j d) + ∑ f : Fin 1792,
      gate (∑ k : Fin 1024, x (ix2 j k) * w1 (ix3 0 k f)) (∑ k : Fin 1024, x (ix2 j k) * w3 (ix3 0 k f)) * w2 (ix3 0 f d) := by
  unfold k0_pay3
  rw [shapeCast_self]
  show A (ix2 j d) + matmul dot_S512x1792_S1792x1024_S512x1024_1_0_0_1_n_n none _ _ _ (ix2 j d) = _
  rw [out_apply]
  refine congrArg _ (Finset.sum_congr rfl fun f _ => ?_)
  rw [← in_apply x w1 j f, ← in_apply x w3 j f]
  rfl

end Cert.Proof.Experts

end
-- ==== Proof.Experts.RefValue.lean ====
/- The plain expert network, read at an element: the rows and the weights it gathers, and the two products. -/
module

public import proofs.«01_k».proof.Proof.Gen.ReferenceEIdeal.Run
public import proofs.«01_k».proof.Proof.Gen.ReferenceEIdeal.Read
public import Idealize.ShloMosaic.Lib.Pointwise

@[expose] public section

noncomputable section

open scoped BigOperators

namespace Cert.Proof.Experts.Ref

open Idealize.ShloMosaic
open Cert.ReferenceEIdeal Cert.ReferenceEIdeal.Gen Cert.ReferenceEIdeal.Read

/-- A small word is its own signed reading. -/
theorem toInt_small (v : BitVec 32) (N : ℕ) (hN : N < 2 ^ 31) (h : v.toNat < N) : v.toInt.toNat = v.toNat := by
  rw [BitVec.toInt_eq_toNat_cond, if_pos (by omega)]
  rfl

/-- A small word is not negative, so a correction of negative numbers leaves it alone. -/
theorem keep_small (v w : BitVec 32) (N : ℕ) (hN : N < 2 ^ 31) (h : v.toNat < N) : (if IntOp.cmpi .slt v 0#32 = 1#1 then w else v) = v := by
  have hs : v.slt 0#32 = false := by
    simp only [BitVec.slt, decide_eq_false_iff_not, BitVec.toInt_eq_toNat_cond, BitVec.toNat_ofNat]
    omega
  rw [if_neg]
  show ¬ (BitVec.ofBool (v.slt 0#32) = 1#1)
  rw [hs]
  decide

variable (x0 x1 : (⟨S136, .i32⟩ : BufTy).Contents (Elt Ideal)) (x2 : (⟨S136x512, .i32⟩ : BufTy).Contents (Elt Ideal))
  (x3 : (⟨S32768x1024, .f32⟩ : BufTy).Contents (Elt Ideal)) (x4 x5 : (⟨S8x1024x3584, .f32⟩ : BufTy).Contents (Elt Ideal))
  (x6 : (⟨S8x3584x1024, .f32⟩ : BufTy).Contents (Elt Ideal))
  (hE : ∀ x : S136.Idx, (x0 x : BitVec 32).toNat < 8) (hS : ∀ x : S136x512.Idx, (x2 x : BitVec 32).toNat < 32768)

/-- A token's number, when in range. -/
def tok (n : Fin 136) (j : Fin 512) : Fin 32768 := ⟨(x2 (ix2 n j) : BitVec 32).toNat, hS _⟩
/-- An expert's number, when in range. -/
def ex (n : Fin 136) : Fin 8 := ⟨(x0 (ix1 n) : BitVec 32).toNat, hE _⟩

/-- The gathered rows' operand index, first coordinate. -/
theorem rowOp0 (i : S136x512x1024.Idx) (idx : IVec S136x512x1 32) :
    (gather_S32768x1024_S136x512x1_S136x512x1024_2_0_n_n_0_2_11024.operandIdx i idx 0).val
      = min (idx (ix3 (i 0) (i 1) 0)).toInt.toNat 32767 := by
  show gather_S32768x1024_S136x512x1_S136x512x1024_2_0_n_n_0_2_11024.start i idx 0
    + gather_S32768x1024_S136x512x1_S136x512x1024_2_0_n_n_0_2_11024.batchCoord i 0
    + gather_S32768x1024_S136x512x1_S136x512x1024_2_0_n_n_0_2_11024.offCoord i 0 = _
  rw [GatherDims.batchCoord_eq_zero _ _ _ (by decide), GatherDims.offCoord_eq_zero _ _ _ (by decide)]
  unfold GatherDims.start
  rw [dif_pos (by decide)]
  show min (idx _).toInt.toNat 32767 = _
  congr 4
  refine funext fun a => Fin.ext ?_
  match a with
  | ⟨0, _⟩ => rfl
  | ⟨1, _⟩ => rfl
  | ⟨2, _⟩ => rfl

/-- The same, second coordinate. -/
theorem rowOp1 (i : S136x512x1024.Idx) (idx : IVec S136x512x1 32) :
    (gather_S32768x1024_S136x512x1_S136x512x1024_2_0_n_n_0_2_11024.operandIdx i idx 1).val = (i 2).val := by
  show gather_S32768x1024_S136x512x1_S136x512x1024_2_0_n_n_0_2_11024.start i idx 1
    + gather_S32768x1024_S136x512x1_S136x512x1024_2_0_n_n_0_2_11024.batchCoord i 1
    + gather_S32768x1024_S136x512x1_S136x512x1024_2_0_n_n_0_2_11024.offCoord i 1 = _
  rw [GatherDims.batchCoord_eq_zero _ _ _ (by decide)]
  unfold GatherDims.start GatherDims.offCoord
  rw [dif_neg (by decide), dif_pos (by decide)]
  show 0 + 0 + (i 2).val = _
  omega

/-- The gathered in-weights' operand index. -/
theorem inOp0 (i : S136x1024x3584.Idx) (idx : IVec S136x1 32) :
    (gather_S8x1024x3584_S136x1_S136x1024x3584_12_0_n_n_0_1_110243584.operandIdx i idx 0).val = min (idx (ix2 (i 0) 0)).toInt.toNat 7 := by
  show gather_S8x1024x3584_S136x1_S136x1024x3584_12_0_n_n_0_1_110243584.start i idx 0
    + gather_S8x1024x3584_S136x1_S136x1024x3584_12_0_n_n_0_1_110243584.batchCoord i 0
    + gather_S8x1024x3584_S136x1_S136x1024x3584_12_0_n_n_0_1_110243584.offCoord i 0 = _
  rw [GatherDims.batchCoord_eq_zero _ _ _ (by decide), GatherDims.offCoord_eq_zero _ _ _ (by decide)]
  unfold GatherDims.start
  rw [dif_pos (by decide)]
  show min (idx _).toInt.toNat 7 = _
  congr 4
  refine funext fun a => Fin.ext ?_
  match a with
  | ⟨0, _⟩ => rfl
  | ⟨1, _⟩ => rfl

/-- The same, second coordinate. -/
theorem inOp1 (i : S136x1024x3584.Idx) (idx : IVec S136x1 32) :
    (gather_S8x1024x3584_S136x1_S136x1024x3584_12_0_n_n_0_1_110243584.operandIdx i idx 1).val = (i 1).val := by
  show gather_S8x1024x3584_S136x1_S136x1024x3584_12_0_n_n_0_1_110243584.start i idx 1
    + gather_S8x1024x3584_S136x1_S136x1024x3584_12_0_n_n_0_1_110243584.batchCoord i 1
    + gather_S8x1024x3584_S136x1_S136x1024x3584_12_0_n_n_0_1_110243584.offCoord i 1 = _
  rw [GatherDims.batchCoord_eq_zero _ _ _ (by decide)]
  unfold GatherDims.start GatherDims.offCoord
  rw [dif_neg (by decide), dif_pos (by decide)]
  show 0 + 0 + (i 1).val = _
  omega

/-- The same, third coordinate. -/
theorem inOp2 (i : S136x1024x3584.Idx) (idx : IVec S136x1 32) :
    (gather_S8x1024x3584_S136x1_S136x1024x3584_12_0_n_n_0_1_110243584.operandIdx i idx 2).val = (i 2).val := by
  show gather_S8x1024x3584_S136x1_S136x1024x3584_12_0_n_n_0_1_110243584.start i idx 2
    + gather_S8x1024x3584_S136x1_S136x1024x3584_12_0_n_n_0_1_110243584.batchCoord i 2
    + gather_S8x1024x3584_S136x1_S136x1024x3584_12_0_n_n_0_1_110243584.offCoord i 2 = _
  rw [GatherDims.batchCoord_eq_zero _ _ _ (by decide)]
  unfold GatherDims.start GatherDims.offCoord
  rw [dif_neg (by decide), dif_pos (by decide)]
  show 0 + 0 + (i 2).val = _
  omega

/-- The gathered out-weights' operand index. -/
theorem outOp0 (i : S136x3584x1024.Idx) (idx : IVec S136x1 32) :
    (gather_S8x3584x1024_S136x1_S136x3584x1024_12_0_n_n_0_1_135841024.operandIdx i idx 0).val = min (idx (ix2 (i 0) 0)).toInt.toNat 7 := by
  show gather_S8x3584x1024_S136x1_S136x3584x1024_12_0_n_n_0_1_135841024.start i idx 0
    + gather_S8x3584x1024_S136x1_S136x3584x1024_12_0_n_n_0_1_135841024.batchCoord i 0
    + gather_S8x3584x1024_S136x1_S136x3584x1024_12_0_n_n_0_1_135841024.offCoord i 0 = _
  rw [GatherDims.batchCoord_eq_zero _ _ _ (by decide), GatherDims.offCoord_eq_zero _ _ _ (by decide)]
  unfold GatherDims.start
  rw [dif_pos (by decide)]
  show min (idx _).toInt.toNat 7 = _
  congr 4
  refine funext fun a => Fin.ext ?_
  match a with
  | ⟨0, _⟩ => rfl
  | ⟨1, _⟩ => rfl

/-- The same, second coordinate. -/
theorem outOp1 (i : S136x3584x1024.Idx) (idx : IVec S136x1 32) :
    (gather_S8x3584x1024_S136x1_S136x3584x1024_12_0_n_n_0_1_135841024.operandIdx i idx 1).val = (i 1).val := by
  show gather_S8x3584x1024_S136x1_S136x3584x1024_12_0_n_n_0_1_135841024.start i idx 1
    + gather_S8x3584x1024_S136x1_S136x3584x1024_12_0_n_n_0_1_135841024.batchCoord i 1
    + gather_S8x3584x1024_S136x1_S136x3584x1024_12_0_n_n_0_1_135841024.offCoord i 1 = _
  rw [GatherDims.batchCoord_eq_zero _ _ _ (by decide)]
  unfold GatherDims.start GatherDims.offCoord
  rw [dif_neg (by decide), dif_pos (by decide)]
  show 0 + 0 + (i 1).val = _
  omega

/-- The same, third coordinate. -/
theorem outOp2 (i : S136x3584x1024.Idx) (idx : IVec S136x1 32) :
    (gather_S8x3584x1024_S136x1_S136x3584x1024_12_0_n_n_0_1_135841024.operandIdx i idx 2).val = (i 2).val := by
  show gather_S8x3584x1024_S136x1_S136x3584x1024_12_0_n_n_0_1_135841024.start i idx 2
    + gather_S8x3584x1024_S136x1_S136x3584x1024_12_0_n_n_0_1_135841024.batchCoord i 2
    + gather_S8x3584x1024_S136x1_S136x3584x1024_12_0_n_n_0_1_135841024.offCoord i 2 = _
  rw [GatherDims.batchCoord_eq_zero _ _ _ (by decide)]
  unfold GatherDims.start GatherDims.offCoord
  rw [dif_neg (by decide), dif_pos (by decide)]
  show 0 + 0 + (i 2).val = _
  omega

include hS in
/-- The row numbers the gather takes are the given ones. -/
theorem v5_eq (n : Fin 136) (j : Fin 512) : val_main_v5 (F := Ideal) x2 (ix3 n j 0) = x2 (ix2 n j) := by
  rw [val_main_v5_apply]
  have e : idx_main_v5 (ix3 n j 0) = ix2 n j := funext fun a => match a with | ⟨0, _⟩ => rfl | ⟨1, _⟩ => rfl
  rw [e]
  exact keep_small (x2 (ix2 n j)) _ 32768 (by decide) (hS _)

include hE in
/-- The expert numbers the gathers take are the given ones. -/
theorem v12_eq (n : Fin 136) : val_main_v12 (F := Ideal) x0 (ix2 n 0) = x0 (ix1 n) := by
  rw [val_main_v12_apply]
  have e : idx_main_v12 (ix2 n 0) = ix1 n := funext fun a => match a with | ⟨0, _⟩ => rfl
  rw [e]
  exact keep_small (x0 (ix1 n)) _ 8 (by decide) (hE _)

/-- The three gathers of weights take the same numbers. -/
theorem v19_eq : val_main_v19 (F := Ideal) x0 = val_main_v12 (F := Ideal) x0 := rfl
/-- As the equation before. -/
theorem v26_eq : val_main_v26 (F := Ideal) x0 = val_main_v12 (F := Ideal) x0 := rfl

/-- The gathered rows. -/
theorem v6_eq (n : Fin 136) (j : Fin 512) (k : Fin 1024) : val_main_v6 (F := Ideal) x2 x3 (ix3 n j k) = x3 (ix2 (tok x2 hS n j) k) := by
  unfold val_main_v6
  show x3 _ = x3 _
  congr 1
  refine funext fun a => Fin.ext ?_
  match a with
  | ⟨0, _⟩ =>
    refine (rowOp0 (ix3 n j k) _).trans ?_
    show min (val_main_v5 (F := Ideal) x2 (ix3 n j 0)).toInt.toNat 32767 = (x2 (ix2 n j) : BitVec 32).toNat
    rw [v5_eq x2 hS, toInt_small _ 32768 (by decide) (hS _)]
    have := hS (ix2 n j)
    omega
  | ⟨1, _⟩ => exact rowOp1 (ix3 n j k) _

/-- The gathered in-weights, first. -/
theorem v13_eq (n : Fin 136) (k : Fin 1024) (f : Fin 3584) : val_main_v13 (F := Ideal) x0 x4 (ix3 n k f) = x4 (ix3 (ex x0 hE n) k f) := by
  unfold val_main_v13
  show x4 _ = x4 _
  congr 1
  refine funext fun a => Fin.ext ?_
  match a with
  | ⟨0, _⟩ =>
    refine (inOp0 (ix3 n k f) _).trans ?_
    show min (val_main_v12 (F := Ideal) x0 (ix2 n 0)).toInt.toNat 7 = (x0 (ix1 n) : BitVec 32).toNat
    rw [v12_eq x0 hE, toInt_small _ 8 (by decide) (hE _)]
    have := hE (ix1 n)
    omega
  | ⟨1, _⟩ => exact inOp1 (ix3 n k f) _
  | ⟨2, _⟩ => exact inOp2 (ix3 n k f) _

/-- The gathered in-weights, second. -/
theorem v20_eq (n : Fin 136) (k : Fin 1024) (f : Fin 3584) : val_main_v20 (F := Ideal) x0 x5 (ix3 n k f) = x5 (ix3 (ex x0 hE n) k f) :=
  v13_eq x0 x5 hE n k f

/-- The gathered out-weights. -/
theorem v27_eq (n : Fin 136) (f : Fin 3584) (d : Fin 1024) : val_main_v27 (F := Ideal) x0 x6 (ix3 n f d) = x6 (ix3 (ex x0 hE n) f d) := by
  unfold val_main_v27
  show x6 _ = x6 _
  congr 1
  refine funext fun a => Fin.ext ?_
  match a with
  | ⟨0, _⟩ =>
    refine (outOp0 (ix3 n f d) _).trans ?_
    rw [v26_eq]
    show min (val_main_v12 (F := Ideal) x0 (ix2 n 0)).toInt.toNat 7 = (x0 (ix1 n) : BitVec 32).toNat
    rw [v12_eq x0 hE, toInt_small _ 8 (by decide) (hE _)]
    have := hE (ix1 n)
    omega
  | ⟨1, _⟩ => exact outOp1 (ix3 n f d) _
  | ⟨2, _⟩ => exact outOp2 (ix3 n f d) _

end Cert.Proof.Experts.Ref

end
-- ==== Proof.Experts.RefOut.lean ====
/- The plain expert network's result at an element: its row's expert, read over the whole of the hidden columns. -/
module

public import proofs.«01_k».proof.Proof.Experts.Pay
public import proofs.«01_k».proof.Proof.Experts.RefValue
public import Idealize.ShloMosaic.Lib.IdealHost

@[expose] public section

noncomputable section

open scoped BigOperators

namespace Cert.Proof.Experts

open Idealize.ShloMosaic

/-- An expert's output for one row and one output column: the gated hidden columns times the out-weights. -/
def expert {n : ℕ} (x : Fin 1024 → EReal) (w1 w3 : Fin 1024 → Fin n → EReal) (w2 : Fin n → EReal) : EReal :=
  ∑ f : Fin n, gate (∑ k : Fin 1024, x k * w1 k f) (∑ k : Fin 1024, x k * w3 k f) * w2 f

namespace Ref

open Cert.ReferenceEIdeal Cert.ReferenceEIdeal.Gen Cert.ReferenceEIdeal.Read

variable (x0 x1 : (⟨S136, .i32⟩ : BufTy).Contents (Elt Ideal)) (x2 : (⟨S136x512, .i32⟩ : BufTy).Contents (Elt Ideal))
  (x3 : (⟨S32768x1024, .f32⟩ : BufTy).Contents (Elt Ideal)) (x4 x5 : (⟨S8x1024x3584, .f32⟩ : BufTy).Contents (Elt Ideal))
  (x6 : (⟨S8x3584x1024, .f32⟩ : BufTy).Contents (Elt Ideal))
  (hE : ∀ x : S136.Idx, (x0 x : BitVec 32).toNat < 8) (hS : ∀ x : S136x512.Idx, (x2 x : BitVec 32).toNat < 32768)

/-- The first hidden product. -/
theorem v28_eq (n : Fin 136) (j : Fin 512) (f : Fin 3584) : val_main_v28 (F := Ideal) x0 x2 x3 x4 (ix3 n j f)
    = ∑ k : Fin 1024, x3 (ix2 (tok x2 hS n j) k) * x4 (ix3 (ex x0 hE n) k f) := by
  rw [val_main_v28_apply]
  refine Finset.sum_congr rfl fun k _ => ?_
  have el : lidx_main_v28 (ix3 n j f) k = ix3 n j k := funext fun a => match a with | ⟨0, _⟩ => rfl | ⟨1, _⟩ => rfl | ⟨2, _⟩ => rfl
  have er : ridx_main_v28 (ix3 n j f) k = ix3 n k f := funext fun a => match a with | ⟨0, _⟩ => rfl | ⟨1, _⟩ => rfl | ⟨2, _⟩ => rfl
  rw [el, er, v6_eq x2 x3 hS, v13_eq x0 x4 hE]

/-- The second hidden product. -/
theorem v29_eq (n : Fin 136) (j : Fin 512) (f : Fin 3584) : val_main_v29 (F := Ideal) x0 x2 x3 x5 (ix3 n j f)
    = ∑ k : Fin 1024, x3 (ix2 (tok x2 hS n j) k) * x5 (ix3 (ex x0 hE n) k f) := by
  rw [val_main_v29_apply]
  refine Finset.sum_congr rfl fun k _ => ?_
  have el : lidx_main_v29 (ix3 n j f) k = ix3 n j k := funext fun a => match a with | ⟨0, _⟩ => rfl | ⟨1, _⟩ => rfl | ⟨2, _⟩ => rfl
  have er : ridx_main_v29 (ix3 n j f) k = ix3 n k f := funext fun a => match a with | ⟨0, _⟩ => rfl | ⟨1, _⟩ => rfl | ⟨2, _⟩ => rfl
  rw [el, er, v6_eq x2 x3 hS, v20_eq x0 x5 hE]

/-- The gated hidden columns. -/
theorem v31_eq (i : S136x512x3584.Idx) : val_main_v31 (F := Ideal) x0 x2 x3 x4 x5 i
    = gate (val_main_v28 (F := Ideal) x0 x2 x3 x4 i) (val_main_v29 (F := Ideal) x0 x2 x3 x5 i) := by
  rw [val_main_v31_apply, val_main_v30_apply, val_main_call0_v5_apply, val_main_call0_v4_apply, val_main_call0_v3_apply, val_main_call0_v2_apply,
    val_main_call0_v1_apply, val_main_call0_v0_apply, val_main_call0_cst_0_apply, val_main_call0_cst_apply]
  generalize val_main_v28 (F := Ideal) x0 x2 x3 x4 i = a
  generalize val_main_v29 (F := Ideal) x0 x2 x3 x5 i = b
  show a * Ideal.div (Ideal.ofBits .f32 0x3F800000#32) (Ideal.ofBits .f32 0x3F800000#32 + Ideal.exp (-a)) * b = a * Ideal.div 1 (1 + Ideal.exp (-a)) * b
  rw [Ideal.ofBits_one_f32]

/-- The result: zero where the tile is empty, its expert's output elsewhere. -/
theorem result_apply (n : Fin 136) (j : Fin 512) (d : Fin 1024) (r : Fin 69632) (hr : r.val = n.val * 512 + j.val) :
    val_main_v37 (F := Ideal) x0 x1 x2 x3 x4 x5 x6 (ix2 r d)
      = if IntOp.cmpi .sgt (x1 (ix1 n)) 0#32 = 1#1 then
          expert (fun k => x3 (ix2 (tok x2 hS n j) k)) (fun k f => x4 (ix3 (ex x0 hE n) k f)) (fun k f => x5 (ix3 (ex x0 hE n) k f))
            (fun f : Fin 3584 => x6 (ix3 (ex x0 hE n) f d)) else 0 := by
  rw [val_main_v37_apply]
  have hi : idx_main_v37 (ix2 r d) = ix3 n j d := by
    have hj := j.isLt
    have hd := d.isLt
    refine funext fun a => Fin.ext ?_
    match a with
    | ⟨0, _⟩ => show (r.val * 1024 + d.val) / 524288 = n.val; omega
    | ⟨1, _⟩ => show (r.val * 1024 + d.val) / 1024 % 512 = j.val; omega
    | ⟨2, _⟩ => show (r.val * 1024 + d.val) % 1024 = d.val; omega
  rw [hi, val_main_v36_apply, val_main_call1_v1_apply, val_main_v35_apply, val_main_call1_v2_apply]
  have h35 : idx_main_v35 (idx_main_call1_v1 (ix3 n j d)) = ix1 n := funext fun a => match a with | ⟨0, _⟩ => rfl
  rw [h35]
  have h0 : val_main_call1_v0 (F := Ideal) (idx_main_call1_v2 (ix3 n j d)) = 0 := by
    show Ideal.ofBits .f32 0x00000000#32 = 0
    simp [Ideal.ofBits, Ideal.ieee]
  rw [h0]
  have h32 : val_main_v32 (F := Ideal) x0 x2 x3 x4 x5 x6 (ix3 n j d)
      = expert (fun k => x3 (ix2 (tok x2 hS n j) k)) (fun k f => x4 (ix3 (ex x0 hE n) k f)) (fun k f => x5 (ix3 (ex x0 hE n) k f))
            (fun f : Fin 3584 => x6 (ix3 (ex x0 hE n) f d)) := by
    rw [val_main_v32_apply]
    refine Finset.sum_congr rfl fun f _ => ?_
    have el : lidx_main_v32 (ix3 n j d) f = ix3 n j f := funext fun a => match a with | ⟨0, _⟩ => rfl | ⟨1, _⟩ => rfl | ⟨2, _⟩ => rfl
    have er : ridx_main_v32 (ix3 n j d) f = ix3 n f d := funext fun a => match a with | ⟨0, _⟩ => rfl | ⟨1, _⟩ => rfl | ⟨2, _⟩ => rfl
    rw [el, er, v31_eq, v28_eq x0 x2 x3 x4 hE hS, v29_eq x0 x2 x3 x5 hE hS, v27_eq x0 x6 hE]
  rw [h32]
  rfl

end Ref

end Cert.Proof.Experts

end
-- ==== Proof.Experts.Obligation.lean ====
module

public import proofs.«01_k».proof.Proof.Experts.Data

@[expose] public section

noncomputable section

namespace Cert.Proof.Experts

open Idealize.ShloMosaic Idealize.ShloMosaic.TcCoe
open Cert.KernelEIdeal Cert.KernelEIdeal.Gen
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Tactic
open Idealize.ShloMosaic.Pipeline (UD)

variable {F : FTy → Type} [FloatOps F]

/-- The resources the run is stated over. -/
local notation "𝕄" => MT nD τ sig Unit (Elt F) ℕ (UD sig nD τ) ℕ

open Idealize.ShloMosaic.Pipeline (Dat Cfg Window BodyObligation)

section
variable (c : Dev nD)
variable (nt : ℕ) (i : grid0.Coords) (hnt : (i 0).val = nt) (a2 : Memref sig .tc .smem S136 .i32) (h2 : a2.IsWhole) (a3 : Memref sig .tc .smem S136 .i32) (h3 : a3.IsWhole)
  (a4 : Memref sig .tc .vmem S136x512 .i32) (h4 : a4.IsWhole)
  (a6 : Memref sig .tc .vmem S1x1024x1792 .bf16) (h6 : a6.IsWhole) (a7 : Memref sig .tc .vmem S1x1024x1792 .bf16) (h7 : a7.IsWhole)
  (a8 : Memref sig .tc .vmem S1x1792x1024 .bf16) (h8 : a8.IsWhole) (a9 : Memref sig .tc .vmem S512x1024 .f32) (h9 : a9.IsWhole)
  (S : S136x512.Idx → Elt F .i32) (h : S32768x1024.Idx → Elt F .f32) (tv : S136.Idx → Elt F .i32)

include hnt

/-- The body at the first point of a tile of a given number. -/
theorem body0_at (q : PosShare TreeShare) (hr : ∀ n k, wix (srow S n) k < 32768) (hon : on tv 0) (hi : (i 1).val = 0)
    (w1 w3 : S1x1024x1792.Idx → Elt F .bf16) (w2 : S1x1792x1024.Idx → Elt F .bf16) {Q : PUnit → sProp 𝕄} :
    iprop(((Memref.whole main_arg1).view.loc (c : Thread nD τ) ↦{q} tv) ∗ srcHeld c a4 S ∗ calm (F := F) c
        ∗ slots c S h (0 < nt ∧ on tv nt) nt
        ∗ (∃ x, owns (c : Thread nD τ) (Memref.whole cc0_scratch2) fullShare x) ∗ (∃ A, owns (c : Thread nD τ) (Memref.whole cc0_scratch3) fullShare A)
        ∗ owns (c : Thread nD τ) a6 fullShare w1 ∗ owns (c : Thread nD τ) a7 fullShare w3 ∗ owns (c : Thread nD τ) a8 fullShare w2)
      ⊢ iprop((iprop(((Memref.whole main_arg1).view.loc (c : Thread nD τ) ↦{q} tv) ∗ srcHeld c a4 S ∗ calm (F := F) c
            ∗ slots c S h (nt + 1 < 136 ∧ on tv (nt + 1)) (nt + 1)
            ∗ xHeld c S h tv nt
            ∗ owns (c : Thread nD τ) (Memref.whole cc0_scratch3) fullShare (accOf S h tv nt w1 w3 w2 (k0_pay2 (F := F)))
            ∗ owns (c : Thread nD τ) a6 fullShare w1 ∗ owns (c : Thread nD τ) a7 fullShare w3 ∗ owns (c : Thread nD τ) a8 fullShare w2) -∗ Q ⟨⟩)
        -∗ wp frame (wpE (defs₀ (F := F)) Variants.none (c : Thread nD τ) none) Set.univ (theBody i a2 h2 a4 h4 a6 h6 a7 h7 a8 h8 a9 h9) Q) := by
  subst hnt
  exact body0 c i a2 h2 a4 h4 a6 h6 a7 h7 a8 h8 a9 h9 S h tv q hr hon hi w1 w3 w2

/-- The body at the second point of a tile of a given number. -/
theorem body1_at (q : PosShare TreeShare) (hi : (i 1).val = 1)
    (w1 w3 : S1x1024x1792.Idx → Elt F .bf16) (w2 : S1x1792x1024.Idx → Elt F .bf16) (A : S512x1024.Idx → Elt F .f32) {Q : PUnit → sProp 𝕄} :
    iprop(((Memref.whole main_arg1).view.loc (c : Thread nD τ) ↦{q} tv)
        ∗ xHeld c S h tv nt ∗ owns (c : Thread nD τ) (Memref.whole cc0_scratch3) fullShare A
        ∗ owns (c : Thread nD τ) a6 fullShare w1 ∗ owns (c : Thread nD τ) a7 fullShare w3 ∗ owns (c : Thread nD τ) a8 fullShare w2
        ∗ (∃ o, owns (c : Thread nD τ) a9 fullShare o))
      ⊢ iprop((iprop(((Memref.whole main_arg1).view.loc (c : Thread nD τ) ↦{q} tv)
            ∗ xHeld c S h tv nt ∗ owns (c : Thread nD τ) (Memref.whole cc0_scratch3) fullShare (accOf S h tv nt w1 w3 w2 A)
            ∗ owns (c : Thread nD τ) a6 fullShare w1 ∗ owns (c : Thread nD τ) a7 fullShare w3 ∗ owns (c : Thread nD τ) a8 fullShare w2
            ∗ owns (c : Thread nD τ) a9 fullShare (accOf S h tv nt w1 w3 w2 A)) -∗ Q ⟨⟩)
        -∗ wp frame (wpE (defs₀ (F := F)) Variants.none (c : Thread nD τ) none) Set.univ (theBody i a2 h2 a4 h4 a6 h6 a7 h7 a8 h8 a9 h9) Q) := by
  subst hnt
  exact body1st c i a2 h2 a4 h4 a6 h6 a7 h7 a8 h8 a9 h9 S h tv q hi w1 w3 w2 A

end

section
variable (m : (ℓ : Loc nD τ sig) → Buf (Elt F) ℓ) (hok : Ok m)

/-- The staging buffers at a point. -/
abbrev ms0 (t : Fin (cfgE m hok).N) : Memref sig .tc .vmem S136x512 .i32 := spec0_0.stage ((cfgE m hok).slots t 0)
abbrev ms1 (t : Fin (cfgE m hok).N) : Memref sig .tc .vmem S1x1024x1792 .bf16 := spec0_1.stage ((cfgE m hok).slots t 1)
abbrev ms2 (t : Fin (cfgE m hok).N) : Memref sig .tc .vmem S1x1024x1792 .bf16 := spec0_2.stage ((cfgE m hok).slots t 2)
abbrev ms3 (t : Fin (cfgE m hok).N) : Memref sig .tc .vmem S1x1792x1024 .bf16 := spec0_3.stage ((cfgE m hok).slots t 3)
abbrev ms4 (t : Fin (cfgE m hok).N) : Memref sig .tc .vmem S512x1024 .f32 := spec0_4.stage ((cfgE m hok).slots t 4)

/-- The body at a point. -/
abbrev bodyAt (t : Fin (cfgE m hok).N) : Prog (TpuEff nD τ sig (Elt F) Λ₀ .tc) PUnit :=
  theBody (F := F) ((cfgE m hok).grid.coords t) (Memref.whole main_arg0) (Memref.isWhole_whole _) (ms0 m hok t) (hstage0_0 (((cfgE m hok).slots t 0).cast nbuf0_0))
    (ms1 m hok t) (hstage0_1 (((cfgE m hok).slots t 1).cast nbuf0_1)) (ms2 m hok t) (hstage0_2 (((cfgE m hok).slots t 2).cast nbuf0_2))
    (ms3 m hok t) (hstage0_3 (((cfgE m hok).slots t 3).cast nbuf0_3)) (ms4 m hok t) (hstage0_4 (((cfgE m hok).slots t 4).cast nbuf0_4))

/-- The body table's row at a point. -/
theorem row (t : Fin (cfgE m hok).N) :
    defs₀ (F := F) .tc (cfgE m hok).body ((cfgE m hok).bodyArgs t ((cfgE m hok).slots t)) = (bodyAt m hok t >>= fun _ => (pure ⟨⟩ : Prog (TpuEff nD τ sig (Elt F) Λ₀ .tc) PUnit)) := by
  unfold defs₀; rw [Defs.onTc_tc]; rfl

/-- The slots read their condition only up to equivalence. -/
theorem slots_congr (c : Dev nD) (S : S136x512.Idx → Elt F .i32) (h : S32768x1024.Idx → Elt F .f32) (p p' : Prop) [Decidable p] [Decidable p'] (e : p ↔ p') (n : ℕ) :
    (slots c S h p n : sProp 𝕄) = slots c S h p' n := by
  unfold slots
  by_cases hp : p
  · rw [if_pos hp, if_pos (e.mp hp)]
  · rw [if_neg hp, if_neg (fun hh => hp (e.mpr hh))]

/-- A tile's first point writes no block back. -/
theorem flush4 (t : Fin (cfgE m hok).N) (he : t.val % 2 = 0) : ((cfgE m hok).win 4).flush t = false := by
  have hN : (cfgE m hok).N = 272 := N_0
  have e2 : (t.val + 1) / 2 = t.val / 2 := by omega
  rw [Bool.eq_false_iff]
  intro hf
  rcases (Pipeline.Window.flush_out _ rfl t).mp hf with h | ⟨h, hne⟩
  · have := h.trans hN; omega
  · apply hne
    have e0 := coord0 m hok t
    have e1 := coord0 m hok ⟨t.val + 1, h⟩
    show cc0_transform_5 ((cfgE m hok).grid.coords ⟨t.val + 1, h⟩) = cc0_transform_5 ((cfgE m hok).grid.coords t)
    unfold cc0_transform_5
    rw [e0, e1]; show _ = _; rw [e2]

/-- What the body is called with at a point. -/
def bodyPre (c : Dev nD) (t : Fin (cfgE m hok).N) : sProp 𝕄 :=
  iprop(inv m hok c t.val ∗ (dats m hok 0 c).owesAt () t.castSucc
    ∗ (∃ d, owns (c : Thread nD τ) (ms0 m hok t) fullShare ((dats m hok 0 c).before 0 t d))
    ∗ (∃ d, owns (c : Thread nD τ) (ms1 m hok t) fullShare ((dats m hok 0 c).before 1 t d))
    ∗ (∃ d, owns (c : Thread nD τ) (ms2 m hok t) fullShare ((dats m hok 0 c).before 2 t d))
    ∗ (∃ d, owns (c : Thread nD τ) (ms3 m hok t) fullShare ((dats m hok 0 c).before 3 t d))
    ∗ (∃ d, owns (c : Thread nD τ) (ms4 m hok t) fullShare ((dats m hok 0 c).before 4 t d)))

/-- What it returns, the output's buffer aside. -/
def bodyPost (c : Dev nD) (t : Fin (cfgE m hok).N) (O : sProp 𝕄) : sProp 𝕄 :=
  iprop(inv m hok c (t.val + 1) ∗ (dats m hok 0 c).owesAt () t.succ
    ∗ owns (c : Thread nD τ) (ms0 m hok t) fullShare (iblk m hok c 0 t)
    ∗ owns (c : Thread nD τ) (ms1 m hok t) fullShare (iblk m hok c 1 t)
    ∗ owns (c : Thread nD τ) (ms2 m hok t) fullShare (iblk m hok c 2 t)
    ∗ owns (c : Thread nD τ) (ms3 m hok t) fullShare (iblk m hok c 3 t) ∗ O)

/-- Nothing owed, at any point. -/
theorem calm_of (c : Dev nD) (k : Fin ((cfgE m hok).N + 1)) : (dats m hok 0 c).owesAt () k ⊢ (calm (F := F) c : sProp 𝕄) := by
  show iprop(∃ W, ⌜_⌝ ∗ owes _ _ W) ⊢ _
  iintro ⟨%W, %h, HO⟩
  iexists W
  iexact HO

/-- Nothing owed, at any point. -/
theorem of_calm (c : Dev nD) (k : Fin ((cfgE m hok).N + 1)) : (calm (F := F) c : sProp 𝕄) ⊢ (dats m hok 0 c).owesAt () k := by
  show _ ⊢ iprop(∃ W, ⌜_⌝ ∗ owes _ _ W)
  iintro ⟨%W, HO⟩
  iexists W
  isplitr
  swap; · iexact HO
  ipureintro; exact fun _ _ => Or.inl trivial

/-- The body at a tile's first point. -/
theorem sound0 (hr : ∀ c n k, wix (srow (srcOf m c) n) k < 32768) (hon : on (tvOf m) 0) (c : Dev nD) (t : Fin (cfgE m hok).N) (he : t.val % 2 = 0) :
    bodyPre m hok c t ⊢ wp frame (wpE (defs₀ (F := F)) Variants.none c none) Set.univ (bodyAt m hok t >>= fun _ => (pure ⟨⟩ : Prog (TpuEff nD τ sig (Elt F) Λ₀ .tc) PUnit))
      (fun _ => bodyPost m hok c t iprop(∃ d, owns (c : Thread nD τ) (ms4 m hok t) fullShare ((dats m hok 0 c).before 4 t d))) := by
  have hN : t.val < 272 := Nat.lt_of_lt_of_eq t.isLt N_0
  rw [wp_bind]
  have B := fun Q => body0_at c _ ((cfgE m hok).grid.coords t) (coord0 m hok t) (Memref.whole main_arg0) (Memref.isWhole_whole _) (ms0 m hok t) (hstage0_0 (((cfgE m hok).slots t 0).cast nbuf0_0))
    (ms1 m hok t) (hstage0_1 (((cfgE m hok).slots t 1).cast nbuf0_1)) (ms2 m hok t) (hstage0_2 (((cfgE m hok).slots t 2).cast nbuf0_2))
    (ms3 m hok t) (hstage0_3 (((cfgE m hok).slots t 3).cast nbuf0_3)) (ms4 m hok t) (hstage0_4 (((cfgE m hok).slots t 4).cast nbuf0_4))
    (srcOf m c) (hfOf m c) (tvOf m) fullShare.right (hr c) hon ((coord1 m hok t).trans he) (iblk m hok c 1 t) (iblk m hok c 2 t) (iblk m hok c 3 t) (Q := Q)
  unfold bodyPre bodyPost
  simp only [before0, before1, before2, before3, iblk0]
  unfold inv tabs
  rw [show (t.val + 1 + 1) / 2 = t.val / 2 + 1 by omega, show (t.val + 1) / 2 = t.val / 2 by omega]
  unfold mids
  rw [dif_neg (by omega), dif_pos (⟨by omega, by show t.val + 1 ≤ _; exact t.isLt⟩ : (t.val + 1) % 2 = 1 ∧ t.val + 1 ≤ (cfgE m hok).N)]
  rw [show (t.val + 1) / 2 = t.val / 2 by omega]
  rw [slots_congr c (srcOf m c) (hfOf m c) (0 < t.val / 2 ∧ t.val / 2 < 136 ∧ on (tvOf m) (t.val / 2)) (0 < t.val / 2 ∧ on (tvOf m) (t.val / 2))
      ⟨fun h => ⟨h.1, h.2.2⟩, fun h => ⟨h.1, by omega, h.2⟩⟩,
    slots_congr c (srcOf m c) (hfOf m c) (0 < t.val / 2 + 1 ∧ t.val / 2 + 1 < 136 ∧ on (tvOf m) (t.val / 2 + 1)) (t.val / 2 + 1 < 136 ∧ on (tvOf m) (t.val / 2 + 1))
      ⟨fun h => h.2, fun h => ⟨by omega, h⟩⟩]
  iintro ⟨⟨⟨HT0, HT1⟩, HP, ⟨HM, HV⟩, HS, HX, HA⟩, Ho, ⟨%d0, H0⟩, ⟨%d1, H1⟩, ⟨%d2, H2⟩, ⟨%d3, H3⟩, H4⟩
  ihave HO := (calm_of m hok c t.castSucc) $$ Ho
  iapply (B _) $$ [HT1 HM HV HS HX HA HO H0 H1 H2 H3]
  · isplitl [HT1]; · iexact HT1
    isplitl [H0 HM HV]
    · unfold srcHeld
      isplitl [H0]; · iexact H0
      isplitl [HM] <;> iassumption
    isplitl [HO]; · iexact HO
    isplitl [HS]; · iexact HS
    isplitl [HX]; · iexact HX
    isplitl [HA]; · iexact HA
    isplitl [H1]; · iexact H1
    isplitl [H2] <;> iassumption
  iintro ⟨HT1, HC, HO, HS, HX, HA, H1, H2, H3⟩
  unfold srcHeld
  icases HC with ⟨H0, HM, HV⟩
  rw [wp_pure]
  imodintro
  isplitl [HT0 HT1 HP HM HV HS HX HA]
  · isplitl [HT0 HT1]
    · isplitl [HT0] <;> iassumption
    isplitl [HP]; · iexact HP
    isplitl [HM HV]
    · isplitl [HM] <;> iassumption
    isplitl [HS]; · iexact HS
    isplitl [HX]; · iexact HX
    iexact HA
  isplitl [HO]
  · iapply (of_calm m hok c t.succ); iexact HO
  isplitl [H0]; · iexact H0
  isplitl [H1]; · iexact H1
  isplitl [H2]; · iexact H2
  isplitl [H3]; · iexact H3
  iexact H4

/-- The body at a tile's second point. -/
theorem sound1 (c : Dev nD) (t : Fin (cfgE m hok).N) (he : t.val % 2 = 1) :
    bodyPre m hok c t ⊢ wp frame (wpE (defs₀ (F := F)) Variants.none c none) Set.univ (bodyAt m hok t >>= fun _ => (pure ⟨⟩ : Prog (TpuEff nD τ sig (Elt F) Λ₀ .tc) PUnit))
      (fun _ => bodyPost m hok c t (owns (c : Thread nD τ) (ms4 m hok t) fullShare (outAt m hok c t))) := by
  have hN : t.val < 272 := Nat.lt_of_lt_of_eq t.isLt N_0
  rw [wp_bind]
  have B := fun Q => body1_at c _ ((cfgE m hok).grid.coords t) (coord0 m hok t) (Memref.whole main_arg0) (Memref.isWhole_whole _) (ms0 m hok t) (hstage0_0 (((cfgE m hok).slots t 0).cast nbuf0_0))
    (ms1 m hok t) (hstage0_1 (((cfgE m hok).slots t 1).cast nbuf0_1)) (ms2 m hok t) (hstage0_2 (((cfgE m hok).slots t 2).cast nbuf0_2))
    (ms3 m hok t) (hstage0_3 (((cfgE m hok).slots t 3).cast nbuf0_3)) (ms4 m hok t) (hstage0_4 (((cfgE m hok).slots t 4).cast nbuf0_4))
    (srcOf m c) (hfOf m c) (tvOf m) fullShare.right ((coord1 m hok t).trans he) (iblk m hok c 1 t) (iblk m hok c 2 t) (iblk m hok c 3 t)
    (accHalf m hok c (prv m hok t)) (Q := Q)
  unfold bodyPre bodyPost
  simp only [before0, before1, before2, before3, iblk0]
  unfold inv tabs
  rw [show (t.val + 1 + 1) / 2 = (t.val + 1) / 2 by omega]
  unfold mids
  rw [dif_pos (⟨he, Nat.le_of_lt t.isLt⟩ : t.val % 2 = 1 ∧ t.val ≤ (cfgE m hok).N), dif_neg (by omega)]
  iintro ⟨⟨⟨HT0, HT1⟩, HP, HM, HS, HX, HA⟩, Ho, ⟨%d0, H0⟩, ⟨%d1, H1⟩, ⟨%d2, H2⟩, ⟨%d3, H3⟩, ⟨%d4, H4⟩⟩
  iapply (B _) $$ [HT1 HX HA H1 H2 H3 H4]
  · isplitl [HT1]; · iexact HT1
    isplitl [HX]; · iexact HX
    isplitl [HA]; · iexact HA
    isplitl [H1]; · iexact H1
    isplitl [H2]; · iexact H2
    isplitl [H3]; · iexact H3
    iexists _; iexact H4
  iintro ⟨HT1, HX, HA, H1, H2, H3, H4⟩
  rw [wp_pure]
  imodintro
  isplitl [HT0 HT1 HP HM HS HX HA]
  · isplitl [HT0 HT1]
    · isplitl [HT0] <;> iassumption
    isplitl [HP]; · iexact HP
    isplitl [HM]; · iexact HM
    isplitl [HS]; · iexact HS
    isplitl [HX]
    · unfold xHeld
      icases HX with ⟨%x, %hx, HX⟩
      iexists x; iexact HX
    iexists _; iexact HA
  isplitl [Ho]
  · ihave HO := (calm_of m hok c t.castSucc) $$ Ho
    iapply (of_calm m hok c t.succ); iexact HO
  isplitl [H0]; · iexact H0
  isplitl [H1]; · iexact H1
  isplitl [H2]; · iexact H2
  isplitl [H3]; · iexact H3
  iexact H4

/-- The body obligation at every point. -/
theorem obligation (hr : ∀ c n k, wix (srow (srcOf m c) n) k < 32768) (hon : on (tvOf m) 0) (c : Dev nD) :
    BodyObligation (dats m hok 0 c) (defs₀ (F := F)) Variants.none () Set.univ := fun t => by
  rw [bigSep_W0, bigSep_W0, row]
  rcases (by omega : t.val % 2 = 0 ∨ t.val % 2 = 1) with he | he
  · have hid : (cfgE m hok).idle 4 ((cfgE m hok).grid.coords t) = true := by
      show (!(k0_cond7 ((cfgE m hok).grid.coords t) == 1#1)) = true
      rw [Bool.not_eq_true', beq_eq_false_iff_ne]
      intro hh
      have := (cond7_iff _).mp hh
      rw [coord1] at this; omega
    have hfl := flush4 m hok t he
    refine triple_restated (sound0 m hok hr hon c t he) rfl .rfl fun _ => ?_
    unfold bodyPost
    refine sep_mono .rfl (sep_mono .rfl (sep_mono .rfl (sep_mono .rfl (sep_mono .rfl (sep_mono .rfl ?_)))))
    show _ ⊢ (match (cfgE m hok).idle 4 ((cfgE m hok).grid.coords t) with
      | true => (match ((cfgE m hok).win 4).flush t with
        | false => _
        | true => _)
      | false => _)
    rw [hid, hfl]
    exact .rfl
  · have hid : (cfgE m hok).idle 4 ((cfgE m hok).grid.coords t) = false := by
      show (!(k0_cond7 ((cfgE m hok).grid.coords t) == 1#1)) = false
      rw [(cond7_iff _).mpr ((coord1 m hok t).trans he)]; rfl
    refine triple_restated (sound1 m hok c t he) rfl .rfl fun _ => ?_
    unfold bodyPost
    refine sep_mono .rfl (sep_mono .rfl (sep_mono .rfl (sep_mono .rfl (sep_mono .rfl (sep_mono .rfl ?_)))))
    show _ ⊢ (match (cfgE m hok).idle 4 ((cfgE m hok).grid.coords t) with
      | true => (match ((cfgE m hok).win 4).flush t with
        | false => _
        | true => _)
      | false => _)
    rw [hid]
    exact .rfl

end
end Cert.Proof.Experts
-- ==== Proof.Experts.Launch.lean ====
module

public import proofs.«01_k».proof.Proof.Experts.Obligation
public import Idealize.ShloMosaic.Lib.Claim

@[expose] public section

noncomputable section

namespace Cert.Proof.Experts

open Idealize.ShloMosaic Idealize.ShloMosaic.TcCoe
open Cert.KernelEIdeal Cert.KernelEIdeal.Gen
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Tactic
open Idealize.ShloMosaic.Pipeline (UD)

variable {F : FTy → Type} [FloatOps F]

/-- The resources the run is stated over. -/
local notation "𝕄" => MT nD τ sig Unit (Elt F) ℕ (UD sig nD τ) ℕ

open Idealize.ShloMosaic.Pipeline (Dat Cfg Window BodyObligation)

section
variable (m : (ℓ : Loc nD τ sig) → Buf (Elt F) ℓ) (hok : Ok m)

/-- The two slots' contents as one array. -/
theorem slots_join (c : Dev nD) : iprop((∃ g, xgOn (F := F) c (sset 0) g) ∗ (∃ g, xgOn (F := F) c (sset 1) g))
    ⊢ (iprop(∃ f, ((c : Thread nD τ).loc cc0_scratch1) ↦{fullShare} f) : sProp 𝕄) := by
  iintro ⟨⟨%g, H0⟩, ⟨%g', H1⟩⟩
  iexists (fun y : S2x512x1024.Idx => if (y 0).val = 0 then g y else g' y)
  iapply (two_slots c (fun y : S2x512x1024.Idx => if (y 0).val = 0 then g y else g' y)).2
  isplitl [H0]
  · rw [show (xgOn c (sset 0) (fun y : S2x512x1024.Idx => if (y 0).val = 0 then g y else g' y) : sProp 𝕄) = xgOn c (sset 0) g from
      pointsTo_congr fun y hy => by
        have : (y 0).val = 0 := (Finset.mem_filter.mp hy).2
        exact if_pos this]
    iexact H0
  · rw [show (xgOn c (sset 1) (fun y : S2x512x1024.Idx => if (y 0).val = 0 then g y else g' y) : sProp 𝕄) = xgOn c (sset 1) g' from
      pointsTo_congr fun y hy => by
        have : (y 0).val = 1 := (Finset.mem_filter.mp hy).2
        exact if_neg (by omega)]
    iexact H1

/-- The kernel's own transfer cells. -/
def osem : Fin 3 → SemLoc sig := fun
  | ⟨0, _⟩ => .dma cc0_scratch4.sem
  | ⟨1, _⟩ => .dma (semS 0 (by decide))
  | ⟨2, _⟩ => .dma (semS 1 (by decide))

/-- Three cells conjoined one by one. -/
theorem bigSep3 {M : Type} [URA M] (Φ : Fin 3 → sProp M) : bigSep Finset.univ Φ = iprop(Φ (0 : Fin 3) ∗ Φ (1 : Fin 3) ∗ Φ (2 : Fin 3)) :=
  BI.bigSep_univ_eq_bigSepL [(0 : Fin 3), (1 : Fin 3), (2 : Fin 3)] (by decide) (by decide) Φ
/-- Two tables conjoined one by one. -/
theorem bigSep2 {M : Type} [URA M] (Φ : Fin 2 → sProp M) : bigSep Finset.univ Φ = iprop(Φ (0 : Fin 2) ∗ Φ (1 : Fin 2)) :=
  BI.bigSep_univ_eq_bigSepL [(0 : Fin 2), (1 : Fin 2)] (by decide) (by decide) Φ

/-- What the launch hands the run, conjunct by conjunct. -/
theorem given_eq (c : Dev nD) :
    (Pipeline.ΦD (Val := Elt F) osem spec0 {main_arg3} (V m) c : sProp 𝕄)
      = iprop(((∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch0), ((c : Thread nD τ).loc cc0_scratch0) ↦{fullShare} f))
        ∗ (∃ r, prngReg c r)
        ∗ (semVal ((c : Thread nD τ), SemLoc.dma cc0_scratch4.sem) 0 ∗ semVal ((c : Thread nD τ), SemLoc.dma (semS 0 (by decide))) 0 ∗ semVal ((c : Thread nD τ), SemLoc.dma (semS 1 (by decide))) 0)
        ∗ hfOn c Finset.univ fullShare (hfOf m c)) := by
  rw [Pipeline.ΦD_eq, scopedRest0_eq]
  unfold Pipeline.ownSems0
  rw [bigSep3, BI.bigSep_singleton]
  rw [show V m c main_arg3 = m ((c : Thread nD τ).loc main_arg3) from V_arg m c main_arg3 (by decide) (by decide) (by decide)]
  rfl

/-- The tables' halves. -/
theorem tables_eq (c : Dev nD) : (Pipeline.ΦT (U := UD sig nD τ) pre0 (tbl m) c : sProp 𝕄) = tabs m c := by
  unfold Pipeline.ΦT Pipeline.prefHeld
  rw [bigSep2]
  rfl

/-- The launch gives the invariant before the first point. -/
theorem inv_start (c : Dev nD) :
    iprop(Pipeline.ΦD (Val := Elt F) osem spec0 {main_arg3} (V m) c ∗ Pipeline.ΦT (U := UD sig nD τ) pre0 (tbl m) c) ⊢ (inv m hok c 0 : sProp 𝕄) := by
  rw [given_eq, tables_eq]
  unfold inv mids slots
  rw [if_neg (by omega), dif_neg (by omega)]
  unfold idle one
  iintro ⟨⟨⟨⟨%g1, H1⟩, ⟨%g2, H2⟩, ⟨%g3, H3⟩, H0⟩, HP, ⟨Hs, Hs0, Hs1⟩, HH⟩, HT⟩
  isplitl [HT]; · iexact HT
  isplitl [HP]; · iexact HP
  isplitl [H0 Hs]
  · isplitl [H0]; · iexact H0
    iexact Hs
  ihave HX := ((two_slots c g1).1) $$ [H1]
  · iexact H1
  icases HX with ⟨HX0, HX1⟩
  isplitl [HX0 HX1 Hs0 Hs1 HH]
  · isplitl [HX0 Hs0]
    · isplitl [HX0]; · iexists _; iexact HX0
      iexact Hs0
    isplitl [HX1 Hs1]
    · isplitl [HX1]; · iexists _; iexact HX1
      iexact Hs1
    iexact HH
  isplitl [H2]
  · iexists g2
    rw [owns_whole]
    iexact H2
  iexists g3
  rw [owns_whole]
  iexact H3

/-- The invariant after the last point gives it back. -/
theorem inv_end (c : Dev nD) :
    (inv m hok c 272 : sProp 𝕄) ⊢ Pipeline.ΦD (Val := Elt F) osem spec0 {main_arg3} (V m) c := by
  rw [given_eq]
  unfold inv mids slots
  rw [if_neg (by omega), dif_neg (by omega)]
  unfold idle one
  iintro ⟨HT, HP, ⟨H0, Hs⟩, ⟨⟨HX0, Hs0⟩, ⟨HX1, Hs1⟩, HH⟩, ⟨%x, H2⟩, ⟨%A, H3⟩⟩
  isplitl [HX0 HX1 H2 H3 H0]
  · isplitl [HX0 HX1]
    · iapply (slots_join c)
      isplitl [HX0]; · iexact HX0
      iexact HX1
    isplitl [H2]
    · iexists x
      rw [← owns_whole]
      iexact H2
    isplitl [H3]
    · iexists A
      rw [← owns_whole]
      iexact H3
    iexact H0
  isplitl [HP]; · iexact HP
  isplitl [Hs Hs0 Hs1]
  · isplitl [Hs]; · iexact Hs
    isplitl [Hs0]; · iexact Hs0
    iexact Hs1
  iexact HH

/-- The casts before the region. -/
theorem hmain (𝒱₀ : Variants) : Pipeline.HMainP (Ix := Unit) (Name := ℕ) (U := UD sig nD τ) (Lvl := ℕ) (pcfgs (F := F)) 0 defs₀ 𝒱₀ m (main (F := F)) (V m) :=
  Pipeline.hmainP_prefixes pcfgs 0 defs₀ 𝒱₀ m main [hostOps0] (by simp only [List.Forall]; exact hostOps0_sub)
    (by simp only [List.Forall]; exact hostOps0_fresh) main_chain

/-- The cells are the kernel's own. -/
theorem ownFacts : Pipeline.OwnSemFacts spec0 osem := by decide
/-- The array of tokens bears no block. -/
theorem held_sub : ({main_arg3} : Finset (Ref sig .tc)) ⊆ Pipeline.restRefsP sig pre0 spec0 := by decide

set_option backward.isDefEq.respectTransparency.types false in
set_option maxHeartbeats 1600000 in
/-- The run of the whole call. -/
theorem run (ρ : Dev nD → PrngReg) (hr : ∀ c n k, wix (srow (srcOf m c) n) k < 32768) (hon : on (tvOf m) 0) :
    θ_run defs (onTc (τ := τ) (main (F := F))) ⟨m, fun _ => 0, ρ⟩
      (fun r => Pipeline.FramePost (Pipeline.pin (pcfgs (F := F)) (adm m hok)) (dats m hok) 0 (V m) r ∧ r.2.sem = fun _ => 0) :=
  Pipeline.θ_run_frameP_dma (Q' := _) pcfgs (adm m hok) (dats m hok) (0 : Fin 1) launch0 osem defs₀ Variants.none
    (ho := ownFacts) (H := {main_arg3}) (hH := held_sub) m ρ main
    (hbody := fun c => (obligation m hok hr hon c).loose) (hshare := fun c => (dats m hok 0 c).share_full fun _ => rfl)
    (howed := fun _ _ => rfl) (V := V m) (hmain := hmain m Variants.none) (hA := A_eq m hok)
    (hpf := fun c k => by
      rw [Subsingleton.elim c 0]
      match k with
      | ⟨0, _⟩ => exact V_arg m 0 main_arg0 (by decide) (by decide) (by decide)
      | ⟨1, _⟩ => exact V_arg m 0 main_arg1 (by decide) (by decide) (by decide))
    (hin := fun c => inv_start m hok c) (hout := fun c => inv_end m hok c)

end
end Cert.Proof.Experts
-- ==== Proof.Experts.Frame.lean ====
module

public import proofs.«01_k».proof.Proof.Experts.Launch

@[expose] public section

noncomputable section

namespace Cert.Proof.Experts

open Idealize.ShloMosaic Idealize.ShloMosaic.TcCoe
open Cert.KernelEIdeal Cert.KernelEIdeal.Gen
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Tactic
open Idealize.ShloMosaic.Pipeline (UD)

variable {F : FTy → Type} [FloatOps F]

/-- The resources the run is stated over. -/
local notation "𝕄" => MT nD τ sig Unit (Elt F) ℕ (UD sig nD τ) ℕ

open Idealize.ShloMosaic.Pipeline (Dat Cfg Window BodyObligation)

/-- A number below 2^32 as a word. -/
theorem small (n : ℕ) (h : n < 2 ^ 32) : (BitVec.ofNat 32 n).toNat = n := by rw [BitVec.toNat_ofNat, Nat.mod_eq_of_lt h]

/-- Arrays no block is of. -/
theorem rest0 : main_arg0 ∈ Pipeline.restRefs sig spec0 := Pipeline.mem_restRefs_of main_arg0 (by decide) (by decide)
/-- As the array before. -/
theorem rest1 : main_arg1 ∈ Pipeline.restRefs sig spec0 := Pipeline.mem_restRefs_of main_arg1 (by decide) (by decide)
/-- As the array before. -/
theorem rest3 : main_arg3 ∈ Pipeline.restRefs sig spec0 := Pipeline.mem_restRefs_of main_arg3 (by decide) (by decide)
/-- As the array before. -/
theorem rest4 : main_arg4 ∈ Pipeline.restRefs sig spec0 := Pipeline.mem_restRefs_of main_arg4 (by decide) (by decide)
/-- As the array before. -/
theorem rest5 : main_arg5 ∈ Pipeline.restRefs sig spec0 := Pipeline.mem_restRefs_of main_arg5 (by decide) (by decide)
/-- As the array before. -/
theorem rest6 : main_arg6 ∈ Pipeline.restRefs sig spec0 := Pipeline.mem_restRefs_of main_arg6 (by decide) (by decide)

/-- The table's element an index map reads is the point's tile's. -/
theorem at_eq (pf : pre0.Contents (Elt F)) (i : grid0.Coords) :
    pf.at 0 (Rect.unit (s := S136) ![(Scalar.indexCast (BitVec.ofNat 32 (i 0).val)).toNat] S1.size (k0_off1_inb i)) numel1_S1 = pf 0 (tIdx (i 0).val) := by
  have hi : (i 0).val < 136 := (i 0).isLt
  have e : k0_off1 i 0 = (i 0).val := congrFun (off1_eq i) 0
  refine congrArg (pf 0) (funext fun a => Fin.ext ?_)
  match a with
  | ⟨0, _⟩ =>
    show k0_off1 i 0 + 1 * 0 = min (i 0).val 135
    rw [e]; omega

/-- Which block of the first weights a point reads: the tile's expert's, the point's half of the columns. -/
theorem ix1_eq (pf : pre0.Contents (Elt F)) (i : grid0.Coords) :
    cc0_transform_2 k0_off1_inb numel1_S1 pf i = ![(pf 0 (tIdx (i 0).val) : BitVec 32).toNat, 0, (i 1).val] := by
  have h1 : (i 1).val < 2 := (i 1).isLt
  unfold cc0_transform_2
  dsimp only
  rw [at_eq, small _ (by omega : (i 1).val < 2 ^ 32)]
  rfl

/-- The same of the second weights. -/
theorem ix2_eq (pf : pre0.Contents (Elt F)) (i : grid0.Coords) :
    cc0_transform_3 k0_off1_inb numel1_S1 pf i = ![(pf 0 (tIdx (i 0).val) : BitVec 32).toNat, 0, (i 1).val] := by
  have h1 : (i 1).val < 2 := (i 1).isLt
  unfold cc0_transform_3
  dsimp only
  rw [at_eq, small _ (by omega : (i 1).val < 2 ^ 32)]
  rfl

/-- Which block of the last weights a point reads: the tile's expert's, the point's half of the rows. -/
theorem ix3_eq (pf : pre0.Contents (Elt F)) (i : grid0.Coords) :
    cc0_transform_4 k0_off1_inb numel1_S1 pf i = ![(pf 0 (tIdx (i 0).val) : BitVec 32).toNat, (i 1).val, 0] := by
  have h1 : (i 1).val < 2 := (i 1).isLt
  unfold cc0_transform_4
  dsimp only
  rw [at_eq, small _ (by omega : (i 1).val < 2 ^ 32)]
  rfl

section
variable (m : (ℓ : Loc nD τ sig) → Buf (Elt F) ℓ)

/-- With every tile's expert one of the eight, each block lies in its array. -/
theorem ok_of (h : ∀ x : S136.Idx, (tbl m 0 x : BitVec 32).toNat < 8) : Ok m := by
  unfold Ok ok0
  refine ⟨fun i => ⟨fun a => ?_, Or.inr (Or.inr ⟨by decide, rfl, ?_, rfl⟩)⟩, fun i => ⟨fun a => ?_, Or.inr (Or.inr ⟨by decide, rfl, ?_, rfl⟩)⟩,
    fun i => ⟨fun a => ?_, Or.inr (Or.inl (Or.inr ⟨by decide, rfl, Or.inl ⟨?_, ⟨896, rfl⟩⟩⟩))⟩⟩
  all_goals have hb := h (tIdx (i 0).val)
  all_goals have h1 : (i 1).val < 2 := (i 1).isLt
  · rw [ix1_eq]
    match a with
    | ⟨0, _⟩ => show ((tbl m 0 (tIdx (i 0).val) : BitVec 32).toNat + 1) * 1 ≤ 8; omega
    | ⟨1, _⟩ => exact (by decide : (0 + 1) * 1024 ≤ 1024)
    | ⟨2, _⟩ => show ((i 1).val + 1) * 1792 ≤ 3584; omega
  · show cc0_transform_2 k0_off1_inb numel1_S1 (tbl m) i 1 * 1024 = 0
    rw [ix1_eq]; rfl
  · rw [ix2_eq]
    match a with
    | ⟨0, _⟩ => show ((tbl m 0 (tIdx (i 0).val) : BitVec 32).toNat + 1) * 1 ≤ 8; omega
    | ⟨1, _⟩ => exact (by decide : (0 + 1) * 1024 ≤ 1024)
    | ⟨2, _⟩ => show ((i 1).val + 1) * 1792 ≤ 3584; omega
  · show cc0_transform_3 k0_off1_inb numel1_S1 (tbl m) i 1 * 1024 = 0
    rw [ix2_eq]; rfl
  · rw [ix3_eq]
    match a with
    | ⟨0, _⟩ => show ((tbl m 0 (tIdx (i 0).val) : BitVec 32).toNat + 1) * 1 ≤ 8; omega
    | ⟨1, _⟩ => show ((i 1).val + 1) * 1792 ≤ 3584; omega
    | ⟨2, _⟩ => exact (by decide : (0 + 1) * 1024 ≤ 1024)
  · show 2 ∣ cc0_transform_4 k0_off1_inb numel1_S1 (tbl m) i 1 * 1792
    rw [ix3_eq]
    exact ⟨(i 1).val * 896, by show (i 1).val * 1792 = 2 * ((i 1).val * 896); omega⟩

/-- What the tables and the token numbers must be for the call to run. -/
def Routed : Prop := (∀ x : S136.Idx, (tbl m 0 x : BitVec 32).toNat < 8) ∧ (∀ c n k, wix (srow (srcOf m c) n) k < 32768) ∧ on (tvOf m) 0

set_option maxHeartbeats 1600000 in
/-- The call runs to its end with its arguments as they were and every counter at zero. -/
theorem frame (ρ : Dev nD → PrngReg) (h : Routed m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hp => ⟨fun c =>
    ⟨((hp.1 c).2 main_arg0 rest0).trans (V_arg m c main_arg0 (by decide) (by decide) (by decide)),
     ((hp.1 c).2 main_arg1 rest1).trans (V_arg m c main_arg1 (by decide) (by decide) (by decide)),
     ((hp.1 c).1 0).trans (((dats m (ok_of m h.1) 0 c).arrAt_in 0 rfl _).trans ((A_eq m (ok_of m h.1) c 0).trans (V_arg m c main_arg2 (by decide) (by decide) (by decide)))),
     ((hp.1 c).2 main_arg3 rest3).trans (V_arg m c main_arg3 (by decide) (by decide) (by decide)),
     ((hp.1 c).2 main_arg4 rest4).trans (V_arg m c main_arg4 (by decide) (by decide) (by decide)),
     ((hp.1 c).2 main_arg5 rest5).trans (V_arg m c main_arg5 (by decide) (by decide) (by decide)),
     ((hp.1 c).2 main_arg6 rest6).trans (V_arg m c main_arg6 (by decide) (by decide) (by decide))⟩, hp.2⟩)
    (run m (ok_of m h.1) ρ h.2.1 h.2.2)

end
end Cert.Proof.Experts
-- ==== Proof.Experts.Blocks.lean ====
/- What a grid point's windows hold: the tile's expert's weights, half of the hidden columns; and the tile's rows. -/
module

public import proofs.«01_k».proof.Proof.Experts.RefOut
public import proofs.«01_k».proof.Proof.Experts.Frame
public import Idealize.ShloMosaic.Lib.Pipeline.ValueKit

@[expose] public section

noncomputable section

open scoped BigOperators

namespace Cert.Proof.Experts

open Idealize.ShloMosaic Idealize.ShloMosaic.TcCoe
open Cert.KernelEIdeal Cert.KernelEIdeal.Gen

variable (m : (ℓ : Loc nD τ sig) → Buf (Elt Ideal) ℓ)

/-- The weights' casts change nothing. -/
theorem V_w1 (c : Dev nD) : (V m c main_v0 : S8x1024x3584.Idx → EReal) = m ((c : Thread nD τ).loc main_arg4) := by
  show StableHlo.after (List.flatten [hostOps0]) (fun b => m (c, b)) (Proc.devRef .tc main_v0) = _
  simp only [hostOps0, List.flatten_cons, List.flatten_nil, List.append_nil]
  after_results
  rfl

/-- As the equation before. -/
theorem V_w3 (c : Dev nD) : (V m c main_v1 : S8x1024x3584.Idx → EReal) = m ((c : Thread nD τ).loc main_arg5) := by
  show StableHlo.after (List.flatten [hostOps0]) (fun b => m (c, b)) (Proc.devRef .tc main_v1) = _
  simp only [hostOps0, List.flatten_cons, List.flatten_nil, List.append_nil]
  after_results
  rfl

/-- As the equation before. -/
theorem V_w2 (c : Dev nD) : (V m c main_v2 : S8x3584x1024.Idx → EReal) = m ((c : Thread nD τ).loc main_arg6) := by
  show StableHlo.after (List.flatten [hostOps0]) (fun b => m (c, b)) (Proc.devRef .tc main_v2) = _
  simp only [hostOps0, List.flatten_cons, List.flatten_nil, List.append_nil]
  after_results
  rfl

variable (hok : Ok m) (hE : ∀ x : S136.Idx, (tbl m 0 x : BitVec 32).toNat < 8)

/-- A tile's number as an index of a table. -/
theorem tIdx_eq (n : Fin 136) : tIdx n.val = ix1 n := by
  have h := n.isLt
  refine funext fun a => Fin.ext ?_
  match a with
  | ⟨0, _⟩ => show min n.val 135 = n.val; omega

/-- The hidden column a half's column is. -/
def col (h : ℕ) (f : Fin 1792) (hh : h < 2) : Fin 3584 := ⟨h * 1792 + f.val, by omega⟩

/-- A point's half is one of two. -/
theorem half_lt (t : ℕ) : t % 2 < 2 := Nat.mod_lt _ (by decide)

/-- The first weights' block at a point. -/
theorem iblk1 (c : Dev nD) (t : Fin (cfgE m hok).N) (n : Fin 136) (hn : t.val / 2 = n.val) (k : Fin 1024) (f : Fin 1792) :
    (iblk m hok c 1 t : S1x1024x1792.Idx → EReal) (ix3 0 k f)
      = (m ((c : Thread nD τ).loc main_arg4) : S8x1024x3584.Idx → EReal) (ix3 (Ref.ex (tbl m 0) hE n) k (col (t.val % 2) f (half_lt _))) := by
  unfold iblk
  show (V m c main_v0 : S8x1024x3584.Idx → EReal) _ = _
  rw [V_w1]
  congr 1
  refine funext fun a => Fin.ext ?_
  match a with
  | ⟨0, _⟩ =>
    show cc0_transform_2 k0_off1_inb numel1_S1 (tbl m) ((cfgE m hok).grid.coords t) 0 * 1 + 1 * 0 = (tbl m 0 (ix1 n) : BitVec 32).toNat
    rw [ix1_eq, coord0, hn, tIdx_eq]
    show (tbl m 0 (ix1 n) : BitVec 32).toNat * 1 + 1 * 0 = _
    omega
  | ⟨1, _⟩ =>
    show cc0_transform_2 k0_off1_inb numel1_S1 (tbl m) ((cfgE m hok).grid.coords t) 1 * 1024 + 1 * k.val = k.val
    rw [ix1_eq]
    show 0 * 1024 + 1 * k.val = k.val
    omega
  | ⟨2, _⟩ =>
    show cc0_transform_2 k0_off1_inb numel1_S1 (tbl m) ((cfgE m hok).grid.coords t) 2 * 1792 + 1 * f.val = t.val % 2 * 1792 + f.val
    rw [ix1_eq]
    show (((cfgE m hok).grid.coords t) 1).val * 1792 + 1 * f.val = _
    rw [coord1]
    omega

/-- The second weights' block at a point. -/
theorem iblk2 (c : Dev nD) (t : Fin (cfgE m hok).N) (n : Fin 136) (hn : t.val / 2 = n.val) (k : Fin 1024) (f : Fin 1792) :
    (iblk m hok c 2 t : S1x1024x1792.Idx → EReal) (ix3 0 k f)
      = (m ((c : Thread nD τ).loc main_arg5) : S8x1024x3584.Idx → EReal) (ix3 (Ref.ex (tbl m 0) hE n) k (col (t.val % 2) f (half_lt _))) := by
  unfold iblk
  show (V m c main_v1 : S8x1024x3584.Idx → EReal) _ = _
  rw [V_w3]
  congr 1
  refine funext fun a => Fin.ext ?_
  match a with
  | ⟨0, _⟩ =>
    show cc0_transform_3 k0_off1_inb numel1_S1 (tbl m) ((cfgE m hok).grid.coords t) 0 * 1 + 1 * 0 = (tbl m 0 (ix1 n) : BitVec 32).toNat
    rw [ix2_eq, coord0, hn, tIdx_eq]
    show (tbl m 0 (ix1 n) : BitVec 32).toNat * 1 + 1 * 0 = _
    omega
  | ⟨1, _⟩ =>
    show cc0_transform_3 k0_off1_inb numel1_S1 (tbl m) ((cfgE m hok).grid.coords t) 1 * 1024 + 1 * k.val = k.val
    rw [ix2_eq]
    show 0 * 1024 + 1 * k.val = k.val
    omega
  | ⟨2, _⟩ =>
    show cc0_transform_3 k0_off1_inb numel1_S1 (tbl m) ((cfgE m hok).grid.coords t) 2 * 1792 + 1 * f.val = t.val % 2 * 1792 + f.val
    rw [ix2_eq]
    show (((cfgE m hok).grid.coords t) 1).val * 1792 + 1 * f.val = _
    rw [coord1]
    omega

/-- The out-weights' block at a point. -/
theorem iblk3 (c : Dev nD) (t : Fin (cfgE m hok).N) (n : Fin 136) (hn : t.val / 2 = n.val) (f : Fin 1792) (d : Fin 1024) :
    (iblk m hok c 3 t : S1x1792x1024.Idx → EReal) (ix3 0 f d)
      = (m ((c : Thread nD τ).loc main_arg6) : S8x3584x1024.Idx → EReal) (ix3 (Ref.ex (tbl m 0) hE n) (col (t.val % 2) f (half_lt _)) d) := by
  unfold iblk
  show (V m c main_v2 : S8x3584x1024.Idx → EReal) _ = _
  rw [V_w2]
  congr 1
  refine funext fun a => Fin.ext ?_
  match a with
  | ⟨0, _⟩ =>
    show cc0_transform_4 k0_off1_inb numel1_S1 (tbl m) ((cfgE m hok).grid.coords t) 0 * 1 + 1 * 0 = (tbl m 0 (ix1 n) : BitVec 32).toNat
    rw [ix3_eq, coord0, hn, tIdx_eq]
    show (tbl m 0 (ix1 n) : BitVec 32).toNat * 1 + 1 * 0 = _
    omega
  | ⟨1, _⟩ =>
    show cc0_transform_4 k0_off1_inb numel1_S1 (tbl m) ((cfgE m hok).grid.coords t) 1 * 1792 + 1 * f.val = t.val % 2 * 1792 + f.val
    rw [ix3_eq]
    show (((cfgE m hok).grid.coords t) 1).val * 1792 + 1 * f.val = _
    rw [coord1]
    omega
  | ⟨2, _⟩ =>
    show cc0_transform_4 k0_off1_inb numel1_S1 (tbl m) ((cfgE m hok).grid.coords t) 2 * 1024 + 1 * d.val = d.val
    rw [ix3_eq]
    show 0 * 1024 + 1 * d.val = d.val
    omega

variable (hS : ∀ c, ∀ x : S136x512.Idx, (srcOf m c x : BitVec 32).toNat < 32768)

/-- A tile's rows are the tokens its numbers name. -/
theorem xrows_eq (c : Dev nD) (n : Fin 136) (j : Fin 512) (k : Fin 1024) :
    (xrows (srcOf m c) (hfOf m c) n.val : S1x512x1024.Idx → EReal) (ix3 0 j k)
      = (m ((c : Thread nD τ).loc main_arg3) : S32768x1024.Idx → EReal) (ix2 (Ref.tok (srcOf m c) (hS c) n j) k) := by
  show (m ((c : Thread nD τ).loc main_arg3) : S32768x1024.Idx → EReal) (hidx (clampRow (wix (srow (srcOf m c) n.val) j.val)) k) = _
  congr 1
  refine funext fun a => Fin.ext ?_
  match a with
  | ⟨0, _⟩ =>
    show min (wix (srow (srcOf m c) n.val) j.val) 32767 = (srcOf m c (ix2 n j) : BitVec 32).toNat
    have hi : sIdx n.val (sidx j.val j.isLt) = ix2 n j := by
      have h := n.isLt
      refine funext fun a => Fin.ext ?_
      match a with
      | ⟨0, _⟩ => show min n.val 135 = n.val; omega
      | ⟨1, _⟩ => rfl
    unfold wix
    rw [dif_pos j.isLt]
    show min (srcOf m c (sIdx n.val (sidx j.val j.isLt)) : BitVec 32).toNat 32767 = _
    rw [hi]
    have := hS c (ix2 n j)
    omega
  | ⟨1, _⟩ => rfl

end Cert.Proof.Experts

end
-- ==== Proof.Experts.FrameBits.lean ====
module

public import proofs.«01_k».proof.Proof.Experts.Frame
public import proofs.«01_k».proof.Proof.Gen.KernelE
public import proofs.«01_k».proof.Defs

@[expose] public section

noncomputable section

namespace Cert.Proof.Experts

open Idealize.ShloMosaic Idealize.ShloMosaic.TcCoe Idealize.SL.Sem
open Cert.KernelE

/-- The two programs' kernels are one text. -/
theorem body_eq : Cert.KernelE.defs₀ (F := Bits) = Cert.KernelEIdeal.defs₀ (F := Bits) := by
  unfold Cert.KernelE.defs₀ Cert.KernelEIdeal.defs₀
  refine congrArg Defs.onTc (funext fun l => ?_)
  match l with
  | ⟨0, _⟩ => rfl

set_option maxHeartbeats 4000000 in
/-- So are their calls. -/
theorem defs_eq : Cert.KernelE.defs (F := Bits) = Cert.KernelEIdeal.defs (F := Bits) :=
  congrArg (Pipeline.defs (Cert.KernelEIdeal.pcfgs (F := Bits))) body_eq

set_option maxHeartbeats 4000000 in
/-- The program as printed for words has the idealized program's text: its run is that run at words. -/
theorem frame_bits (m : (ℓ : Loc nD τ sig) → Buf (Elt Bits) ℓ) (ρ : Dev nD → PrngReg) (h : Routed (F := Bits) m) :
    θ_run (Cert.KernelE.defs (F := Bits)) (onTc (τ := τ) (Cert.KernelE.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (congrArg (fun D => θ_run D (onTc (τ := τ) (Cert.KernelE.main (F := Bits))) ⟨m, fun _ => 0, ρ⟩ _) defs_eq).mpr (frame (F := Bits) m ρ h)

end Cert.Proof.Experts
-- ==== Proof.Experts.Plan.lean ====
module

public import proofs.«01_k».proof.Defs
public import proofs.«01_k».proof.Proof.Gen.Pre_routed
public import proofs.«01_k».proof.Proof.Experts.Frame
public import proofs.«01_k».proof.Proof.Experts.FrameBits
public import Idealize.ShloMosaic.Lib.StableHlo.Predicate

@[expose] public section

noncomputable section

namespace Cert.Proof.Experts

open Idealize.ShloMosaic Idealize.ShloMosaic.TcCoe
open Cert.KernelEIdeal Cert.KernelEIdeal.Gen
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Tactic
open Idealize.ShloMosaic.Pipeline (UD)

variable {F : FTy → Type} [FloatOps F]

/-- The resources the run is stated over. -/
local notation "𝕄" => MT nD τ sig Unit (Elt F) ℕ (UD sig nD τ) ℕ

/-- Both of two bits are set when their conjunction is. -/
theorem and_bits (a b : BitVec 1) (h : IntOp.andi a b = 1#1) : a = 1#1 ∧ b = 1#1 := by
  revert a b; decide

/-- A word between zero and a bound, as signed numbers, is below the bound as a plain number. -/
theorem word_lt (v : BitVec 32) (N : ℕ) (hN : N < 2 ^ 31) (h : IntOp.andi (IntOp.cmpi .sge v 0#32) (IntOp.cmpi .slt v (BitVec.ofNat 32 N)) = 1#1) :
    v.toNat < N := by
  obtain ⟨h₁, h₂⟩ := and_bits _ _ h
  unfold IntOp.cmpi at h₁ h₂
  rw [StableHlo.Predicate.ofBool_eq_one_iff] at h₁ h₂
  simp only [BitVec.sle, BitVec.slt, decide_eq_true_eq, BitVec.toInt_eq_toNat_cond, BitVec.toNat_ofNat] at h₁ h₂
  omega

/-- What the precondition's bits say of the tables: every expert's number below 8, every token's below 32768, and the
    first tile not empty. -/
theorem decode {F : FTy → Type} [FloatOps F] (te tv : IVec S136 32) (src : IVec S136x512 32) (h : FVec F S32768x1024 .f32) (w1 w3 : FVec F S8x1024x3584 .f32)
    (w2 : FVec F S8x3584x1024 .f32) (h1 : (Cert.Pre_routed.fn (F := F) te tv src h w1 w3 w2).1 = (fun _ => 1#1))
    (h2 : (Cert.Pre_routed.fn (F := F) te tv src h w1 w3 w2).2.1 = (fun _ => 1#1))
    (h3 : (Cert.Pre_routed.fn (F := F) te tv src h w1 w3 w2).2.2 = (fun _ => 1#1)) :
    (∀ x : S136.Idx, (te x : BitVec 32).toNat < 8) ∧ (∀ x : S136x512.Idx, (src x : BitVec 32).toNat < 32768) ∧ IntOp.cmpi .sgt (tv (tIdx 0)) 0#32 = 1#1 := by
  refine ⟨fun x => word_lt _ 8 (by decide) (congrFun h1 x), fun x => word_lt _ 32768 (by decide) (congrFun h2 x), ?_⟩
  have e := congrFun h3 (fun a => match a with | ⟨0, _⟩ => ⟨0, Nat.one_pos⟩)
  refine Eq.trans ?_ e
  show IntOp.cmpi .sgt (tv (tIdx 0)) 0#32 = IntOp.cmpi .sgt (tv _) 0#32
  congr 2
  refine funext fun a => Fin.ext ?_
  match a with
  | ⟨0, _⟩ => rfl

variable (m : (ℓ : Loc nD τ sig) → Buf (Elt F) ℓ)

/-- A routing in bounds, as the frame takes it. -/
theorem routed_of (hE : ∀ x : S136.Idx, (tbl m 0 x : BitVec 32).toNat < 8) (hS : ∀ c, ∀ x : S136x512.Idx, (srcOf m c x : BitVec 32).toNat < 32768)
    (hT : IntOp.cmpi .sgt (tvOf m (tIdx 0)) 0#32 = 1#1) : Routed m :=
  ⟨hE, fun c n k => by
    unfold wix
    split
    · exact hS c _
    · decide, hT⟩

/-- The precondition, of the call over the reals. -/
theorem routed_ideal (m : (ℓ : Loc nD τ sig) → Buf (Elt Ideal) ℓ) (h : Cert.Pre_KernelEIdeal m) : Routed m := by
  have d := fun c : Dev nD => decode _ _ _ _ _ _ _ (h c).1 (h c).2.1 (h c).2.2
  exact routed_of m (d 0).1 (fun c => (d c).2.1) (d 0).2.2

/-- The precondition, of the call over bit patterns. -/
theorem routed_bits (m : (ℓ : Loc nD τ sig) → Buf (Elt Bits) ℓ) (h : Cert.Pre_KernelE m) : Routed (F := Bits) m := by
  have d := fun c : Dev nD => decode _ _ _ _ _ _ _ (h c).1 (h c).2.1 (h c).2.2
  exact routed_of m (d 0).1 (fun c => (d c).2.1) (d 0).2.2

/-- The call leaves its arguments alone, over the reals. -/
theorem quiet_ideal : Cert.quiescent_KernelEIdeal := fun m ρ h => frame m ρ (routed_ideal m h)

/-- The call leaves its arguments alone, over bit patterns. -/
theorem quiet_bits : Cert.quiescent_KernelE := fun m ρ h => frame_bits m ρ (routed_bits m h)

end Cert.Proof.Experts

end
-- ==== Proof.Experts.Value.lean ====
/- The experts' call and the plain expert network compute the same array. -/
module

public import proofs.«01_k».proof.Proof.Experts.Blocks
public import proofs.«01_k».proof.Proof.Experts.Plan

@[expose] public section

noncomputable section

open scoped BigOperators

namespace Cert.Proof.Experts

open Idealize.ShloMosaic Idealize.ShloMosaic.TcCoe Idealize.SL.Sem
open Cert.KernelEIdeal Cert.KernelEIdeal.Gen

/-- An expert's output is the sum of its outputs over the two halves of the hidden columns. -/
theorem expert_halves (x : Fin 1024 → EReal) (w1 w3 : Fin 1024 → Fin 3584 → EReal) (w2 : Fin 3584 → EReal) :
    expert x w1 w3 w2 = expert x (fun k f => w1 k (col 0 f (by decide))) (fun k f => w3 k (col 0 f (by decide))) (fun f => w2 (col 0 f (by decide)))
      + expert x (fun k f => w1 k (col 1 f (by decide))) (fun k f => w3 k (col 1 f (by decide))) (fun f => w2 (col 1 f (by decide))) := by
  unfold expert
  refine (Fin.sum_univ_add (a := 1792) (b := 1792) (fun f : Fin 3584 => gate (∑ k : Fin 1024, x k * w1 k f) (∑ k : Fin 1024, x k * w3 k f) * w2 f)).trans ?_
  have e0 : ∀ f : Fin 1792, (Fin.castAdd 1792 f : Fin 3584) = col 0 f (by decide) := fun f => Fin.ext (by show f.val = 0 * 1792 + f.val; omega)
  have e1 : ∀ f : Fin 1792, (Fin.natAdd 1792 f : Fin 3584) = col 1 f (by decide) := fun f => Fin.ext (by show 1792 + f.val = 1 * 1792 + f.val; omega)
  refine congrArg₂ (· + ·) (Finset.sum_congr rfl fun f _ => ?_) (Finset.sum_congr rfl fun f _ => ?_)
  · rw [e0]
  · rw [e1]

variable (m : (ℓ : Loc nD τ sig) → Buf (Elt Ideal) ℓ) (hok : Ok m) (hE : ∀ x : S136.Idx, (tbl m 0 x : BitVec 32).toNat < 8)
  (hS : ∀ c, ∀ x : S136x512.Idx, (srcOf m c x : BitVec 32).toNat < 32768)

/-- A half's contribution at an element. -/
def half (c : Dev nD) (n : Fin 136) (j : Fin 512) (d : Fin 1024) (h : ℕ) (hh : h < 2) : EReal :=
  expert (fun k => (m ((c : Thread nD τ).loc main_arg3) : S32768x1024.Idx → EReal) (ix2 (Ref.tok (srcOf m c) (hS c) n j) k))
    (fun k f => (m ((c : Thread nD τ).loc main_arg4) : S8x1024x3584.Idx → EReal) (ix3 (Ref.ex (tbl m 0) hE n) k (col h f hh)))
    (fun k f => (m ((c : Thread nD τ).loc main_arg5) : S8x1024x3584.Idx → EReal) (ix3 (Ref.ex (tbl m 0) hE n) k (col h f hh)))
    (fun f => (m ((c : Thread nD τ).loc main_arg6) : S8x3584x1024.Idx → EReal) (ix3 (Ref.ex (tbl m 0) hE n) (col h f hh) d))

/-- A point adds its half's contribution where its tile is not empty. -/
theorem accAt_apply (c : Dev nD) (t : Fin (cfgE m hok).N) (n : Fin 136) (hn : t.val / 2 = n.val) (A : S512x1024.Idx → EReal) (j : Fin 512) (d : Fin 1024) :
    (accAt m hok c t A : S512x1024.Idx → EReal) (ix2 j d)
      = if IntOp.cmpi .sgt (tvOf m (ix1 n)) 0#32 = 1#1 then A (ix2 j d) + half m hE hS c n j d (t.val % 2) (half_lt _) else A (ix2 j d) := by
  unfold accAt accOf
  rw [hn]
  have ho : on (tvOf m) n.val ↔ IntOp.cmpi .sgt (tvOf m (ix1 n)) 0#32 = 1#1 := by
    unfold on
    rw [tIdx_eq]
    exact Iff.rfl
  by_cases h : on (tvOf m) n.val
  · rw [if_pos h, if_pos (ho.mp h), pay3_apply]
    refine congrArg (A (ix2 j d) + ·) ?_
    unfold half expert
    refine Finset.sum_congr rfl fun f _ => ?_
    simp only [pay1_apply, xrows_eq m hS, iblk1 m hok hE c t n hn, iblk2 m hok hE c t n hn, iblk3 m hok hE c t n hn]
  · rw [if_neg h, if_neg (fun hh => h (ho.mpr hh))]

/-- What a tile's second point leaves. -/
theorem outAt_apply (c : Dev nD) (t : Fin (cfgE m hok).N) (n : Fin 136) (ht : t.val = 2 * n.val + 1) (j : Fin 512) (d : Fin 1024) :
    (outAt m hok c t : S512x1024.Idx → EReal) (ix2 j d)
      = if IntOp.cmpi .sgt (tvOf m (ix1 n)) 0#32 = 1#1 then
          expert (fun k => (m ((c : Thread nD τ).loc main_arg3) : S32768x1024.Idx → EReal) (ix2 (Ref.tok (srcOf m c) (hS c) n j) k))
            (fun k f => (m ((c : Thread nD τ).loc main_arg4) : S8x1024x3584.Idx → EReal) (ix3 (Ref.ex (tbl m 0) hE n) k f))
            (fun k f => (m ((c : Thread nD τ).loc main_arg5) : S8x1024x3584.Idx → EReal) (ix3 (Ref.ex (tbl m 0) hE n) k f))
            (fun f : Fin 3584 => (m ((c : Thread nD τ).loc main_arg6) : S8x3584x1024.Idx → EReal) (ix3 (Ref.ex (tbl m 0) hE n) f d)) else 0 := by
  unfold outAt
  have hp : (prv m hok t).val = 2 * n.val := by show t.val - 1 = _; omega
  rw [accAt_apply m hok hE hS c t n (by omega)]
  unfold accHalf
  rw [accAt_apply m hok hE hS c (prv m hok t) n (by omega), pay2_apply]
  by_cases h : IntOp.cmpi .sgt (tvOf m (ix1 n)) 0#32 = 1#1
  · rw [if_pos h, if_pos h, if_pos h, zero_add, expert_halves]
    have h0 : (prv m hok t).val % 2 = 0 := by omega
    have h1 : t.val % 2 = 1 := by omega
    unfold half
    simp only [h0, h1]
  · rw [if_neg h, if_neg h, if_neg h]

/-- A tile's second point writes its block back. -/
theorem flush4_odd (t : Fin (cfgE m hok).N) (he : t.val % 2 = 1) : ((cfgE m hok).win 4).flush t = true := by
  have hN : (cfgE m hok).N = 272 := N_0
  refine (Pipeline.Window.flush_out _ rfl t).mpr ?_
  by_cases h : t.val + 1 = (cfgE m hok).N
  · exact Or.inl h
  · have hlt : t.val + 1 < (cfgE m hok).N := by have := t.isLt; omega
    refine Or.inr ⟨hlt, fun e => ?_⟩
    have e0 := coord0 m hok t
    have e1 := coord0 m hok ⟨t.val + 1, hlt⟩
    have e2 : cc0_transform_5 ((cfgE m hok).grid.coords ⟨t.val + 1, hlt⟩) = cc0_transform_5 ((cfgE m hok).grid.coords t) := e
    unfold cc0_transform_5 at e2
    rw [e0, e1] at e2
    have e3 := congrFun e2 0
    have e4 : (BitVec.ofNat 32 ((t.val + 1) / 2)).toNat = (BitVec.ofNat 32 (t.val / 2)).toNat := e3
    rw [small _ (by omega), small _ (by omega)] at e4
    omega

/-- The output block's place in the array. -/
theorem emb4 (t : Fin (cfgE m hok).N) (j : Fin 512) (d : Fin 1024) (r : Fin 69632) (hr : r.val = t.val / 2 * 512 + j.val) :
    ((((cfgE m hok).win 4).blk t).view.emb (ix2 j d) : S69632x1024.Idx) = ix2 r d := by
  have hN : (cfgE m hok).N = 272 := N_0
  have ht := t.isLt
  refine funext fun a => Fin.ext ?_
  match a with
  | ⟨0, _⟩ =>
    show cc0_transform_5 ((cfgE m hok).grid.coords t) 0 * 512 + 1 * j.val = r.val
    unfold cc0_transform_5
    show (BitVec.ofNat 32 (((cfgE m hok).grid.coords t) 0).val).toNat * 512 + 1 * j.val = r.val
    rw [coord0, small _ (by omega)]
    omega
  | ⟨1, _⟩ =>
    show cc0_transform_5 ((cfgE m hok).grid.coords t) 1 * 1024 + 1 * d.val = d.val
    unfold cc0_transform_5
    show 0 * 1024 + 1 * d.val = d.val
    omega

/-- The plain network's result, of the call's arguments. -/
def refOf (c : Dev nD) : S69632x1024.Idx → EReal :=
  Cert.ReferenceEIdeal.Read.val_main_v37 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

include hE hS in
/-- What a tile's second point leaves is the plain network's result on the tile. -/
theorem out_ref (c : Dev nD) (t : Fin (cfgE m hok).N) (ho : t.val % 2 = 1) (j : Fin 512) (d : Fin 1024) :
    (outAt m hok c t : S512x1024.Idx → EReal) (ix2 j d) = refOf m c ((((cfgE m hok).win 4).blk t).view.emb (ix2 j d)) := by
  have hN : (cfgE m hok).N = 272 := N_0
  have ht := t.isLt
  obtain rfl : c = 0 := Subsingleton.elim _ _
  have hj := j.isLt
  rw [emb4 m hok t j d ⟨t.val / 2 * 512 + j.val, by omega⟩ rfl, outAt_apply m hok hE hS 0 t ⟨t.val / 2, by omega⟩ (by show t.val = 2 * (t.val / 2) + 1; omega)]
  exact (Ref.result_apply (tbl m 0) (tvOf m) _ _ _ _ _ hE (hS 0) _ j d _ rfl).symm

include hE hS in
/-- The same at any place of the tile. -/
theorem out_ref' (c : Dev nD) (t : Fin (cfgE m hok).N) (ho : t.val % 2 = 1) (y : S512x1024.Idx) :
    (outAt m hok c t : S512x1024.Idx → EReal) y = refOf m c ((((cfgE m hok).win 4).blk t).view.emb y) := by
  rw [eq_ix2 (n0 := 512) (n1 := 1024) y]
  exact out_ref m hok hE hS c t ho (y 0) (y 1)

/-- Membership goes over equalities. -/
theorem mem_of_eq {α : Type} {s : Finset α} {a b : α} (h : a ∈ s) (e : a = b) : b ∈ s := e ▸ h

/-- Every element of the result array lies in a block that is written back. -/
theorem cover4 (i : S69632x1024.Idx) : ∃ t : Fin (cfgE m hok).N, ((cfgE m hok).win 4).flush t = true ∧ i ∈ (((cfgE m hok).win 4).blk t).view.set := by
  have hN : (cfgE m hok).N = 272 := N_0
  have hi : (i 0).val < 69632 := (i 0).isLt
  have hd : (i 1).val < 1024 := (i 1).isLt
  have hlt : 2 * ((i 0).val / 512) + 1 < (cfgE m hok).N := by omega
  refine ⟨⟨2 * ((i 0).val / 512) + 1, hlt⟩, flush4_odd m hok _ (by show (2 * ((i 0).val / 512) + 1) % 2 = 1; omega), ?_⟩
  have e := emb4 m hok ⟨2 * ((i 0).val / 512) + 1, hlt⟩ ⟨(i 0).val % 512, Nat.mod_lt _ (by decide)⟩ (i 1) (i 0)
    (by show (i 0).val = (2 * ((i 0).val / 512) + 1) / 2 * 512 + (i 0).val % 512; omega)
  have e' : (ix2 (i 0) (i 1) : S69632x1024.Idx) = i := (eq_ix2 (n0 := 69632) (n1 := 1024) i).symm
  exact mem_of_eq (View.emb_mem_set _ _) (e.trans e')

include hE hS in
/-- The result array after the run. -/
theorem final_out (c : Dev nD) : (dats m hok 0 c).arrAt 4 (cfgE m hok).N = refOf m c := by
  have hN : (cfgE m hok).N = 272 := N_0
  refine (dats m hok 0 c).arrAt_eq_of_emb 4 (refOf m c) (fun t hf y => ?_) (fun i => ?_)
  · have ho : t.val % 2 = 1 := by
      by_contra hne
      have he := flush4 m hok t (by omega)
      rw [he] at hf
      exact absurd hf (by decide)
    have k := out_ref' m hok hE hS c t ho y
    refine Eq.trans ?_ k
    show (dats m hok 0 c).after 4 t y = _
    rw [after4]
  · exact cover4 m hok i

/-- The call and the plain network compute the same array. -/
theorem value : Cert.algebraic_KernelEIdeal_ReferenceEIdeal := by
  intro m g m' g' hpre hargs
  have h := routed_ideal m hpre
  have hS : ∀ c, ∀ x : S136x512.Idx, (srcOf m c x : BitVec 32).toNat < 32768 := fun c => (decode _ _ _ _ _ _ _ (hpre c).1 (hpre c).2.1 (hpre c).2.2).2.1
  refine ⟨fun c => refOf m c, ?_, ?_⟩
  · refine (θ_run _ _ _).mono (fun _ hp c =>
      ⟨((hp.1 c).1 4).trans (final_out m (ok_of m h.1) h.1 hS c),
       ((hp.1 c).2 main_arg0 rest0).trans (V_arg m c main_arg0 (by decide) (by decide) (by decide)),
       ((hp.1 c).2 main_arg1 rest1).trans (V_arg m c main_arg1 (by decide) (by decide) (by decide)),
       ((hp.1 c).1 0).trans (((dats m (ok_of m h.1) 0 c).arrAt_in 0 rfl _).trans ((A_eq m (ok_of m h.1) c 0).trans (V_arg m c main_arg2 (by decide) (by decide) (by decide)))),
       ((hp.1 c).2 main_arg3 rest3).trans (V_arg m c main_arg3 (by decide) (by decide) (by decide)),
       ((hp.1 c).2 main_arg4 rest4).trans (V_arg m c main_arg4 (by decide) (by decide) (by decide)),
       ((hp.1 c).2 main_arg5 rest5).trans (V_arg m c main_arg5 (by decide) (by decide) (by decide)),
       ((hp.1 c).2 main_arg6 rest6).trans (V_arg m c main_arg6 (by decide) (by decide) (by decide))⟩)
      (run m (ok_of m h.1) g h.2.1 h.2.2)
  · refine (θ_run _ _ _).mono (fun _ hr c => ⟨(hr c).1.trans ?_, (hr c).2⟩) (Cert.ReferenceEIdeal.Value.run (F := Ideal) m' g')
    obtain ⟨h0, h1, h2, h3, h4, h5, h6⟩ := hargs c
    refine (Cert.ReferenceEIdeal.Read.val_main_v37_eq (F := Ideal) _ _).trans ?_
    rw [h0, h1, h2, h3, h4, h5, h6]
    rfl

/-- The plain network runs to its end, leaves its arguments alone and all counters at zero. -/
theorem frame_reference : Cert.quiescent_ReferenceEIdeal := fun m ρ _ =>
  (θ_run _ _ _).mono (fun _ h => ⟨fun c => (h c).2, sem_eq_zero_of_no_sems rfl _⟩) (Cert.ReferenceEIdeal.Value.run (F := Ideal) m ρ)

end Cert.Proof.Experts

end
-- ==== Proof.Dense.Pay.lean ====
/- The output projection and the dense feed-forward part: what one grid step computes, read at an element. -/
module

public import proofs.«01_k».proof.Proof.Gen.KernelDIdeal.Frame
public import proofs.«01_k».proof.Proof.Experts.RefOut
public import Idealize.ShloMosaic.Lib.Pointwise
public import Idealize.ShloMosaic.Lib.MatmulPlain

@[expose] public section

set_option maxRecDepth 16384

noncomputable section

open scoped BigOperators

namespace Cert.Dense

open Idealize.ShloMosaic
open Cert.KernelDIdeal Cert.KernelDIdeal.Gen
open Cert.Proof.Experts (gate expert)

/-- A row after the mixers: the row plus its gate times the mixers' outputs times the output weights. -/
def mixed (x att ga : Fin 1024 → EReal) (w : Fin 1024 → Fin 1024 → EReal) (d : Fin 1024) : EReal :=
  x d + ga d * ∑ k : Fin 1024, att k * w k d

/-- A row normalised, scaled and shifted. -/
def hidden (u g sc sh : Fin 1024 → EReal) (k : Fin 1024) : EReal :=
  u k * Ideal.rsqrt (Ideal.div (∑ l : Fin 1024, u l * u l) (Ideal.ofBits .f32 0x44800000#32) + Ideal.ofBits .f32 0x358637BD#32) * g k
    * (1 + sc k) + sh k

/-- A row after the dense feed-forward part. -/
def dense (u g sc sh gf : Fin 1024 → EReal) (w1 w3 : Fin 1024 → Fin 2816 → EReal) (w2 : Fin 2816 → Fin 1024 → EReal) (d : Fin 1024) : EReal :=
  u d + gf d * expert (hidden u g sc sh) w1 w3 (fun f => w2 f d)

/-- A product of matrices from zero, at an element. -/
theorem plain_apply {M K N : ℕ} (x : FVec Ideal ⟨2, ![M, K]⟩ .bf16) (w : FVec Ideal ⟨2, ![K, N]⟩ .bf16) (r : Fin M) (c : Fin N) :
    matmul (DotDims.plain M K N) none x w (constant ⟨2, ![M, N]⟩ .f32 0x00000000#32) (ix2 r c) = ∑ k : Fin K, x (ix2 r k) * w (ix2 k c) := by
  refine (Ideal.matmul_plain_apply (φ₁ := .bf16) (φ₂ := .bf16) none x w (constant ⟨2, ![M, N]⟩ .f32 0x00000000#32) r c).trans ?_
  refine Eq.trans (congrArg (· + _) (Ideal.ofBits_zero_f32)) (zero_add _)

/-- The modulation as a matrix. -/
theorem pay2_apply (v : Vec Ideal S1x6x1024 .f32) (i : Fin 6) (d : Fin 1024) : k0_pay2 (F := Ideal) v (ix2 i d) = v (ix3 0 i d) := by
  unfold k0_pay2
  pointwise

/-- The row after the mixers. -/
theorem pay4_apply (v1 : FVec Ideal S6x1024 .f32) (v18 : FVec Ideal S512x1024 .bf16) (v19 : Vec Ideal S1x512x1024 .f32) (v22 : Vec Ideal S1024x1024 .bf16)
    (r : Fin 512) (d : Fin 1024) :
    k0_pay4 (F := Ideal) v1 v18 v19 v22 (ix2 r d)
      = mixed (fun d => v19 (ix3 0 r d)) (fun k => v18 (ix2 r k)) (fun d => v1 (ix2 2 d)) (fun k d => v22 (ix2 k d)) d := by
  unfold mixed
  rw [← plain_apply (M := 512) (K := 1024) (N := 1024) v18 v22 r d]
  unfold k0_pay4
  rw [shapeCast_self (s := S1024x1024)]
  show FloatOps.addf _ (FloatOps.mulf _ _) = _
  refine congrArg₂ (fun a b : EReal => a + b) ?_ (congrArg₂ (fun a b : EReal => a * b) ?_ rfl)
  · pointwise
  · pointwise

/-- The normalised row. -/
theorem pay5_apply (v1 : FVec Ideal S6x1024 .f32) (v18 : FVec Ideal S512x1024 .bf16) (v19 : Vec Ideal S1x512x1024 .f32) (v22 : Vec Ideal S1024x1024 .bf16)
    (v38 : Vec Ideal S1x1024 .f32) (r : Fin 512) (k : Fin 1024) :
    k0_pay5 (F := Ideal) v1 v18 v19 v22 v38 (ix2 r k)
      = hidden (fun d => k0_pay4 (F := Ideal) v1 v18 v19 v22 (ix2 r d)) (fun d => v38 (ix2 0 d)) (fun d => v1 (ix2 4 d)) (fun d => v1 (ix2 3 d)) k := by
  unfold k0_pay5 hidden
  generalize k0_pay4 (F := Ideal) v1 v18 v19 v22 = u
  pointwise

/-- The gated hidden columns of the first 1536. -/
theorem pay7_apply (v1 : FVec Ideal S6x1024 .f32) (v18 : FVec Ideal S512x1024 .bf16) (v19 : Vec Ideal S1x512x1024 .f32) (v22 : Vec Ideal S1024x1024 .bf16)
    (v38 : Vec Ideal S1x1024 .f32) (v52 v55 : Vec Ideal S1024x1536 .bf16) (r : Fin 512) (f : Fin 1536) :
    k0_pay7 (F := Ideal) v1 v18 v19 v22 v38 v52 v55 (ix2 r f)
      = gate (∑ k : Fin 1024, k0_pay5 (F := Ideal) v1 v18 v19 v22 v38 (ix2 r k) * v52 (ix2 k f))
          (∑ k : Fin 1024, k0_pay5 (F := Ideal) v1 v18 v19 v22 v38 (ix2 r k) * v55 (ix2 k f)) := by
  unfold k0_pay7
  generalize k0_pay5 (F := Ideal) v1 v18 v19 v22 v38 = h
  rw [← plain_apply (M := 512) (K := 1024) (N := 1536) h v52 r f, ← plain_apply (M := 512) (K := 1024) (N := 1536) h v55 r f,
    shapeCast_self (s := S1024x1536), shapeCast_self (s := S1024x1536)]
  rfl

/-- The stored row, its hidden columns in two parts. -/
theorem pay1_apply (v1 : FVec Ideal S6x1024 .f32) (u : FVec Ideal S512x1024 .f32) (h : FVec Ideal S512x1024 .bf16) (y : FVec Ideal S512x1536 .bf16)
    (w : Vec Ideal S1536x1024 .bf16) (a b : Vec Ideal S1024x1280 .bf16) (z : Vec Ideal S1280x1024 .bf16) (r : Fin 512) (d : Fin 1024) :
    k0_pay1 (F := Ideal) v1 u h (k0_pay6 (F := Ideal)) y w a b z (ix3 0 r d)
      = u (ix2 r d) + v1 (ix2 5 d) * ((∑ f : Fin 1536, y (ix2 r f) * w (ix2 f d))
          + expert (fun k => h (ix2 r k)) (fun k f => a (ix2 k f)) (fun k f => b (ix2 k f)) (fun f : Fin 1280 => z (ix2 f d))) := by
  have hz : expert (fun k => h (ix2 r k)) (fun k f => a (ix2 k f)) (fun k f => b (ix2 k f)) (fun f : Fin 1280 => z (ix2 f d))
      = matmul (F := Ideal) (φ₂ := .bf16) (DotDims.plain 512 1280 1024) none
          (truncf .bf16 (mulf (mulf (matmul (F := Ideal) (φ₂ := .bf16) (DotDims.plain 512 1024 1280) none h a (constant S512x1280 .f32 0x00000000#32))
            (logistic (matmul (F := Ideal) (φ₂ := .bf16) (DotDims.plain 512 1024 1280) none h a (constant S512x1280 .f32 0x00000000#32))))
            (matmul (F := Ideal) (φ₂ := .bf16) (DotDims.plain 512 1024 1280) none h b (constant S512x1280 .f32 0x00000000#32))) bitsLt_bf16_f32 : FVec Ideal S512x1280 .bf16) z
          (constant S512x1024 .f32 0x00000000#32) (ix2 r d) := by
    refine Eq.trans ?_ (plain_apply _ z r d).symm
    unfold expert
    refine Finset.sum_congr rfl fun f _ => ?_
    rw [← plain_apply (M := 512) (K := 1024) (N := 1280) h a r f, ← plain_apply (M := 512) (K := 1024) (N := 1280) h b r f]
    rfl
  rw [hz, ← plain_apply (M := 512) (K := 1536) (N := 1024) y w r d]
  unfold k0_pay1
  rw [shapeCast_self (s := S1536x1024), shapeCast_self (s := S1024x1280), shapeCast_self (s := S1024x1280), shapeCast_self (s := S1280x1024)]
  refine (shapeCast_apply (s := S512x1024) (t := S1x512x1024) _ _ (ix3 0 r d) (ix2 r d) ?_).trans ?_
  · rw [Shape.rowMajor_val_three, Shape.rowMajor_val_two]
    show r.val * 1024 + d.val = (0 * 512 + r.val) * 1024 + d.val
    omega
  show FloatOps.addf _ (FloatOps.mulf _ (FloatOps.addf (FloatOps.addf _ _) _)) = _
  refine congrArg₂ (fun a b : EReal => a + b) rfl (congrArg₂ (fun a b : EReal => a * b) ?_ (congrArg₂ (fun a b : EReal => a + b) ?_ rfl))
  · pointwise
  · refine Eq.trans (congrArg (fun a : EReal => a + _) ?_) (zero_add _)
    exact Ideal.ofBits_zero_f32

end Cert.Dense

end
-- ==== Proof.Dense.Entry.lean ====
/- The output projection and the dense feed-forward part: the arrays that its windows read, from the arguments. -/
module

public import proofs.«01_k».proof.Proof.Dense.Pay
public import Idealize.ShloMosaic.Lib.StableHlo.Run
public import Idealize.ShloMosaic.Lib.Tactic
public import Idealize.ShloMosaic.Lib.Pointwise

@[expose] public section

set_option maxRecDepth 16384

noncomputable section

open scoped BigOperators

namespace Cert.Dense

open Idealize.ShloMosaic Idealize.ShloMosaic.TcCoe
open Cert.KernelDIdeal Cert.KernelDIdeal.Gen

/-- An outer mixer's output by pair of heads. -/
def packThree (x : FVec Ideal S8x4096x384 .f32) : FVec Ideal S8x3x4096x128 .bf16 :=
  truncf .bf16 (shapeCast S8x3x4096x128 (transpose S8x3x4096x2x64 [0, 3, 1, 2, 4] (shapeCast S8x4096x2x3x64 x shapeCasts_S8x4096x384_S8x4096x2x3x64)
    transposes_S8x4096x2x3x64_S8x3x4096x2x64_0_3_1_2_4) shapeCasts_S8x3x4096x2x64_S8x3x4096x128) bitsLt_bf16_f32

/-- The middle mixer's output by pair of heads. -/
def packTwo (x : FVec Ideal S8x4096x256 .f32) : FVec Ideal S8x2x4096x128 .bf16 :=
  truncf .bf16 (transpose S8x2x4096x128 [0, 2, 1, 3] (shapeCast S8x4096x2x128 x shapeCasts_S8x4096x256_S8x4096x2x128)
    transposes_S8x4096x2x128_S8x2x4096x128_0_2_1_3) bitsLt_bf16_f32

/-- An outer mixer's rows of the output weights, by pair of heads. -/
def permRows (x : FVec Ideal S384x1024 .f32) : FVec Ideal S384x1024 .f32 :=
  shapeCast S384x1024 (transpose S3x2x64x1024 [1, 0, 2, 3] (shapeCast S2x3x64x1024 x shapeCasts_S384x1024_S2x3x64x1024)
    transposes_S2x3x64x1024_S3x2x64x1024_1_0_2_3) shapeCasts_S3x2x64x1024_S384x1024

/-- The output weights, their rows in the order of the packed mixers' outputs. -/
def permW (w : FVec Ideal S1024x1024 .f32) : FVec Ideal S1024x1024 .bf16 :=
  truncf .bf16 (concatenate S1024x1024 0 [⟨S384x1024, permRows (extractStridedSlice S384x1024 ![0, 0] w slices_S1024x1024_S384x1024_0_0)⟩,
    ⟨S256x1024, extractStridedSlice S256x1024 ![384, 0] w slices_S1024x1024_S256x1024_384_0⟩,
    ⟨S384x1024, permRows (extractStridedSlice S384x1024 ![640, 0] w slices_S1024x1024_S384x1024_640_0)⟩]
    concatenates_S384x1024_S256x1024_S384x1024_S1024x1024_d0) bitsLt_bf16_f32

/-- The modulation's six parts. -/
def modParts (x : FVec Ideal S8x6144 .f32) : FVec Ideal S8x6x1024 .f32 := shapeCast S8x6x1024 x shapeCasts_S8x6144_S8x6x1024

/-- The norm's weights as a row. -/
def normRow (x : FVec Ideal S1024 .f32) : FVec Ideal S1x1024 .f32 := broadcastInDim S1x1024 ![1] bcast_S1024_S1x1024_1 x

/-- Weights at the width the products take. -/
def cut {s : Shape} (x : FVec Ideal s .f32) : FVec Ideal s .bf16 := truncf .bf16 x bitsLt_bf16_f32

section Entry
variable (m : (ℓ : Loc nD τ sig) → Buf (Elt Ideal) ℓ)

/-- The first mixer's array at the entry. -/
theorem entry_a (c : Dev nD) : V m c main_v21 = packThree (m ((c.tc : Thread nD τ).loc main_arg1)) := by
  unfold_abbrev_sides
  after_results
  rfl

/-- The middle mixer's array at the entry. -/
theorem entry_b (c : Dev nD) : V m c main_v2 = packTwo (m ((c.tc : Thread nD τ).loc main_arg2)) := by
  unfold_abbrev_sides
  after_results
  rfl

/-- The last mixer's array at the entry. -/
theorem entry_c (c : Dev nD) : V m c main_v25 = packThree (m ((c.tc : Thread nD τ).loc main_arg3)) := by
  unfold_abbrev_sides
  after_results
  rfl

/-- The modulation at the entry. -/
theorem entry_mod (c : Dev nD) : V m c main_v26 = modParts (m ((c.tc : Thread nD τ).loc main_arg4)) := by
  unfold_abbrev_sides
  after_results
  rfl

/-- The output weights at the entry. -/
theorem entry_w (c : Dev nD) : V m c main_v13 = permW (m ((c.tc : Thread nD τ).loc main_arg5)) := by
  unfold_abbrev_sides
  after_results
  rfl

/-- The norm's weights at the entry. -/
theorem entry_g (c : Dev nD) : V m c main_v14 = normRow (m ((c.tc : Thread nD τ).loc main_arg6)) := by
  unfold_abbrev_sides
  after_results
  rfl

/-- The first in-weights at the entry. -/
theorem entry_w1 (c : Dev nD) : V m c main_v15 = cut (s := S1024x2816) (m ((c.tc : Thread nD τ).loc main_arg7)) := by
  unfold_abbrev_sides
  after_results
  rfl

/-- The second in-weights at the entry. -/
theorem entry_w3 (c : Dev nD) : V m c main_v16 = cut (s := S1024x2816) (m ((c.tc : Thread nD τ).loc main_arg8)) := by
  unfold_abbrev_sides
  after_results
  rfl

/-- The out-weights at the entry. -/
theorem entry_w2 (c : Dev nD) : V m c main_v17 = cut (s := S2816x1024) (m ((c.tc : Thread nD τ).loc main_arg9)) := by
  unfold_abbrev_sides
  after_results
  rfl

end Entry

/-- The plain place, within an outer mixer's 384 columns, of a packed column. -/
theorem plain_lt (p : Fin 3) (l : Fin 128) : (3 * (l.val / 64) + p.val) * 64 + l.val % 64 < 384 := by omega

/-- An outer mixer's packed output at an element. -/
theorem packThree_apply (x : FVec Ideal S8x4096x384 .f32) (b : Fin 8) (p : Fin 3) (s : Fin 4096) (l : Fin 128) :
    packThree x (ix4 b p s l) = x (ix3 b s ⟨(3 * (l.val / 64) + p.val) * 64 + l.val % 64, plain_lt p l⟩) := by
  unfold packThree
  pointwise
  congr 2
  ext
  dsimp only
  omega

/-- The middle mixer's packed output at an element. -/
theorem packTwo_apply (x : FVec Ideal S8x4096x256 .f32) (b : Fin 8) (p : Fin 2) (s : Fin 4096) (l : Fin 128) :
    packTwo x (ix4 b p s l) = x (ix3 b s ⟨p.val * 128 + l.val, by omega⟩) := by
  unfold packTwo
  pointwise

/-- An outer mixer's rows of the output weights at an element. -/
theorem permRows_apply (x : FVec Ideal S384x1024 .f32) (p : Fin 3) (l : Fin 128) (k : Fin 384) (hk : k.val = p.val * 128 + l.val) (d : Fin 1024) :
    permRows x (ix2 k d) = x (ix2 ⟨(3 * (l.val / 64) + p.val) * 64 + l.val % 64, plain_lt p l⟩ d) := by
  obtain ⟨k, hk'⟩ := k
  subst hk
  unfold permRows
  pointwise
  congr 2
  ext
  dsimp only
  omega

/-- The modulation's parts at an element. -/
theorem modParts_apply (x : FVec Ideal S8x6144 .f32) (b : Fin 8) (i : Fin 6) (d : Fin 1024) :
    modParts x (ix3 b i d) = x (ix2 b ⟨i.val * 1024 + d.val, by omega⟩) := by
  unfold modParts
  pointwise

/-- The norm's row at an element. -/
theorem normRow_apply (x : FVec Ideal S1024 .f32) (d : Fin 1024) : normRow x (ix2 0 d) = x (ix1 d) := by
  unfold normRow
  pointwise

end Cert.Dense

end
-- ==== Proof.Dense.Step.lean ====
/- The output projection and the dense feed-forward part: what one grid step leaves in its output block. -/
module

public import proofs.«01_k».proof.Proof.Dense.Pay
public import proofs.«01_k».proof.Proof.Flash.Row
public import Idealize.ShloMosaic.Lib.Tactic

@[expose] public section

set_option maxRecDepth 16384

noncomputable section

open scoped BigOperators

namespace Cert.Dense

open Idealize.ShloMosaic
open Cert.KernelDIdeal Cert.KernelDIdeal.Gen
open Cert.Proof.Experts (gate expert)
open Cert.Flash (canon_hit)

/-- The mixers' outputs of one row, side by side: three pairs of heads, two, and three again. -/
def lanes (a : Fin 3 → Fin 128 → EReal) (b : Fin 2 → Fin 128 → EReal) (c : Fin 3 → Fin 128 → EReal) (k : Fin 1024) : EReal :=
  if h : k.val < 384 then a ⟨k.val / 128, by omega⟩ ⟨k.val % 128, by omega⟩
  else if h' : k.val < 640 then b ⟨(k.val - 384) / 128, by omega⟩ ⟨k.val % 128, by omega⟩
  else c ⟨(k.val - 640) / 128, by omega⟩ ⟨k.val % 128, by omega⟩

/-- A pair of heads of the outer mixers' blocks. -/
theorem ld_three (X : Vec Ideal S1x3x512x128 .bf16) (n : ℕ) (hn : n < 3) (h) (r : Fin 512) (l : Fin 128) :
    View.ld X (Rect.unit (s := S1x3x512x128) ![0, n, 0, 0] ![1, 1, 512, 128] h) (ix4 0 0 r l) = X (ix4 0 ⟨n, hn⟩ r l) := by
  refine congrArg X (funext fun a => Fin.ext ?_)
  fin_cases a
  exacts [rfl, rfl, show 0 + 1 * r.val = r.val by omega, show 0 + 1 * l.val = l.val by omega]

/-- A pair of heads of the middle mixer's block. -/
theorem ld_two (X : Vec Ideal S1x2x512x128 .bf16) (n : ℕ) (hn : n < 2) (h) (r : Fin 512) (l : Fin 128) :
    View.ld X (Rect.unit (s := S1x2x512x128) ![0, n, 0, 0] ![1, 1, 512, 128] h) (ix4 0 0 r l) = X (ix4 0 ⟨n, hn⟩ r l) := by
  refine congrArg X (funext fun a => Fin.ext ?_)
  fin_cases a
  exacts [rfl, rfl, show 0 + 1 * r.val = r.val by omega, show 0 + 1 * l.val = l.val by omega]

/-- The pairs of heads side by side, at an element. -/
theorem pay3_apply (A C : Vec Ideal S1x3x512x128 .bf16) (B : Vec Ideal S1x2x512x128 .bf16) (r : Fin 512) (k : Fin 1024) :
    k0_pay3 (F := Ideal) (View.ld A r0_1) (View.ld A r0_2) (View.ld A r0_3) (View.ld B r0_4) (View.ld B r0_5) (View.ld C r0_1) (View.ld C r0_2)
      (View.ld C r0_3) (ix2 r k)
      = lanes (fun p l => A (ix4 0 p r l)) (fun p l => B (ix4 0 p r l)) (fun p l => C (ix4 0 p r l)) k := by
  have hA : ∀ (n : Fin 3) (h) (l : Fin 128), View.ld A (Rect.unit (s := S1x3x512x128) ![0, n.val, 0, 0] ![1, 1, 512, 128] h) (ix4 0 0 r l) = A (ix4 0 n r l) :=
    fun n h l => ld_three A n.val n.isLt h r l
  have hB : ∀ (n : Fin 2) (h) (l : Fin 128), View.ld B (Rect.unit (s := S1x2x512x128) ![0, n.val, 0, 0] ![1, 1, 512, 128] h) (ix4 0 0 r l) = B (ix4 0 n r l) :=
    fun n h l => ld_two B n.val n.isLt h r l
  have hC : ∀ (n : Fin 3) (h) (l : Fin 128), View.ld C (Rect.unit (s := S1x3x512x128) ![0, n.val, 0, 0] ![1, 1, 512, 128] h) (ix4 0 0 r l) = C (ix4 0 n r l) :=
    fun n h l => ld_three C n.val n.isLt h r l
  have a0 := hA 0 inb_S1x3x512x128_S1x1x512x128_0_0_0_0
  have a1 := hA 1 inb_S1x3x512x128_S1x1x512x128_0_1_0_0
  have a2 := hA 2 inb_S1x3x512x128_S1x1x512x128_0_2_0_0
  have b0 := hB 0 inb_S1x2x512x128_S1x1x512x128_0_0_0_0
  have b1 := hB 1 inb_S1x2x512x128_S1x1x512x128_0_1_0_0
  have c0 := hC 0 inb_S1x3x512x128_S1x1x512x128_0_0_0_0
  have c1 := hC 1 inb_S1x3x512x128_S1x1x512x128_0_1_0_0
  have c2 := hC 2 inb_S1x3x512x128_S1x1x512x128_0_2_0_0
  change ∀ l, View.ld A r0_1 (ix4 0 0 r l) = _ at a0
  change ∀ l, View.ld A r0_2 (ix4 0 0 r l) = _ at a1
  change ∀ l, View.ld A r0_3 (ix4 0 0 r l) = _ at a2
  change ∀ l, View.ld B r0_4 (ix4 0 0 r l) = _ at b0
  change ∀ l, View.ld B r0_5 (ix4 0 0 r l) = _ at b1
  change ∀ l, View.ld C r0_1 (ix4 0 0 r l) = _ at c0
  change ∀ l, View.ld C r0_2 (ix4 0 0 r l) = _ at c1
  change ∀ l, View.ld C r0_3 (ix4 0 0 r l) = _ at c2
  clear hA hB hC
  revert a0 a1 a2 b0 b1 c0 c1 c2
  unfold k0_pay3
  generalize View.ld A r0_1 = A0
  generalize View.ld A r0_2 = A1
  generalize View.ld A r0_3 = A2
  generalize View.ld B r0_4 = B0
  generalize View.ld B r0_5 = B1
  generalize View.ld C r0_1 = C0
  generalize View.ld C r0_2 = C1
  generalize View.ld C r0_3 = C2
  intro a0 a1 a2 b0 b1 c0 c1 c2
  pointwise
  have eA : ∀ (n p : Fin 3) (l j : Fin 128), n.val = p.val → l.val = j.val → A (ix4 0 n r l) = A (ix4 0 p r j) :=
    fun n p l j h h' => congrArg₂ (fun p l => A (ix4 0 p r l)) (Fin.ext h) (Fin.ext h')
  have eB : ∀ (n p : Fin 2) (l j : Fin 128), n.val = p.val → l.val = j.val → B (ix4 0 n r l) = B (ix4 0 p r j) :=
    fun n p l j h h' => congrArg₂ (fun p l => B (ix4 0 p r l)) (Fin.ext h) (Fin.ext h')
  have eC : ∀ (n p : Fin 3) (l j : Fin 128), n.val = p.val → l.val = j.val → C (ix4 0 n r l) = C (ix4 0 p r j) :=
    fun n p l j h h' => congrArg₂ (fun p l => C (ix4 0 p r l)) (Fin.ext h) (Fin.ext h')
  have hk := k.isLt
  unfold lanes
  by_cases h0 : k.val < 128
  · rw [dif_pos h0]
    rw [dif_pos (show k.val < 384 by omega)]
    exact (a0 _).trans (eA 0 ⟨k.val / 128, by omega⟩ _ ⟨k.val % 128, by omega⟩ (show 0 = k.val / 128 by omega) (show k.val = k.val % 128 by omega))
  rw [dif_neg h0]
  by_cases h1 : k.val - 128 < 128
  · rw [dif_pos h1]
    rw [dif_pos (show k.val < 384 by omega)]
    exact (a1 _).trans (eA 1 ⟨k.val / 128, by omega⟩ _ ⟨k.val % 128, by omega⟩ (show 1 = k.val / 128 by omega) (show k.val - 128 = k.val % 128 by omega))
  rw [dif_neg h1]
  by_cases h2 : k.val - 128 - 128 < 128
  · rw [dif_pos h2]
    rw [dif_pos (show k.val < 384 by omega)]
    exact (a2 _).trans (eA 2 ⟨k.val / 128, by omega⟩ _ ⟨k.val % 128, by omega⟩ (show 2 = k.val / 128 by omega) (show k.val - 128 - 128 = k.val % 128 by omega))
  rw [dif_neg h2]
  by_cases h3 : k.val - 128 - 128 - 128 < 128
  · rw [dif_pos h3]
    rw [dif_neg (show ¬ k.val < 384 by omega), dif_pos (show k.val < 640 by omega)]
    exact (b0 _).trans (eB 0 ⟨(k.val - 384) / 128, by omega⟩ _ ⟨k.val % 128, by omega⟩ (show 0 = (k.val - 384) / 128 by omega) (show k.val - 128 - 128 - 128 = k.val % 128 by omega))
  rw [dif_neg h3]
  by_cases h4 : k.val - 128 - 128 - 128 - 128 < 128
  · rw [dif_pos h4]
    rw [dif_neg (show ¬ k.val < 384 by omega), dif_pos (show k.val < 640 by omega)]
    exact (b1 _).trans (eB 1 ⟨(k.val - 384) / 128, by omega⟩ _ ⟨k.val % 128, by omega⟩ (show 1 = (k.val - 384) / 128 by omega) (show k.val - 128 - 128 - 128 - 128 = k.val % 128 by omega))
  rw [dif_neg h4]
  by_cases h5 : k.val - 128 - 128 - 128 - 128 - 128 < 128
  · rw [dif_pos h5]
    rw [dif_neg (show ¬ k.val < 384 by omega), dif_neg (show ¬ k.val < 640 by omega)]
    exact (c0 _).trans (eC 0 ⟨(k.val - 640) / 128, by omega⟩ _ ⟨k.val % 128, by omega⟩ (show 0 = (k.val - 640) / 128 by omega) (show k.val - 128 - 128 - 128 - 128 - 128 = k.val % 128 by omega))
  rw [dif_neg h5]
  by_cases h6 : k.val - 128 - 128 - 128 - 128 - 128 - 128 < 128
  · rw [dif_pos h6]
    rw [dif_neg (show ¬ k.val < 384 by omega), dif_neg (show ¬ k.val < 640 by omega)]
    exact (c1 _).trans (eC 1 ⟨(k.val - 640) / 128, by omega⟩ _ ⟨k.val % 128, by omega⟩ (show 1 = (k.val - 640) / 128 by omega) (show k.val - 128 - 128 - 128 - 128 - 128 - 128 = k.val % 128 by omega))
  rw [dif_neg h6]
  rw [dif_neg (show ¬ k.val < 384 by omega), dif_neg (show ¬ k.val < 640 by omega)]
  exact (c2 _).trans (eC 2 ⟨(k.val - 640) / 128, by omega⟩ _ ⟨k.val % 128, by omega⟩ (show 2 = (k.val - 640) / 128 by omega) (show k.val - 128 - 128 - 128 - 128 - 128 - 128 - 128 = k.val % 128 by omega))

/-- The first 1536 hidden columns' in-weights. -/
theorem ld_in_lo (X : Vec Ideal S1024x2816 .bf16) (k : Fin 1024) (f : Fin 1536) : View.ld X r0_9 (ix2 k f) = X (ix2 k ⟨f.val, by omega⟩) := by
  refine congrArg X (funext fun a => Fin.ext ?_)
  fin_cases a
  exacts [show 0 + 1 * k.val = k.val by omega, show 0 + 1 * f.val = f.val by omega]

/-- The last 1280 hidden columns' in-weights. -/
theorem ld_in_hi (X : Vec Ideal S1024x2816 .bf16) (k : Fin 1024) (f : Fin 1280) : View.ld X r0_11 (ix2 k f) = X (ix2 k ⟨1536 + f.val, by omega⟩) := by
  refine congrArg X (funext fun a => Fin.ext ?_)
  fin_cases a
  exacts [show 0 + 1 * k.val = k.val by omega, show 1536 + 1 * f.val = 1536 + f.val by omega]

/-- The first 1536 hidden columns' out-weights. -/
theorem ld_out_lo (X : Vec Ideal S2816x1024 .bf16) (f : Fin 1536) (d : Fin 1024) : View.ld X r0_10 (ix2 f d) = X (ix2 ⟨f.val, by omega⟩ d) := by
  refine congrArg X (funext fun a => Fin.ext ?_)
  fin_cases a
  exacts [show 0 + 1 * f.val = f.val by omega, show 0 + 1 * d.val = d.val by omega]

/-- The last 1280 hidden columns' out-weights. -/
theorem ld_out_hi (X : Vec Ideal S2816x1024 .bf16) (f : Fin 1280) (d : Fin 1024) : View.ld X r0_12 (ix2 f d) = X (ix2 ⟨1536 + f.val, by omega⟩ d) := by
  refine congrArg X (funext fun a => Fin.ext ?_)
  fin_cases a
  exacts [show 1536 + 1 * f.val = 1536 + f.val by omega, show 0 + 1 * d.val = d.val by omega]

/-- The modulation's whole block. -/
theorem ld_mod (X : Vec Ideal S1x6x1024 .f32) (i : Fin 6) (d : Fin 1024) : View.ld X r0_0 (ix3 0 i d) = X (ix3 0 i d) := by
  refine congrArg X (funext fun a => Fin.ext ?_)
  fin_cases a
  exacts [rfl, show 0 + 1 * i.val = i.val by omega, show 0 + 1 * d.val = d.val by omega]

/-- The rows' whole block. -/
theorem ld_x (X : Vec Ideal S1x512x1024 .f32) (r : Fin 512) (d : Fin 1024) : View.ld X r0_6 (ix3 0 r d) = X (ix3 0 r d) := by
  refine congrArg X (funext fun a => Fin.ext ?_)
  fin_cases a
  exacts [rfl, show 0 + 1 * r.val = r.val by omega, show 0 + 1 * d.val = d.val by omega]

/-- The output weights' whole block. -/
theorem ld_w (X : Vec Ideal S1024x1024 .bf16) (k d : Fin 1024) : View.ld X r0_7 (ix2 k d) = X (ix2 k d) := by
  refine congrArg X (funext fun a => Fin.ext ?_)
  fin_cases a
  exacts [show 0 + 1 * k.val = k.val by omega, show 0 + 1 * d.val = d.val by omega]

/-- The norm's whole block. -/
theorem ld_g (X : Vec Ideal S1x1024 .f32) (d : Fin 1024) : View.ld X r0_8 (ix2 0 d) = X (ix2 0 d) := by
  refine congrArg X (funext fun a => Fin.ext ?_)
  fin_cases a
  exacts [rfl, show 0 + 1 * d.val = d.val by omega]

/-- A dense expert whose hidden columns come in two parts. -/
theorem expert_parts (x : Fin 1024 → EReal) (w1 w3 : Fin 1024 → Fin 2816 → EReal) (w2 : Fin 2816 → EReal) :
    expert x (fun k (f : Fin 1536) => w1 k ⟨f.val, by omega⟩) (fun k f => w3 k ⟨f.val, by omega⟩) (fun f => w2 ⟨f.val, by omega⟩)
      + expert x (fun k (f : Fin 1280) => w1 k ⟨1536 + f.val, by omega⟩) (fun k f => w3 k ⟨1536 + f.val, by omega⟩) (fun f => w2 ⟨1536 + f.val, by omega⟩)
      = expert x w1 w3 w2 := by
  unfold expert
  exact (Fin.sum_univ_add (a := 1536) (b := 1280)
    fun f : Fin 2816 => gate (∑ k : Fin 1024, x k * w1 k f) (∑ k : Fin 1024, x k * w3 k f) * w2 f).symm

/-- The whole row that one step leaves, from its blocks. -/
def rowOf (x0 : Vec Ideal S1x512x1024 .f32) (x1 : Vec Ideal S1x3x512x128 .bf16) (x2 : Vec Ideal S1x2x512x128 .bf16) (x3 : Vec Ideal S1x3x512x128 .bf16)
    (x4 : Vec Ideal S1x6x1024 .f32) (x5 : Vec Ideal S1024x1024 .bf16) (x6 : Vec Ideal S1x1024 .f32) (x7 x8 : Vec Ideal S1024x2816 .bf16)
    (x9 : Vec Ideal S2816x1024 .bf16) (r : Fin 512) (d : Fin 1024) : EReal :=
  dense (mixed (fun d => x0 (ix3 0 r d)) (lanes (fun p l => x1 (ix4 0 p r l)) (fun p l => x2 (ix4 0 p r l)) (fun p l => x3 (ix4 0 p r l)))
      (fun d => x4 (ix3 0 2 d)) (fun k d => x5 (ix2 k d)))
    (fun d => x6 (ix2 0 d)) (fun d => x4 (ix3 0 4 d)) (fun d => x4 (ix3 0 3 d)) (fun d => x4 (ix3 0 5 d))
    (fun k f => x7 (ix2 k f)) (fun k f => x8 (ix2 k f)) (fun f d => x9 (ix2 f d)) d

/-- The stored block at an element, from what the step loads. -/
theorem pay_apply (x0 : Vec Ideal S1x512x1024 .f32) (x1 : Vec Ideal S1x3x512x128 .bf16) (x2 : Vec Ideal S1x2x512x128 .bf16) (x3 : Vec Ideal S1x3x512x128 .bf16)
    (x4 : Vec Ideal S1x6x1024 .f32) (x5 : Vec Ideal S1024x1024 .bf16) (x6 : Vec Ideal S1x1024 .f32) (x7 x8 : Vec Ideal S1024x2816 .bf16)
    (x9 : Vec Ideal S2816x1024 .bf16) (r : Fin 512) (d : Fin 1024)
    (y0 : Vec Ideal S1x512x1024 .f32) (y4 : Vec Ideal S1x6x1024 .f32) (y5 : Vec Ideal S1024x1024 .bf16) (y6 : Vec Ideal S1x1024 .f32)
    (t : FVec Ideal S512x1024 .bf16) (a7 a8 : Vec Ideal S1024x1536 .bf16) (a9 : Vec Ideal S1536x1024 .bf16)
    (b7 b8 : Vec Ideal S1024x1280 .bf16) (b9 : Vec Ideal S1280x1024 .bf16)
    (h0 : ∀ d, y0 (ix3 0 r d) = x0 (ix3 0 r d)) (h4 : ∀ i d, y4 (ix3 0 i d) = x4 (ix3 0 i d)) (h5 : ∀ k d, y5 (ix2 k d) = x5 (ix2 k d))
    (h6 : ∀ d, y6 (ix2 0 d) = x6 (ix2 0 d))
    (ht : ∀ k, t (ix2 r k) = lanes (fun p l => x1 (ix4 0 p r l)) (fun p l => x2 (ix4 0 p r l)) (fun p l => x3 (ix4 0 p r l)) k)
    (h7 : ∀ k (f : Fin 1536), a7 (ix2 k f) = x7 (ix2 k ⟨f.val, by omega⟩)) (h8 : ∀ k (f : Fin 1536), a8 (ix2 k f) = x8 (ix2 k ⟨f.val, by omega⟩))
    (h9 : ∀ (f : Fin 1536) d, a9 (ix2 f d) = x9 (ix2 ⟨f.val, by omega⟩ d))
    (g7 : ∀ k (f : Fin 1280), b7 (ix2 k f) = x7 (ix2 k ⟨1536 + f.val, by omega⟩)) (g8 : ∀ k (f : Fin 1280), b8 (ix2 k f) = x8 (ix2 k ⟨1536 + f.val, by omega⟩))
    (g9 : ∀ (f : Fin 1280) d, b9 (ix2 f d) = x9 (ix2 ⟨1536 + f.val, by omega⟩ d)) :
    k0_pay1 (F := Ideal) (k0_pay2 y4) (k0_pay4 (k0_pay2 y4) t y0 y5) (k0_pay5 (k0_pay2 y4) t y0 y5 y6) (k0_pay6 (F := Ideal))
      (k0_pay7 (k0_pay2 y4) t y0 y5 y6 a7 a8) a9 b7 b8 b9 (ix3 0 r d) = rowOf x0 x1 x2 x3 x4 x5 x6 x7 x8 x9 r d := by
  rw [pay1_apply]
  simp only [pay7_apply, pay5_apply, pay4_apply, pay2_apply, h0, h4, h5, h6, ht, h7, h8, h9, g7, g8, g9]
  unfold rowOf dense
  rw [← expert_parts]
  rfl

/-- The output block at an element. -/
theorem out_apply (x0 : Vec Ideal S1x512x1024 .f32) (x1 : Vec Ideal S1x3x512x128 .bf16) (x2 : Vec Ideal S1x2x512x128 .bf16) (x3 : Vec Ideal S1x3x512x128 .bf16)
    (x4 : Vec Ideal S1x6x1024 .f32) (x5 : Vec Ideal S1024x1024 .bf16) (x6 : Vec Ideal S1x1024 .f32) (x7 x8 : Vec Ideal S1024x2816 .bf16)
    (x9 : Vec Ideal S2816x1024 .bf16) (r : Fin 512) (d : Fin 1024) :
    out0_10 (F := Ideal) x0 x1 x2 x3 x4 x5 x6 x7 x8 x9 (ix3 0 r d) = rowOf x0 x1 x2 x3 x4 x5 x6 x7 x8 x9 r d := by
  have emb : r0_6.emb (ix3 0 r d) = (ix3 0 r d : S1x512x1024.Idx) := by
    refine funext fun a => Fin.ext ?_
    fin_cases a
    exacts [rfl, show 0 + 1 * r.val = r.val by omega, show 0 + 1 * d.val = d.val by omega]
  unfold out0_10 k0_pay8 k0_pay9
  refine (canon_hit (s := S1x512x1024) (e := .f32) r0_6 _ _ (ix3 0 r d) _ emb).trans ?_
  exact pay_apply x0 x1 x2 x3 x4 x5 x6 x7 x8 x9 r d _ _ _ _ _ _ _ _ _ _ _ (ld_x x0 r) (ld_mod x4) (ld_w x5) (ld_g x6) (pay3_apply x1 x3 x2 r)
    (ld_in_lo x7) (ld_in_lo x8) (ld_out_lo x9) (ld_in_hi x7) (ld_in_hi x8) (ld_out_hi x9)

end Cert.Dense

end
-- ==== Proof.Dense.Final.lean ====
/- The output projection and the dense feed-forward part: the result array after the run, from the arrays its windows read
   at the entry of the call. -/
module

public import proofs.«01_k».proof.Proof.Dense.Step
public import Idealize.ShloMosaic.Lib.Pipeline.Value
public import Idealize.ShloMosaic.Lib.Pipeline.ValueKit.Acc
public import Idealize.ShloMosaic.Lib.Pipeline.ValueKit.Geometry
public import Idealize.ShloMosaic.Lib.Tactic

@[expose] public section

set_option maxRecDepth 16384

noncomputable section

namespace Cert.Dense

open Idealize.ShloMosaic Idealize.ShloMosaic.TcCoe
open Cert.KernelDIdeal Cert.KernelDIdeal.Gen

section Arrays
variable (X : Vec Ideal S8x4096x1024 .f32) (A : Vec Ideal S8x3x4096x128 .bf16) (B : Vec Ideal S8x2x4096x128 .bf16) (C : Vec Ideal S8x3x4096x128 .bf16)
  (M : Vec Ideal S8x6x1024 .f32) (W : Vec Ideal S1024x1024 .bf16) (G : Vec Ideal S1x1024 .f32) (W1 W3 : Vec Ideal S1024x2816 .bf16)
  (W2 : Vec Ideal S2816x1024 .bf16)

/-- The result at a batch, a token and a column. -/
def rowAt (b : Fin 8) (s : Fin 4096) (d : Fin 1024) : EReal :=
  dense (mixed (fun d => X (ix3 b s d)) (lanes (fun p l => A (ix4 b p s l)) (fun p l => B (ix4 b p s l)) (fun p l => C (ix4 b p s l)))
      (fun d => M (ix3 b 2 d)) (fun k d => W (ix2 k d)))
    (fun d => G (ix2 0 d)) (fun d => M (ix3 b 4 d)) (fun d => M (ix3 b 3 d)) (fun d => M (ix3 b 5 d))
    (fun k f => W1 (ix2 k f)) (fun k f => W3 (ix2 k f)) (fun f d => W2 (ix2 f d)) d

/-- The result array. -/
def whole : Vec Ideal S8x4096x1024 .f32 := fun i => rowAt X A B C M W G W1 W3 W2 (i 0) (i 1) (i 2)

/-- A step's row is the array's row, where its blocks are the arrays' blocks. -/
theorem rowOf_eq (x0 : Vec Ideal S1x512x1024 .f32) (x1 : Vec Ideal S1x3x512x128 .bf16) (x2 : Vec Ideal S1x2x512x128 .bf16) (x3 : Vec Ideal S1x3x512x128 .bf16)
    (x4 : Vec Ideal S1x6x1024 .f32) (x5 : Vec Ideal S1024x1024 .bf16) (x6 : Vec Ideal S1x1024 .f32) (x7 x8 : Vec Ideal S1024x2816 .bf16)
    (x9 : Vec Ideal S2816x1024 .bf16) (r : Fin 512) (b : Fin 8) (s : Fin 4096) (d : Fin 1024)
    (h0 : ∀ d, x0 (ix3 0 r d) = X (ix3 b s d)) (h1 : ∀ p l, x1 (ix4 0 p r l) = A (ix4 b p s l)) (h2 : ∀ p l, x2 (ix4 0 p r l) = B (ix4 b p s l))
    (h3 : ∀ p l, x3 (ix4 0 p r l) = C (ix4 b p s l)) (h4 : ∀ i d, x4 (ix3 0 i d) = M (ix3 b i d)) (h5 : ∀ k d, x5 (ix2 k d) = W (ix2 k d))
    (h6 : ∀ d, x6 (ix2 0 d) = G (ix2 0 d)) (h7 : ∀ k f, x7 (ix2 k f) = W1 (ix2 k f)) (h8 : ∀ k f, x8 (ix2 k f) = W3 (ix2 k f))
    (h9 : ∀ f d, x9 (ix2 f d) = W2 (ix2 f d)) :
    rowOf x0 x1 x2 x3 x4 x5 x6 x7 x8 x9 r d = rowAt X A B C M W G W1 W3 W2 b s d := by
  unfold rowOf rowAt
  simp only [h0, h1, h2, h3, h4, h5, h6, h7, h8, h9]

end Arrays

/-- The rows' block of a grid step. -/
theorem idx0 : ∀ t : Fin cfg0.N, win0_0.index t = ![t.val / 8, t.val % 8, 0] := (by decide +kernel : ∀ t : Fin grid0.N, _)
/-- The first mixer's block of a grid step. -/
theorem idx1 : ∀ t : Fin cfg0.N, win0_1.index t = ![t.val / 8, 0, t.val % 8, 0] := (by decide +kernel : ∀ t : Fin grid0.N, _)
/-- The middle mixer's block of a grid step. -/
theorem idx2 : ∀ t : Fin cfg0.N, win0_2.index t = ![t.val / 8, 0, t.val % 8, 0] := (by decide +kernel : ∀ t : Fin grid0.N, _)
/-- The last mixer's block of a grid step. -/
theorem idx3 : ∀ t : Fin cfg0.N, win0_3.index t = ![t.val / 8, 0, t.val % 8, 0] := (by decide +kernel : ∀ t : Fin grid0.N, _)
/-- The modulation's block of a grid step. -/
theorem idx4 : ∀ t : Fin cfg0.N, win0_4.index t = ![t.val / 8, 0, 0] := (by decide +kernel : ∀ t : Fin grid0.N, _)
/-- The output weights' block of a grid step. -/
theorem idx5 : ∀ t : Fin cfg0.N, win0_5.index t = ![0, 0] := (by decide +kernel : ∀ t : Fin grid0.N, _)
/-- The norm's block of a grid step. -/
theorem idx6 : ∀ t : Fin cfg0.N, win0_6.index t = ![0, 0] := (by decide +kernel : ∀ t : Fin grid0.N, _)
/-- The first in-weights' block of a grid step. -/
theorem idx7 : ∀ t : Fin cfg0.N, win0_7.index t = ![0, 0] := (by decide +kernel : ∀ t : Fin grid0.N, _)
/-- The second in-weights' block of a grid step. -/
theorem idx8 : ∀ t : Fin cfg0.N, win0_8.index t = ![0, 0] := (by decide +kernel : ∀ t : Fin grid0.N, _)
/-- The out-weights' block of a grid step. -/
theorem idx9 : ∀ t : Fin cfg0.N, win0_9.index t = ![0, 0] := (by decide +kernel : ∀ t : Fin grid0.N, _)
/-- The result's block of a grid step. -/
theorem idx10 : ∀ t : Fin cfg0.N, win0_10.index t = ![t.val / 8, t.val % 8, 0] := (by decide +kernel : ∀ t : Fin grid0.N, _)

/-- A step's batch. -/
theorem lt8 (t : Fin cfg0.N) : t.val / 8 < 8 := by
  have h₁ := t.isLt
  have h₂ : cfg0.N = 64 := N_0
  omega

/-- A step's token. -/
theorem lt4096 (t : Fin cfg0.N) (r : Fin 512) : 512 * (t.val % 8) + r.val < 4096 := by omega

/-- The rows' block, read. -/
theorem read0 (A : Vec Ideal S8x4096x1024 .f32) (t : Fin cfg0.N) (r : Fin 512) (d : Fin 1024) :
    ((cfg0.win 0).blk t).view.read (Elt Ideal) A (ix3 0 r d) = A (ix3 ⟨t.val / 8, lt8 t⟩ ⟨512 * (t.val % 8) + r.val, lt4096 t r⟩ d) := by
  rw [View.read_apply]
  show A _ = A _
  congr 1
  blk_ext [idx0 t]

/-- The first mixer's block, read. -/
theorem read1 (A : Vec Ideal S8x3x4096x128 .bf16) (t : Fin cfg0.N) (p : Fin 3) (r : Fin 512) (l : Fin 128) :
    ((cfg0.win 1).blk t).view.read (Elt Ideal) A (ix4 0 p r l) = A (ix4 ⟨t.val / 8, lt8 t⟩ p ⟨512 * (t.val % 8) + r.val, lt4096 t r⟩ l) := by
  rw [View.read_apply]
  show A _ = A _
  congr 1
  blk_ext [idx1 t]

/-- The middle mixer's block, read. -/
theorem read2 (A : Vec Ideal S8x2x4096x128 .bf16) (t : Fin cfg0.N) (p : Fin 2) (r : Fin 512) (l : Fin 128) :
    ((cfg0.win 2).blk t).view.read (Elt Ideal) A (ix4 0 p r l) = A (ix4 ⟨t.val / 8, lt8 t⟩ p ⟨512 * (t.val % 8) + r.val, lt4096 t r⟩ l) := by
  rw [View.read_apply]
  show A _ = A _
  congr 1
  blk_ext [idx2 t]

/-- The last mixer's block, read. -/
theorem read3 (A : Vec Ideal S8x3x4096x128 .bf16) (t : Fin cfg0.N) (p : Fin 3) (r : Fin 512) (l : Fin 128) :
    ((cfg0.win 3).blk t).view.read (Elt Ideal) A (ix4 0 p r l) = A (ix4 ⟨t.val / 8, lt8 t⟩ p ⟨512 * (t.val % 8) + r.val, lt4096 t r⟩ l) := by
  rw [View.read_apply]
  show A _ = A _
  congr 1
  blk_ext [idx3 t]

/-- The modulation's block, read. -/
theorem read4 (A : Vec Ideal S8x6x1024 .f32) (t : Fin cfg0.N) (i : Fin 6) (d : Fin 1024) :
    ((cfg0.win 4).blk t).view.read (Elt Ideal) A (ix3 0 i d) = A (ix3 ⟨t.val / 8, lt8 t⟩ i d) := by
  rw [View.read_apply]
  show A _ = A _
  congr 1
  blk_ext [idx4 t]

/-- The output weights' block, read. -/
theorem read5 (A : Vec Ideal S1024x1024 .bf16) (t : Fin cfg0.N) (k d : Fin 1024) :
    ((cfg0.win 5).blk t).view.read (Elt Ideal) A (ix2 k d) = A (ix2 k d) := by
  rw [View.read_apply]
  show A _ = A _
  congr 1
  blk_ext [idx5 t]

/-- The norm's block, read. -/
theorem read6 (A : Vec Ideal S1x1024 .f32) (t : Fin cfg0.N) (d : Fin 1024) :
    ((cfg0.win 6).blk t).view.read (Elt Ideal) A (ix2 0 d) = A (ix2 0 d) := by
  rw [View.read_apply]
  show A _ = A _
  congr 1
  blk_ext [idx6 t]

/-- The first in-weights' block, read. -/
theorem read7 (A : Vec Ideal S1024x2816 .bf16) (t : Fin cfg0.N) (k : Fin 1024) (f : Fin 2816) :
    ((cfg0.win 7).blk t).view.read (Elt Ideal) A (ix2 k f) = A (ix2 k f) := by
  rw [View.read_apply]
  show A _ = A _
  congr 1
  blk_ext [idx7 t]

/-- The second in-weights' block, read. -/
theorem read8 (A : Vec Ideal S1024x2816 .bf16) (t : Fin cfg0.N) (k : Fin 1024) (f : Fin 2816) :
    ((cfg0.win 8).blk t).view.read (Elt Ideal) A (ix2 k f) = A (ix2 k f) := by
  rw [View.read_apply]
  show A _ = A _
  congr 1
  blk_ext [idx8 t]

/-- The out-weights' block, read. -/
theorem read9 (A : Vec Ideal S2816x1024 .bf16) (t : Fin cfg0.N) (f : Fin 2816) (d : Fin 1024) :
    ((cfg0.win 9).blk t).view.read (Elt Ideal) A (ix2 f d) = A (ix2 f d) := by
  rw [View.read_apply]
  show A _ = A _
  congr 1
  blk_ext [idx9 t]

/-- Where an element of a step's result block lies in the result. -/
theorem emb10 (t : Fin cfg0.N) (r : Fin 512) (d : Fin 1024) :
    ((win0_10.blk t).view.emb (ix3 0 r d) : S8x4096x1024.Idx) = ix3 ⟨t.val / 8, lt8 t⟩ ⟨512 * (t.val % 8) + r.val, lt4096 t r⟩ d := by
  blk_ext [idx10 t]

/-- A step's result block is the result's block. -/
theorem block_eq (A0 : Vec Ideal S8x4096x1024 .f32)
    (A1 : Vec Ideal S8x3x4096x128 .bf16)
    (A2 : Vec Ideal S8x2x4096x128 .bf16)
    (A3 : Vec Ideal S8x3x4096x128 .bf16)
    (A4 : Vec Ideal S8x6x1024 .f32)
    (A5 : Vec Ideal S1024x1024 .bf16)
    (A6 : Vec Ideal S1x1024 .f32)
    (A7 : Vec Ideal S1024x2816 .bf16)
    (A8 : Vec Ideal S1024x2816 .bf16)
    (A9 : Vec Ideal S2816x1024 .bf16)
    (t : Fin cfg0.N) (r : Fin 512) (d : Fin 1024) :
    out0_10 (F := Ideal) (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (((cfg0.win 7).blk t).view.read (Elt Ideal) A7) (((cfg0.win 8).blk t).view.read (Elt Ideal) A8) (((cfg0.win 9).blk t).view.read (Elt Ideal) A9) (ix3 0 r d)
      = whole A0 A1 A2 A3 A4 A5 A6 A7 A8 A9 ((win0_10.blk t).view.emb (ix3 0 r d)) := by
  refine (out_apply _ _ _ _ _ _ _ _ _ _ r d).trans ?_
  refine Eq.trans ?_ (congrArg (whole A0 A1 A2 A3 A4 A5 A6 A7 A8 A9) (emb10 t r d)).symm
  exact rowOf_eq A0 A1 A2 A3 A4 A5 A6 A7 A8 A9 _ _ _ _ _ _ _ _ _ _ r _ _ d (read0 A0 t r) (fun p l => read1 A1 t p r l) (fun p l => read2 A2 t p r l)
    (fun p l => read3 A3 t p r l) (read4 A4 t) (read5 A5 t) (read6 A6 t) (read7 A7 t) (read8 A8 t) (read9 A9 t)

variable (m : (ℓ : Loc nD τ sig) → Buf (Elt Ideal) ℓ)

/-- The result array after the run. -/
theorem final_out (c : Dev nD) : (dats m 0 c).arrAt 10 cfg0.N
    = whole (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) := by
  refine (dats m 0 c).arrAt_eq_of_covers 10 _ (by decide +kernel) fun t hf y => ?_
  blk_simp
  rw [after0_10]
  revert y
  intro (y : S1x512x1024.Idx)
  obtain ⟨r, hr⟩ : ∃ r : Fin 512, y 1 = r := ⟨_, rfl⟩
  obtain ⟨d, hd⟩ : ∃ d : Fin 1024, y 2 = d := ⟨_, rfl⟩
  obtain h0 : y 0 = (0 : Fin 1) := Subsingleton.elim (α := Fin 1) _ _
  have hy : y = ix3 0 r d := by
    rw [eq_ix3 (n0 := 1) (n1 := 512) (n2 := 1024) y, h0, hr, hd]
  subst hy
  exact block_eq (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) t r d

end Cert.Dense

end
-- ==== Proof.Dense.Ref.lean ====
/- The plain output projection and dense feed-forward part, read at an element. -/
module

public import proofs.«01_k».proof.Proof.Dense.Pay
public import proofs.«01_k».proof.Proof.Gen.ReferenceDIdeal.Read
public import Idealize.ShloMosaic.Lib.IdealHost
public import Idealize.ShloMosaic.Lib.Pointwise

@[expose] public section

set_option maxRecDepth 16384

noncomputable section

open scoped BigOperators

namespace Cert.Dense

open Idealize.ShloMosaic
open Cert.Proof.Experts (gate expert)

/-- The mixers' outputs of one row, side by side. -/
def plainRow (a : Fin 384 → EReal) (b : Fin 256 → EReal) (c : Fin 384 → EReal) (k : Fin 1024) : EReal :=
  if h : k.val < 384 then a ⟨k.val, h⟩ else if h' : k.val - 384 < 256 then b ⟨k.val - 384, h'⟩ else c ⟨k.val - 384 - 256, by omega⟩

namespace Ref

open Cert.ReferenceDIdeal Cert.ReferenceDIdeal.Gen Cert.ReferenceDIdeal.Read

variable (x0 : (⟨S8x4096x1024, .f32⟩ : BufTy).Contents (Elt Ideal)) (x1 : (⟨S8x4096x384, .f32⟩ : BufTy).Contents (Elt Ideal))
  (x2 : (⟨S8x4096x256, .f32⟩ : BufTy).Contents (Elt Ideal)) (x3 : (⟨S8x4096x384, .f32⟩ : BufTy).Contents (Elt Ideal))
  (x4 : (⟨S8x6144, .f32⟩ : BufTy).Contents (Elt Ideal)) (x5 : (⟨S1024x1024, .f32⟩ : BufTy).Contents (Elt Ideal))
  (x6 : (⟨S1024, .f32⟩ : BufTy).Contents (Elt Ideal)) (x7 x8 : (⟨S1024x2816, .f32⟩ : BufTy).Contents (Elt Ideal))
  (x9 : (⟨S2816x1024, .f32⟩ : BufTy).Contents (Elt Ideal))

/-- The concatenated mixers' outputs. -/
theorem v12_eq (b : Fin 8) (s : Fin 4096) (k : Fin 1024) : val_main_v12 (F := Ideal) x1 x2 x3 (ix3 b s k)
    = plainRow (fun j => x1 (ix3 b s j)) (fun j => x2 (ix3 b s j)) (fun j => x3 (ix3 b s j)) k := by
  unfold val_main_v12 plainRow
  pointwise

/-- The projected mixers' outputs. -/
theorem v13_eq (b : Fin 8) (s : Fin 4096) (d : Fin 1024) : val_main_v13 (F := Ideal) x1 x2 x3 x5 (ix3 b s d)
    = ∑ k : Fin 1024, plainRow (fun j => x1 (ix3 b s j)) (fun j => x2 (ix3 b s j)) (fun j => x3 (ix3 b s j)) k * x5 (ix2 k d) := by
  rw [val_main_v13_apply]
  refine Finset.sum_congr rfl fun k _ => ?_
  have el : lidx_main_v13 (ix3 b s d) k = ix3 b s k := funext fun a => match a with | ⟨0, _⟩ => rfl | ⟨1, _⟩ => rfl | ⟨2, _⟩ => rfl
  have er : ridx_main_v13 (ix3 b s d) k = ix2 k d := funext fun a => match a with | ⟨0, _⟩ => rfl | ⟨1, _⟩ => rfl
  rw [el, er, v12_eq]

/-- The mixers' gate. -/
theorem v14_eq (b : Fin 8) (s : Fin 4096) (d : Fin 1024) : val_main_v14 (F := Ideal) x4 (ix3 b s d) = x4 (ix2 b ⟨2 * 1024 + d.val, by omega⟩) := by
  unfold val_main_v14 val_main_v8 val_main_v2
  pointwise

/-- The row after the mixers. -/
theorem v16_eq (b : Fin 8) (s : Fin 4096) (d : Fin 1024) : val_main_v16 (F := Ideal) x0 x1 x2 x3 x4 x5 (ix3 b s d)
    = mixed (fun d => x0 (ix3 b s d)) (plainRow (fun j => x1 (ix3 b s j)) (fun j => x2 (ix3 b s j)) (fun j => x3 (ix3 b s j)))
        (fun d => x4 (ix2 b ⟨2 * 1024 + d.val, by omega⟩)) (fun k d => x5 (ix2 k d)) d := by
  rw [val_main_v16_apply, val_main_v15_apply, v14_eq, v13_eq]
  rfl

/-- The mean square's sum. -/
theorem v18_eq (b : Fin 8) (s : Fin 4096) : val_main_v18 (F := Ideal) x0 x1 x2 x3 x4 x5 (ix2 b s)
    = ∑ l : Fin 1024, val_main_v16 (F := Ideal) x0 x1 x2 x3 x4 x5 (ix3 b s l) * val_main_v16 (F := Ideal) x0 x1 x2 x3 x4 x5 (ix3 b s l) := by
  rw [val_main_v18_apply]
  refine Eq.trans (congrArg (· + _) (Ideal.ofBits_zero_f32)) ((zero_add _).trans ?_)
  refine Finset.sum_congr rfl fun l _ => ?_
  have e : idx_main_v18 (ix2 b s) l = ix3 b s l := funext fun a => match a with | ⟨0, _⟩ => rfl | ⟨1, _⟩ => rfl | ⟨2, _⟩ => rfl
  rw [e, val_main_v17_apply]
  rfl

/-- The normalised row. -/
theorem v35_eq (b : Fin 8) (s : Fin 4096) (k : Fin 1024) : val_main_v35 (F := Ideal) x0 x1 x2 x3 x4 x5 x6 (ix3 b s k)
    = hidden (fun d => val_main_v16 (F := Ideal) x0 x1 x2 x3 x4 x5 (ix3 b s d)) (fun d => x6 (ix1 d)) (fun d => x4 (ix2 b ⟨4 * 1024 + d.val, by omega⟩))
        (fun d => x4 (ix2 b ⟨3 * 1024 + d.val, by omega⟩)) k := by
  unfold hidden
  rw [← v18_eq]
  unfold val_main_v35 val_main_v34 val_main_v33 val_main_v32 val_main_v31 val_main_v30 val_main_v29 val_main_v28 val_main_v27 val_main_v26 val_main_v25
    val_main_v24 val_main_v23 val_main_v22 val_main_v21 val_main_v20 val_main_v19 val_main_v10 val_main_v9 val_main_v4 val_main_v3 val_main_cst_0
    val_main_cst_1 val_main_cst_2
  generalize val_main_v16 (F := Ideal) x0 x1 x2 x3 x4 x5 = u
  generalize val_main_v18 (F := Ideal) x0 x1 x2 x3 x4 x5 = q
  pointwise

/-- The first hidden product. -/
theorem v36_eq (b : Fin 8) (s : Fin 4096) (f : Fin 2816) : val_main_v36 (F := Ideal) x0 x1 x2 x3 x4 x5 x6 x7 (ix3 b s f)
    = ∑ k : Fin 1024, val_main_v35 (F := Ideal) x0 x1 x2 x3 x4 x5 x6 (ix3 b s k) * x7 (ix2 k f) := by
  rw [val_main_v36_apply]
  refine Finset.sum_congr rfl fun k _ => ?_
  have el : lidx_main_v36 (ix3 b s f) k = ix3 b s k := funext fun a => match a with | ⟨0, _⟩ => rfl | ⟨1, _⟩ => rfl | ⟨2, _⟩ => rfl
  have er : ridx_main_v36 (ix3 b s f) k = ix2 k f := funext fun a => match a with | ⟨0, _⟩ => rfl | ⟨1, _⟩ => rfl
  rw [el, er]

/-- The second hidden product. -/
theorem v38_eq (b : Fin 8) (s : Fin 4096) (f : Fin 2816) : val_main_v38 (F := Ideal) x0 x1 x2 x3 x4 x5 x6 x8 (ix3 b s f)
    = ∑ k : Fin 1024, val_main_v35 (F := Ideal) x0 x1 x2 x3 x4 x5 x6 (ix3 b s k) * x8 (ix2 k f) := by
  rw [val_main_v38_apply]
  refine Finset.sum_congr rfl fun k _ => ?_
  have el : lidx_main_v38 (ix3 b s f) k = ix3 b s k := funext fun a => match a with | ⟨0, _⟩ => rfl | ⟨1, _⟩ => rfl | ⟨2, _⟩ => rfl
  have er : ridx_main_v38 (ix3 b s f) k = ix2 k f := funext fun a => match a with | ⟨0, _⟩ => rfl | ⟨1, _⟩ => rfl
  rw [el, er]

/-- The gated hidden columns. -/
theorem v39_eq (i : S8x4096x2816.Idx) : val_main_v39 (F := Ideal) x0 x1 x2 x3 x4 x5 x6 x7 x8 i
    = gate (val_main_v36 (F := Ideal) x0 x1 x2 x3 x4 x5 x6 x7 i) (val_main_v38 (F := Ideal) x0 x1 x2 x3 x4 x5 x6 x8 i) := by
  rw [val_main_v39_apply, val_main_v37_apply, val_main_call0_v5_apply, val_main_call0_v4_apply, val_main_call0_v3_apply, val_main_call0_v2_apply,
    val_main_call0_v1_apply, val_main_call0_v0_apply, val_main_call0_cst_0_apply, val_main_call0_cst_apply]
  generalize val_main_v36 (F := Ideal) x0 x1 x2 x3 x4 x5 x6 x7 i = a
  generalize val_main_v38 (F := Ideal) x0 x1 x2 x3 x4 x5 x6 x8 i = b
  show a * Ideal.div (Ideal.ofBits .f32 0x3F800000#32) (Ideal.ofBits .f32 0x3F800000#32 + Ideal.exp (-a)) * b = a * Ideal.div 1 (1 + Ideal.exp (-a)) * b
  rw [Ideal.ofBits_one_f32]

/-- The feed-forward part's gate. -/
theorem v41_eq (b : Fin 8) (s : Fin 4096) (d : Fin 1024) : val_main_v41 (F := Ideal) x4 (ix3 b s d) = x4 (ix2 b ⟨5 * 1024 + d.val, by omega⟩) := by
  unfold val_main_v41 val_main_v11 val_main_v5
  pointwise

/-- The dense expert's output. -/
theorem v40_eq (b : Fin 8) (s : Fin 4096) (d : Fin 1024) : val_main_v40 (F := Ideal) x0 x1 x2 x3 x4 x5 x6 x7 x8 x9 (ix3 b s d)
    = expert (fun k => val_main_v35 (F := Ideal) x0 x1 x2 x3 x4 x5 x6 (ix3 b s k)) (fun k f => x7 (ix2 k f)) (fun k f => x8 (ix2 k f))
        (fun f : Fin 2816 => x9 (ix2 f d)) := by
  rw [val_main_v40_apply]
  refine Finset.sum_congr rfl fun f _ => ?_
  have el : lidx_main_v40 (ix3 b s d) f = ix3 b s f := funext fun a => match a with | ⟨0, _⟩ => rfl | ⟨1, _⟩ => rfl | ⟨2, _⟩ => rfl
  have er : ridx_main_v40 (ix3 b s d) f = ix2 f d := funext fun a => match a with | ⟨0, _⟩ => rfl | ⟨1, _⟩ => rfl
  rw [el, er, v39_eq, v36_eq, v38_eq]

/-- The reference's result at an element. -/
theorem result_apply (b : Fin 8) (s : Fin 4096) (d : Fin 1024) : val_main_v43 (F := Ideal) x0 x1 x2 x3 x4 x5 x6 x7 x8 x9 (ix3 b s d)
    = dense (mixed (fun d => x0 (ix3 b s d)) (plainRow (fun j => x1 (ix3 b s j)) (fun j => x2 (ix3 b s j)) (fun j => x3 (ix3 b s j)))
          (fun d => x4 (ix2 b ⟨2 * 1024 + d.val, by omega⟩)) (fun k d => x5 (ix2 k d)))
        (fun d => x6 (ix1 d)) (fun d => x4 (ix2 b ⟨4 * 1024 + d.val, by omega⟩)) (fun d => x4 (ix2 b ⟨3 * 1024 + d.val, by omega⟩))
        (fun d => x4 (ix2 b ⟨5 * 1024 + d.val, by omega⟩)) (fun k f => x7 (ix2 k f)) (fun k f => x8 (ix2 k f)) (fun f d => x9 (ix2 f d)) d := by
  rw [val_main_v43_apply, val_main_v42_apply, v41_eq, v40_eq]
  simp only [v35_eq, v16_eq]
  rfl

end Ref

end Cert.Dense

end
-- ==== Proof.Dense.Claim.lean ====
/- The value claim of the output projection and the dense feed-forward part. -/
module

public import proofs.«01_k».proof.Proof.Dense.Entry
public import proofs.«01_k».proof.Proof.Dense.Final
public import proofs.«01_k».proof.Proof.Dense.Ref
public import proofs.«01_k».proof.Defs

@[expose] public section

set_option maxRecDepth 16384

noncomputable section

open scoped BigOperators

namespace Cert.Dense

open Idealize.ShloMosaic Idealize.ShloMosaic.TcCoe Idealize.SL.Sem
open Cert.KernelDIdeal Cert.KernelDIdeal.Gen

/-- The plain place, within an outer mixer's columns, of a packed column. -/
def place (k : ℕ) : ℕ := (3 * (k % 128 / 64) + k / 128) * 64 + k % 64

/-- The packed place, within an outer mixer's columns, of a plain column. -/
def back (k : ℕ) : ℕ := k / 64 % 3 * 128 + k / 192 * 64 + k % 64

/-- The plain column of a packed column. -/
def toPlain (k : Fin 1024) : Fin 1024 :=
  ⟨if k.val < 384 then place k.val else if k.val < 640 then k.val else 640 + place (k.val - 640), by unfold place; split_ifs <;> omega⟩

/-- The packed column of a plain column. -/
def toPacked (k : Fin 1024) : Fin 1024 :=
  ⟨if k.val < 384 then back k.val else if k.val < 640 then k.val else 640 + back (k.val - 640), by unfold back; split_ifs <;> omega⟩

/-- The packed columns' order, as a permutation. -/
def order : Equiv.Perm (Fin 1024) where
  toFun := toPlain
  invFun := toPacked
  left_inv := (by decide +kernel : ∀ k : Fin 1024, toPacked (toPlain k) = k)
  right_inv := (by decide +kernel : ∀ k : Fin 1024, toPlain (toPacked k) = k)

/-- The packed mixers' outputs are the plain ones in the packed order. -/
theorem lanes_eq (a c : FVec Ideal S8x4096x384 .f32) (b : FVec Ideal S8x4096x256 .f32) (n : Fin 8) (s : Fin 4096) (k : Fin 1024) :
    lanes (fun p l => packThree a (ix4 n p s l)) (fun p l => packTwo b (ix4 n p s l)) (fun p l => packThree c (ix4 n p s l)) k
      = plainRow (fun j => a (ix3 n s j)) (fun j => b (ix3 n s j)) (fun j => c (ix3 n s j)) (order k) := by
  have hk := k.isLt
  have ho : (order k).val = if k.val < 384 then place k.val else if k.val < 640 then k.val else 640 + place (k.val - 640) := rfl
  unfold lanes plainRow
  by_cases h : k.val < 384
  · rw [if_pos h] at ho
    unfold place at ho
    rw [dif_pos h, dif_pos (show (order k).val < 384 by omega)]
    refine (packThree_apply _ _ _ _ _).trans ?_
    refine congrArg (fun j => a (ix3 n s j)) (Fin.ext ?_)
    dsimp only
    omega
  · rw [if_neg h] at ho
    by_cases h' : k.val < 640
    · rw [if_pos h'] at ho
      rw [dif_neg h, dif_pos h', dif_neg (show ¬ (order k).val < 384 by omega), dif_pos (show (order k).val - 384 < 256 by omega)]
      refine (packTwo_apply _ _ _ _ _).trans ?_
      refine congrArg (fun j => b (ix3 n s j)) (Fin.ext ?_)
      dsimp only
      omega
    · rw [if_neg h'] at ho
      unfold place at ho
      rw [dif_neg h, dif_neg h', dif_neg (show ¬ (order k).val < 384 by omega), dif_neg (show ¬ (order k).val - 384 < 256 by omega)]
      refine (packThree_apply _ _ _ _ _).trans ?_
      refine congrArg (fun j => c (ix3 n s j)) (Fin.ext ?_)
      dsimp only
      omega

/-- The permuted output weights are the plain ones in the packed order. -/
theorem permW_apply (w : FVec Ideal S1024x1024 .f32) (k d : Fin 1024) : permW w (ix2 k d) = w (ix2 (order k) d) := by
  have hk := k.isLt
  have ho : (order k).val = if k.val < 384 then place k.val else if k.val < 640 then k.val else 640 + place (k.val - 640) := rfl
  unfold permW
  pointwise
  by_cases h : k.val < 384
  · rw [if_pos h] at ho
    unfold place at ho
    rw [dif_pos h, permRows_apply _ ⟨k.val / 128, by omega⟩ ⟨k.val % 128, by omega⟩ _ (by dsimp only; omega)]
    pointwise
    refine congrArg (fun j => w (ix2 j d)) (Fin.ext ?_)
    dsimp only
    omega
  · rw [if_neg h] at ho
    by_cases h' : k.val - 384 < 256
    · rw [if_pos (show k.val < 640 by omega)] at ho
      rw [dif_neg h, dif_pos h']
      refine congrArg (fun j => w (ix2 j d)) (Fin.ext ?_)
      dsimp only
      omega
    · rw [if_neg (show ¬ k.val < 640 by omega)] at ho
      unfold place at ho
      rw [dif_neg h, dif_neg h', permRows_apply _ ⟨(k.val - 640) / 128, by omega⟩ ⟨k.val % 128, by omega⟩ _ (by dsimp only; omega)]
      pointwise
      refine congrArg (fun j => w (ix2 j d)) (Fin.ext ?_)
      dsimp only
      omega

/-- The projection of the packed mixers' outputs is that of the plain ones. -/
theorem mixed_eq (x ga : Fin 1024 → EReal) (a c : FVec Ideal S8x4096x384 .f32) (b : FVec Ideal S8x4096x256 .f32) (w : FVec Ideal S1024x1024 .f32)
    (n : Fin 8) (s : Fin 4096) :
    mixed x (lanes (fun p l => packThree a (ix4 n p s l)) (fun p l => packTwo b (ix4 n p s l)) (fun p l => packThree c (ix4 n p s l))) ga
        (fun k d => permW w (ix2 k d))
      = mixed x (plainRow (fun j => a (ix3 n s j)) (fun j => b (ix3 n s j)) (fun j => c (ix3 n s j))) ga (fun k d => w (ix2 k d)) := by
  funext d
  unfold mixed
  refine congrArg (fun y => x d + ga d * y) ?_
  refine Eq.trans ?_ (Equiv.sum_comp order _)
  exact Finset.sum_congr rfl fun k _ => congrArg₂ (fun p q : EReal => p * q) (lanes_eq a c b n s k) (permW_apply w k d)

/-- The result array, from the arguments, is the reference's. -/
theorem whole_eq (x0 : FVec Ideal S8x4096x1024 .f32) (x1 : FVec Ideal S8x4096x384 .f32) (x2 : FVec Ideal S8x4096x256 .f32) (x3 : FVec Ideal S8x4096x384 .f32)
    (x4 : FVec Ideal S8x6144 .f32) (x5 : FVec Ideal S1024x1024 .f32) (x6 : FVec Ideal S1024 .f32) (x7 x8 : FVec Ideal S1024x2816 .f32)
    (x9 : FVec Ideal S2816x1024 .f32) :
    whole x0 (packThree x1) (packTwo x2) (packThree x3) (modParts x4) (permW x5) (normRow x6) (cut x7) (cut x8) (cut x9)
      = Cert.ReferenceDIdeal.Read.val_main_v43 (F := Ideal) x0 x1 x2 x3 x4 x5 x6 x7 x8 x9 := by
  funext i
  rw [eq_ix3 (n0 := 8) (n1 := 4096) (n2 := 1024) i]
  obtain ⟨b, hb⟩ : ∃ b : Fin 8, i 0 = b := ⟨_, rfl⟩
  obtain ⟨s, hs⟩ : ∃ s : Fin 4096, i 1 = s := ⟨_, rfl⟩
  obtain ⟨d, hd⟩ : ∃ d : Fin 1024, i 2 = d := ⟨_, rfl⟩
  rw [hb, hs, hd]
  refine Eq.trans ?_ (Ref.result_apply x0 x1 x2 x3 x4 x5 x6 x7 x8 x9 b s d).symm
  show rowAt x0 (packThree x1) (packTwo x2) (packThree x3) (modParts x4) (permW x5) (normRow x6) (cut x7) (cut x8) (cut x9) b s d = _
  unfold rowAt
  rw [mixed_eq]
  simp only [modParts_apply, normRow_apply]
  rfl

/-- The region's output array, from the arguments. -/
theorem region (m : (ℓ : Loc nD τ sig) → Buf (Elt Ideal) ℓ) (c : Dev nD) :
    (dats m 0 c).arrAt 10 cfg0.N = whole (m ((c.tc : Thread nD τ).loc main_arg0)) (packThree (m ((c.tc : Thread nD τ).loc main_arg1)))
      (packTwo (m ((c.tc : Thread nD τ).loc main_arg2))) (packThree (m ((c.tc : Thread nD τ).loc main_arg3)))
      (modParts (m ((c.tc : Thread nD τ).loc main_arg4))) (permW (m ((c.tc : Thread nD τ).loc main_arg5)))
      (normRow (m ((c.tc : Thread nD τ).loc main_arg6))) (cut (s := S1024x2816) (m ((c.tc : Thread nD τ).loc main_arg7)))
      (cut (s := S1024x2816) (m ((c.tc : Thread nD τ).loc main_arg8))) (cut (s := S2816x1024) (m ((c.tc : Thread nD τ).loc main_arg9))) := by
  rw [← entry_a m c, ← entry_b m c, ← entry_c m c, ← entry_mod m c, ← entry_w m c, ← entry_g m c, ← entry_w1 m c, ← entry_w3 m c, ← entry_w2 m c,
    ← V_main_arg0 m c]
  exact final_out m c

/-- The reference runs and leaves its arguments. -/
theorem frame_reference : Cert.quiescent_ReferenceDIdeal :=
  fun m ρ _ => (θ_run _ _ _).mono (fun _ h => ⟨fun c => (h c).2, sem_eq_zero_of_no_sems rfl _⟩) (Cert.ReferenceDIdeal.Value.run (F := Ideal) m ρ)

/-- Kernel and reference compute the same array. -/
theorem value : Cert.algebraic_KernelDIdeal_ReferenceDIdeal := by
  intro m g m' g' _ hargs
  refine ⟨fun c => Cert.ReferenceDIdeal.Read.val_main_v43 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)), ?_, ?_⟩
  · refine (θ_run _ _ _).mono (fun _ h c => ⟨(((h c).1 10).trans (region m c)).trans (whole_eq _ _ _ _ _ _ _ _ _ _),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main (F := Ideal) m g)
  · refine (θ_run _ _ _).mono (fun _ h c => ⟨(h c).1.trans ?_, (h c).2⟩) (Cert.ReferenceDIdeal.Value.run (F := Ideal) m' g')
    obtain ⟨h₀, h₁, h₂, h₃, h₄, h₅, h₆, h₇, h₈, h₉⟩ := hargs c
    refine (Cert.ReferenceDIdeal.Read.val_main_v43_eq (F := Ideal) _ _).trans ?_
    rw [h₀, h₁, h₂, h₃, h₄, h₅, h₆, h₇, h₈, h₉]

end Cert.Dense

end
-- ==== Proof.lean ====
/- The certificate: the latent queries' attention over all tokens, of the mixers A (grouped heads) and B (latent heads),
   the output projection with the dense feed-forward part, and the experts. The experts' frames are
   `Cert.Proof.Experts.quiet_bits` and `quiet_ideal`, the others the generated runs; the value claims are
   `Cert.FlashA.value`, `Cert.FlashB.value`, `Cert.Dense.value` and `Cert.Proof.Experts.value`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelB
public import proofs.«01_k».proof.Proof.Gen.KernelB.Skeleton
public import proofs.«01_k».proof.Proof.Gen.KernelB.Launch
public import proofs.«01_k».proof.Proof.Gen.KernelB.Points
public import proofs.«01_k».proof.Proof.Gen.KernelB.Frame
public import proofs.«01_k».proof.Proof.Gen.KernelBIdeal
public import proofs.«01_k».proof.Proof.Gen.KernelBIdeal.Skeleton
public import proofs.«01_k».proof.Proof.Gen.KernelBIdeal.Launch
public import proofs.«01_k».proof.Proof.Gen.KernelBIdeal.Points
public import proofs.«01_k».proof.Proof.Gen.KernelBIdeal.Frame
public import proofs.«01_k».proof.Proof.Gen.ReferenceBIdeal
public import proofs.«01_k».proof.Proof.Gen.KernelE
public import proofs.«01_k».proof.Proof.Gen.KernelE.Skeleton
public import proofs.«01_k».proof.Proof.Gen.KernelE.Loops
public import proofs.«01_k».proof.Proof.Gen.KernelE.Launch
public import proofs.«01_k».proof.Proof.Gen.KernelE.Flash
public import proofs.«01_k».proof.Proof.Gen.KernelEIdeal
public import proofs.«01_k».proof.Proof.Gen.KernelEIdeal.Skeleton
public import proofs.«01_k».proof.Proof.Gen.KernelEIdeal.Loops
public import proofs.«01_k».proof.Proof.Gen.KernelEIdeal.Launch
public import proofs.«01_k».proof.Proof.Gen.KernelEIdeal.Flash
public import proofs.«01_k».proof.Proof.Gen.ReferenceEIdeal
public import proofs.«01_k».proof.Proof.Gen.KernelD
public import proofs.«01_k».proof.Proof.Gen.KernelD.Skeleton
public import proofs.«01_k».proof.Proof.Gen.KernelD.Launch
public import proofs.«01_k».proof.Proof.Gen.KernelD.Points
public import proofs.«01_k».proof.Proof.Gen.KernelD.Frame
public import proofs.«01_k».proof.Proof.Gen.KernelDIdeal
public import proofs.«01_k».proof.Proof.Gen.KernelDIdeal.Skeleton
public import proofs.«01_k».proof.Proof.Gen.KernelDIdeal.Launch
public import proofs.«01_k».proof.Proof.Gen.KernelDIdeal.Points
public import proofs.«01_k».proof.Proof.Gen.KernelDIdeal.Frame
public import proofs.«01_k».proof.Proof.Gen.ReferenceDIdeal
public import proofs.«01_k».proof.Proof.Gen.Pre_finite_qk
public import proofs.«01_k».proof.Proof.Gen.Pre_finite_qk_b
public import proofs.«01_k».proof.Proof.Gen.Pre_routed
public import proofs.«01_k».proof.Proof.Gen.KernelIdeal.Run
public import proofs.«01_k».proof.Proof.Gen.KernelIdeal.Read
public import proofs.«01_k».proof.Proof.Gen.KernelBIdeal.Run
public import proofs.«01_k».proof.Proof.Gen.KernelBIdeal.Read
public import proofs.«01_k».proof.Proof.Gen.ReferenceIdeal.Run
public import proofs.«01_k».proof.Proof.Gen.ReferenceIdeal.Read
public import proofs.«01_k».proof.Proof.Gen.ReferenceBIdeal.Run
public import proofs.«01_k».proof.Proof.Gen.ReferenceBIdeal.Read
public import proofs.«01_k».proof.Proof.Gen.ReferenceEIdeal.Run
public import proofs.«01_k».proof.Proof.Gen.ReferenceEIdeal.Read
public import proofs.«01_k».proof.Proof.Gen.ReferenceDIdeal.Run
public import proofs.«01_k».proof.Proof.Gen.ReferenceDIdeal.Read
public import proofs.«01_k».proof.Proof.Flash.ClaimA
public import proofs.«01_k».proof.Proof.Flash.ClaimB
public import proofs.«01_k».proof.Proof.Experts.Value
public import proofs.«01_k».proof.Proof.Dense.Claim
public import Idealize.ShloMosaic.Adequacy
public import Idealize.ShloMosaic.Init

@[expose] public section

noncomputable section

namespace Cert.Proof

open Idealize.ShloMosaic Idealize.SL.Sem Cert.Kernel

/-- The plain attention of mixer A runs to its end, leaves its arguments alone and all counters at zero. -/
theorem frame_reference_a : Cert.quiescent_ReferenceIdeal := fun m ρ _ =>
  (θ_run _ _ _).mono (fun _ h => ⟨fun c => (h c).2, sem_eq_zero_of_no_sems rfl _⟩) (Cert.ReferenceIdeal.Value.run (F := Ideal) m ρ)

/-- The plain attention of mixer B runs to its end, leaves its arguments alone and all counters at zero. -/
theorem frame_reference_b : Cert.quiescent_ReferenceBIdeal := fun m ρ _ =>
  (θ_run _ _ _).mono (fun _ h => ⟨fun c => (h c).2, sem_eq_zero_of_no_sems rfl _⟩) (Cert.ReferenceBIdeal.Value.run (F := Ideal) m ρ)

/-- Frames of the four calls and their references, the named mask of the attention, and that each call computes its reference's array. -/
theorem claim : Cert.Claim := ⟨Cert.Kernel.Gen.facts, Cert.KernelIdeal.Gen.facts, Cert.ReferenceIdeal.Gen.facts, Cert.KernelB.Gen.facts, Cert.KernelBIdeal.Gen.facts, Cert.ReferenceBIdeal.Gen.facts, Cert.KernelE.Gen.facts, Cert.KernelEIdeal.Gen.facts, Cert.ReferenceEIdeal.Gen.facts, Cert.KernelD.Gen.facts, Cert.KernelDIdeal.Gen.facts, Cert.ReferenceDIdeal.Gen.facts, Cert.Pre_finite_qk.Gen.facts, Cert.Pre_finite_qk_b.Gen.facts, Cert.Pre_routed.Gen.facts, by
  refine ⟨fun m ρ _ => Cert.Kernel.Gen.frame m ρ, fun m ρ _ => Cert.KernelIdeal.Gen.frame m ρ,
    fun m ρ _ => Cert.KernelIdeal.Gen.frame m ρ, frame_reference_a, fun m ρ _ => frame_reference_a m ρ trivial,
    fun m ρ _ => Cert.KernelB.Gen.frame m ρ, fun m ρ _ => Cert.KernelBIdeal.Gen.frame m ρ,
    fun m ρ _ => Cert.KernelBIdeal.Gen.frame m ρ, frame_reference_b, fun m ρ _ => frame_reference_b m ρ trivial,
    Experts.quiet_bits, Experts.quiet_ideal, Experts.frame_reference, fun m ρ _ => Experts.frame_reference m ρ trivial,
    fun m ρ _ => Cert.KernelD.Gen.frame m ρ, fun m ρ _ => Cert.KernelDIdeal.Gen.frame m ρ, Cert.Dense.frame_reference,
    IdealRules.named_const.statement Cert.KernelIdeal.κ "mask" .f32 0xF149F2CA#32 ⊥ rfl, Cert.FlashA.value,
    IdealRules.named_const.statement Cert.KernelBIdeal.κ "mask" .f32 0xF149F2CA#32 ⊥ rfl, Cert.FlashB.value,
    trivial, Experts.value, trivial, Cert.Dense.value⟩⟩

end Cert.Proof

end
